-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v34)) (v1 : (c : Dev Cert.KernelIdeal.nD) → Buf (Elt Ideal) ((c.tc : Thread Cert.KernelIdeal.nD Cert.KernelIdeal.τ).loc Cert.KernelIdeal.main_v35)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v30)) (v4 : (c : Dev Cert.KernelIdeal.nD) → Buf (Elt Ideal) ((c.tc : Thread Cert.KernelIdeal.nD Cert.KernelIdeal.τ).loc Cert.KernelIdeal.main_v38)) (v5 : (c : Dev Cert.KernelIdeal.nD) → Buf (Elt Ideal) ((c.tc : Thread Cert.KernelIdeal.nD Cert.KernelIdeal.τ).loc Cert.KernelIdeal.main_v41)) (v6 : (c : Dev Cert.KernelIdeal.nD) → Buf (Elt Ideal) ((c.tc : Thread Cert.KernelIdeal.nD Cert.KernelIdeal.τ).loc Cert.KernelIdeal.main_v45)) (v7 : (c : Dev Cert.KernelIdeal.nD) → Buf (Elt Ideal) ((c.tc : Thread Cert.KernelIdeal.nD Cert.KernelIdeal.τ).loc Cert.KernelIdeal.main_v48)) (v8 : (c : Dev Cert.KernelIdeal.nD) → Buf (Elt Ideal) ((c.tc : Thread Cert.KernelIdeal.nD Cert.KernelIdeal.τ).loc Cert.KernelIdeal.main_v51)) (v9 : (c : Dev Cert.KernelIdeal.nD) → Buf (Elt Ideal) ((c.tc : Thread Cert.KernelIdeal.nD Cert.KernelIdeal.τ).loc Cert.KernelIdeal.main_v55)) (v10 : (c : Dev Cert.KernelIdeal.nD) → Buf (Elt Ideal) ((c.tc : Thread Cert.KernelIdeal.nD Cert.KernelIdeal.τ).loc Cert.KernelIdeal.main_v56)) (v11 : (c : Dev Cert.KernelIdeal.nD) → Buf (Elt Ideal) ((c.tc : Thread Cert.KernelIdeal.nD Cert.KernelIdeal.τ).loc Cert.KernelIdeal.main_v9_0)) (v12 : (c : Dev Cert.KernelIdeal.nD) → Buf (Elt Ideal) ((c.tc : Thread Cert.KernelIdeal.nD Cert.KernelIdeal.τ).loc Cert.KernelIdeal.main_v57)) (v13 : (c : Dev Cert.KernelIdeal.nD) → Buf (Elt Ideal) ((c.tc : Thread Cert.KernelIdeal.nD Cert.KernelIdeal.τ).loc Cert.KernelIdeal.main_v12_0)) (v14 : (c : Dev Cert.KernelIdeal.nD) → Buf (Elt Ideal) ((c.tc : Thread Cert.KernelIdeal.nD Cert.KernelIdeal.τ).loc Cert.KernelIdeal.main_v58)) (v15 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v34) = v0 c
          ∧ r.2.mem ((c.tc : Thread Cert.KernelIdeal.nD Cert.KernelIdeal.τ).loc Cert.KernelIdeal.main_v35) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v30) = v3 c
          ∧ r.2.mem ((c.tc : Thread Cert.KernelIdeal.nD Cert.KernelIdeal.τ).loc Cert.KernelIdeal.main_v38) = v4 c
          ∧ r.2.mem ((c.tc : Thread Cert.KernelIdeal.nD Cert.KernelIdeal.τ).loc Cert.KernelIdeal.main_v41) = v5 c
          ∧ r.2.mem ((c.tc : Thread Cert.KernelIdeal.nD Cert.KernelIdeal.τ).loc Cert.KernelIdeal.main_v45) = v6 c
          ∧ r.2.mem ((c.tc : Thread Cert.KernelIdeal.nD Cert.KernelIdeal.τ).loc Cert.KernelIdeal.main_v48) = v7 c
          ∧ r.2.mem ((c.tc : Thread Cert.KernelIdeal.nD Cert.KernelIdeal.τ).loc Cert.KernelIdeal.main_v51) = v8 c
          ∧ r.2.mem ((c.tc : Thread Cert.KernelIdeal.nD Cert.KernelIdeal.τ).loc Cert.KernelIdeal.main_v55) = v9 c
          ∧ r.2.mem ((c.tc : Thread Cert.KernelIdeal.nD Cert.KernelIdeal.τ).loc Cert.KernelIdeal.main_v56) = v10 c
          ∧ r.2.mem ((c.tc : Thread Cert.KernelIdeal.nD Cert.KernelIdeal.τ).loc Cert.KernelIdeal.main_v9_0) = v11 c
          ∧ r.2.mem ((c.tc : Thread Cert.KernelIdeal.nD Cert.KernelIdeal.τ).loc Cert.KernelIdeal.main_v57) = v12 c
          ∧ r.2.mem ((c.tc : Thread Cert.KernelIdeal.nD Cert.KernelIdeal.τ).loc Cert.KernelIdeal.main_v12_0) = v13 c
          ∧ r.2.mem ((c.tc : Thread Cert.KernelIdeal.nD Cert.KernelIdeal.τ).loc Cert.KernelIdeal.main_v58) = v14 c
          ∧ r.2.mem ((c.tc : Thread Cert.KernelIdeal.nD Cert.KernelIdeal.τ).loc Cert.KernelIdeal.main_v59) = v15 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_v16_2) = v2 c
          ∧ r.2.mem ((c.tc : Thread Cert.ReferenceIdeal.nD Cert.ReferenceIdeal.τ).loc Cert.ReferenceIdeal.main_v16_3) = v3 c
          ∧ r.2.mem ((c.tc : Thread Cert.ReferenceIdeal.nD Cert.ReferenceIdeal.τ).loc Cert.ReferenceIdeal.main_v21) = v4 c
          ∧ r.2.mem ((c.tc : Thread Cert.ReferenceIdeal.nD Cert.ReferenceIdeal.τ).loc Cert.ReferenceIdeal.main_v24) = v5 c
          ∧ r.2.mem ((c.tc : Thread Cert.ReferenceIdeal.nD Cert.ReferenceIdeal.τ).loc Cert.ReferenceIdeal.main_v27) = v6 c
          ∧ r.2.mem ((c.tc : Thread Cert.ReferenceIdeal.nD Cert.ReferenceIdeal.τ).loc Cert.ReferenceIdeal.main_v30) = v7 c
          ∧ r.2.mem ((c.tc : Thread Cert.ReferenceIdeal.nD Cert.ReferenceIdeal.τ).loc Cert.ReferenceIdeal.main_v33) = v8 c
          ∧ r.2.mem ((c.tc : Thread Cert.ReferenceIdeal.nD Cert.ReferenceIdeal.τ).loc Cert.ReferenceIdeal.main_v36) = v9 c
          ∧ r.2.mem ((c.tc : Thread Cert.ReferenceIdeal.nD Cert.ReferenceIdeal.τ).loc Cert.ReferenceIdeal.main_v37) = v10 c
          ∧ r.2.mem ((c.tc : Thread Cert.ReferenceIdeal.nD Cert.ReferenceIdeal.τ).loc Cert.ReferenceIdeal.main_v16_5) = v11 c
          ∧ r.2.mem ((c.tc : Thread Cert.ReferenceIdeal.nD Cert.ReferenceIdeal.τ).loc Cert.ReferenceIdeal.main_v38) = v12 c
          ∧ r.2.mem ((c.tc : Thread Cert.ReferenceIdeal.nD Cert.ReferenceIdeal.τ).loc Cert.ReferenceIdeal.main_v16_7) = v13 c
          ∧ r.2.mem ((c.tc : Thread Cert.ReferenceIdeal.nD Cert.ReferenceIdeal.τ).loc Cert.ReferenceIdeal.main_v39) = v14 c
          ∧ r.2.mem ((c.tc : Thread Cert.ReferenceIdeal.nD Cert.ReferenceIdeal.τ).loc Cert.ReferenceIdeal.main_v40) = v15 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x4096 : Shape := ⟨3, ![2, 4096, 4096]⟩
abbrev S4096x16384 : Shape := ⟨2, ![4096, 16384]⟩
abbrev S16384x4096 : Shape := ⟨2, ![16384, 4096]⟩
abbrev S16 : Shape := ⟨1, ![16]⟩
abbrev S_ : Shape := ⟨0, ![]⟩
abbrev S8192x4096 : Shape := ⟨2, ![8192, 4096]⟩
abbrev S1 : Shape := ⟨1, ![1]⟩
abbrev S1x1 : Shape := ⟨2, ![1, 1]⟩
abbrev S512x4096 : Shape := ⟨2, ![512, 4096]⟩
abbrev S8x4096 : Shape := ⟨2, ![8, 4096]⟩
abbrev S64x8x4096 : Shape := ⟨3, ![64, 8, 4096]⟩
abbrev S1x8x4096 : Shape := ⟨3, ![1, 8, 4096]⟩
abbrev S1x1x1 : Shape := ⟨3, ![1, 1, 1]⟩
abbrev S128x16384 : Shape := ⟨2, ![128, 16384]⟩
abbrev S8x16384 : Shape := ⟨2, ![8, 16384]⟩
abbrev S16x8x16384 : Shape := ⟨3, ![16, 8, 16384]⟩
abbrev S1x8x16384 : Shape := ⟨3, ![1, 8, 16384]⟩
abbrev S4 : Shape := ⟨1, ![4]⟩
abbrev S8192x16384 : Shape := ⟨2, ![8192, 16384]⟩
abbrev S1024x4096 : Shape := ⟨2, ![1024, 4096]⟩
abbrev S4096x1024 : Shape := ⟨2, ![4096, 1024]⟩
abbrev S1024x1024 : Shape := ⟨2, ![1024, 1024]⟩
abbrev S8x1024 : Shape := ⟨2, ![8, 1024]⟩
abbrev S256x4096 : Shape := ⟨2, ![256, 4096]⟩
abbrev S256x1024 : Shape := ⟨2, ![256, 1024]⟩
abbrev S32x8x1024 : Shape := ⟨3, ![32, 8, 1024]⟩
abbrev S1x8x1024 : Shape := ⟨3, ![1, 8, 1024]⟩
abbrev S4096x2048 : Shape := ⟨2, ![4096, 2048]⟩
abbrev S1024x2048 : Shape := ⟨2, ![1024, 2048]⟩
abbrev S2048x4096 : Shape := ⟨2, ![2048, 4096]⟩
abbrev S15 : Shape := ⟨1, ![15]⟩
abbrev S2x4096x16384 : Shape := ⟨3, ![2, 4096, 16384]⟩

abbrev nBuf : Space → Nat
  | .hbm => 89
  | .vmem => 58
  | .smem => 15
  | _ => 0

abbrev bufTy : (tb : Table) → Fin (tcTables nBuf tb) → BufTy
  | .hbm, ⟨0, _⟩ => ⟨S2x4096x4096, .f32⟩
  | .hbm, ⟨1, _⟩ => ⟨S4096x16384, .f32⟩
  | .hbm, ⟨2, _⟩ => ⟨S16384x4096, .f32⟩
  | .hbm, ⟨3, _⟩ => ⟨S2x4096x4096, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S8192x4096, .f32⟩
  | .hbm, ⟨23, _⟩ => ⟨S1, .f32⟩
  | .hbm, ⟨24, _⟩ => ⟨S8192x4096, .fp8e4m3⟩
  | .hbm, ⟨25, _⟩ => ⟨S1x1, .f32⟩
  | .hbm, ⟨26, _⟩ => ⟨S_, .f32⟩
  | .hbm, ⟨27, _⟩ => ⟨S8192x4096, .f32⟩
  | .hbm, ⟨28, _⟩ => ⟨S1, .f32⟩
  | .hbm, ⟨29, _⟩ => ⟨S8192x4096, .fp8e5m2⟩
  | .hbm, ⟨30, _⟩ => ⟨S1x1, .f32⟩
  | .hbm, ⟨31, _⟩ => ⟨S_, .f32⟩
  | .hbm, ⟨32, _⟩ => ⟨S1, .f32⟩
  | .hbm, ⟨33, _⟩ => ⟨S4096x16384, .fp8e4m3⟩
  | .hbm, ⟨34, _⟩ => ⟨S1x1, .f32⟩
  | .hbm, ⟨35, _⟩ => ⟨S_, .f32⟩
  | .hbm, ⟨36, _⟩ => ⟨S1, .f32⟩
  | .hbm, ⟨37, _⟩ => ⟨S16384x4096, .fp8e4m3⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S1, .f32⟩
  | .hbm, ⟨43, _⟩ => ⟨S1, .f32⟩
  | .hbm, ⟨44, _⟩ => ⟨S1, .f32⟩
  | .hbm, ⟨45, _⟩ => ⟨S1, .f32⟩
  | .hbm, ⟨46, _⟩ => ⟨S4, .f32⟩
  | .hbm, ⟨47, _⟩ => ⟨S8192x16384, .fp8e4m3⟩
  | .hbm, ⟨48, _⟩ => ⟨S8192x16384, .fp8e5m2⟩
  | .hbm, ⟨49, _⟩ => ⟨S1x1, .f32⟩
  | .hbm, ⟨50, _⟩ => ⟨S1x1, .f32⟩
  | .hbm, ⟨51, _⟩ => ⟨S_, .f32⟩
  | .hbm, ⟨52, _⟩ => ⟨S1, .f32⟩
  | .hbm, ⟨53, _⟩ => ⟨S8192x4096, .f32⟩
  | .hbm, ⟨54, _⟩ => ⟨S_, .f32⟩
  | .hbm, ⟨55, _⟩ => ⟨S1, .f32⟩
  | .hbm, ⟨56, _⟩ => ⟨S8192x4096, .f32⟩
  | .hbm, ⟨57, _⟩ => ⟨S_, .f32⟩
  | .hbm, ⟨58, _⟩ => ⟨S1, .f32⟩
  | .hbm, ⟨59, _⟩ => ⟨S16384x4096, .f32⟩
  | .hbm, ⟨60, _⟩ => ⟨S_, .f32⟩
  | .hbm, ⟨61, _⟩ => ⟨S1, .f32⟩
  | .hbm, ⟨62, _⟩ => ⟨S4096x16384, .f32⟩
  | .hbm, ⟨63, _⟩ => ⟨S2x4096x4096, .f32⟩
  | .hbm, ⟨64, _⟩ => ⟨S2x4096x4096, .f32⟩
  | .hbm, ⟨65, _⟩ => ⟨S15, .f32⟩
  | .hbm, ⟨66, _⟩ => ⟨S1, .f32⟩
  | .hbm, ⟨67, _⟩ => ⟨S16, .f32⟩
  | .hbm, ⟨68, _⟩ => ⟨S15, .f32⟩
  | .hbm, ⟨69, _⟩ => ⟨S1, .f32⟩
  | .hbm, ⟨70, _⟩ => ⟨S16, .f32⟩
  | .hbm, ⟨71, _⟩ => ⟨S_, .f32⟩
  | .hbm, ⟨72, _⟩ => ⟨S15, .f32⟩
  | .hbm, ⟨73, _⟩ => ⟨S1, .f32⟩
  | .hbm, ⟨74, _⟩ => ⟨S16, .f32⟩
  | .hbm, ⟨75, _⟩ => ⟨S15, .f32⟩
  | .hbm, ⟨76, _⟩ => ⟨S1, .f32⟩
  | .hbm, ⟨77, _⟩ => ⟨S16, .f32⟩
  | .hbm, ⟨78, _⟩ => ⟨S15, .f32⟩
  | .hbm, ⟨79, _⟩ => ⟨S1, .f32⟩
  | .hbm, ⟨80, _⟩ => ⟨S16, .f32⟩
  | .hbm, ⟨81, _⟩ => ⟨S_, .f32⟩
  | .hbm, ⟨82, _⟩ => ⟨S15, .f32⟩
  | .hbm, ⟨83, _⟩ => ⟨S1, .f32⟩
  | .hbm, ⟨84, _⟩ => ⟨S16, .f32⟩
  | .hbm, ⟨85, _⟩ => ⟨S2x4096x4096, .fp8e4m3⟩
  | .hbm, ⟨86, _⟩ => ⟨S2x4096x16384, .fp8e4m3⟩
  | .hbm, ⟨87, _⟩ => ⟨S2x4096x4096, .fp8e5m2⟩
  | .hbm, ⟨88, _⟩ => ⟨S2x4096x16384, .fp8e5m2⟩
  | .local _ .vmem, ⟨0, _⟩ => ⟨S512x4096, .f32⟩
  | .local _ .vmem, ⟨1, _⟩ => ⟨S512x4096, .f32⟩
  | .local _ .vmem, ⟨2, _⟩ => ⟨S512x4096, .fp8e4m3⟩
  | .local _ .vmem, ⟨3, _⟩ => ⟨S512x4096, .fp8e4m3⟩
  | .local _ .vmem, ⟨4, _⟩ => ⟨S8x4096, .f32⟩
  | .local _ .vmem, ⟨5, _⟩ => ⟨S512x4096, .f32⟩
  | .local _ .vmem, ⟨6, _⟩ => ⟨S512x4096, .f32⟩
  | .local _ .vmem, ⟨7, _⟩ => ⟨S512x4096, .fp8e5m2⟩
  | .local _ .vmem, ⟨8, _⟩ => ⟨S512x4096, .fp8e5m2⟩
  | .local _ .vmem, ⟨9, _⟩ => ⟨S8x4096, .f32⟩
  | .local _ .vmem, ⟨10, _⟩ => ⟨S128x16384, .f32⟩
  | .local _ .vmem, ⟨11, _⟩ => ⟨S128x16384, .f32⟩
  | .local _ .vmem, ⟨12, _⟩ => ⟨S128x16384, .fp8e4m3⟩
  | .local _ .vmem, ⟨13, _⟩ => ⟨S128x16384, .fp8e4m3⟩
  | .local _ .vmem, ⟨14, _⟩ => ⟨S8x16384, .f32⟩
  | .local _ .vmem, ⟨15, _⟩ => ⟨S512x4096, .f32⟩
  | .local _ .vmem, ⟨16, _⟩ => ⟨S512x4096, .f32⟩
  | .local _ .vmem, ⟨17, _⟩ => ⟨S512x4096, .fp8e4m3⟩
  | .local _ .vmem, ⟨18, _⟩ => ⟨S512x4096, .fp8e4m3⟩
  | .local _ .vmem, ⟨19, _⟩ => ⟨S8x4096, .f32⟩
  | .local _ .vmem, ⟨20, _⟩ => ⟨S1024x4096, .fp8e4m3⟩
  | .local _ .vmem, ⟨21, _⟩ => ⟨S1024x4096, .fp8e4m3⟩
  | .local _ .vmem, ⟨22, _⟩ => ⟨S1024x4096, .fp8e5m2⟩
  | .local _ .vmem, ⟨23, _⟩ => ⟨S1024x4096, .fp8e5m2⟩
  | .local _ .vmem, ⟨24, _⟩ => ⟨S4096x1024, .fp8e4m3⟩
  | .local _ .vmem, ⟨25, _⟩ => ⟨S4096x1024, .fp8e4m3⟩
  | .local _ .vmem, ⟨26, _⟩ => ⟨S1024x4096, .fp8e4m3⟩
  | .local _ .vmem, ⟨27, _⟩ => ⟨S1024x4096, .fp8e4m3⟩
  | .local _ .vmem, ⟨28, _⟩ => ⟨S1024x1024, .fp8e4m3⟩
  | .local _ .vmem, ⟨29, _⟩ => ⟨S1024x1024, .fp8e4m3⟩
  | .local _ .vmem, ⟨30, _⟩ => ⟨S1024x1024, .fp8e5m2⟩
  | .local _ .vmem, ⟨31, _⟩ => ⟨S1024x1024, .fp8e5m2⟩
  | .local _ .vmem, ⟨32, _⟩ => ⟨S8x1024, .f32⟩
  | .local _ .vmem, ⟨33, _⟩ => ⟨S8x1024, .f32⟩
  | .local _ .vmem, ⟨34, _⟩ => ⟨S1024x4096, .fp8e4m3⟩
  | .local _ .vmem, ⟨35, _⟩ => ⟨S1024x4096, .fp8e4m3⟩
  | .local _ .vmem, ⟨36, _⟩ => ⟨S4096x2048, .fp8e4m3⟩
  | .local _ .vmem, ⟨37, _⟩ => ⟨S4096x2048, .fp8e4m3⟩
  | .local _ .vmem, ⟨38, _⟩ => ⟨S1024x2048, .f32⟩
  | .local _ .vmem, ⟨39, _⟩ => ⟨S1024x2048, .f32⟩
  | .local _ .vmem, ⟨40, _⟩ => ⟨S1024x4096, .fp8e5m2⟩
  | .local _ .vmem, ⟨41, _⟩ => ⟨S1024x4096, .fp8e5m2⟩
  | .local _ .vmem, ⟨42, _⟩ => ⟨S2048x4096, .fp8e4m3⟩
  | .local _ .vmem, ⟨43, _⟩ => ⟨S2048x4096, .fp8e4m3⟩
  | .local _ .vmem, ⟨44, _⟩ => ⟨S1024x2048, .f32⟩
  | .local _ .vmem, ⟨45, _⟩ => ⟨S1024x2048, .f32⟩
  | .local _ .vmem, ⟨46, _⟩ => ⟨S4096x1024, .fp8e4m3⟩
  | .local _ .vmem, ⟨47, _⟩ => ⟨S4096x1024, .fp8e4m3⟩
  | .local _ .vmem, ⟨48, _⟩ => ⟨S4096x2048, .fp8e5m2⟩
  | .local _ .vmem, ⟨49, _⟩ => ⟨S4096x2048, .fp8e5m2⟩
  | .local _ .vmem, ⟨50, _⟩ => ⟨S1024x2048, .f32⟩
  | .local _ .vmem, ⟨51, _⟩ => ⟨S1024x2048, .f32⟩
  | .local _ .vmem, ⟨52, _⟩ => ⟨S4096x1024, .fp8e4m3⟩
  | .local _ .vmem, ⟨53, _⟩ => ⟨S4096x1024, .fp8e4m3⟩
  | .local _ .vmem, ⟨54, _⟩ => ⟨S4096x2048, .fp8e5m2⟩
  | .local _ .vmem, ⟨55, _⟩ => ⟨S4096x2048, .fp8e5m2⟩
  | .local _ .vmem, ⟨56, _⟩ => ⟨S1024x2048, .f32⟩
  | .local _ .vmem, ⟨57, _⟩ => ⟨S1024x2048, .f32⟩
  | .local _ .smem, ⟨0, _⟩ => ⟨S1, .f32⟩
  | .local _ .smem, ⟨1, _⟩ => ⟨S1x1, .f32⟩
  | .local _ .smem, ⟨2, _⟩ => ⟨S1, .f32⟩
  | .local _ .smem, ⟨3, _⟩ => ⟨S1x1, .f32⟩
  | .local _ .smem, ⟨4, _⟩ => ⟨S1, .f32⟩
  | .local _ .smem, ⟨5, _⟩ => ⟨S1x1, .f32⟩
  | .local _ .smem, ⟨6, _⟩ => ⟨S1, .f32⟩
  | .local _ .smem, ⟨7, _⟩ => ⟨S1x1, .f32⟩
  | .local _ .smem, ⟨8, _⟩ => ⟨S4, .f32⟩
  | .local _ .smem, ⟨9, _⟩ => ⟨S1x1, .f32⟩
  | .local _ .smem, ⟨10, _⟩ => ⟨S1x1, .f32⟩
  | .local _ .smem, ⟨11, _⟩ => ⟨S1, .f32⟩
  | .local _ .smem, ⟨12, _⟩ => ⟨S1, .f32⟩
  | .local _ .smem, ⟨13, _⟩ => ⟨S1, .f32⟩
  | .local _ .smem, ⟨14, _⟩ => ⟨S1, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | .smem, ⟨8, _⟩ => true
  | .smem, ⟨9, _⟩ => true
  | .smem, ⟨10, _⟩ => true
  | .smem, ⟨11, _⟩ => true
  | .smem, ⟨12, _⟩ => true
  | .smem, ⟨13, _⟩ => true
  | .smem, ⟨14, _⟩ => true
  | _, _ => false

abbrev semScoped : Fin 0 → Bool
  | ⟨_, h⟩ => absurd h (Nat.not_lt_zero _)

abbrev dmaSemScoped : Fin 67 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | _ => false

abbrev sig : RefSig :=
  ofTc nBuf bufTy 0 67 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2_0 : Ref sig .tc := ⟨.hbm, 24, rfl⟩
abbrev main_v2_1 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6_0 : Ref sig .tc := ⟨.hbm, 29, rfl⟩
abbrev main_v6_1 : Ref sig .tc := ⟨.hbm, 30, rfl⟩
abbrev main_v7 : Ref sig .tc := ⟨.hbm, 31, rfl⟩
abbrev main_v8 : Ref sig .tc := ⟨.hbm, 32, rfl⟩
abbrev main_v9_0 : Ref sig .tc := ⟨.hbm, 33, rfl⟩
abbrev main_v9_1 : Ref sig .tc := ⟨.hbm, 34, rfl⟩
abbrev main_v10 : Ref sig .tc := ⟨.hbm, 35, rfl⟩
abbrev main_v11 : Ref sig .tc := ⟨.hbm, 36, rfl⟩
abbrev main_v12_0 : Ref sig .tc := ⟨.hbm, 37, rfl⟩
abbrev main_v12_1 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21_0 : Ref sig .tc := ⟨.hbm, 47, rfl⟩
abbrev main_v21_1 : Ref sig .tc := ⟨.hbm, 48, rfl⟩
abbrev main_v21_2 : Ref sig .tc := ⟨.hbm, 49, rfl⟩
abbrev main_v21_3 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_scratch0 : Ref sig .tc := ⟨.vmem, 4, rfl⟩
abbrev cc1_stg1_0 : Ref sig .tc := ⟨.vmem, 5, rfl⟩
abbrev cc1_stg1_1 : Ref sig .tc := ⟨.vmem, 6, rfl⟩
abbrev cc1_stg2_0 : Ref sig .tc := ⟨.vmem, 7, rfl⟩
abbrev cc1_stg2_1 : Ref sig .tc := ⟨.vmem, 8, rfl⟩
abbrev cc1_scratch0 : Ref sig .tc := ⟨.vmem, 9, rfl⟩
abbrev cc2_stg1_0 : Ref sig .tc := ⟨.vmem, 10, rfl⟩
abbrev cc2_stg1_1 : Ref sig .tc := ⟨.vmem, 11, rfl⟩
abbrev cc2_stg2_0 : Ref sig .tc := ⟨.vmem, 12, rfl⟩
abbrev cc2_stg2_1 : Ref sig .tc := ⟨.vmem, 13, rfl⟩
abbrev cc2_scratch0 : Ref sig .tc := ⟨.vmem, 14, rfl⟩
abbrev cc3_stg1_0 : Ref sig .tc := ⟨.vmem, 15, rfl⟩
abbrev cc3_stg1_1 : Ref sig .tc := ⟨.vmem, 16, rfl⟩
abbrev cc3_stg2_0 : Ref sig .tc := ⟨.vmem, 17, rfl⟩
abbrev cc3_stg2_1 : Ref sig .tc := ⟨.vmem, 18, rfl⟩
abbrev cc3_scratch0 : Ref sig .tc := ⟨.vmem, 19, rfl⟩
abbrev cc4_stg1_0 : Ref sig .tc := ⟨.vmem, 20, rfl⟩
abbrev cc4_stg1_1 : Ref sig .tc := ⟨.vmem, 21, rfl⟩
abbrev cc4_stg2_0 : Ref sig .tc := ⟨.vmem, 22, rfl⟩
abbrev cc4_stg2_1 : Ref sig .tc := ⟨.vmem, 23, rfl⟩
abbrev cc4_stg3_0 : Ref sig .tc := ⟨.vmem, 24, rfl⟩
abbrev cc4_stg3_1 : Ref sig .tc := ⟨.vmem, 25, rfl⟩
abbrev cc4_stg4_0 : Ref sig .tc := ⟨.vmem, 26, rfl⟩
abbrev cc4_stg4_1 : Ref sig .tc := ⟨.vmem, 27, rfl⟩
abbrev cc4_stg5_0 : Ref sig .tc := ⟨.vmem, 28, rfl⟩
abbrev cc4_stg5_1 : Ref sig .tc := ⟨.vmem, 29, rfl⟩
abbrev cc4_stg6_0 : Ref sig .tc := ⟨.vmem, 30, rfl⟩
abbrev cc4_stg6_1 : Ref sig .tc := ⟨.vmem, 31, rfl⟩
abbrev cc4_scratch0 : Ref sig .tc := ⟨.vmem, 32, rfl⟩
abbrev cc4_scratch1 : Ref sig .tc := ⟨.vmem, 33, rfl⟩
abbrev cc5_stg1_0 : Ref sig .tc := ⟨.vmem, 34, rfl⟩
abbrev cc5_stg1_1 : Ref sig .tc := ⟨.vmem, 35, rfl⟩
abbrev cc5_stg2_0 : Ref sig .tc := ⟨.vmem, 36, rfl⟩
abbrev cc5_stg2_1 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg1_0 : Ref sig .tc := ⟨.vmem, 40, rfl⟩
abbrev cc6_stg1_1 : Ref sig .tc := ⟨.vmem, 41, rfl⟩
abbrev cc6_stg2_0 : Ref sig .tc := ⟨.vmem, 42, rfl⟩
abbrev cc6_stg2_1 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg1_0 : Ref sig .tc := ⟨.vmem, 46, rfl⟩
abbrev cc7_stg1_1 : Ref sig .tc := ⟨.vmem, 47, rfl⟩
abbrev cc7_stg2_0 : Ref sig .tc := ⟨.vmem, 48, rfl⟩
abbrev cc7_stg2_1 : Ref sig .tc := ⟨.vmem, 49, rfl⟩
abbrev cc7_stg3_0 : Ref sig .tc := ⟨.vmem, 50, rfl⟩
abbrev cc7_stg3_1 : Ref sig .tc := ⟨.vmem, 51, rfl⟩
abbrev cc8_stg1_0 : Ref sig .tc := ⟨.vmem, 52, rfl⟩
abbrev cc8_stg1_1 : Ref sig .tc := ⟨.vmem, 53, rfl⟩
abbrev cc8_stg2_0 : Ref sig .tc := ⟨.vmem, 54, rfl⟩
abbrev cc8_stg2_1 : Ref sig .tc := ⟨.vmem, 55, rfl⟩
abbrev cc8_stg3_0 : Ref sig .tc := ⟨.vmem, 56, rfl⟩
abbrev cc8_stg3_1 : Ref sig .tc := ⟨.vmem, 57, rfl⟩
abbrev cc0_stg0_0 : Ref sig .tc := ⟨.smem, 0, rfl⟩
abbrev cc0_stg3_0 : Ref sig .tc := ⟨.smem, 1, rfl⟩
abbrev cc1_stg0_0 : Ref sig .tc := ⟨.smem, 2, rfl⟩
abbrev cc1_stg3_0 : Ref sig .tc := ⟨.smem, 3, rfl⟩
abbrev cc2_stg0_0 : Ref sig .tc := ⟨.smem, 4, rfl⟩
abbrev cc2_stg3_0 : Ref sig .tc := ⟨.smem, 5, rfl⟩
abbrev cc3_stg0_0 : Ref sig .tc := ⟨.smem, 6, rfl⟩
abbrev cc3_stg3_0 : Ref sig .tc := ⟨.smem, 7, rfl⟩
abbrev cc4_stg0_0 : Ref sig .tc := ⟨.smem, 8, rfl⟩
abbrev cc4_stg7_0 : Ref sig .tc := ⟨.smem, 9, rfl⟩
abbrev cc4_stg8_0 : Ref sig .tc := ⟨.smem, 10, rfl⟩
abbrev cc5_stg0_0 : Ref sig .tc := ⟨.smem, 11, rfl⟩
abbrev cc6_stg0_0 : Ref sig .tc := ⟨.smem, 12, rfl⟩
abbrev cc7_stg0_0 : Ref sig .tc := ⟨.smem, 13, rfl⟩
abbrev cc8_stg0_0 : Ref sig .tc := ⟨.smem, 14, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc2_sem0_0 : DmaSem sig := 12
abbrev cc2_sem1_0 : DmaSem sig := 13
abbrev cc2_sem1_1 : DmaSem sig := 14
abbrev cc2_sem2_0 : DmaSem sig := 15
abbrev cc2_sem2_1 : DmaSem sig := 16
abbrev cc2_sem3_0 : DmaSem sig := 17
abbrev cc3_sem0_0 : DmaSem sig := 18
abbrev cc3_sem1_0 : DmaSem sig := 19
abbrev cc3_sem1_1 : DmaSem sig := 20
abbrev cc3_sem2_0 : DmaSem sig := 21
abbrev cc3_sem2_1 : DmaSem sig := 22
abbrev cc3_sem3_0 : DmaSem sig := 23
abbrev cc4_sem0_0 : DmaSem sig := 24
abbrev cc4_sem1_0 : DmaSem sig := 25
abbrev cc4_sem1_1 : DmaSem sig := 26
abbrev cc4_sem2_0 : DmaSem sig := 27
abbrev cc4_sem2_1 : DmaSem sig := 28
abbrev cc4_sem3_0 : DmaSem sig := 29
abbrev cc4_sem3_1 : DmaSem sig := 30
abbrev cc4_sem4_0 : DmaSem sig := 31
abbrev cc4_sem4_1 : DmaSem sig := 32
abbrev cc4_sem5_0 : DmaSem sig := 33
abbrev cc4_sem5_1 : DmaSem sig := 34
abbrev cc4_sem6_0 : DmaSem sig := 35
abbrev cc4_sem6_1 : DmaSem sig := 36
abbrev cc4_sem7_0 : DmaSem sig := 37
abbrev cc4_sem8_0 : DmaSem sig := 38
abbrev cc5_sem0_0 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc6_sem0_0 : DmaSem sig := 46
abbrev cc6_sem1_0 : DmaSem sig := 47
abbrev cc6_sem1_1 : DmaSem sig := 48
abbrev cc6_sem2_0 : DmaSem sig := 49
abbrev cc6_sem2_1 : DmaSem sig := 50
abbrev cc6_sem3_0 : DmaSem sig := 51
abbrev cc6_sem3_1 : DmaSem sig := 52
abbrev cc7_sem0_0 : DmaSem sig := 53
abbrev cc7_sem1_0 : DmaSem sig := 54
abbrev cc7_sem1_1 : DmaSem sig := 55
abbrev cc7_sem2_0 : DmaSem sig := 56
abbrev cc7_sem2_1 : DmaSem sig := 57
abbrev cc7_sem3_0 : DmaSem sig := 58
abbrev cc7_sem3_1 : DmaSem sig := 59
abbrev cc8_sem0_0 : DmaSem sig := 60
abbrev cc8_sem1_0 : DmaSem sig := 61
abbrev cc8_sem1_1 : DmaSem sig := 62
abbrev cc8_sem2_0 : DmaSem sig := 63
abbrev cc8_sem2_1 : DmaSem sig := 64
abbrev cc8_sem3_0 : DmaSem sig := 65
abbrev cc8_sem3_1 : DmaSem sig := 66

abbrev nD : Nat := 1
abbrev τ : Topo := Topo.v7x

variable {F : FTy → Type} [FloatOps F]

abbrev grid0 : Pipeline.Grid := ⟨1, ![16], ![false]⟩

def k0_cond3 (i : grid0.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_9 : BitVec 32 := 0#32
  let v22 : BitVec 1 := Scalar.cmpi .ne v21 c0_i32_9
  v22

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨1, ![16], ![false]⟩

def k1_cond3 (i : grid1.Coords) : BitVec 1 :=
  let arg0 : BitVec 32 := BitVec.ofNat 32 (i 0).val
  let c15_i32 : BitVec 32 := 15#32
  let v20 : BitVec 1 := Scalar.cmpi .eq arg0 c15_i32
  let v21 : BitVec 32 := Scalar.extui v20
  let c0_i32_9 : BitVec 32 := 0#32
  let v22 : BitVec 1 := Scalar.cmpi .ne v21 c0_i32_9
  v22

def cc1_transform_0 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .smem S1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S512x4096 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .smem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![32], ![false]⟩

def k2_cond3 (i : grid2.Coords) : BitVec 1 :=
  let arg0 : BitVec 32 := BitVec.ofNat 32 (i 0).val
  let c31_i32 : BitVec 32 := 31#32
  let v19 : BitVec 1 := Scalar.cmpi .eq arg0 c31_i32
  let v20 : BitVec 32 := Scalar.extui v19
  let c0_i32_9 : BitVec 32 := 0#32
  let v21 : BitVec 1 := Scalar.cmpi .ne v20 c0_i32_9
  v21

def cc2_transform_0 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .smem S1 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S128x16384 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S128x16384 .fp8e4m3 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .smem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := ⟨1, ![32], ![false]⟩

def k3_cond3 (i : grid3.Coords) : BitVec 1 :=
  let arg0 : BitVec 32 := BitVec.ofNat 32 (i 0).val
  let c31_i32 : BitVec 32 := 31#32
  let v19 : BitVec 1 := Scalar.cmpi .eq arg0 c31_i32
  let v20 : BitVec 32 := Scalar.extui v19
  let c0_i32_9 : BitVec 32 := 0#32
  let v21 : BitVec 1 := Scalar.cmpi .ne v20 c0_i32_9
  v21

def cc3_transform_0 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .smem S1 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 2 → Memref sig .tc .vmem S512x4096 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x4096 .fp8e4m3 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .smem S1x1 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev grid4 : Pipeline.Grid := ⟨2, ![8, 16], ![false, false]⟩

def k4_cond2 (i : grid4.Coords) : BitVec 1 :=
  let arg0 : BitVec 32 := BitVec.ofNat 32 (i 0).val
  let c7_i32 : BitVec 32 := 7#32
  let v3 : BitVec 1 := Scalar.cmpi .eq arg0 c7_i32
  let arg1 : BitVec 32 := BitVec.ofNat 32 (i 1).val
  let c15_i32 : BitVec 32 := 15#32
  let v4 : BitVec 1 := Scalar.cmpi .eq arg1 c15_i32
  let v5 : BitVec 1 := Scalar.andi v3 v4
  let v264 : BitVec 32 := Scalar.extui v5
  let c0_i32_130 : BitVec 32 := 0#32
  let v265 : BitVec 1 := Scalar.cmpi .ne v264 c0_i32_130
  v265

def cc4_transform_0 (i : grid4.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_5 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_6 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_7 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .smem S4 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false, false]

abbrev stage4_1 : Fin 2 → Memref sig .tc .vmem S1024x4096 .fp8e4m3 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, false]

abbrev stage4_2 : Fin 2 → Memref sig .tc .vmem S1024x4096 .fp8e5m2 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, false]

abbrev stage4_3 : Fin 2 → Memref sig .tc .vmem S4096x1024 .fp8e4m3 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![false, true]

abbrev stage4_4 : Fin 2 → Memref sig .tc .vmem S1024x4096 .fp8e4m3 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![false, true]

abbrev stage4_5 : Fin 2 → Memref sig .tc .vmem S1024x1024 .fp8e4m3 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true, true]

abbrev stage4_6 : Fin 2 → Memref sig .tc .vmem S1024x1024 .fp8e5m2 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true, true]

abbrev stage4_7 : Fin 1 → Memref sig .tc .smem S1x1 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false, false]

abbrev stage4_8 : Fin 1 → Memref sig .tc .smem S1x1 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false, false]

abbrev grid5 : Pipeline.Grid := ⟨3, ![8, 2, 4], ![false, false, false]⟩

def cc5_transform_0 (i : grid5.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc5_transform_1 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc5_transform_2 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc5_transform_3 (i : grid5.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage5_0 : Fin 1 → Memref sig .tc .smem S1 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false, false, false]

abbrev stage5_1 : Fin 2 → Memref sig .tc .vmem S1024x4096 .fp8e4m3 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true, false, true]

abbrev stage5_2 : Fin 2 → Memref sig .tc .vmem S4096x2048 .fp8e4m3 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![false, true, true]

abbrev stage5_3 : Fin 2 → Memref sig .tc .vmem S1024x2048 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true, true, false]

abbrev grid6 : Pipeline.Grid := ⟨3, ![8, 2, 4], ![false, false, false]⟩

def cc6_transform_0 (i : grid6.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc6_transform_1 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc6_transform_2 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc6_transform_3 (i : grid6.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage6_0 : Fin 1 → Memref sig .tc .smem S1 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false, false, false]

abbrev stage6_1 : Fin 2 → Memref sig .tc .vmem S1024x4096 .fp8e5m2 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true, false, true]

abbrev stage6_2 : Fin 2 → Memref sig .tc .vmem S2048x4096 .fp8e4m3 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![false, true, true]

abbrev stage6_3 : Fin 2 → Memref sig .tc .vmem S1024x2048 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true, true, false]

abbrev grid7 : Pipeline.Grid := ⟨3, ![16, 2, 2], ![false, false, false]⟩

def cc7_transform_0 (i : grid7.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc7_transform_1 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc7_transform_2 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc7_transform_3 (i : grid7.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage7_0 : Fin 1 → Memref sig .tc .smem S1 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false, false, false]

abbrev stage7_1 : Fin 2 → Memref sig .tc .vmem S4096x1024 .fp8e4m3 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true, false, true]

abbrev stage7_2 : Fin 2 → Memref sig .tc .vmem S4096x2048 .fp8e5m2 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![false, true, true]

abbrev stage7_3 : Fin 2 → Memref sig .tc .vmem S1024x2048 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true, true, false]

abbrev grid8 : Pipeline.Grid := ⟨3, ![4, 8, 2], ![false, false, false]⟩

def cc8_transform_0 (i : grid8.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc8_transform_1 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc8_transform_2 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc8_transform_3 (i : grid8.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage8_0 : Fin 1 → Memref sig .tc .smem S1 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false, false, false]

abbrev stage8_1 : Fin 2 → Memref sig .tc .vmem S4096x1024 .fp8e4m3 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true, false, true]

abbrev stage8_2 : Fin 2 → Memref sig .tc .vmem S4096x2048 .fp8e5m2 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![false, true, true]

abbrev stage8_3 : Fin 2 → Memref sig .tc .vmem S1024x2048 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true, true, false]
-- ==== ReferenceIdeal.lean ====
abbrev S2x4096x4096 : Shape := ⟨3, ![2, 4096, 4096]⟩
abbrev S4096x16384 : Shape := ⟨2, ![4096, 16384]⟩
abbrev S16384x4096 : Shape := ⟨2, ![16384, 4096]⟩
abbrev S16 : Shape := ⟨1, ![16]⟩
abbrev S_ : Shape := ⟨0, ![]⟩
abbrev S1 : Shape := ⟨1, ![1]⟩
abbrev S6 : Shape := ⟨1, ![6]⟩
abbrev S8192x4096 : Shape := ⟨2, ![8192, 4096]⟩
abbrev S8192x16384 : Shape := ⟨2, ![8192, 16384]⟩
abbrev S1x1 : Shape := ⟨2, ![1, 1]⟩
abbrev S1x8192x4096 : Shape := ⟨3, ![1, 8192, 4096]⟩
abbrev S1x1x1 : Shape := ⟨3, ![1, 1, 1]⟩
abbrev S1x4096x16384 : Shape := ⟨3, ![1, 4096, 16384]⟩
abbrev S1x8192x16384 : Shape := ⟨3, ![1, 8192, 16384]⟩
abbrev S1x16384x4096 : Shape := ⟨3, ![1, 16384, 4096]⟩
abbrev S15 : Shape := ⟨1, ![15]⟩
abbrev S2x4096x16384 : Shape := ⟨3, ![2, 4096, 16384]⟩

abbrev nBuf : Space → Nat
  | .hbm => 78
  | .vmem => 14
  | .smem => 8
  | _ => 0

abbrev bufTy : (tb : Table) → Fin (tcTables nBuf tb) → BufTy
  | .hbm, ⟨0, _⟩ => ⟨S2x4096x4096, .f32⟩
  | .hbm, ⟨1, _⟩ => ⟨S4096x16384, .f32⟩
  | .hbm, ⟨2, _⟩ => ⟨S16384x4096, .f32⟩
  | .hbm, ⟨3, _⟩ => ⟨S2x4096x4096, .f32⟩
  | .hbm, ⟨4, _⟩ => ⟨S16, .f32⟩
  | .hbm, ⟨5, _⟩ => ⟨S16, .f32⟩
  | .hbm, ⟨6, _⟩ => ⟨S16, .f32⟩
  | .hbm, ⟨7, _⟩ => ⟨S16, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1, .f32⟩
  | .hbm, ⟨23, _⟩ => ⟨S1, .f32⟩
  | .hbm, ⟨24, _⟩ => ⟨S1, .f32⟩
  | .hbm, ⟨25, _⟩ => ⟨S1, .f32⟩
  | .hbm, ⟨26, _⟩ => ⟨S1, .f32⟩
  | .hbm, ⟨27, _⟩ => ⟨S1, .f32⟩
  | .hbm, ⟨28, _⟩ => ⟨S6, .f32⟩
  | .hbm, ⟨29, _⟩ => ⟨S1, .f32⟩
  | .hbm, ⟨30, _⟩ => ⟨S1, .f32⟩
  | .hbm, ⟨31, _⟩ => ⟨S1, .f32⟩
  | .hbm, ⟨32, _⟩ => ⟨S1, .f32⟩
  | .hbm, ⟨33, _⟩ => ⟨S1, .f32⟩
  | .hbm, ⟨34, _⟩ => ⟨S1, .f32⟩
  | .hbm, ⟨35, _⟩ => ⟨S6, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S8192x4096, .f32⟩
  | .hbm, ⟨40, _⟩ => ⟨S4096x16384, .f32⟩
  | .hbm, ⟨41, _⟩ => ⟨S16384x4096, .f32⟩
  | .hbm, ⟨42, _⟩ => ⟨S8192x4096, .fp8e4m3⟩
  | .hbm, ⟨43, _⟩ => ⟨S4096x16384, .fp8e4m3⟩
  | .hbm, ⟨44, _⟩ => ⟨S8192x16384, .fp8e4m3⟩
  | .hbm, ⟨45, _⟩ => ⟨S16384x4096, .fp8e4m3⟩
  | .hbm, ⟨46, _⟩ => ⟨S8192x4096, .fp8e5m2⟩
  | .hbm, ⟨47, _⟩ => ⟨S8192x16384, .fp8e5m2⟩
  | .hbm, ⟨48, _⟩ => ⟨S1x1, .f32⟩
  | .hbm, ⟨49, _⟩ => ⟨S1x1, .f32⟩
  | .hbm, ⟨50, _⟩ => ⟨S1x1, .f32⟩
  | .hbm, ⟨51, _⟩ => ⟨S1x1, .f32⟩
  | .hbm, ⟨52, _⟩ => ⟨S1x1, .f32⟩
  | .hbm, ⟨53, _⟩ => ⟨S1x1, .f32⟩
  | .hbm, ⟨54, _⟩ => ⟨S2x4096x4096, .f32⟩
  | .hbm, ⟨55, _⟩ => ⟨S2x4096x4096, .f32⟩
  | .hbm, ⟨56, _⟩ => ⟨S15, .f32⟩
  | .hbm, ⟨57, _⟩ => ⟨S1, .f32⟩
  | .hbm, ⟨58, _⟩ => ⟨S16, .f32⟩
  | .hbm, ⟨59, _⟩ => ⟨S15, .f32⟩
  | .hbm, ⟨60, _⟩ => ⟨S1, .f32⟩
  | .hbm, ⟨61, _⟩ => ⟨S16, .f32⟩
  | .hbm, ⟨62, _⟩ => ⟨S15, .f32⟩
  | .hbm, ⟨63, _⟩ => ⟨S1, .f32⟩
  | .hbm, ⟨64, _⟩ => ⟨S16, .f32⟩
  | .hbm, ⟨65, _⟩ => ⟨S15, .f32⟩
  | .hbm, ⟨66, _⟩ => ⟨S1, .f32⟩
  | .hbm, ⟨67, _⟩ => ⟨S16, .f32⟩
  | .hbm, ⟨68, _⟩ => ⟨S15, .f32⟩
  | .hbm, ⟨69, _⟩ => ⟨S1, .f32⟩
  | .hbm, ⟨70, _⟩ => ⟨S16, .f32⟩
  | .hbm, ⟨71, _⟩ => ⟨S15, .f32⟩
  | .hbm, ⟨72, _⟩ => ⟨S1, .f32⟩
  | .hbm, ⟨73, _⟩ => ⟨S16, .f32⟩
  | .hbm, ⟨74, _⟩ => ⟨S2x4096x4096, .fp8e4m3⟩
  | .hbm, ⟨75, _⟩ => ⟨S2x4096x16384, .fp8e4m3⟩
  | .hbm, ⟨76, _⟩ => ⟨S2x4096x4096, .fp8e5m2⟩
  | .hbm, ⟨77, _⟩ => ⟨S2x4096x16384, .fp8e5m2⟩
  | .local _ .vmem, ⟨0, _⟩ => ⟨S8192x4096, .f32⟩
  | .local _ .vmem, ⟨1, _⟩ => ⟨S4096x16384, .f32⟩
  | .local _ .vmem, ⟨2, _⟩ => ⟨S16384x4096, .f32⟩
  | .local _ .vmem, ⟨3, _⟩ => ⟨S8192x4096, .f32⟩
  | .local _ .vmem, ⟨4, _⟩ => ⟨S8192x4096, .f32⟩
  | .local _ .vmem, ⟨5, _⟩ => ⟨S8192x4096, .f32⟩
  | .local _ .vmem, ⟨6, _⟩ => ⟨S4096x16384, .f32⟩
  | .local _ .vmem, ⟨7, _⟩ => ⟨S16384x4096, .f32⟩
  | .local _ .vmem, ⟨8, _⟩ => ⟨S8192x4096, .fp8e4m3⟩
  | .local _ .vmem, ⟨9, _⟩ => ⟨S4096x16384, .fp8e4m3⟩
  | .local _ .vmem, ⟨10, _⟩ => ⟨S8192x16384, .fp8e4m3⟩
  | .local _ .vmem, ⟨11, _⟩ => ⟨S16384x4096, .fp8e4m3⟩
  | .local _ .vmem, ⟨12, _⟩ => ⟨S8192x4096, .fp8e5m2⟩
  | .local _ .vmem, ⟨13, _⟩ => ⟨S8192x16384, .fp8e5m2⟩
  | .local _ .smem, ⟨0, _⟩ => ⟨S6, .f32⟩
  | .local _ .smem, ⟨1, _⟩ => ⟨S6, .f32⟩
  | .local _ .smem, ⟨2, _⟩ => ⟨S1x1, .f32⟩
  | .local _ .smem, ⟨3, _⟩ => ⟨S1x1, .f32⟩
  | .local _ .smem, ⟨4, _⟩ => ⟨S1x1, .f32⟩
  | .local _ .smem, ⟨5, _⟩ => ⟨S1x1, .f32⟩
  | .local _ .smem, ⟨6, _⟩ => ⟨S1x1, .f32⟩
  | .local _ .smem, ⟨7, _⟩ => ⟨S1x1, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16_0 : Ref sig .tc := ⟨.hbm, 38, rfl⟩
abbrev main_v16_1 : Ref sig .tc := ⟨.hbm, 39, rfl⟩
abbrev main_v16_2 : Ref sig .tc := ⟨.hbm, 40, rfl⟩
abbrev main_v16_3 : Ref sig .tc := ⟨.hbm, 41, rfl⟩
abbrev main_v16_4 : Ref sig .tc := ⟨.hbm, 42, rfl⟩
abbrev main_v16_5 : Ref sig .tc := ⟨.hbm, 43, rfl⟩
abbrev main_v16_6 : Ref sig .tc := ⟨.hbm, 44, rfl⟩
abbrev main_v16_7 : Ref sig .tc := ⟨.hbm, 45, rfl⟩
abbrev main_v16_8 : Ref sig .tc := ⟨.hbm, 46, rfl⟩
abbrev main_v16_9 : Ref sig .tc := ⟨.hbm, 47, rfl⟩
abbrev main_v16_10 : Ref sig .tc := ⟨.hbm, 48, rfl⟩
abbrev main_v16_11 : Ref sig .tc := ⟨.hbm, 49, rfl⟩
abbrev main_v16_12 : Ref sig .tc := ⟨.hbm, 50, rfl⟩
abbrev main_v16_13 : Ref sig .tc := ⟨.hbm, 51, rfl⟩
abbrev main_v16_14 : Ref sig .tc := ⟨.hbm, 52, rfl⟩
abbrev main_v16_15 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_v21 : Ref sig .tc := ⟨.hbm, 58, rfl⟩
abbrev main_v22 : Ref sig .tc := ⟨.hbm, 59, rfl⟩
abbrev main_v23 : Ref sig .tc := ⟨.hbm, 60, rfl⟩
abbrev main_v24 : Ref sig .tc := ⟨.hbm, 61, rfl⟩
abbrev main_v25 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev cc0_stg2_0 : Ref sig .tc := ⟨.vmem, 0, rfl⟩
abbrev cc0_stg3_0 : Ref sig .tc := ⟨.vmem, 1, rfl⟩
abbrev cc0_stg4_0 : Ref sig .tc := ⟨.vmem, 2, rfl⟩
abbrev cc0_stg5_0 : Ref sig .tc := ⟨.vmem, 3, rfl⟩
abbrev cc0_stg6_0 : Ref sig .tc := ⟨.vmem, 4, rfl⟩
abbrev cc0_stg7_0 : Ref sig .tc := ⟨.vmem, 5, rfl⟩
abbrev cc0_stg8_0 : Ref sig .tc := ⟨.vmem, 6, rfl⟩
abbrev cc0_stg9_0 : Ref sig .tc := ⟨.vmem, 7, rfl⟩
abbrev cc0_stg10_0 : Ref sig .tc := ⟨.vmem, 8, rfl⟩
abbrev cc0_stg11_0 : Ref sig .tc := ⟨.vmem, 9, rfl⟩
abbrev cc0_stg12_0 : Ref sig .tc := ⟨.vmem, 10, rfl⟩
abbrev cc0_stg13_0 : Ref sig .tc := ⟨.vmem, 11, rfl⟩
abbrev cc0_stg14_0 : Ref sig .tc := ⟨.vmem, 12, rfl⟩
abbrev cc0_stg15_0 : Ref sig .tc := ⟨.vmem, 13, rfl⟩
abbrev cc0_stg0_0 : Ref sig .tc := ⟨.smem, 0, rfl⟩
abbrev cc0_stg1_0 : Ref sig .tc := ⟨.smem, 1, rfl⟩
abbrev cc0_stg16_0 : Ref sig .tc := ⟨.smem, 2, rfl⟩
abbrev cc0_stg17_0 : Ref sig .tc := ⟨.smem, 3, rfl⟩
abbrev cc0_stg18_0 : Ref sig .tc := ⟨.smem, 4, rfl⟩
abbrev cc0_stg19_0 : Ref sig .tc := ⟨.smem, 5, rfl⟩
abbrev cc0_stg20_0 : Ref sig .tc := ⟨.smem, 6, rfl⟩
abbrev cc0_stg21_0 : Ref sig .tc := ⟨.smem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .smem S6 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S6 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x16384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16384x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8192x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8192x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8192x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4096x16384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8192x4096 .fp8e4m3 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x16384 .fp8e4m3 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S8192x16384 .fp8e4m3 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S16384x4096 .fp8e4m3 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S8192x4096 .fp8e5m2 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S8192x16384 .fp8e5m2 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .smem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .smem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .smem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .smem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .smem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .smem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Proof.Owns.lean ====
/-
  What a buffer owned whole gives back: its contents as they were, or what a covering list of stores left.
-/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable {c : Dev nD} {sp : Space} {s : Shape} {e : EltTy} {m : Memref sig .tc sp s e}

/-- A whole buffer holding `X` reads `X`. -/
theorem owns_unread (h : m.IsWhole) (X : s.Idx → Elt F e) :
    (m.view.loc (c : Thread nD τ) ↦[m.view.set]{fullShare} h.unread X : sProp 𝕄)
      ⊢ iprop(∃ f, ⌜m.view.read (Elt F) f = X⌝ ∗ (m.view.loc (c : Thread nD τ) ↦[m.view.set]{fullShare} f)) := by
  iintro H
  iexists _; isplitr; · ipureintro; exact h.read_unread _
  iexact H

/-- A buffer after stores that cover it reads what they leave in any other buffer of its shape. -/
theorem owns_writes {κ : Kind} {sp' : Space} {v : View sig κ sp' s e} {f : m.view.ty.Contents (Elt F)} {f' : v.ty.Contents (Elt F)}
    {L : List (View.Piece (Elt F) s e)} (h : ∀ y, ∃ p ∈ L, y ∈ p.1.set) :
    (m.view.loc (c : Thread nD τ) ↦[m.view.set]{fullShare} m.view.writes (Elt F) f L : sProp 𝕄)
      ⊢ owns (c : Thread nD τ) m fullShare (v.read (Elt F) (v.writes (Elt F) f' L)) := by
  unfold owns
  iintro H
  iexists _; isplitr
  swap; · iexact H
  ipureintro; exact View.read_writes_of_cover _ _ _ _ _ h

end Cert.Kernel.Gen

end
-- ==== Proof.Hidden.lean ====
/-
  Region 4 of the kernel program (the hidden layer): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The condition of the body's `scf.if` 0. -/
abbrev cond4_0 (i : grid4.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only. -/
theorem hcond4_0 : ∀ t : Fin cfg4.N, cond4_0 (grid4.coords t) ↔ t.val % 128 = 0 :=
  (fun t => by
    have ht : t.val < 128 := Nat.lt_of_lt_of_eq t.isLt N_4
    have e0 : (grid4.coords t 0).val = t.val / 16 % 8 := Pipeline.Grid.coords_val t 0 (by decide) rfl
    have e1 : (grid4.coords t 1).val = t.val / 1 % 16 := Pipeline.Grid.coords_val t 1 (by decide) rfl
    simp only [cond4_0, e0, e1]
    word_cmp
   : ∀ t : Fin grid4.N, cond4_0 (grid4.coords t) ↔ t.val % 128 = 0)

/-- The condition of the body's `scf.if` 1. -/
abbrev cond4_1 (i : grid4.Coords) : Prop := k4_cond2 i = 1#1
/-- It holds at the last point only. -/
theorem hcond4_1 : ∀ t : Fin cfg4.N, cond4_1 (grid4.coords t) ↔ t.val % 128 = 127 :=
  (fun t => by
    have ht : t.val < 128 := Nat.lt_of_lt_of_eq t.isLt N_4
    have e0 : (grid4.coords t 0).val = t.val / 16 % 8 := Pipeline.Grid.coords_val t 0 (by decide) rfl
    have e1 : (grid4.coords t 1).val = t.val / 1 % 16 := Pipeline.Grid.coords_val t 1 (by decide) rfl
    simp only [cond4_1, k4_cond2, e0, e1]
    word_cmp
   : ∀ t : Fin grid4.N, cond4_1 (grid4.coords t) ↔ t.val % 128 = 127)

/-! ## Where the windows are idle (the printed configuration's table `Cfg.idle`) -/

/-- Window 0 is never idle. -/
theorem liveAt4_0 : ∀ t : Fin cfg4.N, cfg4.idle 0 (grid4.coords t) = false := fun _ => rfl
/-- Window 1 is never idle. -/
theorem liveAt4_1 : ∀ t : Fin cfg4.N, cfg4.idle 1 (grid4.coords t) = false := fun _ => rfl
/-- Window 2 is never idle. -/
theorem liveAt4_2 : ∀ t : Fin cfg4.N, cfg4.idle 2 (grid4.coords t) = false := fun _ => rfl
/-- Window 3 is never idle. -/
theorem liveAt4_3 : ∀ t : Fin cfg4.N, cfg4.idle 3 (grid4.coords t) = false := fun _ => rfl
/-- Window 4 is never idle. -/
theorem liveAt4_4 : ∀ t : Fin cfg4.N, cfg4.idle 4 (grid4.coords t) = false := fun _ => rfl
/-- Window 5 is never idle. -/
theorem liveAt4_5 : ∀ t : Fin cfg4.N, cfg4.idle 5 (grid4.coords t) = false := fun _ => rfl
/-- Window 6 is never idle. -/
theorem liveAt4_6 : ∀ t : Fin cfg4.N, cfg4.idle 6 (grid4.coords t) = false := fun _ => rfl
/-- At the points of case A the printed configuration. -/
theorem idleAt4_7_A : ∀ t : Fin cfg4.N, cond4_0 (grid4.coords t) → ¬cond4_1 (grid4.coords t) → cfg4.idle 7 (grid4.coords t) = true := by decide +kernel
/-- At the points of case A the pipeline does not write output 7's block back. -/
theorem noFlush4_7_A : ∀ t : Fin cfg4.N, cond4_0 (grid4.coords t) → ¬cond4_1 (grid4.coords t) → (cfg4.win 7).flush t = false := by decide +kernel
/-- At the points of case B the printed configuration. -/
theorem idleAt4_7_B : ∀ t : Fin cfg4.N, ¬cond4_0 (grid4.coords t) → ¬cond4_1 (grid4.coords t) → cfg4.idle 7 (grid4.coords t) = true := by decide +kernel
/-- At the points of case B the pipeline does not write output 7's block back. -/
theorem noFlush4_7_B : ∀ t : Fin cfg4.N, ¬cond4_0 (grid4.coords t) → ¬cond4_1 (grid4.coords t) → (cfg4.win 7).flush t = false := by decide +kernel
/-- At the points of case C the printed configuration. -/
theorem liveAt4_7_C : ∀ t : Fin cfg4.N, ¬cond4_0 (grid4.coords t) → cond4_1 (grid4.coords t) → cfg4.idle 7 (grid4.coords t) = false := by decide +kernel
/-- At the points of case A the printed configuration. -/
theorem idleAt4_8_A : ∀ t : Fin cfg4.N, cond4_0 (grid4.coords t) → ¬cond4_1 (grid4.coords t) → cfg4.idle 8 (grid4.coords t) = true := by decide +kernel
/-- At the points of case A the pipeline does not write output 8's block back. -/
theorem noFlush4_8_A : ∀ t : Fin cfg4.N, cond4_0 (grid4.coords t) → ¬cond4_1 (grid4.coords t) → (cfg4.win 8).flush t = false := by decide +kernel
/-- At the points of case B the printed configuration. -/
theorem idleAt4_8_B : ∀ t : Fin cfg4.N, ¬cond4_0 (grid4.coords t) → ¬cond4_1 (grid4.coords t) → cfg4.idle 8 (grid4.coords t) = true := by decide +kernel
/-- At the points of case B the pipeline does not write output 8's block back. -/
theorem noFlush4_8_B : ∀ t : Fin cfg4.N, ¬cond4_0 (grid4.coords t) → ¬cond4_1 (grid4.coords t) → (cfg4.win 8).flush t = false := by decide +kernel
/-- At the points of case C the printed configuration. -/
theorem liveAt4_8_C : ∀ t : Fin cfg4.N, ¬cond4_0 (grid4.coords t) → cond4_1 (grid4.coords t) → cfg4.idle 8 (grid4.coords t) = false := by decide +kernel

/-! ## The kernel body on any staging memrefs: a subtype the run finds -/

/-- One staging buffer of output window 5, through which its contents are stated. -/
abbrev VO4_5 : View sig .tc .vmem S1024x1024 .fp8e4m3 := (Memref.whole cc4_stg5_0 : Memref sig .tc .vmem S1024x1024 .fp8e4m3).view
/-- One staging buffer of output window 6, through which its contents are stated. -/
abbrev VO4_6 : View sig .tc .vmem S1024x1024 .fp8e5m2 := (Memref.whole cc4_stg6_0 : Memref sig .tc .vmem S1024x1024 .fp8e5m2).view
/-- One staging buffer of output window 7, through which its contents are stated. -/
abbrev VO4_7 : View sig .tc .smem S1x1 .f32 := (Memref.whole cc4_stg7_0 : Memref sig .tc .smem S1x1 .f32).view
/-- One staging buffer of output window 8, through which its contents are stated. -/
abbrev VO4_8 : View sig .tc .smem S1x1 .f32 := (Memref.whole cc4_stg8_0 : Memref sig .tc .smem S1x1 .f32).view
/-- Each window's current staging memref at point `t`, spelled as the pipeline passes it. -/
abbrev ms4_0 (t : Fin cfg4.N) : Memref sig .tc .smem S4 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1024x4096 .fp8e4m3 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1024x4096 .fp8e5m2 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S4096x1024 .fp8e4m3 := win4_3.stage (cfg4.slots t 3)
abbrev hs4_3 (t : Fin cfg4.N) : (ms4_3 t).IsWhole := hstage4_3 ((cfg4.slots t 3).cast nbuf4_3)
abbrev ms4_4 (t : Fin cfg4.N) : Memref sig .tc .vmem S1024x4096 .fp8e4m3 := win4_4.stage (cfg4.slots t 4)
abbrev hs4_4 (t : Fin cfg4.N) : (ms4_4 t).IsWhole := hstage4_4 ((cfg4.slots t 4).cast nbuf4_4)
abbrev ms4_5 (t : Fin cfg4.N) : Memref sig .tc .vmem S1024x1024 .fp8e4m3 := win4_5.stage (cfg4.slots t 5)
abbrev hs4_5 (t : Fin cfg4.N) : (ms4_5 t).IsWhole := hstage4_5 ((cfg4.slots t 5).cast nbuf4_5)
abbrev ms4_6 (t : Fin cfg4.N) : Memref sig .tc .vmem S1024x1024 .fp8e5m2 := win4_6.stage (cfg4.slots t 6)
abbrev hs4_6 (t : Fin cfg4.N) : (ms4_6 t).IsWhole := hstage4_6 ((cfg4.slots t 6).cast nbuf4_6)
abbrev ms4_7 (t : Fin cfg4.N) : Memref sig .tc .smem S1x1 .f32 := win4_7.stage (cfg4.slots t 7)
abbrev hs4_7 (t : Fin cfg4.N) : (ms4_7 t).IsWhole := hstage4_7 ((cfg4.slots t 7).cast nbuf4_7)
abbrev ms4_8 (t : Fin cfg4.N) : Memref sig .tc .smem S1x1 .f32 := win4_8.stage (cfg4.slots t 8)
abbrev hs4_8 (t : Fin cfg4.N) : (ms4_8 t).IsWhole := hstage4_8 ((cfg4.slots t 8).cast nbuf4_8)
/-- The scratch operands. -/
abbrev scM4_0 : Memref sig .tc .vmem S8x1024 .f32 := Memref.whole cc4_scratch0
abbrev scM4_1 : Memref sig .tc .vmem S8x1024 .f32 := Memref.whole cc4_scratch1
/-- The scratch `arg11` the kernel carries between points, as a view. -/
abbrev VS4_0 : View sig .tc .vmem S8x1024 .f32 := scM4_0.view
/-- The scratch `arg12` the kernel carries between points, as a view. -/
abbrev VS4_1 : View sig .tc .vmem S8x1024 .f32 := scM4_1.view

/-- The scoped buffers that are neither staging nor scratch of this call, and the generator register. -/
abbrev Rest4 (c : Dev nD) : sProp 𝕄 :=
  iprop(Pipeline.scopedRestBut (Ix := Unit) (Name := ℕ) (U := UR sig nD τ) (Lvl := ℕ) (Val := Elt F) spec4 c [cc4_scratch0, cc4_scratch1] ∗ ∃ r, prngReg c r)

/-- The frame kit's invariant with the scratch operands as memrefs owned at some contents. -/
theorem PhiA4_eq (c : Dev nD) :
    (Pipeline.ΦA spec4 c : sProp 𝕄)
      = iprop(iprop((∃ d, owns (c : Thread nD τ) scM4_0 fullShare d) ∗ (∃ d, owns (c : Thread nD τ) scM4_1 fullShare d)) ∗ Rest4 c) := by
  unfold Pipeline.ΦA Rest4; rw [scopedRest4_split]; simp only [scM4_0, scM4_1, owns_whole]; exact BI.equiv_iff.mp ⟨BI.sep_assoc, BI.sep_assoc'⟩

section runs
variable (c : Dev nD) (i : grid4.Coords) (arg2 : Memref sig .tc .smem S4 .f32) (harg2 : arg2.IsWhole) (arg3 : Memref sig .tc .vmem S1024x4096 .fp8e4m3) (harg3 : arg3.IsWhole) (arg4 : Memref sig .tc .vmem S1024x4096 .fp8e5m2) (harg4 : arg4.IsWhole) (arg5 : Memref sig .tc .vmem S4096x1024 .fp8e4m3) (harg5 : arg5.IsWhole) (arg6 : Memref sig .tc .vmem S1024x4096 .fp8e4m3) (harg6 : arg6.IsWhole) (arg7 : Memref sig .tc .vmem S1024x1024 .fp8e4m3) (harg7 : arg7.IsWhole) (arg8 : Memref sig .tc .vmem S1024x1024 .fp8e5m2) (harg8 : arg8.IsWhole) (arg9 : Memref sig .tc .smem S1x1 .f32) (harg9 : arg9.IsWhole) (arg10 : Memref sig .tc .smem S1x1 .f32) (harg10 : arg10.IsWhole) (arg11 : Memref sig .tc .vmem S8x1024 .f32) (harg11 : arg11.IsWhole) (arg12 : Memref sig .tc .vmem S8x1024 .f32) (harg12 : arg12.IsWhole)
include c i arg2 harg2 arg3 harg3 arg4 harg4 arg5 harg5 arg6 harg6 arg7 harg7 arg8 harg8 arg9 harg9 arg10 harg10 arg11 harg11 arg12 harg12

section caseA
variable (hc0 : cond4_0 i) (hc1 : ¬cond4_1 i)
    (x0 : Vec F S4 .f32) (x1 : Vec F S1024x4096 .fp8e4m3) (x2 : Vec F S1024x4096 .fp8e5m2) (x3 : Vec F S4096x1024 .fp8e4m3) (x4 : Vec F S1024x4096 .fp8e4m3)
include hc0 hc1 x0 x1 x2 x3 x4

set_option maxHeartbeats 1000000 in
/-- What the body's stores leave in each output's staging memref, as pieces. -/
noncomputable def kernelRun4_A :
    Σ' (L5 : List (View.Piece (Elt F) S1024x1024 .fp8e4m3)), Σ' (L6 : List (View.Piece (Elt F) S1024x1024 .fp8e5m2)), Σ' (L7 : List (View.Piece (Elt F) S1x1 .f32)), Σ' (L8 : List (View.Piece (Elt F) S1x1 .f32)), Σ' (LS0 : List (View.Piece (Elt F) S8x1024 .f32)), { LS1 : List (View.Piece (Elt F) S8x1024 .f32) //
      ∀ (xi7 : Vec F S1x1 .f32) (xi8 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xi8 ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_hidden i _ harg2 _ harg3 _ harg4 _ harg5 _ harg6 _ harg7 _ harg8 _ harg9 _ harg10 _ harg11 _ harg12) K } := by
  refine ⟨?_, ?_, [], [], ?_, ?_, fun xi7 xi8 E K => ?run⟩
  case run =>
    simp only [cc4_hidden_eq_skeleton]; unfold cc4_hidden_skel
    simp only [k4_part1_eq_skeleton, k4_part2_eq_skeleton, k4_part3_eq_skeleton, k4_part4_eq_skeleton, k4_part5_eq_skeleton, k4_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8
    sl_exec (disch := first | sl_exact hc0 | sl_exact hc1)
    sl_step
    iapply Hk
    isplitl [H0]; · iapply (owns_unread harg2 _) $$ H0
    isplitl [H1]; · iapply (owns_unread harg3 _) $$ H1
    isplitl [H2]; · iapply (owns_unread harg4 _) $$ H2
    isplitl [H3]; · iapply (owns_unread harg5 _) $$ H3
    isplitl [H4]; · iapply (owns_unread harg6 _) $$ H4
    isplitl [H5]; · iexists _; iexact H5
    isplitl [H6]; · iexists _; iexact H6
    isplitl [H7]; · iapply (owns_unread harg9 _) $$ H7
    isplitl [H8]; · iapply (owns_unread harg10 _) $$ H8
    isplitl [HS0]; · iexists _; iexact HS0
    iexists _; iexact HS1

/-- Case A's pieces for output 5 tile its block. -/
theorem cover4_A_5 (y : S1024x1024.Idx) :
    ∃ pc ∈ (kernelRun4_A c i _ harg2 _ harg3 _ harg4 _ harg5 _ harg6 _ harg7 _ harg8 _ harg9 _ harg10 _ harg11 _ harg12 hc0 hc1 x0 x1 x2 x3 x4).1, y ∈ pc.1.set :=
  View.cover_of_tiledL (s := S1024x1024) _ S256x1024.size (by sl_kernel_rfl) y

/-- What case A leaves in output 5's staging buffer. -/
def out4_A_5 : Vec F S1024x1024 .fp8e4m3 :=
  VO4_5.read (Elt F) (VO4_5.writes (Elt F) VO4_5.junk (kernelRun4_A c i _ harg2 _ harg3 _ harg4 _ harg5 _ harg6 _ harg7 _ harg8 _ harg9 _ harg10 _ harg11 _ harg12 hc0 hc1 x0 x1 x2 x3 x4).1)

/-- Case A's pieces for output 6 tile its block. -/
theorem cover4_A_6 (y : S1024x1024.Idx) :
    ∃ pc ∈ (kernelRun4_A c i _ harg2 _ harg3 _ harg4 _ harg5 _ harg6 _ harg7 _ harg8 _ harg9 _ harg10 _ harg11 _ harg12 hc0 hc1 x0 x1 x2 x3 x4).2.1, y ∈ pc.1.set :=
  View.cover_of_tiledL (s := S1024x1024) _ S256x1024.size (by sl_kernel_rfl) y

/-- What case A leaves in output 6's staging buffer. -/
def out4_A_6 : Vec F S1024x1024 .fp8e5m2 :=
  VO4_6.read (Elt F) (VO4_6.writes (Elt F) VO4_6.junk (kernelRun4_A c i _ harg2 _ harg3 _ harg4 _ harg5 _ harg6 _ harg7 _ harg8 _ harg9 _ harg10 _ harg11 _ harg12 hc0 hc1 x0 x1 x2 x3 x4).2.1)

/-- Case A stores nothing into output 7. -/
def out4_A_7 : Vec F S1x1 .f32 :=
  VO4_7.read (Elt F) (VO4_7.writes (Elt F) VO4_7.junk (kernelRun4_A c i _ harg2 _ harg3 _ harg4 _ harg5 _ harg6 _ harg7 _ harg8 _ harg9 _ harg10 _ harg11 _ harg12 hc0 hc1 x0 x1 x2 x3 x4).2.2.1)

/-- Case A stores nothing into output 8. -/
def out4_A_8 : Vec F S1x1 .f32 :=
  VO4_8.read (Elt F) (VO4_8.writes (Elt F) VO4_8.junk (kernelRun4_A c i _ harg2 _ harg3 _ harg4 _ harg5 _ harg6 _ harg7 _ harg8 _ harg9 _ harg10 _ harg11 _ harg12 hc0 hc1 x0 x1 x2 x3 x4).2.2.2.1)

/-- Case A's pieces for scratch `arg11`, which the kernel carries between points, cover it. -/
theorem scover4_A_0 (y : S8x1024.Idx) :
    ∃ pc ∈ (kernelRun4_A c i _ harg2 _ harg3 _ harg4 _ harg5 _ harg6 _ harg7 _ harg8 _ harg9 _ harg10 _ harg11 _ harg12 hc0 hc1 x0 x1 x2 x3 x4).2.2.2.2.1, y ∈ pc.1.set :=
  View.cover_of_tiledL _ S8x1024.size (by sl_kernel_rfl) y

/-- What case A leaves in scratch `arg11`. -/
def sout4_A_0 : Vec F S8x1024 .f32 :=
  VS4_0.read (Elt F) (VS4_0.writes (Elt F) VS4_0.junk (kernelRun4_A c i _ harg2 _ harg3 _ harg4 _ harg5 _ harg6 _ harg7 _ harg8 _ harg9 _ harg10 _ harg11 _ harg12 hc0 hc1 x0 x1 x2 x3 x4).2.2.2.2.1)

/-- Case A's pieces for scratch `arg12`, which the kernel carries between points, cover it. -/
theorem scover4_A_1 (y : S8x1024.Idx) :
    ∃ pc ∈ (kernelRun4_A c i _ harg2 _ harg3 _ harg4 _ harg5 _ harg6 _ harg7 _ harg8 _ harg9 _ harg10 _ harg11 _ harg12 hc0 hc1 x0 x1 x2 x3 x4).2.2.2.2.2.1, y ∈ pc.1.set :=
  View.cover_of_tiledL _ S8x1024.size (by sl_kernel_rfl) y

/-- What case A leaves in scratch `arg12`. -/
def sout4_A_1 : Vec F S8x1024 .f32 :=
  VS4_1.read (Elt F) (VS4_1.writes (Elt F) VS4_1.junk (kernelRun4_A c i _ harg2 _ harg3 _ harg4 _ harg5 _ harg6 _ harg7 _ harg8 _ harg9 _ harg10 _ harg11 _ harg12 hc0 hc1 x0 x1 x2 x3 x4).2.2.2.2.2.1)

/-- What case A leaves in the outputs and the scratch. -/
def caseOuts4_A : Vec F S1024x1024 .fp8e4m3 × Vec F S1024x1024 .fp8e5m2 × Vec F S1x1 .f32 × Vec F S1x1 .f32 × Vec F S8x1024 .f32 × Vec F S8x1024 .f32 :=
  (out4_A_5 c i _ harg2 _ harg3 _ harg4 _ harg5 _ harg6 _ harg7 _ harg8 _ harg9 _ harg10 _ harg11 _ harg12 hc0 hc1 x0 x1 x2 x3 x4,
    out4_A_6 c i _ harg2 _ harg3 _ harg4 _ harg5 _ harg6 _ harg7 _ harg8 _ harg9 _ harg10 _ harg11 _ harg12 hc0 hc1 x0 x1 x2 x3 x4,
    out4_A_7 c i _ harg2 _ harg3 _ harg4 _ harg5 _ harg6 _ harg7 _ harg8 _ harg9 _ harg10 _ harg11 _ harg12 hc0 hc1 x0 x1 x2 x3 x4,
    out4_A_8 c i _ harg2 _ harg3 _ harg4 _ harg5 _ harg6 _ harg7 _ harg8 _ harg9 _ harg10 _ harg11 _ harg12 hc0 hc1 x0 x1 x2 x3 x4,
    sout4_A_0 c i _ harg2 _ harg3 _ harg4 _ harg5 _ harg6 _ harg7 _ harg8 _ harg9 _ harg10 _ harg11 _ harg12 hc0 hc1 x0 x1 x2 x3 x4,
    sout4_A_1 c i _ harg2 _ harg3 _ harg4 _ harg5 _ harg6 _ harg7 _ harg8 _ harg9 _ harg10 _ harg11 _ harg12 hc0 hc1 x0 x1 x2 x3 x4)

end caseA

section caseB
variable (hc0 : ¬cond4_0 i) (hc1 : ¬cond4_1 i)
    (x0 : Vec F S4 .f32) (x1 : Vec F S1024x4096 .fp8e4m3) (x2 : Vec F S1024x4096 .fp8e5m2) (x3 : Vec F S4096x1024 .fp8e4m3) (x4 : Vec F S1024x4096 .fp8e4m3) (xs0 : Vec F S8x1024 .f32) (xs1 : Vec F S8x1024 .f32)
include hc0 hc1 x0 x1 x2 x3 x4 xs0 xs1

set_option maxHeartbeats 1000000 in
/-- What the body's stores leave in each output's staging memref, as pieces. -/
noncomputable def kernelRun4_B :
    Σ' (L5 : List (View.Piece (Elt F) S1024x1024 .fp8e4m3)), Σ' (L6 : List (View.Piece (Elt F) S1024x1024 .fp8e5m2)), Σ' (L7 : List (View.Piece (Elt F) S1x1 .f32)), Σ' (L8 : List (View.Piece (Elt F) S1x1 .f32)), Σ' (LS0 : List (View.Piece (Elt F) S8x1024 .f32)), { LS1 : List (View.Piece (Elt F) S8x1024 .f32) //
      ∀ (xi7 : Vec F S1x1 .f32) (xi8 : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare xi7 ∗ owns (c : Thread nD τ) arg10 fullShare xi8 ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xi7 ∗ owns (c : Thread nD τ) arg10 fullShare xi8 ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_hidden i _ harg2 _ harg3 _ harg4 _ harg5 _ harg6 _ harg7 _ harg8 _ harg9 _ harg10 _ harg11 _ harg12) K } := by
  refine ⟨?_, ?_, [], [], ?_, ?_, fun xi7 xi8 E K => ?run⟩
  case run =>
    simp only [cc4_hidden_eq_skeleton]; unfold cc4_hidden_skel
    simp only [k4_part1_eq_skeleton, k4_part2_eq_skeleton, k4_part3_eq_skeleton, k4_part4_eq_skeleton, k4_part5_eq_skeleton, k4_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%f7, %hf7, H7⟩, ⟨%f8, %hf8, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg9.eq_unread hf7; obtain rfl := harg10.eq_unread hf8; obtain rfl := harg11.eq_unread hfs0; obtain rfl := harg12.eq_unread hfs1
    sl_exec (disch := first | sl_exact hc0 | sl_exact hc1)
    sl_step
    iapply Hk
    isplitl [H0]; · iapply (owns_unread harg2 _) $$ H0
    isplitl [H1]; · iapply (owns_unread harg3 _) $$ H1
    isplitl [H2]; · iapply (owns_unread harg4 _) $$ H2
    isplitl [H3]; · iapply (owns_unread harg5 _) $$ H3
    isplitl [H4]; · iapply (owns_unread harg6 _) $$ H4
    isplitl [H5]; · iexists _; iexact H5
    isplitl [H6]; · iexists _; iexact H6
    isplitl [H7]; · iapply (owns_unread harg9 _) $$ H7
    isplitl [H8]; · iapply (owns_unread harg10 _) $$ H8
    isplitl [HS0]; · iexists _; iexact HS0
    iexists _; iexact HS1

/-- Case B's pieces for output 5 tile its block. -/
theorem cover4_B_5 (y : S1024x1024.Idx) :
    ∃ pc ∈ (kernelRun4_B c i _ harg2 _ harg3 _ harg4 _ harg5 _ harg6 _ harg7 _ harg8 _ harg9 _ harg10 _ harg11 _ harg12 hc0 hc1 x0 x1 x2 x3 x4 xs0 xs1).1, y ∈ pc.1.set :=
  View.cover_of_tiledL (s := S1024x1024) _ S256x1024.size (by sl_kernel_rfl) y

/-- What case B leaves in output 5's staging buffer. -/
def out4_B_5 : Vec F S1024x1024 .fp8e4m3 :=
  VO4_5.read (Elt F) (VO4_5.writes (Elt F) VO4_5.junk (kernelRun4_B c i _ harg2 _ harg3 _ harg4 _ harg5 _ harg6 _ harg7 _ harg8 _ harg9 _ harg10 _ harg11 _ harg12 hc0 hc1 x0 x1 x2 x3 x4 xs0 xs1).1)

/-- Case B's pieces for output 6 tile its block. -/
theorem cover4_B_6 (y : S1024x1024.Idx) :
    ∃ pc ∈ (kernelRun4_B c i _ harg2 _ harg3 _ harg4 _ harg5 _ harg6 _ harg7 _ harg8 _ harg9 _ harg10 _ harg11 _ harg12 hc0 hc1 x0 x1 x2 x3 x4 xs0 xs1).2.1, y ∈ pc.1.set :=
  View.cover_of_tiledL (s := S1024x1024) _ S256x1024.size (by sl_kernel_rfl) y

/-- What case B leaves in output 6's staging buffer. -/
def out4_B_6 : Vec F S1024x1024 .fp8e5m2 :=
  VO4_6.read (Elt F) (VO4_6.writes (Elt F) VO4_6.junk (kernelRun4_B c i _ harg2 _ harg3 _ harg4 _ harg5 _ harg6 _ harg7 _ harg8 _ harg9 _ harg10 _ harg11 _ harg12 hc0 hc1 x0 x1 x2 x3 x4 xs0 xs1).2.1)

/-- Case B stores nothing into output 7. -/
def out4_B_7 : Vec F S1x1 .f32 :=
  VO4_7.read (Elt F) (VO4_7.writes (Elt F) VO4_7.junk (kernelRun4_B c i _ harg2 _ harg3 _ harg4 _ harg5 _ harg6 _ harg7 _ harg8 _ harg9 _ harg10 _ harg11 _ harg12 hc0 hc1 x0 x1 x2 x3 x4 xs0 xs1).2.2.1)

/-- Case B stores nothing into output 8. -/
def out4_B_8 : Vec F S1x1 .f32 :=
  VO4_8.read (Elt F) (VO4_8.writes (Elt F) VO4_8.junk (kernelRun4_B c i _ harg2 _ harg3 _ harg4 _ harg5 _ harg6 _ harg7 _ harg8 _ harg9 _ harg10 _ harg11 _ harg12 hc0 hc1 x0 x1 x2 x3 x4 xs0 xs1).2.2.2.1)

/-- Case B's pieces for scratch `arg11`, which the kernel carries between points, cover it. -/
theorem scover4_B_0 (y : S8x1024.Idx) :
    ∃ pc ∈ (kernelRun4_B c i _ harg2 _ harg3 _ harg4 _ harg5 _ harg6 _ harg7 _ harg8 _ harg9 _ harg10 _ harg11 _ harg12 hc0 hc1 x0 x1 x2 x3 x4 xs0 xs1).2.2.2.2.1, y ∈ pc.1.set :=
  View.cover_of_tiledL _ S8x1024.size (by sl_kernel_rfl) y

/-- What case B leaves in scratch `arg11`. -/
def sout4_B_0 : Vec F S8x1024 .f32 :=
  VS4_0.read (Elt F) (VS4_0.writes (Elt F) VS4_0.junk (kernelRun4_B c i _ harg2 _ harg3 _ harg4 _ harg5 _ harg6 _ harg7 _ harg8 _ harg9 _ harg10 _ harg11 _ harg12 hc0 hc1 x0 x1 x2 x3 x4 xs0 xs1).2.2.2.2.1)

/-- Case B's pieces for scratch `arg12`, which the kernel carries between points, cover it. -/
theorem scover4_B_1 (y : S8x1024.Idx) :
    ∃ pc ∈ (kernelRun4_B c i _ harg2 _ harg3 _ harg4 _ harg5 _ harg6 _ harg7 _ harg8 _ harg9 _ harg10 _ harg11 _ harg12 hc0 hc1 x0 x1 x2 x3 x4 xs0 xs1).2.2.2.2.2.1, y ∈ pc.1.set :=
  View.cover_of_tiledL _ S8x1024.size (by sl_kernel_rfl) y

/-- What case B leaves in scratch `arg12`. -/
def sout4_B_1 : Vec F S8x1024 .f32 :=
  VS4_1.read (Elt F) (VS4_1.writes (Elt F) VS4_1.junk (kernelRun4_B c i _ harg2 _ harg3 _ harg4 _ harg5 _ harg6 _ harg7 _ harg8 _ harg9 _ harg10 _ harg11 _ harg12 hc0 hc1 x0 x1 x2 x3 x4 xs0 xs1).2.2.2.2.2.1)

/-- What case B leaves in the outputs and the scratch. -/
def caseOuts4_B : Vec F S1024x1024 .fp8e4m3 × Vec F S1024x1024 .fp8e5m2 × Vec F S1x1 .f32 × Vec F S1x1 .f32 × Vec F S8x1024 .f32 × Vec F S8x1024 .f32 :=
  (out4_B_5 c i _ harg2 _ harg3 _ harg4 _ harg5 _ harg6 _ harg7 _ harg8 _ harg9 _ harg10 _ harg11 _ harg12 hc0 hc1 x0 x1 x2 x3 x4 xs0 xs1,
    out4_B_6 c i _ harg2 _ harg3 _ harg4 _ harg5 _ harg6 _ harg7 _ harg8 _ harg9 _ harg10 _ harg11 _ harg12 hc0 hc1 x0 x1 x2 x3 x4 xs0 xs1,
    out4_B_7 c i _ harg2 _ harg3 _ harg4 _ harg5 _ harg6 _ harg7 _ harg8 _ harg9 _ harg10 _ harg11 _ harg12 hc0 hc1 x0 x1 x2 x3 x4 xs0 xs1,
    out4_B_8 c i _ harg2 _ harg3 _ harg4 _ harg5 _ harg6 _ harg7 _ harg8 _ harg9 _ harg10 _ harg11 _ harg12 hc0 hc1 x0 x1 x2 x3 x4 xs0 xs1,
    sout4_B_0 c i _ harg2 _ harg3 _ harg4 _ harg5 _ harg6 _ harg7 _ harg8 _ harg9 _ harg10 _ harg11 _ harg12 hc0 hc1 x0 x1 x2 x3 x4 xs0 xs1,
    sout4_B_1 c i _ harg2 _ harg3 _ harg4 _ harg5 _ harg6 _ harg7 _ harg8 _ harg9 _ harg10 _ harg11 _ harg12 hc0 hc1 x0 x1 x2 x3 x4 xs0 xs1)

end caseB

section caseC
variable (hc0 : ¬cond4_0 i) (hc1 : cond4_1 i)
    (x0 : Vec F S4 .f32) (x1 : Vec F S1024x4096 .fp8e4m3) (x2 : Vec F S1024x4096 .fp8e5m2) (x3 : Vec F S4096x1024 .fp8e4m3) (x4 : Vec F S1024x4096 .fp8e4m3) (xs0 : Vec F S8x1024 .f32) (xs1 : Vec F S8x1024 .f32)
include hc0 hc1 x0 x1 x2 x3 x4 xs0 xs1

set_option maxHeartbeats 1000000 in
/-- What the body's stores leave in each output's staging memref, as pieces. -/
noncomputable def kernelRun4_C :
    Σ' (L5 : List (View.Piece (Elt F) S1024x1024 .fp8e4m3)), Σ' (L6 : List (View.Piece (Elt F) S1024x1024 .fp8e5m2)), Σ' (L7 : List (View.Piece (Elt F) S1x1 .f32)), Σ' (L8 : List (View.Piece (Elt F) S1x1 .f32)), Σ' (LS0 : List (View.Piece (Elt F) S8x1024 .f32)), { LS1 : List (View.Piece (Elt F) S8x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ owns (c : Thread nD τ) arg11 fullShare xs0 ∗ owns (c : Thread nD τ) arg12 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS0) ∗ (∃ f, arg12.view.loc (c : Thread nD τ) ↦[arg12.view.set]{fullShare} arg12.view.writes (Elt F) f LS1)) -∗ K ⟨⟩))
          ⊢ wp frame (wpE (defs₀ (F := F)) Variants.none c none) E (cc4_hidden i _ harg2 _ harg3 _ harg4 _ harg5 _ harg6 _ harg7 _ harg8 _ harg9 _ harg10 _ harg11 _ harg12) K } := by
  refine ⟨?_, ?_, ?_, ?_, ?_, ?_, fun E K => ?run⟩
  case run =>
    simp only [cc4_hidden_eq_skeleton]; unfold cc4_hidden_skel
    simp only [k4_part1_eq_skeleton, k4_part2_eq_skeleton, k4_part3_eq_skeleton, k4_part4_eq_skeleton, k4_part5_eq_skeleton, k4_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg11.eq_unread hfs0; obtain rfl := harg12.eq_unread hfs1
    sl_exec (disch := first | sl_exact hc0 | sl_exact hc1)
    sl_step
    iapply Hk
    isplitl [H0]; · iapply (owns_unread harg2 _) $$ H0
    isplitl [H1]; · iapply (owns_unread harg3 _) $$ H1
    isplitl [H2]; · iapply (owns_unread harg4 _) $$ H2
    isplitl [H3]; · iapply (owns_unread harg5 _) $$ H3
    isplitl [H4]; · iapply (owns_unread harg6 _) $$ H4
    isplitl [H5]; · iexists _; iexact H5
    isplitl [H6]; · iexists _; iexact H6
    isplitl [H7]; · iexists _; iexact H7
    isplitl [H8]; · iexists _; iexact H8
    isplitl [HS0]; · iexists _; iexact HS0
    iexists _; iexact HS1

/-- Case C's pieces for output 5 tile its block. -/
theorem cover4_C_5 (y : S1024x1024.Idx) :
    ∃ pc ∈ (kernelRun4_C c i _ harg2 _ harg3 _ harg4 _ harg5 _ harg6 _ harg7 _ harg8 _ harg9 _ harg10 _ harg11 _ harg12 hc0 hc1 x0 x1 x2 x3 x4 xs0 xs1).1, y ∈ pc.1.set :=
  View.cover_of_tiledL (s := S1024x1024) _ S256x1024.size (by sl_kernel_rfl) y

/-- What case C leaves in output 5's staging buffer. -/
def out4_C_5 : Vec F S1024x1024 .fp8e4m3 :=
  VO4_5.read (Elt F) (VO4_5.writes (Elt F) VO4_5.junk (kernelRun4_C c i _ harg2 _ harg3 _ harg4 _ harg5 _ harg6 _ harg7 _ harg8 _ harg9 _ harg10 _ harg11 _ harg12 hc0 hc1 x0 x1 x2 x3 x4 xs0 xs1).1)

/-- Case C's pieces for output 6 tile its block. -/
theorem cover4_C_6 (y : S1024x1024.Idx) :
    ∃ pc ∈ (kernelRun4_C c i _ harg2 _ harg3 _ harg4 _ harg5 _ harg6 _ harg7 _ harg8 _ harg9 _ harg10 _ harg11 _ harg12 hc0 hc1 x0 x1 x2 x3 x4 xs0 xs1).2.1, y ∈ pc.1.set :=
  View.cover_of_tiledL (s := S1024x1024) _ S256x1024.size (by sl_kernel_rfl) y

/-- What case C leaves in output 6's staging buffer. -/
def out4_C_6 : Vec F S1024x1024 .fp8e5m2 :=
  VO4_6.read (Elt F) (VO4_6.writes (Elt F) VO4_6.junk (kernelRun4_C c i _ harg2 _ harg3 _ harg4 _ harg5 _ harg6 _ harg7 _ harg8 _ harg9 _ harg10 _ harg11 _ harg12 hc0 hc1 x0 x1 x2 x3 x4 xs0 xs1).2.1)

/-- Case C's pieces for output 7 tile its block. -/
theorem cover4_C_7 (y : S1x1.Idx) :
    ∃ pc ∈ (kernelRun4_C c i _ harg2 _ harg3 _ harg4 _ harg5 _ harg6 _ harg7 _ harg8 _ harg9 _ harg10 _ harg11 _ harg12 hc0 hc1 x0 x1 x2 x3 x4 xs0 xs1).2.2.1, y ∈ pc.1.set :=
  View.cover_of_tiledL _ S1x1.size (by sl_kernel_rfl) y

/-- What case C leaves in output 7's staging buffer. -/
def out4_C_7 : Vec F S1x1 .f32 :=
  VO4_7.read (Elt F) (VO4_7.writes (Elt F) VO4_7.junk (kernelRun4_C c i _ harg2 _ harg3 _ harg4 _ harg5 _ harg6 _ harg7 _ harg8 _ harg9 _ harg10 _ harg11 _ harg12 hc0 hc1 x0 x1 x2 x3 x4 xs0 xs1).2.2.1)

/-- Case C's pieces for output 8 tile its block. -/
theorem cover4_C_8 (y : S1x1.Idx) :
    ∃ pc ∈ (kernelRun4_C c i _ harg2 _ harg3 _ harg4 _ harg5 _ harg6 _ harg7 _ harg8 _ harg9 _ harg10 _ harg11 _ harg12 hc0 hc1 x0 x1 x2 x3 x4 xs0 xs1).2.2.2.1, y ∈ pc.1.set :=
  View.cover_of_tiledL _ S1x1.size (by sl_kernel_rfl) y

/-- What case C leaves in output 8's staging buffer. -/
def out4_C_8 : Vec F S1x1 .f32 :=
  VO4_8.read (Elt F) (VO4_8.writes (Elt F) VO4_8.junk (kernelRun4_C c i _ harg2 _ harg3 _ harg4 _ harg5 _ harg6 _ harg7 _ harg8 _ harg9 _ harg10 _ harg11 _ harg12 hc0 hc1 x0 x1 x2 x3 x4 xs0 xs1).2.2.2.1)

/-- Case C's pieces for scratch `arg11`, which the kernel carries between points, cover it. -/
theorem scover4_C_0 (y : S8x1024.Idx) :
    ∃ pc ∈ (kernelRun4_C c i _ harg2 _ harg3 _ harg4 _ harg5 _ harg6 _ harg7 _ harg8 _ harg9 _ harg10 _ harg11 _ harg12 hc0 hc1 x0 x1 x2 x3 x4 xs0 xs1).2.2.2.2.1, y ∈ pc.1.set :=
  View.cover_of_tiledL _ S8x1024.size (by sl_kernel_rfl) y

/-- What case C leaves in scratch `arg11`. -/
def sout4_C_0 : Vec F S8x1024 .f32 :=
  VS4_0.read (Elt F) (VS4_0.writes (Elt F) VS4_0.junk (kernelRun4_C c i _ harg2 _ harg3 _ harg4 _ harg5 _ harg6 _ harg7 _ harg8 _ harg9 _ harg10 _ harg11 _ harg12 hc0 hc1 x0 x1 x2 x3 x4 xs0 xs1).2.2.2.2.1)

/-- Case C's pieces for scratch `arg12`, which the kernel carries between points, cover it. -/
theorem scover4_C_1 (y : S8x1024.Idx) :
    ∃ pc ∈ (kernelRun4_C c i _ harg2 _ harg3 _ harg4 _ harg5 _ harg6 _ harg7 _ harg8 _ harg9 _ harg10 _ harg11 _ harg12 hc0 hc1 x0 x1 x2 x3 x4 xs0 xs1).2.2.2.2.2.1, y ∈ pc.1.set :=
  View.cover_of_tiledL _ S8x1024.size (by sl_kernel_rfl) y

/-- What case C leaves in scratch `arg12`. -/
def sout4_C_1 : Vec F S8x1024 .f32 :=
  VS4_1.read (Elt F) (VS4_1.writes (Elt F) VS4_1.junk (kernelRun4_C c i _ harg2 _ harg3 _ harg4 _ harg5 _ harg6 _ harg7 _ harg8 _ harg9 _ harg10 _ harg11 _ harg12 hc0 hc1 x0 x1 x2 x3 x4 xs0 xs1).2.2.2.2.2.1)

/-- What case C leaves in the outputs and the scratch. -/
def caseOuts4_C : Vec F S1024x1024 .fp8e4m3 × Vec F S1024x1024 .fp8e5m2 × Vec F S1x1 .f32 × Vec F S1x1 .f32 × Vec F S8x1024 .f32 × Vec F S8x1024 .f32 :=
  (out4_C_5 c i _ harg2 _ harg3 _ harg4 _ harg5 _ harg6 _ harg7 _ harg8 _ harg9 _ harg10 _ harg11 _ harg12 hc0 hc1 x0 x1 x2 x3 x4 xs0 xs1,
    out4_C_6 c i _ harg2 _ harg3 _ harg4 _ harg5 _ harg6 _ harg7 _ harg8 _ harg9 _ harg10 _ harg11 _ harg12 hc0 hc1 x0 x1 x2 x3 x4 xs0 xs1,
    out4_C_7 c i _ harg2 _ harg3 _ harg4 _ harg5 _ harg6 _ harg7 _ harg8 _ harg9 _ harg10 _ harg11 _ harg12 hc0 hc1 x0 x1 x2 x3 x4 xs0 xs1,
    out4_C_8 c i _ harg2 _ harg3 _ harg4 _ harg5 _ harg6 _ harg7 _ harg8 _ harg9 _ harg10 _ harg11 _ harg12 hc0 hc1 x0 x1 x2 x3 x4 xs0 xs1,
    sout4_C_0 c i _ harg2 _ harg3 _ harg4 _ harg5 _ harg6 _ harg7 _ harg8 _ harg9 _ harg10 _ harg11 _ harg12 hc0 hc1 x0 x1 x2 x3 x4 xs0 xs1,
    sout4_C_1 c i _ harg2 _ harg3 _ harg4 _ harg5 _ harg6 _ harg7 _ harg8 _ harg9 _ harg10 _ harg11 _ harg12 hc0 hc1 x0 x1 x2 x3 x4 xs0 xs1)

end caseC

end runs

/-! ## What the outputs hold after each point -/

/-- What a point of case A leaves. -/
def pointOuts4_A (c : Dev nD) (t : Fin cfg4.N) (h0 : t.val % 128 = 0) (h1 : ¬t.val % 128 = 127) :
    Vec F S1024x1024 .fp8e4m3 × Vec F S1024x1024 .fp8e5m2 × Vec F S1x1 .f32 × Vec F S1x1 .f32 × Vec F S8x1024 .f32 × Vec F S8x1024 .f32 :=
  caseOuts4_A c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) ((hcond4_0 t).mpr h0) (mt (hcond4_1 t).mp h1) (iblk4 V c 0 t) (iblk4 V c 1 t) (iblk4 V c 2 t) (iblk4 V c 3 t) (iblk4 V c 4 t)

/-- What a point of case B leaves, from what the scratch held before it. -/
def pointOuts4_B (c : Dev nD) (t : Fin cfg4.N) (h0 : ¬t.val % 128 = 0) (h1 : ¬t.val % 128 = 127) (xs0 : Vec F S8x1024 .f32) (xs1 : Vec F S8x1024 .f32) :
    Vec F S1024x1024 .fp8e4m3 × Vec F S1024x1024 .fp8e5m2 × Vec F S1x1 .f32 × Vec F S1x1 .f32 × Vec F S8x1024 .f32 × Vec F S8x1024 .f32 :=
  caseOuts4_B c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (mt (hcond4_0 t).mp h0) (mt (hcond4_1 t).mp h1) (iblk4 V c 0 t) (iblk4 V c 1 t) (iblk4 V c 2 t) (iblk4 V c 3 t) (iblk4 V c 4 t) xs0 xs1

/-- What a point of case C leaves, from what the scratch held before it. -/
def pointOuts4_C (c : Dev nD) (t : Fin cfg4.N) (h0 : ¬t.val % 128 = 0) (h1 : t.val % 128 = 127) (xs0 : Vec F S8x1024 .f32) (xs1 : Vec F S8x1024 .f32) :
    Vec F S1024x1024 .fp8e4m3 × Vec F S1024x1024 .fp8e5m2 × Vec F S1x1 .f32 × Vec F S1x1 .f32 × Vec F S8x1024 .f32 × Vec F S8x1024 .f32 :=
  caseOuts4_C c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) scM4_0 (Memref.isWhole_whole _) scM4_1 (Memref.isWhole_whole _) (mt (hcond4_0 t).mp h0) ((hcond4_1 t).mpr h1) (iblk4 V c 0 t) (iblk4 V c 1 t) (iblk4 V c 2 t) (iblk4 V c 3 t) (iblk4 V c 4 t) xs0 xs1

/-- What the outputs and the scratch hold after each point. -/
def outsAt4 (c : Dev nD) : (n : ℕ) → n < cfg4.N → Vec F S1024x1024 .fp8e4m3 × Vec F S1024x1024 .fp8e5m2 × Vec F S1x1 .f32 × Vec F S1x1 .f32 × Vec F S8x1024 .f32 × Vec F S8x1024 .f32
  | 0, hn => pointOuts4_A V c ⟨0, hn⟩ (Nat.zero_mod _) (fun h => by (try dsimp only at h); omega)
  | n + 1, hn =>
    if h0 : (n + 1) % 128 = 0 then
      if h1 : (n + 1) % 128 = 127 then
        False.elim (by have hN : n + 1 < 128 := lt_of_lt_of_eq hn (show cfg4.N = 128 from N_4); omega)
      else
        pointOuts4_A V c ⟨n + 1, hn⟩ h0 h1
    else
      if h1 : (n + 1) % 128 = 127 then
        pointOuts4_C V c ⟨n + 1, hn⟩ h0 h1 (outsAt4 c n (Nat.lt_of_succ_lt hn)).2.2.2.2.1 (outsAt4 c n (Nat.lt_of_succ_lt hn)).2.2.2.2.2
      else
        pointOuts4_B V c ⟨n + 1, hn⟩ h0 h1 (outsAt4 c n (Nat.lt_of_succ_lt hn)).2.2.2.2.1 (outsAt4 c n (Nat.lt_of_succ_lt hn)).2.2.2.2.2

/-- `outsAt4` at a point of case A. -/
theorem outsAt4_A (c : Dev nD) (t : Fin cfg4.N) (h0 : t.val % 128 = 0) (h1 : ¬t.val % 128 = 127) :
    outsAt4 V c t.val t.isLt = pointOuts4_A V c t h0 h1 := by
  obtain ⟨n, hn⟩ := t
  cases n with
  | zero => exact rfl
  | succ n => exact (dif_pos h0).trans ((dif_neg h1).trans rfl)

/-- `outsAt4` at a point of case B. -/
theorem outsAt4_B (c : Dev nD) (t : Fin cfg4.N) (h0 : ¬t.val % 128 = 0) (h1 : ¬t.val % 128 = 127) :
    outsAt4 V c t.val t.isLt = pointOuts4_B V c t h0 h1 (outsAt4 V c (t.val - 1) (Nat.lt_of_le_of_lt (Nat.sub_le _ _) t.isLt)).2.2.2.2.1 (outsAt4 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_neg h1).trans rfl)

/-- `outsAt4` at a point of case C. -/
theorem outsAt4_C (c : Dev nD) (t : Fin cfg4.N) (h0 : ¬t.val % 128 = 0) (h1 : t.val % 128 = 127) :
    outsAt4 V c t.val t.isLt = pointOuts4_C V c t h0 h1 (outsAt4 V c (t.val - 1) (Nat.lt_of_le_of_lt (Nat.sub_le _ _) t.isLt)).2.2.2.2.1 (outsAt4 V c (t.val - 1) (Nat.lt_of_le_of_lt (Nat.sub_le _ _) t.isLt)).2.2.2.2.2 := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points. -/
def PhiS4 (c : Dev nD) : (n : ℕ) → n ≤ cfg4.N → sProp 𝕄
  | 0, _ => Pipeline.ΦA spec4 c
  | n + 1, hn => iprop(iprop(owns (c : Thread nD τ) scM4_0 fullShare ((outsAt4 V c n hn).2.2.2.2.1) ∗ owns (c : Thread nD τ) scM4_1 fullShare ((outsAt4 V c n hn).2.2.2.2.2)) ∗ Rest4 c)

theorem PhiS4_zero (c : Dev nD) (n : ℕ) (h : n ≤ cfg4.N) (hz : n = 0) : PhiS4 V c n h = Pipeline.ΦA spec4 c := by
  subst hz; rfl

/-- After point `n`. -/
theorem PhiS4_succ (c : Dev nD) (n : ℕ) (hn : n < cfg4.N) :
    PhiS4 V c (n + 1) hn = iprop(iprop(owns (c : Thread nD τ) scM4_0 fullShare ((outsAt4 V c n hn).2.2.2.2.1) ∗ owns (c : Thread nD τ) scM4_1 fullShare ((outsAt4 V c n hn).2.2.2.2.2)) ∗ Rest4 c) := rfl

/-- Before a point that is not the first. -/
theorem PhiS4_pos (c : Dev nD) (n : ℕ) (h : n ≤ cfg4.N) (hz : n ≠ 0) :
    PhiS4 V c n h = iprop(iprop(owns (c : Thread nD τ) scM4_0 fullShare ((outsAt4 V c (n - 1) (by omega)).2.2.2.2.1) ∗ owns (c : Thread nD τ) scM4_1 fullShare ((outsAt4 V c (n - 1) (by omega)).2.2.2.2.2)) ∗ Rest4 c) := by
  cases n with
  | zero => exact absurd rfl hz
  | succ n => rfl

/-! ## The pipeline's proof data -/

/-- The proof data of the one pipeline on core `c`. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => (outsAt4 V c t.val t.isLt).1
    | ⟨6, _⟩ => (outsAt4 V c t.val t.isLt).2.1
    | ⟨7, _⟩ => (outsAt4 V c t.val t.isLt).2.2.1
    | ⟨8, _⟩ => (outsAt4 V c t.val t.isLt).2.2.2.1
  Φ t := PhiS4 V c t.val (Nat.le_of_lt_succ t.isLt)
  q _ := fullShare
  owed _ := 0

/-- The proof data's arrays are the region-entry contents. -/
theorem A_eq4 (c : Dev nD) (w : Fin cfg4.W) : (dat4 V c).A w = V c (Pipeline.arrRef spec4 w) := by
  dsimp only [dat4]

/-- The invariant at a point's start. -/
theorem PhiS4_castSucc (c : Dev nD) (t : Fin cfg4.N) :
    (dat4 V c).Φ t.castSucc = PhiS4 V c t.val (Nat.le_of_lt t.isLt) := by
  dsimp only [dat4]; exact Pipeline.Dat.Φ_castSucc (PhiS4 V c) t

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = (outsAt4 V c t.val t.isLt).1 := by dsimp only [dat4]
theorem after4_6 (c : Dev nD) (t : Fin cfg4.N) : (dat4 V c).after 6 t = (outsAt4 V c t.val t.isLt).2.1 := by dsimp only [dat4]
theorem after4_7 (c : Dev nD) (t : Fin cfg4.N) : (dat4 V c).after 7 t = (outsAt4 V c t.val t.isLt).2.2.1 := by dsimp only [dat4]
theorem after4_8 (c : Dev nD) (t : Fin cfg4.N) : (dat4 V c).after 8 t = (outsAt4 V c t.val t.isLt).2.2.2.1 := by dsimp only [dat4]

/-- Each input's current staging buffer holds its block at every point, fetched there or not. -/
theorem before4_0 (c : Dev nD) (t : Fin cfg4.N) (d) : (dat4 V c).before 0 t d = iblk4 V c 0 t :=
  ((dat4 V c).before_in_eq_fetched 0 rfl (fun _ => rfl) (fun _ _ _ => rfl) (fun t => by rw [after4_0]; unfold Dat.blockOf iblk4; rw [A_eq4]; try rfl) t d).trans
    (by unfold Dat.fetched Dat.blockOf iblk4; rw [A_eq4]; try rfl)
theorem before4_1 (c : Dev nD) (t : Fin cfg4.N) (d) : (dat4 V c).before 1 t d = iblk4 V c 1 t :=
  ((dat4 V c).before_in_eq_fetched 1 rfl (fun _ => rfl) (fun _ _ _ => rfl) (fun t => by rw [after4_1]; unfold Dat.blockOf iblk4; rw [A_eq4]; try rfl) t d).trans
    (by unfold Dat.fetched Dat.blockOf iblk4; rw [A_eq4]; try rfl)
theorem before4_2 (c : Dev nD) (t : Fin cfg4.N) (d) : (dat4 V c).before 2 t d = iblk4 V c 2 t :=
  ((dat4 V c).before_in_eq_fetched 2 rfl (fun _ => rfl) (fun _ _ _ => rfl) (fun t => by rw [after4_2]; unfold Dat.blockOf iblk4; rw [A_eq4]; try rfl) t d).trans
    (by unfold Dat.fetched Dat.blockOf iblk4; rw [A_eq4]; try rfl)
theorem before4_3 (c : Dev nD) (t : Fin cfg4.N) (d) : (dat4 V c).before 3 t d = iblk4 V c 3 t :=
  ((dat4 V c).before_in_eq_fetched 3 rfl (fun _ => rfl) (fun _ _ _ => rfl) (fun t => by rw [after4_3]; unfold Dat.blockOf iblk4; rw [A_eq4]; try rfl) t d).trans
    (by unfold Dat.fetched Dat.blockOf iblk4; rw [A_eq4]; try rfl)
theorem before4_4 (c : Dev nD) (t : Fin cfg4.N) (d) : (dat4 V c).before 4 t d = iblk4 V c 4 t :=
  ((dat4 V c).before_in_eq_fetched 4 rfl (fun _ => rfl) (fun _ _ _ => rfl) (fun t => by rw [after4_4]; unfold Dat.blockOf iblk4; rw [A_eq4]; try rfl) t d).trans
    (by unfold Dat.fetched Dat.blockOf iblk4; rw [A_eq4]; try rfl)

/-- What the body must leave in window 0, at any point; so for the windows below. -/
theorem leaves4_0 (c : Dev nD) (t : Fin cfg4.N) :
    (dat4 V c).leavesExact 0 t = owns (c : Thread nD τ) (ms4_0 t) fullShare (iblk4 V c 0 t) := by
  unfold Dat.leavesExact; rw [liveAt4_0 t, after4_0]

theorem leaves4_1 (c : Dev nD) (t : Fin cfg4.N) :
    (dat4 V c).leavesExact 1 t = owns (c : Thread nD τ) (ms4_1 t) fullShare (iblk4 V c 1 t) := by
  unfold Dat.leavesExact; rw [liveAt4_1 t, after4_1]

theorem leaves4_2 (c : Dev nD) (t : Fin cfg4.N) :
    (dat4 V c).leavesExact 2 t = owns (c : Thread nD τ) (ms4_2 t) fullShare (iblk4 V c 2 t) := by
  unfold Dat.leavesExact; rw [liveAt4_2 t, after4_2]

theorem leaves4_3 (c : Dev nD) (t : Fin cfg4.N) :
    (dat4 V c).leavesExact 3 t = owns (c : Thread nD τ) (ms4_3 t) fullShare (iblk4 V c 3 t) := by
  unfold Dat.leavesExact; rw [liveAt4_3 t, after4_3]

theorem leaves4_4 (c : Dev nD) (t : Fin cfg4.N) :
    (dat4 V c).leavesExact 4 t = owns (c : Thread nD τ) (ms4_4 t) fullShare (iblk4 V c 4 t) := by
  unfold Dat.leavesExact; rw [liveAt4_4 t, after4_4]

theorem leaves4_5 (c : Dev nD) (t : Fin cfg4.N) :
    (dat4 V c).leavesExact 5 t = owns (c : Thread nD τ) (ms4_5 t) fullShare ((outsAt4 V c t.val t.isLt).1) := by
  unfold Dat.leavesExact; rw [liveAt4_5 t, after4_5]

theorem leaves4_6 (c : Dev nD) (t : Fin cfg4.N) :
    (dat4 V c).leavesExact 6 t = owns (c : Thread nD τ) (ms4_6 t) fullShare ((outsAt4 V c t.val t.isLt).2.1) := by
  unfold Dat.leavesExact; rw [liveAt4_6 t, after4_6]

/-! ## The body obligation, at a generic point -/

/-- What the body is called with at point `t`. -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d))
    ∗ (∃ d, owns (c : Thread nD τ) (ms4_4 t) fullShare ((dat4 V c).before 4 t d))
    ∗ (∃ d, owns (c : Thread nD τ) (ms4_5 t) fullShare ((dat4 V c).before 5 t d))
    ∗ (∃ d, owns (c : Thread nD τ) (ms4_6 t) fullShare ((dat4 V c).before 6 t d))
    ∗ (∃ d, owns (c : Thread nD τ) (ms4_7 t) fullShare ((dat4 V c).before 7 t d))
    ∗ (∃ d, owns (c : Thread nD τ) (ms4_8 t) fullShare ((dat4 V c).before 8 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t
    ∗ (dat4 V c).leavesExact 4 t
    ∗ (dat4 V c).leavesExact 5 t
    ∗ (dat4 V c).leavesExact 6 t
    ∗ (dat4 V c).leavesExact 7 t
    ∗ (dat4 V c).leavesExact 8 t)

set_option maxHeartbeats 9600000 in
/-- The body at any point. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).owesAt () t.succ = (dat4 V c).owesAt () t.castSucc from rfl]
  rw [show (dat4 V c).Φ t.succ = PhiS4 V c (t.val + 1) t.isLt from rfl, PhiS4_succ]
  have hN : t.val < 128 := lt_of_lt_of_eq t.isLt (show cfg4.N = 128 from N_4)
  by_cases h0 : t.val % 128 = 0
  · by_cases h1 : t.val % 128 = 127
    · exfalso; omega
    · rw [leaves4_0, leaves4_1, leaves4_2, leaves4_3, leaves4_4, leaves4_5, leaves4_6]
      rw [Dat.leavesExact_idle (dat4 V c) 7 t (idleAt4_7_A t ((hcond4_0 t).mpr h0) (mt (hcond4_1 t).mp h1)) (noFlush4_7_A t ((hcond4_0 t).mpr h0) (mt (hcond4_1 t).mp h1))]
      rw [Dat.leavesExact_idle (dat4 V c) 8 t (idleAt4_8_A t ((hcond4_0 t).mpr h0) (mt (hcond4_1 t).mp h1)) (noFlush4_8_A t ((hcond4_0 t).mpr h0) (mt (hcond4_1 t).mp h1))]
      by_cases hz : t.val = 0
      · rw [PhiS4_castSucc V c t, PhiS4_zero V c _ _ hz, PhiA4_eq]
        rw [outsAt4_A V c t h0 h1]
        unfold pointOuts4_A caseOuts4_A out4_A_5 out4_A_6 sout4_A_0 sout4_A_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_A c (grid4.coords t) _ _ _ _ _ _ _ _ _ _ _ _ _ _ _ _ _ _ _ _ _ _ ((hcond4_0 t).mpr h0) (mt (hcond4_1 t).mp h1) (iblk4 V c 0 t) (iblk4 V c 1 t) (iblk4 V c 2 t) (iblk4 V c 3 t) (iblk4 V c 4 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [H8]; · iexact H8
        isplitl [HS0]; · iexact HS0
        isplitl [HS1]; · iexact HS1
        iintro ⟨H0, H1, H2, H3, H4, ⟨%e5, H5⟩, ⟨%e6, H6⟩, H7, H8, ⟨%es0, HS0⟩, ⟨%es1, HS1⟩⟩
        isplitl [HS0 HS1 Hg]
        · isplitl [HS0 HS1]
          · isplitl [HS0]; · iapply (owns_writes (fun _ => scover4_A_0 ..)) $$ HS0
            iapply (owns_writes (fun _ => scover4_A_1 ..)) $$ HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iapply (owns_writes (fun _ => cover4_A_5 ..)) $$ H5
        isplitl [H6]; · iapply (owns_writes (fun _ => cover4_A_6 ..)) $$ H6
        isplitl [H7]; · iexists _; iexact H7
        iexists _; iexact H8
      · exfalso; omega
  · by_cases h1 : t.val % 128 = 127
    · rw [leaves4_0, leaves4_1, leaves4_2, leaves4_3, leaves4_4, leaves4_5, leaves4_6]
      rw [show (dat4 V c).leavesExact 7 t = owns (c : Thread nD τ) (ms4_7 t) fullShare ((dat4 V c).after 7 t) from by
      unfold Dat.leavesExact; rw [liveAt4_7_C t (mt (hcond4_0 t).mp h0) ((hcond4_1 t).mpr h1)], after4_7]
      rw [show (dat4 V c).leavesExact 8 t = owns (c : Thread nD τ) (ms4_8 t) fullShare ((dat4 V c).after 8 t) from by
      unfold Dat.leavesExact; rw [liveAt4_8_C t (mt (hcond4_0 t).mp h0) ((hcond4_1 t).mpr h1)], after4_8]
      by_cases hz : t.val = 0
      · exfalso; omega
      · rw [PhiS4_castSucc V c t, PhiS4_pos V c _ _ hz]
        rw [outsAt4_C V c t h0 h1]
        unfold pointOuts4_C caseOuts4_C out4_C_5 out4_C_6 out4_C_7 out4_C_8 sout4_C_0 sout4_C_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_C c (grid4.coords t) _ _ _ _ _ _ _ _ _ _ _ _ _ _ _ _ _ _ _ _ _ _ (mt (hcond4_0 t).mp h0) ((hcond4_1 t).mpr h1) (iblk4 V c 0 t) (iblk4 V c 1 t) (iblk4 V c 2 t) (iblk4 V c 3 t) (iblk4 V c 4 t) _ _).2.2.2.2.2.2 Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexists _; iexact H7
        isplitl [H8]; · iexists _; iexact H8
        isplitl [HS0]; · iexact HS0
        isplitl [HS1]; · iexact HS1
        iintro ⟨H0, H1, H2, H3, H4, ⟨%e5, H5⟩, ⟨%e6, H6⟩, ⟨%e7, H7⟩, ⟨%e8, H8⟩, ⟨%es0, HS0⟩, ⟨%es1, HS1⟩⟩
        isplitl [HS0 HS1 Hg]
        · isplitl [HS0 HS1]
          · isplitl [HS0]; · iapply (owns_writes (fun _ => scover4_C_0 ..)) $$ HS0
            iapply (owns_writes (fun _ => scover4_C_1 ..)) $$ HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iapply (owns_writes (fun _ => cover4_C_5 ..)) $$ H5
        isplitl [H6]; · iapply (owns_writes (fun _ => cover4_C_6 ..)) $$ H6
        isplitl [H7]; · iapply (owns_writes (fun _ => cover4_C_7 ..)) $$ H7
        iapply (owns_writes (fun _ => cover4_C_8 ..)) $$ H8
    · rw [leaves4_0, leaves4_1, leaves4_2, leaves4_3, leaves4_4, leaves4_5, leaves4_6]
      rw [Dat.leavesExact_idle (dat4 V c) 7 t (idleAt4_7_B t (mt (hcond4_0 t).mp h0) (mt (hcond4_1 t).mp h1)) (noFlush4_7_B t (mt (hcond4_0 t).mp h0) (mt (hcond4_1 t).mp h1))]
      rw [Dat.leavesExact_idle (dat4 V c) 8 t (idleAt4_8_B t (mt (hcond4_0 t).mp h0) (mt (hcond4_1 t).mp h1)) (noFlush4_8_B t (mt (hcond4_0 t).mp h0) (mt (hcond4_1 t).mp h1))]
      by_cases hz : t.val = 0
      · exfalso; omega
      · rw [PhiS4_castSucc V c t, PhiS4_pos V c _ _ hz]
        rw [outsAt4_B V c t h0 h1]
        unfold pointOuts4_B caseOuts4_B out4_B_5 out4_B_6 sout4_B_0 sout4_B_1; (try dsimp only)
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun4_B c (grid4.coords t) _ _ _ _ _ _ _ _ _ _ _ _ _ _ _ _ _ _ _ _ _ _ (mt (hcond4_0 t).mp h0) (mt (hcond4_1 t).mp h1) (iblk4 V c 0 t) (iblk4 V c 1 t) (iblk4 V c 2 t) (iblk4 V c 3 t) (iblk4 V c 4 t) _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexists _; iexact H5
        isplitl [H6]; · iexists _; iexact H6
        isplitl [H7]; · iexact H7
        isplitl [H8]; · iexact H8
        isplitl [HS0]; · iexact HS0
        isplitl [HS1]; · iexact HS1
        iintro ⟨H0, H1, H2, H3, H4, ⟨%e5, H5⟩, ⟨%e6, H6⟩, H7, H8, ⟨%es0, HS0⟩, ⟨%es1, HS1⟩⟩
        isplitl [HS0 HS1 Hg]
        · isplitl [HS0 HS1]
          · isplitl [HS0]; · iapply (owns_writes (fun _ => scover4_B_0 ..)) $$ HS0
            iapply (owns_writes (fun _ => scover4_B_1 ..)) $$ HS1
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iapply (owns_writes (fun _ => cover4_B_5 ..)) $$ H5
        isplitl [H6]; · iapply (owns_writes (fun _ => cover4_B_6 ..)) $$ H6
        isplitl [H7]; · iexists _; iexact H7
        iexists _; iexact H8

/-- The body table's row at point `t`'s slots is the body as `bodyAt4` spells it. -/
theorem defs₀_row4 (t : Fin cfg4.N) :
    defs₀ (F := F) .tc cfg4.body (cfg4.bodyArgs t (cfg4.slots t)) = bodyAt4 t := by
  unfold defs₀; rw [Defs.onTc_tc]

/-- The library's body obligation, at every point. -/
theorem body_obligation4 (c : Dev nD) : BodyObligation (dat4 (F := F) V c) (defs₀ (F := F)) Variants.none () Set.univ := fun t => by
  rw [bigSep_W4, bigSep_W4, defs₀_row4]
  exact triple_restated (sound_body4 V c t) rfl .rfl fun _ => .rfl

/-- What the launch hands the region. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives `ΦA` back. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨HS0, HS1⟩, Hg⟩
  isplitl [HS0 HS1]
  · isplitl [HS0]
    · iexists _; iexact HS0
    iexists _; iexact HS1
  iexact Hg

/-- The same after the last point. -/
theorem hout4 (c : Dev nD) : (dat4 V c).Φ (Fin.last cfg4.N) ⊢ Pipeline.ΦA spec4 c :=
  Phi_out4 V c _ (by rw [Fin.val_last]; have : cfg4.N = 128 := N_4; omega)

end Cert.Kernel.Gen

end
-- ==== Proof.QuantW2.lean ====
/-
  Region 3 of the kernel program (quantising w2): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The condition of the body's `scf.if` 0. -/
abbrev cond3_0 (i : grid3.Coords) : Prop := (Scalar.cmpi .ne (Scalar.extui (Scalar.cmpi .eq (BitVec.ofNat 32 (i 0).val) 0#32)) 0#32) = 1#1
/-- It holds at the first point only. -/
theorem hcond3_0 : ∀ t : Fin cfg3.N, cond3_0 (grid3.coords t) ↔ t.val % 32 = 0 :=
  (fun t => by
    have ht : t.val < 32 := Nat.lt_of_lt_of_eq t.isLt N_3
    have e0 : (grid3.coords t 0).val = t.val / 1 % 32 := Pipeline.Grid.coords_val t 0 (by decide) rfl
    simp only [cond3_0, e0]
    word_cmp
   : ∀ t : Fin grid3.N, cond3_0 (grid3.coords t) ↔ t.val % 32 = 0)

/-- The condition of the body's `scf.if` 1. -/
abbrev cond3_1 (i : grid3.Coords) : Prop := (Scalar.cmpi .ne (Scalar.extui (Scalar.cmpi .sgt (BitVec.ofNat 32 (i 0).val) 0#32)) 0#32) = 1#1
/-- It holds at the points from point 1 on. -/
theorem hcond3_1 : ∀ t : Fin cfg3.N, cond3_1 (grid3.coords t) ↔ 1 ≤ t.val :=
  (by decide +kernel : ∀ t : Fin grid3.N, cond3_1 (grid3.coords t) ↔ 1 ≤ t.val)

/-- The condition of the body's `scf.if` 2. -/
abbrev cond3_2 (i : grid3.Coords) : Prop := k3_cond3 i = 1#1
/-- It holds at the last point only. -/
theorem hcond3_2 : ∀ t : Fin cfg3.N, cond3_2 (grid3.coords t) ↔ t.val % 32 = 31 :=
  (fun t => by
    have ht : t.val < 32 := Nat.lt_of_lt_of_eq t.isLt N_3
    have e0 : (grid3.coords t 0).val = t.val / 1 % 32 := Pipeline.Grid.coords_val t 0 (by decide) rfl
    simp only [cond3_2, k3_cond3, e0]
    word_cmp
   : ∀ t : Fin grid3.N, cond3_2 (grid3.coords t) ↔ t.val % 32 = 31)

/-! ## Where the windows are idle (the printed configuration's table `Cfg.idle`) -/

/-- Window 0 is never idle. -/
theorem liveAt3_0 : ∀ t : Fin cfg3.N, cfg3.idle 0 (grid3.coords t) = false := fun _ => rfl
/-- Window 1 is never idle. -/
theorem liveAt3_1 : ∀ t : Fin cfg3.N, cfg3.idle 1 (grid3.coords t) = false := fun _ => rfl
/-- Window 2 is never idle. -/
theorem liveAt3_2 : ∀ t : Fin cfg3.N, cfg3.idle 2 (grid3.coords t) = false := fun _ => rfl
/-- At the points of case A the printed configuration. -/
theorem idleAt3_3_A : ∀ t : Fin cfg3.N, cond3_0 (grid3.coords t) → ¬cond3_1 (grid3.coords t) → ¬cond3_2 (grid3.coords t) → cfg3.idle 3 (grid3.coords t) = true := by decide +kernel
/-- At the points of case A the pipeline does not write output 3's block back. -/
theorem noFlush3_3_A : ∀ t : Fin cfg3.N, cond3_0 (grid3.coords t) → ¬cond3_1 (grid3.coords t) → ¬cond3_2 (grid3.coords t) → (cfg3.win 3).flush t = false := by decide +kernel
/-- At the points of case B the printed configuration. -/
theorem idleAt3_3_B : ∀ t : Fin cfg3.N, ¬cond3_0 (grid3.coords t) → cond3_1 (grid3.coords t) → ¬cond3_2 (grid3.coords t) → cfg3.idle 3 (grid3.coords t) = true := by decide +kernel
/-- At the points of case B the pipeline does not write output 3's block back. -/
theorem noFlush3_3_B : ∀ t : Fin cfg3.N, ¬cond3_0 (grid3.coords t) → cond3_1 (grid3.coords t) → ¬cond3_2 (grid3.coords t) → (cfg3.win 3).flush t = false := by decide +kernel
/-- At the points of case C the printed configuration. -/
theorem liveAt3_3_C : ∀ t : Fin cfg3.N, ¬cond3_0 (grid3.coords t) → cond3_1 (grid3.coords t) → cond3_2 (grid3.coords t) → cfg3.idle 3 (grid3.coords t) = false := by decide +kernel

/-! ## The kernel body on any staging memrefs: a subtype the run finds -/

/-- One staging buffer of output window 2, through which its contents are stated. -/
abbrev VO3_2 : View sig .tc .vmem S512x4096 .fp8e4m3 := (Memref.whole cc3_stg2_0 : Memref sig .tc .vmem S512x4096 .fp8e4m3).view
/-- One staging buffer of output window 3, through which its contents are stated. -/
abbrev VO3_3 : View sig .tc .smem S1x1 .f32 := (Memref.whole cc3_stg3_0 : Memref sig .tc .smem S1x1 .f32).view
/-- Each window's current staging memref at point `t`, spelled as the pipeline passes it. -/
abbrev ms3_0 (t : Fin cfg3.N) : Memref sig .tc .smem S1 .f32 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S512x4096 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S512x4096 .fp8e4m3 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .smem S1x1 .f32 := win3_3.stage (cfg3.slots t 3)
abbrev hs3_3 (t : Fin cfg3.N) : (ms3_3 t).IsWhole := hstage3_3 ((cfg3.slots t 3).cast nbuf3_3)
/-- The scratch operands. -/
abbrev scM3_0 : Memref sig .tc .vmem S8x4096 .f32 := Memref.whole cc3_scratch0
/-- The scratch `arg5` the kernel carries between points, as a view. -/
abbrev VS3_0 : View sig .tc .vmem S8x4096 .f32 := scM3_0.view

/-- The scoped buffers that are neither staging nor scratch of this call, and the generator register. -/
abbrev Rest3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

/-- The frame kit's invariant with the scratch operands as memrefs owned at some contents. -/
theorem PhiA3_eq (c : Dev nD) :
    (Pipeline.ΦA spec3 c : sProp 𝕄)
      = iprop(iprop((∃ d, owns (c : Thread nD τ) scM3_0 fullShare d)) ∗ Rest3 c) := by
  unfold Pipeline.ΦA Rest3; rw [scopedRest3_split]; simp only [scM3_0, owns_whole]; exact BI.equiv_iff.mp ⟨BI.sep_assoc, BI.sep_assoc'⟩

section runs
variable (c : Dev nD) (i : grid3.Coords) (arg1 : Memref sig .tc .smem S1 .f32) (harg1 : arg1.IsWhole) (arg2 : Memref sig .tc .vmem S512x4096 .f32) (harg2 : arg2.IsWhole) (arg3 : Memref sig .tc .vmem S512x4096 .fp8e4m3) (harg3 : arg3.IsWhole) (arg4 : Memref sig .tc .smem S1x1 .f32) (harg4 : arg4.IsWhole) (arg5 : Memref sig .tc .vmem S8x4096 .f32) (harg5 : arg5.IsWhole)
include c i arg1 harg1 arg2 harg2 arg3 harg3 arg4 harg4 arg5 harg5

section caseA
variable (hc0 : cond3_0 i) (hc1 : ¬cond3_1 i) (hc2 : ¬cond3_2 i)
    (x0 : Vec F S1 .f32) (x1 : Vec F S512x4096 .f32)
include hc0 hc1 hc2 x0 x1

set_option maxHeartbeats 1000000 in
/-- What the body's stores leave in each output's staging memref, as pieces. -/
noncomputable def kernelRun3_A :
    Σ' (L2 : List (View.Piece (Elt F) S512x4096 .fp8e4m3)), Σ' (L3 : List (View.Piece (Elt F) S1x1 .f32)), { LS0 : List (View.Piece (Elt F) S8x4096 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc3_quantise i _ harg1 _ harg2 _ harg3 _ harg4 _ harg5) K } := by
  refine ⟨?_, [], ?_, fun xi3 E K => ?run⟩
  case run =>
    simp only [cc3_quantise_eq_skeleton]; unfold cc3_quantise_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case A's pieces for output 2 tile its block. -/
theorem cover3_A_2 (y : S512x4096.Idx) :
    ∃ pc ∈ (kernelRun3_A c i _ harg1 _ harg2 _ harg3 _ harg4 _ harg5 hc0 hc1 hc2 x0 x1).1, y ∈ pc.1.set :=
  View.cover_of_tiledL _ S512x4096.size (by sl_kernel_rfl) y

/-- What case A leaves in output 2's staging buffer. -/
def out3_A_2 : Vec F S512x4096 .fp8e4m3 :=
  VO3_2.read (Elt F) (VO3_2.writes (Elt F) VO3_2.junk (kernelRun3_A c i _ harg1 _ harg2 _ harg3 _ harg4 _ harg5 hc0 hc1 hc2 x0 x1).1)

/-- Case A stores nothing into output 3. -/
def out3_A_3 : Vec F S1x1 .f32 :=
  VO3_3.read (Elt F) (VO3_3.writes (Elt F) VO3_3.junk (kernelRun3_A c i _ harg1 _ harg2 _ harg3 _ harg4 _ harg5 hc0 hc1 hc2 x0 x1).2.1)

/-- Case A's pieces for scratch `arg5`, which the kernel carries between points, cover it. -/
theorem scover3_A_0 (y : S8x4096.Idx) :
    ∃ pc ∈ (kernelRun3_A c i _ harg1 _ harg2 _ harg3 _ harg4 _ harg5 hc0 hc1 hc2 x0 x1).2.2.1, y ∈ pc.1.set :=
  View.cover_of_tiledL _ S8x4096.size (by sl_kernel_rfl) y

/-- What case A leaves in scratch `arg5`. -/
def sout3_A_0 : Vec F S8x4096 .f32 :=
  VS3_0.read (Elt F) (VS3_0.writes (Elt F) VS3_0.junk (kernelRun3_A c i _ harg1 _ harg2 _ harg3 _ harg4 _ harg5 hc0 hc1 hc2 x0 x1).2.2.1)

/-- What case A leaves in the outputs and the scratch. -/
def caseOuts3_A : Vec F S512x4096 .fp8e4m3 × Vec F S1x1 .f32 × Vec F S8x4096 .f32 :=
  (out3_A_2 c i _ harg1 _ harg2 _ harg3 _ harg4 _ harg5 hc0 hc1 hc2 x0 x1,
    out3_A_3 c i _ harg1 _ harg2 _ harg3 _ harg4 _ harg5 hc0 hc1 hc2 x0 x1,
    sout3_A_0 c i _ harg1 _ harg2 _ harg3 _ harg4 _ harg5 hc0 hc1 hc2 x0 x1)

end caseA

section caseB
variable (hc0 : ¬cond3_0 i) (hc1 : cond3_1 i) (hc2 : ¬cond3_2 i)
    (x0 : Vec F S1 .f32) (x1 : Vec F S512x4096 .f32) (xs0 : Vec F S8x4096 .f32)
include hc0 hc1 hc2 x0 x1 xs0

set_option maxHeartbeats 1000000 in
/-- What the body's stores leave in each output's staging memref, as pieces. -/
noncomputable def kernelRun3_B :
    Σ' (L2 : List (View.Piece (Elt F) S512x4096 .fp8e4m3)), Σ' (L3 : List (View.Piece (Elt F) S1x1 .f32)), { LS0 : List (View.Piece (Elt F) S8x4096 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc3_quantise i _ harg1 _ harg2 _ harg3 _ harg4 _ harg5) K } := by
  refine ⟨?_, [], ?_, fun xi3 E K => ?run⟩
  case run =>
    simp only [cc3_quantise_eq_skeleton]; unfold cc3_quantise_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case B's pieces for output 2 tile its block. -/
theorem cover3_B_2 (y : S512x4096.Idx) :
    ∃ pc ∈ (kernelRun3_B c i _ harg1 _ harg2 _ harg3 _ harg4 _ harg5 hc0 hc1 hc2 x0 x1 xs0).1, y ∈ pc.1.set :=
  View.cover_of_tiledL _ S512x4096.size (by sl_kernel_rfl) y

/-- What case B leaves in output 2's staging buffer. -/
def out3_B_2 : Vec F S512x4096 .fp8e4m3 :=
  VO3_2.read (Elt F) (VO3_2.writes (Elt F) VO3_2.junk (kernelRun3_B c i _ harg1 _ harg2 _ harg3 _ harg4 _ harg5 hc0 hc1 hc2 x0 x1 xs0).1)

/-- Case B stores nothing into output 3. -/
def out3_B_3 : Vec F S1x1 .f32 :=
  VO3_3.read (Elt F) (VO3_3.writes (Elt F) VO3_3.junk (kernelRun3_B c i _ harg1 _ harg2 _ harg3 _ harg4 _ harg5 hc0 hc1 hc2 x0 x1 xs0).2.1)

/-- Case B's pieces for scratch `arg5`, which the kernel carries between points, cover it. -/
theorem scover3_B_0 (y : S8x4096.Idx) :
    ∃ pc ∈ (kernelRun3_B c i _ harg1 _ harg2 _ harg3 _ harg4 _ harg5 hc0 hc1 hc2 x0 x1 xs0).2.2.1, y ∈ pc.1.set :=
  View.cover_of_tiledL _ S8x4096.size (by sl_kernel_rfl) y

/-- What case B leaves in scratch `arg5`. -/
def sout3_B_0 : Vec F S8x4096 .f32 :=
  VS3_0.read (Elt F) (VS3_0.writes (Elt F) VS3_0.junk (kernelRun3_B c i _ harg1 _ harg2 _ harg3 _ harg4 _ harg5 hc0 hc1 hc2 x0 x1 xs0).2.2.1)

/-- What case B leaves in the outputs and the scratch. -/
def caseOuts3_B : Vec F S512x4096 .fp8e4m3 × Vec F S1x1 .f32 × Vec F S8x4096 .f32 :=
  (out3_B_2 c i _ harg1 _ harg2 _ harg3 _ harg4 _ harg5 hc0 hc1 hc2 x0 x1 xs0,
    out3_B_3 c i _ harg1 _ harg2 _ harg3 _ harg4 _ harg5 hc0 hc1 hc2 x0 x1 xs0,
    sout3_B_0 c i _ harg1 _ harg2 _ harg3 _ harg4 _ harg5 hc0 hc1 hc2 x0 x1 xs0)

end caseB

section caseC
variable (hc0 : ¬cond3_0 i) (hc1 : cond3_1 i) (hc2 : cond3_2 i)
    (x0 : Vec F S1 .f32) (x1 : Vec F S512x4096 .f32) (xs0 : Vec F S8x4096 .f32)
include hc0 hc1 hc2 x0 x1 xs0

set_option maxHeartbeats 1000000 in
/-- What the body's stores leave in each output's staging memref, as pieces. -/
noncomputable def kernelRun3_C :
    Σ' (L2 : List (View.Piece (Elt F) S512x4096 .fp8e4m3)), Σ' (L3 : List (View.Piece (Elt F) S1x1 .f32)), { LS0 : List (View.Piece (Elt F) S8x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc3_quantise i _ harg1 _ harg2 _ harg3 _ harg4 _ harg5) K } := by
  refine ⟨?_, ?_, ?_, fun E K => ?run⟩
  case run =>
    simp only [cc3_quantise_eq_skeleton]; unfold cc3_quantise_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iexists _; iexact H3
    iexists _; iexact HS0

/-- Case C's pieces for output 2 tile its block. -/
theorem cover3_C_2 (y : S512x4096.Idx) :
    ∃ pc ∈ (kernelRun3_C c i _ harg1 _ harg2 _ harg3 _ harg4 _ harg5 hc0 hc1 hc2 x0 x1 xs0).1, y ∈ pc.1.set :=
  View.cover_of_tiledL _ S512x4096.size (by sl_kernel_rfl) y

/-- What case C leaves in output 2's staging buffer. -/
def out3_C_2 : Vec F S512x4096 .fp8e4m3 :=
  VO3_2.read (Elt F) (VO3_2.writes (Elt F) VO3_2.junk (kernelRun3_C c i _ harg1 _ harg2 _ harg3 _ harg4 _ harg5 hc0 hc1 hc2 x0 x1 xs0).1)

/-- Case C's pieces for output 3 tile its block. -/
theorem cover3_C_3 (y : S1x1.Idx) :
    ∃ pc ∈ (kernelRun3_C c i _ harg1 _ harg2 _ harg3 _ harg4 _ harg5 hc0 hc1 hc2 x0 x1 xs0).2.1, y ∈ pc.1.set :=
  View.cover_of_tiledL _ S1x1.size (by sl_kernel_rfl) y

/-- What case C leaves in output 3's staging buffer. -/
def out3_C_3 : Vec F S1x1 .f32 :=
  VO3_3.read (Elt F) (VO3_3.writes (Elt F) VO3_3.junk (kernelRun3_C c i _ harg1 _ harg2 _ harg3 _ harg4 _ harg5 hc0 hc1 hc2 x0 x1 xs0).2.1)

/-- Case C's pieces for scratch `arg5`, which the kernel carries between points, cover it. -/
theorem scover3_C_0 (y : S8x4096.Idx) :
    ∃ pc ∈ (kernelRun3_C c i _ harg1 _ harg2 _ harg3 _ harg4 _ harg5 hc0 hc1 hc2 x0 x1 xs0).2.2.1, y ∈ pc.1.set :=
  View.cover_of_tiledL _ S8x4096.size (by sl_kernel_rfl) y

/-- What case C leaves in scratch `arg5`. -/
def sout3_C_0 : Vec F S8x4096 .f32 :=
  VS3_0.read (Elt F) (VS3_0.writes (Elt F) VS3_0.junk (kernelRun3_C c i _ harg1 _ harg2 _ harg3 _ harg4 _ harg5 hc0 hc1 hc2 x0 x1 xs0).2.2.1)

/-- What case C leaves in the outputs and the scratch. -/
def caseOuts3_C : Vec F S512x4096 .fp8e4m3 × Vec F S1x1 .f32 × Vec F S8x4096 .f32 :=
  (out3_C_2 c i _ harg1 _ harg2 _ harg3 _ harg4 _ harg5 hc0 hc1 hc2 x0 x1 xs0,
    out3_C_3 c i _ harg1 _ harg2 _ harg3 _ harg4 _ harg5 hc0 hc1 hc2 x0 x1 xs0,
    sout3_C_0 c i _ harg1 _ harg2 _ harg3 _ harg4 _ harg5 hc0 hc1 hc2 x0 x1 xs0)

end caseC

end runs

/-! ## What the outputs hold after each point -/

/-- What a point of case A leaves. -/
def pointOuts3_A (c : Dev nD) (t : Fin cfg3.N) (h0 : t.val % 32 = 0) (h1 : ¬1 ≤ t.val) (h2 : ¬t.val % 32 = 31) :
    Vec F S512x4096 .fp8e4m3 × Vec F S1x1 .f32 × Vec F S8x4096 .f32 :=
  caseOuts3_A c (grid3.coords t) (ms3_0 t) (hs3_0 t) (ms3_1 t) (hs3_1 t) (ms3_2 t) (hs3_2 t) (ms3_3 t) (hs3_3 t) scM3_0 (Memref.isWhole_whole _) ((hcond3_0 t).mpr h0) (mt (hcond3_1 t).mp h1) (mt (hcond3_2 t).mp h2) (iblk3 V c 0 t) (iblk3 V c 1 t)

/-- What a point of case B leaves, from what the scratch held before it. -/
def pointOuts3_B (c : Dev nD) (t : Fin cfg3.N) (h0 : ¬t.val % 32 = 0) (h1 : 1 ≤ t.val) (h2 : ¬t.val % 32 = 31) (xs0 : Vec F S8x4096 .f32) :
    Vec F S512x4096 .fp8e4m3 × Vec F S1x1 .f32 × Vec F S8x4096 .f32 :=
  caseOuts3_B c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) (mt (hcond3_2 t).mp h2) (iblk3 V c 0 t) (iblk3 V c 1 t) xs0

/-- What a point of case C leaves, from what the scratch held before it. -/
def pointOuts3_C (c : Dev nD) (t : Fin cfg3.N) (h0 : ¬t.val % 32 = 0) (h1 : 1 ≤ t.val) (h2 : t.val % 32 = 31) (xs0 : Vec F S8x4096 .f32) :
    Vec F S512x4096 .fp8e4m3 × Vec F S1x1 .f32 × Vec F S8x4096 .f32 :=
  caseOuts3_C c (grid3.coords t) (ms3_0 t) (hs3_0 t) (ms3_1 t) (hs3_1 t) (ms3_2 t) (hs3_2 t) (ms3_3 t) (hs3_3 t) scM3_0 (Memref.isWhole_whole _) (mt (hcond3_0 t).mp h0) ((hcond3_1 t).mpr h1) ((hcond3_2 t).mpr h2) (iblk3 V c 0 t) (iblk3 V c 1 t) xs0

/-- What the outputs and the scratch hold after each point. -/
def outsAt3 (c : Dev nD) : (n : ℕ) → n < cfg3.N → Vec F S512x4096 .fp8e4m3 × Vec F S1x1 .f32 × Vec F S8x4096 .f32
  | 0, hn => pointOuts3_A V c ⟨0, hn⟩ (Nat.zero_mod _) (fun h => by (try dsimp only at h); omega) (fun h => by (try dsimp only at h); omega)
  | n + 1, hn =>
    if h0 : (n + 1) % 32 = 0 then
      if h1 : 1 ≤ (n + 1) then
        False.elim (by have hN : n + 1 < 32 := lt_of_lt_of_eq hn (show cfg3.N = 32 from N_3); omega)
      else
        if h2 : (n + 1) % 32 = 31 then
          False.elim (by have hN : n + 1 < 32 := lt_of_lt_of_eq hn (show cfg3.N = 32 from N_3); omega)
        else
          pointOuts3_A V c ⟨n + 1, hn⟩ h0 h1 h2
    else
      if h1 : 1 ≤ (n + 1) then
        if h2 : (n + 1) % 32 = 31 then
          pointOuts3_C V c ⟨n + 1, hn⟩ h0 h1 h2 (outsAt3 c n (Nat.lt_of_succ_lt hn)).2.2
        else
          pointOuts3_B V c ⟨n + 1, hn⟩ h0 h1 h2 (outsAt3 c n (Nat.lt_of_succ_lt hn)).2.2
      else
        False.elim (by have hN : n + 1 < 32 := lt_of_lt_of_eq hn (show cfg3.N = 32 from N_3); omega)

/-- `outsAt3` at a point of case A. -/
theorem outsAt3_A (c : Dev nD) (t : Fin cfg3.N) (h0 : t.val % 32 = 0) (h1 : ¬1 ≤ t.val) (h2 : ¬t.val % 32 = 31) :
    outsAt3 V c t.val t.isLt = pointOuts3_A V c t h0 h1 h2 := by
  obtain ⟨n, hn⟩ := t
  cases n with
  | zero => exact rfl
  | succ n => exact (dif_pos h0).trans ((dif_neg h1).trans ((dif_neg h2).trans rfl))

/-- `outsAt3` at a point of case B. -/
theorem outsAt3_B (c : Dev nD) (t : Fin cfg3.N) (h0 : ¬t.val % 32 = 0) (h1 : 1 ≤ t.val) (h2 : ¬t.val % 32 = 31) :
    outsAt3 V c t.val t.isLt = pointOuts3_B V c t h0 h1 h2 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt3` at a point of case C. -/
theorem outsAt3_C (c : Dev nD) (t : Fin cfg3.N) (h0 : ¬t.val % 32 = 0) (h1 : 1 ≤ t.val) (h2 : t.val % 32 = 31) :
    outsAt3 V c t.val t.isLt = pointOuts3_C V c t h0 h1 h2 (outsAt3 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS3 (c : Dev nD) : (n : ℕ) → n ≤ cfg3.N → sProp 𝕄
  | 0, _ => Pipeline.ΦA spec3 c
  | n + 1, hn => iprop(iprop(owns (c : Thread nD τ) scM3_0 fullShare ((outsAt3 V c n hn).2.2)) ∗ Rest3 c)

theorem PhiS3_zero (c : Dev nD) (n : ℕ) (h : n ≤ cfg3.N) (hz : n = 0) : PhiS3 V c n h = Pipeline.ΦA spec3 c := by
  subst hz; rfl

/-- After point `n`. -/
theorem PhiS3_succ (c : Dev nD) (n : ℕ) (hn : n < cfg3.N) :
    PhiS3 V c (n + 1) hn = iprop(iprop(owns (c : Thread nD τ) scM3_0 fullShare ((outsAt3 V c n hn).2.2)) ∗ Rest3 c) := rfl

/-- Before a point that is not the first. -/
theorem PhiS3_pos (c : Dev nD) (n : ℕ) (h : n ≤ cfg3.N) (hz : n ≠ 0) :
    PhiS3 V c n h = iprop(iprop(owns (c : Thread nD τ) scM3_0 fullShare ((outsAt3 V c (n - 1) (by omega)).2.2)) ∗ Rest3 c) := by
  cases n with
  | zero => exact absurd rfl hz
  | succ n => rfl

/-! ## The pipeline's proof data -/

/-- The proof data of the one pipeline on core `c`. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => (outsAt3 V c t.val t.isLt).1
    | ⟨3, _⟩ => (outsAt3 V c t.val t.isLt).2.1
  Φ t := PhiS3 V c t.val (Nat.le_of_lt_succ t.isLt)
  q _ := fullShare
  owed _ := 0

/-- The proof data's arrays are the region-entry contents. -/
theorem A_eq3 (c : Dev nD) (w : Fin cfg3.W) : (dat3 V c).A w = V c (Pipeline.arrRef spec3 w) := by
  dsimp only [dat3]

/-- The invariant at a point's start. -/
theorem PhiS3_castSucc (c : Dev nD) (t : Fin cfg3.N) :
    (dat3 V c).Φ t.castSucc = PhiS3 V c t.val (Nat.le_of_lt t.isLt) := by
  dsimp only [dat3]; exact Pipeline.Dat.Φ_castSucc (PhiS3 V c) t

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = (outsAt3 V c t.val t.isLt).1 := by dsimp only [dat3]
theorem after3_3 (c : Dev nD) (t : Fin cfg3.N) : (dat3 V c).after 3 t = (outsAt3 V c t.val t.isLt).2.1 := by dsimp only [dat3]

/-- Each input's current staging buffer holds its block at every point, fetched there or not. -/
theorem before3_0 (c : Dev nD) (t : Fin cfg3.N) (d) : (dat3 V c).before 0 t d = iblk3 V c 0 t :=
  ((dat3 V c).before_in_eq_fetched 0 rfl (fun _ => rfl) (fun _ _ _ => rfl) (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl) (fun t => by rw [after3_1]; unfold Dat.blockOf iblk3; rw [A_eq3]; try rfl) t d).trans
    (by unfold Dat.fetched Dat.blockOf iblk3; rw [A_eq3]; try rfl)

/-- What the body must leave in window 0, at any point; so for the windows below. -/
theorem leaves3_0 (c : Dev nD) (t : Fin cfg3.N) :
    (dat3 V c).leavesExact 0 t = owns (c : Thread nD τ) (ms3_0 t) fullShare (iblk3 V c 0 t) := by
  unfold Dat.leavesExact; rw [liveAt3_0 t, after3_0]

theorem leaves3_1 (c : Dev nD) (t : Fin cfg3.N) :
    (dat3 V c).leavesExact 1 t = owns (c : Thread nD τ) (ms3_1 t) fullShare (iblk3 V c 1 t) := by
  unfold Dat.leavesExact; rw [liveAt3_1 t, after3_1]

theorem leaves3_2 (c : Dev nD) (t : Fin cfg3.N) :
    (dat3 V c).leavesExact 2 t = owns (c : Thread nD τ) (ms3_2 t) fullShare ((outsAt3 V c t.val t.isLt).1) := by
  unfold Dat.leavesExact; rw [liveAt3_2 t, after3_2]

/-! ## The body obligation, at a generic point -/

/-- What the body is called with at point `t`. -/
def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ (dat3 V c).leavesExact 0 t
    ∗ (dat3 V c).leavesExact 1 t
    ∗ (dat3 V c).leavesExact 2 t
    ∗ (dat3 V c).leavesExact 3 t)

set_option maxHeartbeats 4800000 in
/-- The body at any point. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).owesAt () t.succ = (dat3 V c).owesAt () t.castSucc from rfl]
  rw [show (dat3 V c).Φ t.succ = PhiS3 V c (t.val + 1) t.isLt from rfl, PhiS3_succ]
  have hN : t.val < 32 := lt_of_lt_of_eq t.isLt (show cfg3.N = 32 from N_3)
  by_cases h0 : t.val % 32 = 0
  · by_cases h1 : 1 ≤ t.val
    · exfalso; omega
    · by_cases h2 : t.val % 32 = 31
      · exfalso; omega
      · rw [leaves3_0, leaves3_1, leaves3_2]
        rw [Dat.leavesExact_idle (dat3 V c) 3 t (idleAt3_3_A t ((hcond3_0 t).mpr h0) (mt (hcond3_1 t).mp h1) (mt (hcond3_2 t).mp h2)) (noFlush3_3_A t ((hcond3_0 t).mpr h0) (mt (hcond3_1 t).mp h1) (mt (hcond3_2 t).mp h2))]
        by_cases hz : t.val = 0
        · rw [PhiS3_castSucc V c t, PhiS3_zero V c _ _ hz, PhiA3_eq]
          rw [outsAt3_A V c t h0 h1 h2]
          unfold pointOuts3_A caseOuts3_A out3_A_2 sout3_A_0; (try dsimp only)
          iintro ⟨⟨HS0, Hg⟩, Ho, ⟨%d0, H0⟩, ⟨%d1, H1⟩, ⟨%d2, H2⟩, ⟨%d3, H3⟩⟩
          iapply ((kernelRun3_A c (grid3.coords t) _ _ _ _ _ _ _ _ _ _ ((hcond3_0 t).mpr h0) (mt (hcond3_1 t).mp h1) (mt (hcond3_2 t).mp h2) (iblk3 V c 0 t) (iblk3 V c 1 t)).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover3_A_0 ..)) $$ HS0
            iexact Hg
          isplitl [Ho]; · iexact Ho
          isplitl [H0]; · iexact H0
          isplitl [H1]; · iexact H1
          isplitl [H2]; · iapply (owns_writes (fun _ => cover3_A_2 ..)) $$ H2
          iexists _; iexact H3
        · exfalso; omega
  · by_cases h1 : 1 ≤ t.val
    · by_cases h2 : t.val % 32 = 31
      · rw [leaves3_0, leaves3_1, leaves3_2]
        rw [show (dat3 V c).leavesExact 3 t = owns (c : Thread nD τ) (ms3_3 t) fullShare ((dat3 V c).after 3 t) from by
      unfold Dat.leavesExact; rw [liveAt3_3_C t (mt (hcond3_0 t).mp h0) ((hcond3_1 t).mpr h1) ((hcond3_2 t).mpr h2)], after3_3]
        by_cases hz : t.val = 0
        · exfalso; omega
        · rw [PhiS3_castSucc V c t, PhiS3_pos V c _ _ hz]
          rw [outsAt3_C V c t h0 h1 h2]
          unfold pointOuts3_C caseOuts3_C out3_C_2 out3_C_3 sout3_C_0; (try dsimp only)
          iintro ⟨⟨HS0, Hg⟩, Ho, ⟨%d0, H0⟩, ⟨%d1, H1⟩, ⟨%d2, H2⟩, ⟨%d3, H3⟩⟩
          iapply ((kernelRun3_C c (grid3.coords t) _ _ _ _ _ _ _ _ _ _ (mt (hcond3_0 t).mp h0) ((hcond3_1 t).mpr h1) ((hcond3_2 t).mpr h2) (iblk3 V c 0 t) (iblk3 V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 Hg]
          · isplitl [HS0]; · iapply (owns_writes (fun _ => scover3_C_0 ..)) $$ HS0
            iexact Hg
          isplitl [Ho]; · iexact Ho
          isplitl [H0]; · iexact H0
          isplitl [H1]; · iexact H1
          isplitl [H2]; · iapply (owns_writes (fun _ => cover3_C_2 ..)) $$ H2
          iapply (owns_writes (fun _ => cover3_C_3 ..)) $$ H3
      · rw [leaves3_0, leaves3_1, leaves3_2]
        rw [Dat.leavesExact_idle (dat3 V c) 3 t (idleAt3_3_B t (mt (hcond3_0 t).mp h0) ((hcond3_1 t).mpr h1) (mt (hcond3_2 t).mp h2)) (noFlush3_3_B t (mt (hcond3_0 t).mp h0) ((hcond3_1 t).mpr h1) (mt (hcond3_2 t).mp h2))]
        by_cases hz : t.val = 0
        · exfalso; omega
        · rw [PhiS3_castSucc V c t, PhiS3_pos V c _ _ hz]
          rw [outsAt3_B V c t h0 h1 h2]
          unfold pointOuts3_B caseOuts3_B out3_B_2 sout3_B_0; (try dsimp only)
          iintro ⟨⟨HS0, Hg⟩, Ho, ⟨%d0, H0⟩, ⟨%d1, H1⟩, ⟨%d2, H2⟩, ⟨%d3, H3⟩⟩
          iapply ((kernelRun3_B c (grid3.coords t) _ _ _ _ _ _ _ _ _ _ (mt (hcond3_0 t).mp h0) ((hcond3_1 t).mpr h1) (mt (hcond3_2 t).mp h2) (iblk3 V c 0 t) (iblk3 V c 1 t) _).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover3_B_0 ..)) $$ HS0
            iexact Hg
          isplitl [Ho]; · iexact Ho
          isplitl [H0]; · iexact H0
          isplitl [H1]; · iexact H1
          isplitl [H2]; · iapply (owns_writes (fun _ => cover3_B_2 ..)) $$ H2
          iexists _; iexact H3
    · exfalso; omega

/-- The body table's row at point `t`'s slots is the body as `bodyAt3` spells it. -/
theorem defs₀_row3 (t : Fin cfg3.N) :
    defs₀ (F := F) .tc cfg3.body (cfg3.bodyArgs t (cfg3.slots t)) = bodyAt3 t := by
  unfold defs₀; rw [Defs.onTc_tc]

/-- The library's body obligation, at every point. -/
theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

/-- What the launch hands the region. -/
theorem hin3 (c : Dev nD) : Pipeline.ΦA spec3 c ⊢ (dat3 V c).Φ 0 := by
  rw [show (dat3 V c).Φ 0 = PhiS3 V c 0 (Nat.zero_le _) from rfl, PhiS3_zero V c 0 _ rfl]
  try exact Idealize.SL.BI.Entails.refl _

/-- After any point but the first the invariant gives `ΦA` back. -/
theorem Phi_out3 (c : Dev nD) (t : Fin (cfg3.N + 1)) (ht : t.val ≠ 0) : (dat3 V c).Φ t ⊢ Pipeline.ΦA spec3 c := by
  rw [show (dat3 V c).Φ t = PhiS3 V c t.val (Nat.le_of_lt_succ t.isLt) from rfl, PhiS3_pos V c _ _ ht, PhiA3_eq]
  iintro ⟨HS0, Hg⟩
  isplitl [HS0]
  · iexists _; iexact HS0
  iexact Hg

/-- The same after the last point. -/
theorem hout3 (c : Dev nD) : (dat3 V c).Φ (Fin.last cfg3.N) ⊢ Pipeline.ΦA spec3 c :=
  Phi_out3 V c _ (by rw [Fin.val_last]; have : cfg3.N = 32 := N_3; omega)

end Cert.Kernel.Gen

end
-- ==== Proof.QuantW1.lean ====
/-
  Region 2 of the kernel program (quantising w1): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The condition of the body's `scf.if` 0. -/
abbrev cond2_0 (i : grid2.Coords) : Prop := (Scalar.cmpi .ne (Scalar.extui (Scalar.cmpi .eq (BitVec.ofNat 32 (i 0).val) 0#32)) 0#32) = 1#1
/-- It holds at the first point only. -/
theorem hcond2_0 : ∀ t : Fin cfg2.N, cond2_0 (grid2.coords t) ↔ t.val % 32 = 0 :=
  (fun t => by
    have ht : t.val < 32 := Nat.lt_of_lt_of_eq t.isLt N_2
    have e0 : (grid2.coords t 0).val = t.val / 1 % 32 := Pipeline.Grid.coords_val t 0 (by decide) rfl
    simp only [cond2_0, e0]
    word_cmp
   : ∀ t : Fin grid2.N, cond2_0 (grid2.coords t) ↔ t.val % 32 = 0)

/-- The condition of the body's `scf.if` 1. -/
abbrev cond2_1 (i : grid2.Coords) : Prop := (Scalar.cmpi .ne (Scalar.extui (Scalar.cmpi .sgt (BitVec.ofNat 32 (i 0).val) 0#32)) 0#32) = 1#1
/-- It holds at the points from point 1 on. -/
theorem hcond2_1 : ∀ t : Fin cfg2.N, cond2_1 (grid2.coords t) ↔ 1 ≤ t.val :=
  (by decide +kernel : ∀ t : Fin grid2.N, cond2_1 (grid2.coords t) ↔ 1 ≤ t.val)

/-- The condition of the body's `scf.if` 2. -/
abbrev cond2_2 (i : grid2.Coords) : Prop := k2_cond3 i = 1#1
/-- It holds at the last point only. -/
theorem hcond2_2 : ∀ t : Fin cfg2.N, cond2_2 (grid2.coords t) ↔ t.val % 32 = 31 :=
  (fun t => by
    have ht : t.val < 32 := Nat.lt_of_lt_of_eq t.isLt N_2
    have e0 : (grid2.coords t 0).val = t.val / 1 % 32 := Pipeline.Grid.coords_val t 0 (by decide) rfl
    simp only [cond2_2, k2_cond3, e0]
    word_cmp
   : ∀ t : Fin grid2.N, cond2_2 (grid2.coords t) ↔ t.val % 32 = 31)

/-! ## Where the windows are idle (the printed configuration's table `Cfg.idle`) -/

/-- Window 0 is never idle. -/
theorem liveAt2_0 : ∀ t : Fin cfg2.N, cfg2.idle 0 (grid2.coords t) = false := fun _ => rfl
/-- Window 1 is never idle. -/
theorem liveAt2_1 : ∀ t : Fin cfg2.N, cfg2.idle 1 (grid2.coords t) = false := fun _ => rfl
/-- Window 2 is never idle. -/
theorem liveAt2_2 : ∀ t : Fin cfg2.N, cfg2.idle 2 (grid2.coords t) = false := fun _ => rfl
/-- At the points of case A the printed configuration. -/
theorem idleAt2_3_A : ∀ t : Fin cfg2.N, cond2_0 (grid2.coords t) → ¬cond2_1 (grid2.coords t) → ¬cond2_2 (grid2.coords t) → cfg2.idle 3 (grid2.coords t) = true := by decide +kernel
/-- At the points of case A the pipeline does not write output 3's block back. -/
theorem noFlush2_3_A : ∀ t : Fin cfg2.N, cond2_0 (grid2.coords t) → ¬cond2_1 (grid2.coords t) → ¬cond2_2 (grid2.coords t) → (cfg2.win 3).flush t = false := by decide +kernel
/-- At the points of case B the printed configuration. -/
theorem idleAt2_3_B : ∀ t : Fin cfg2.N, ¬cond2_0 (grid2.coords t) → cond2_1 (grid2.coords t) → ¬cond2_2 (grid2.coords t) → cfg2.idle 3 (grid2.coords t) = true := by decide +kernel
/-- At the points of case B the pipeline does not write output 3's block back. -/
theorem noFlush2_3_B : ∀ t : Fin cfg2.N, ¬cond2_0 (grid2.coords t) → cond2_1 (grid2.coords t) → ¬cond2_2 (grid2.coords t) → (cfg2.win 3).flush t = false := by decide +kernel
/-- At the points of case C the printed configuration. -/
theorem liveAt2_3_C : ∀ t : Fin cfg2.N, ¬cond2_0 (grid2.coords t) → cond2_1 (grid2.coords t) → cond2_2 (grid2.coords t) → cfg2.idle 3 (grid2.coords t) = false := by decide +kernel

/-! ## The kernel body on any staging memrefs: a subtype the run finds -/

/-- One staging buffer of output window 2, through which its contents are stated. -/
abbrev VO2_2 : View sig .tc .vmem S128x16384 .fp8e4m3 := (Memref.whole cc2_stg2_0 : Memref sig .tc .vmem S128x16384 .fp8e4m3).view
/-- One staging buffer of output window 3, through which its contents are stated. -/
abbrev VO2_3 : View sig .tc .smem S1x1 .f32 := (Memref.whole cc2_stg3_0 : Memref sig .tc .smem S1x1 .f32).view
/-- Each window's current staging memref at point `t`, spelled as the pipeline passes it. -/
abbrev ms2_0 (t : Fin cfg2.N) : Memref sig .tc .smem S1 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S128x16384 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S128x16384 .fp8e4m3 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .smem S1x1 .f32 := win2_3.stage (cfg2.slots t 3)
abbrev hs2_3 (t : Fin cfg2.N) : (ms2_3 t).IsWhole := hstage2_3 ((cfg2.slots t 3).cast nbuf2_3)
/-- The scratch operands. -/
abbrev scM2_0 : Memref sig .tc .vmem S8x16384 .f32 := Memref.whole cc2_scratch0
/-- The scratch `arg5` the kernel carries between points, as a view. -/
abbrev VS2_0 : View sig .tc .vmem S8x16384 .f32 := scM2_0.view

/-- The scoped buffers that are neither staging nor scratch of this call, and the generator register. -/
abbrev Rest2 (c : Dev nD) : sProp 𝕄 :=
  iprop(Pipeline.scopedRestBut (Ix := Unit) (Name := ℕ) (U := UR sig nD τ) (Lvl := ℕ) (Val := Elt F) spec2 c [cc2_scratch0] ∗ ∃ r, prngReg c r)

/-- The frame kit's invariant with the scratch operands as memrefs owned at some contents. -/
theorem PhiA2_eq (c : Dev nD) :
    (Pipeline.ΦA spec2 c : sProp 𝕄)
      = iprop(iprop((∃ d, owns (c : Thread nD τ) scM2_0 fullShare d)) ∗ Rest2 c) := by
  unfold Pipeline.ΦA Rest2; rw [scopedRest2_split]; simp only [scM2_0, owns_whole]; exact BI.equiv_iff.mp ⟨BI.sep_assoc, BI.sep_assoc'⟩

section runs
variable (c : Dev nD) (i : grid2.Coords) (arg1 : Memref sig .tc .smem S1 .f32) (harg1 : arg1.IsWhole) (arg2 : Memref sig .tc .vmem S128x16384 .f32) (harg2 : arg2.IsWhole) (arg3 : Memref sig .tc .vmem S128x16384 .fp8e4m3) (harg3 : arg3.IsWhole) (arg4 : Memref sig .tc .smem S1x1 .f32) (harg4 : arg4.IsWhole) (arg5 : Memref sig .tc .vmem S8x16384 .f32) (harg5 : arg5.IsWhole)
include c i arg1 harg1 arg2 harg2 arg3 harg3 arg4 harg4 arg5 harg5

section caseA
variable (hc0 : cond2_0 i) (hc1 : ¬cond2_1 i) (hc2 : ¬cond2_2 i)
    (x0 : Vec F S1 .f32) (x1 : Vec F S128x16384 .f32)
include hc0 hc1 hc2 x0 x1

set_option maxHeartbeats 1000000 in
/-- What the body's stores leave in each output's staging memref, as pieces. -/
noncomputable def kernelRun2_A :
    Σ' (L2 : List (View.Piece (Elt F) S128x16384 .fp8e4m3)), Σ' (L3 : List (View.Piece (Elt F) S1x1 .f32)), { LS0 : List (View.Piece (Elt F) S8x16384 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_quantise i _ harg1 _ harg2 _ harg3 _ harg4 _ harg5) K } := by
  refine ⟨?_, [], ?_, fun xi3 E K => ?run⟩
  case run =>
    simp only [cc2_quantise_eq_skeleton]; unfold cc2_quantise_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case A's pieces for output 2 tile its block. -/
theorem cover2_A_2 (y : S128x16384.Idx) :
    ∃ pc ∈ (kernelRun2_A c i _ harg1 _ harg2 _ harg3 _ harg4 _ harg5 hc0 hc1 hc2 x0 x1).1, y ∈ pc.1.set :=
  View.cover_of_tiledL _ S128x16384.size (by sl_kernel_rfl) y

/-- What case A leaves in output 2's staging buffer. -/
def out2_A_2 : Vec F S128x16384 .fp8e4m3 :=
  VO2_2.read (Elt F) (VO2_2.writes (Elt F) VO2_2.junk (kernelRun2_A c i _ harg1 _ harg2 _ harg3 _ harg4 _ harg5 hc0 hc1 hc2 x0 x1).1)

/-- Case A stores nothing into output 3. -/
def out2_A_3 : Vec F S1x1 .f32 :=
  VO2_3.read (Elt F) (VO2_3.writes (Elt F) VO2_3.junk (kernelRun2_A c i _ harg1 _ harg2 _ harg3 _ harg4 _ harg5 hc0 hc1 hc2 x0 x1).2.1)

/-- Case A's pieces for scratch `arg5`, which the kernel carries between points, cover it. -/
theorem scover2_A_0 (y : S8x16384.Idx) :
    ∃ pc ∈ (kernelRun2_A c i _ harg1 _ harg2 _ harg3 _ harg4 _ harg5 hc0 hc1 hc2 x0 x1).2.2.1, y ∈ pc.1.set :=
  View.cover_of_tiledL _ S8x16384.size (by sl_kernel_rfl) y

/-- What case A leaves in scratch `arg5`. -/
def sout2_A_0 : Vec F S8x16384 .f32 :=
  VS2_0.read (Elt F) (VS2_0.writes (Elt F) VS2_0.junk (kernelRun2_A c i _ harg1 _ harg2 _ harg3 _ harg4 _ harg5 hc0 hc1 hc2 x0 x1).2.2.1)

/-- What case A leaves in the outputs and the scratch. -/
def caseOuts2_A : Vec F S128x16384 .fp8e4m3 × Vec F S1x1 .f32 × Vec F S8x16384 .f32 :=
  (out2_A_2 c i _ harg1 _ harg2 _ harg3 _ harg4 _ harg5 hc0 hc1 hc2 x0 x1,
    out2_A_3 c i _ harg1 _ harg2 _ harg3 _ harg4 _ harg5 hc0 hc1 hc2 x0 x1,
    sout2_A_0 c i _ harg1 _ harg2 _ harg3 _ harg4 _ harg5 hc0 hc1 hc2 x0 x1)

end caseA

section caseB
variable (hc0 : ¬cond2_0 i) (hc1 : cond2_1 i) (hc2 : ¬cond2_2 i)
    (x0 : Vec F S1 .f32) (x1 : Vec F S128x16384 .f32) (xs0 : Vec F S8x16384 .f32)
include hc0 hc1 hc2 x0 x1 xs0

set_option maxHeartbeats 1000000 in
/-- What the body's stores leave in each output's staging memref, as pieces. -/
noncomputable def kernelRun2_B :
    Σ' (L2 : List (View.Piece (Elt F) S128x16384 .fp8e4m3)), Σ' (L3 : List (View.Piece (Elt F) S1x1 .f32)), { LS0 : List (View.Piece (Elt F) S8x16384 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc2_quantise i _ harg1 _ harg2 _ harg3 _ harg4 _ harg5) K } := by
  refine ⟨?_, [], ?_, fun xi3 E K => ?run⟩
  case run =>
    simp only [cc2_quantise_eq_skeleton]; unfold cc2_quantise_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case B's pieces for output 2 tile its block. -/
theorem cover2_B_2 (y : S128x16384.Idx) :
    ∃ pc ∈ (kernelRun2_B c i _ harg1 _ harg2 _ harg3 _ harg4 _ harg5 hc0 hc1 hc2 x0 x1 xs0).1, y ∈ pc.1.set :=
  View.cover_of_tiledL _ S128x16384.size (by sl_kernel_rfl) y

/-- What case B leaves in output 2's staging buffer. -/
def out2_B_2 : Vec F S128x16384 .fp8e4m3 :=
  VO2_2.read (Elt F) (VO2_2.writes (Elt F) VO2_2.junk (kernelRun2_B c i _ harg1 _ harg2 _ harg3 _ harg4 _ harg5 hc0 hc1 hc2 x0 x1 xs0).1)

/-- Case B stores nothing into output 3. -/
def out2_B_3 : Vec F S1x1 .f32 :=
  VO2_3.read (Elt F) (VO2_3.writes (Elt F) VO2_3.junk (kernelRun2_B c i _ harg1 _ harg2 _ harg3 _ harg4 _ harg5 hc0 hc1 hc2 x0 x1 xs0).2.1)

/-- Case B's pieces for scratch `arg5`, which the kernel carries between points, cover it. -/
theorem scover2_B_0 (y : S8x16384.Idx) :
    ∃ pc ∈ (kernelRun2_B c i _ harg1 _ harg2 _ harg3 _ harg4 _ harg5 hc0 hc1 hc2 x0 x1 xs0).2.2.1, y ∈ pc.1.set :=
  View.cover_of_tiledL _ S8x16384.size (by sl_kernel_rfl) y

/-- What case B leaves in scratch `arg5`. -/
def sout2_B_0 : Vec F S8x16384 .f32 :=
  VS2_0.read (Elt F) (VS2_0.writes (Elt F) VS2_0.junk (kernelRun2_B c i _ harg1 _ harg2 _ harg3 _ harg4 _ harg5 hc0 hc1 hc2 x0 x1 xs0).2.2.1)

/-- What case B leaves in the outputs and the scratch. -/
def caseOuts2_B : Vec F S128x16384 .fp8e4m3 × Vec F S1x1 .f32 × Vec F S8x16384 .f32 :=
  (out2_B_2 c i _ harg1 _ harg2 _ harg3 _ harg4 _ harg5 hc0 hc1 hc2 x0 x1 xs0,
    out2_B_3 c i _ harg1 _ harg2 _ harg3 _ harg4 _ harg5 hc0 hc1 hc2 x0 x1 xs0,
    sout2_B_0 c i _ harg1 _ harg2 _ harg3 _ harg4 _ harg5 hc0 hc1 hc2 x0 x1 xs0)

end caseB

section caseC
variable (hc0 : ¬cond2_0 i) (hc1 : cond2_1 i) (hc2 : cond2_2 i)
    (x0 : Vec F S1 .f32) (x1 : Vec F S128x16384 .f32) (xs0 : Vec F S8x16384 .f32)
include hc0 hc1 hc2 x0 x1 xs0

set_option maxHeartbeats 1000000 in
/-- What the body's stores leave in each output's staging memref, as pieces. -/
noncomputable def kernelRun2_C :
    Σ' (L2 : List (View.Piece (Elt F) S128x16384 .fp8e4m3)), Σ' (L3 : List (View.Piece (Elt F) S1x1 .f32)), { LS0 : List (View.Piece (Elt F) S8x16384 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc2_quantise i _ harg1 _ harg2 _ harg3 _ harg4 _ harg5) K } := by
  refine ⟨?_, ?_, ?_, fun E K => ?run⟩
  case run =>
    simp only [cc2_quantise_eq_skeleton]; unfold cc2_quantise_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iexists _; iexact H3
    iexists _; iexact HS0

/-- Case C's pieces for output 2 tile its block. -/
theorem cover2_C_2 (y : S128x16384.Idx) :
    ∃ pc ∈ (kernelRun2_C c i _ harg1 _ harg2 _ harg3 _ harg4 _ harg5 hc0 hc1 hc2 x0 x1 xs0).1, y ∈ pc.1.set :=
  View.cover_of_tiledL _ S128x16384.size (by sl_kernel_rfl) y

/-- What case C leaves in output 2's staging buffer. -/
def out2_C_2 : Vec F S128x16384 .fp8e4m3 :=
  VO2_2.read (Elt F) (VO2_2.writes (Elt F) VO2_2.junk (kernelRun2_C c i _ harg1 _ harg2 _ harg3 _ harg4 _ harg5 hc0 hc1 hc2 x0 x1 xs0).1)

/-- Case C's pieces for output 3 tile its block. -/
theorem cover2_C_3 (y : S1x1.Idx) :
    ∃ pc ∈ (kernelRun2_C c i _ harg1 _ harg2 _ harg3 _ harg4 _ harg5 hc0 hc1 hc2 x0 x1 xs0).2.1, y ∈ pc.1.set :=
  View.cover_of_tiledL _ S1x1.size (by sl_kernel_rfl) y

/-- What case C leaves in output 3's staging buffer. -/
def out2_C_3 : Vec F S1x1 .f32 :=
  VO2_3.read (Elt F) (VO2_3.writes (Elt F) VO2_3.junk (kernelRun2_C c i _ harg1 _ harg2 _ harg3 _ harg4 _ harg5 hc0 hc1 hc2 x0 x1 xs0).2.1)

/-- Case C's pieces for scratch `arg5`, which the kernel carries between points, cover it. -/
theorem scover2_C_0 (y : S8x16384.Idx) :
    ∃ pc ∈ (kernelRun2_C c i _ harg1 _ harg2 _ harg3 _ harg4 _ harg5 hc0 hc1 hc2 x0 x1 xs0).2.2.1, y ∈ pc.1.set :=
  View.cover_of_tiledL _ S8x16384.size (by sl_kernel_rfl) y

/-- What case C leaves in scratch `arg5`. -/
def sout2_C_0 : Vec F S8x16384 .f32 :=
  VS2_0.read (Elt F) (VS2_0.writes (Elt F) VS2_0.junk (kernelRun2_C c i _ harg1 _ harg2 _ harg3 _ harg4 _ harg5 hc0 hc1 hc2 x0 x1 xs0).2.2.1)

/-- What case C leaves in the outputs and the scratch. -/
def caseOuts2_C : Vec F S128x16384 .fp8e4m3 × Vec F S1x1 .f32 × Vec F S8x16384 .f32 :=
  (out2_C_2 c i _ harg1 _ harg2 _ harg3 _ harg4 _ harg5 hc0 hc1 hc2 x0 x1 xs0,
    out2_C_3 c i _ harg1 _ harg2 _ harg3 _ harg4 _ harg5 hc0 hc1 hc2 x0 x1 xs0,
    sout2_C_0 c i _ harg1 _ harg2 _ harg3 _ harg4 _ harg5 hc0 hc1 hc2 x0 x1 xs0)

end caseC

end runs

/-! ## What the outputs hold after each point -/

/-- What a point of case A leaves. -/
def pointOuts2_A (c : Dev nD) (t : Fin cfg2.N) (h0 : t.val % 32 = 0) (h1 : ¬1 ≤ t.val) (h2 : ¬t.val % 32 = 31) :
    Vec F S128x16384 .fp8e4m3 × Vec F S1x1 .f32 × Vec F S8x16384 .f32 :=
  caseOuts2_A c (grid2.coords t) (ms2_0 t) (hs2_0 t) (ms2_1 t) (hs2_1 t) (ms2_2 t) (hs2_2 t) (ms2_3 t) (hs2_3 t) scM2_0 (Memref.isWhole_whole _) ((hcond2_0 t).mpr h0) (mt (hcond2_1 t).mp h1) (mt (hcond2_2 t).mp h2) (iblk2 V c 0 t) (iblk2 V c 1 t)

/-- What a point of case B leaves, from what the scratch held before it. -/
def pointOuts2_B (c : Dev nD) (t : Fin cfg2.N) (h0 : ¬t.val % 32 = 0) (h1 : 1 ≤ t.val) (h2 : ¬t.val % 32 = 31) (xs0 : Vec F S8x16384 .f32) :
    Vec F S128x16384 .fp8e4m3 × Vec F S1x1 .f32 × Vec F S8x16384 .f32 :=
  caseOuts2_B c (grid2.coords t) (ms2_0 t) (hs2_0 t) (ms2_1 t) (hs2_1 t) (ms2_2 t) (hs2_2 t) (ms2_3 t) (hs2_3 t) scM2_0 (Memref.isWhole_whole _) (mt (hcond2_0 t).mp h0) ((hcond2_1 t).mpr h1) (mt (hcond2_2 t).mp h2) (iblk2 V c 0 t) (iblk2 V c 1 t) xs0

/-- What a point of case C leaves, from what the scratch held before it. -/
def pointOuts2_C (c : Dev nD) (t : Fin cfg2.N) (h0 : ¬t.val % 32 = 0) (h1 : 1 ≤ t.val) (h2 : t.val % 32 = 31) (xs0 : Vec F S8x16384 .f32) :
    Vec F S128x16384 .fp8e4m3 × Vec F S1x1 .f32 × Vec F S8x16384 .f32 :=
  caseOuts2_C c (grid2.coords t) (ms2_0 t) (hs2_0 t) (ms2_1 t) (hs2_1 t) (ms2_2 t) (hs2_2 t) (ms2_3 t) (hs2_3 t) scM2_0 (Memref.isWhole_whole _) (mt (hcond2_0 t).mp h0) ((hcond2_1 t).mpr h1) ((hcond2_2 t).mpr h2) (iblk2 V c 0 t) (iblk2 V c 1 t) xs0

/-- What the outputs and the scratch hold after each point. -/
def outsAt2 (c : Dev nD) : (n : ℕ) → n < cfg2.N → Vec F S128x16384 .fp8e4m3 × Vec F S1x1 .f32 × Vec F S8x16384 .f32
  | 0, hn => pointOuts2_A V c ⟨0, hn⟩ (Nat.zero_mod _) (fun h => by (try dsimp only at h); omega) (fun h => by (try dsimp only at h); omega)
  | n + 1, hn =>
    if h0 : (n + 1) % 32 = 0 then
      if h1 : 1 ≤ (n + 1) then
        False.elim (by have hN : n + 1 < 32 := lt_of_lt_of_eq hn (show cfg2.N = 32 from N_2); omega)
      else
        if h2 : (n + 1) % 32 = 31 then
          False.elim (by have hN : n + 1 < 32 := lt_of_lt_of_eq hn (show cfg2.N = 32 from N_2); omega)
        else
          pointOuts2_A V c ⟨n + 1, hn⟩ h0 h1 h2
    else
      if h1 : 1 ≤ (n + 1) then
        if h2 : (n + 1) % 32 = 31 then
          pointOuts2_C V c ⟨n + 1, hn⟩ h0 h1 h2 (outsAt2 c n (Nat.lt_of_succ_lt hn)).2.2
        else
          pointOuts2_B V c ⟨n + 1, hn⟩ h0 h1 h2 (outsAt2 c n (Nat.lt_of_succ_lt hn)).2.2
      else
        False.elim (by have hN : n + 1 < 32 := lt_of_lt_of_eq hn (show cfg2.N = 32 from N_2); omega)

/-- `outsAt2` at a point of case A. -/
theorem outsAt2_A (c : Dev nD) (t : Fin cfg2.N) (h0 : t.val % 32 = 0) (h1 : ¬1 ≤ t.val) (h2 : ¬t.val % 32 = 31) :
    outsAt2 V c t.val t.isLt = pointOuts2_A V c t h0 h1 h2 := by
  obtain ⟨n, hn⟩ := t
  cases n with
  | zero => exact rfl
  | succ n => exact (dif_pos h0).trans ((dif_neg h1).trans ((dif_neg h2).trans rfl))

/-- `outsAt2` at a point of case B. -/
theorem outsAt2_B (c : Dev nD) (t : Fin cfg2.N) (h0 : ¬t.val % 32 = 0) (h1 : 1 ≤ t.val) (h2 : ¬t.val % 32 = 31) :
    outsAt2 V c t.val t.isLt = pointOuts2_B V c t h0 h1 h2 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt2` at a point of case C. -/
theorem outsAt2_C (c : Dev nD) (t : Fin cfg2.N) (h0 : ¬t.val % 32 = 0) (h1 : 1 ≤ t.val) (h2 : t.val % 32 = 31) :
    outsAt2 V c t.val t.isLt = pointOuts2_C V c t h0 h1 h2 (outsAt2 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS2 (c : Dev nD) : (n : ℕ) → n ≤ cfg2.N → sProp 𝕄
  | 0, _ => Pipeline.ΦA spec2 c
  | n + 1, hn => iprop(iprop(owns (c : Thread nD τ) scM2_0 fullShare ((outsAt2 V c n hn).2.2)) ∗ Rest2 c)

theorem PhiS2_zero (c : Dev nD) (n : ℕ) (h : n ≤ cfg2.N) (hz : n = 0) : PhiS2 V c n h = Pipeline.ΦA spec2 c := by
  subst hz; rfl

/-- After point `n`. -/
theorem PhiS2_succ (c : Dev nD) (n : ℕ) (hn : n < cfg2.N) :
    PhiS2 V c (n + 1) hn = iprop(iprop(owns (c : Thread nD τ) scM2_0 fullShare ((outsAt2 V c n hn).2.2)) ∗ Rest2 c) := rfl

/-- Before a point that is not the first. -/
theorem PhiS2_pos (c : Dev nD) (n : ℕ) (h : n ≤ cfg2.N) (hz : n ≠ 0) :
    PhiS2 V c n h = iprop(iprop(owns (c : Thread nD τ) scM2_0 fullShare ((outsAt2 V c (n - 1) (by omega)).2.2)) ∗ Rest2 c) := by
  cases n with
  | zero => exact absurd rfl hz
  | succ n => rfl

/-! ## The pipeline's proof data -/

/-- The proof data of the one pipeline on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (outsAt2 V c t.val t.isLt).1
    | ⟨3, _⟩ => (outsAt2 V c t.val t.isLt).2.1
  Φ t := PhiS2 V c t.val (Nat.le_of_lt_succ t.isLt)
  q _ := fullShare
  owed _ := 0

/-- The proof data's arrays are the region-entry contents. -/
theorem A_eq2 (c : Dev nD) (w : Fin cfg2.W) : (dat2 V c).A w = V c (Pipeline.arrRef spec2 w) := by
  dsimp only [dat2]

/-- The invariant at a point's start. -/
theorem PhiS2_castSucc (c : Dev nD) (t : Fin cfg2.N) :
    (dat2 V c).Φ t.castSucc = PhiS2 V c t.val (Nat.le_of_lt t.isLt) := by
  dsimp only [dat2]; exact Pipeline.Dat.Φ_castSucc (PhiS2 V c) t

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (outsAt2 V c t.val t.isLt).1 := by dsimp only [dat2]
theorem after2_3 (c : Dev nD) (t : Fin cfg2.N) : (dat2 V c).after 3 t = (outsAt2 V c t.val t.isLt).2.1 := by dsimp only [dat2]

/-- Each input's current staging buffer holds its block at every point, fetched there or not. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

/-- What the body must leave in window 0, at any point; so for the windows below. -/
theorem leaves2_0 (c : Dev nD) (t : Fin cfg2.N) :
    (dat2 V c).leavesExact 0 t = owns (c : Thread nD τ) (ms2_0 t) fullShare (iblk2 V c 0 t) := by
  unfold Dat.leavesExact; rw [liveAt2_0 t, after2_0]

theorem leaves2_1 (c : Dev nD) (t : Fin cfg2.N) :
    (dat2 V c).leavesExact 1 t = owns (c : Thread nD τ) (ms2_1 t) fullShare (iblk2 V c 1 t) := by
  unfold Dat.leavesExact; rw [liveAt2_1 t, after2_1]

theorem leaves2_2 (c : Dev nD) (t : Fin cfg2.N) :
    (dat2 V c).leavesExact 2 t = owns (c : Thread nD τ) (ms2_2 t) fullShare ((outsAt2 V c t.val t.isLt).1) := by
  unfold Dat.leavesExact; rw [liveAt2_2 t, after2_2]

/-! ## The body obligation, at a generic point -/

/-- What the body is called with at point `t`. -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = PhiS2 V c (t.val + 1) t.isLt from rfl, PhiS2_succ]
  have hN : t.val < 32 := lt_of_lt_of_eq t.isLt (show cfg2.N = 32 from N_2)
  by_cases h0 : t.val % 32 = 0
  · by_cases h1 : 1 ≤ t.val
    · exfalso; omega
    · by_cases h2 : t.val % 32 = 31
      · exfalso; omega
      · rw [leaves2_0, leaves2_1, leaves2_2]
        rw [Dat.leavesExact_idle (dat2 V c) 3 t (idleAt2_3_A t ((hcond2_0 t).mpr h0) (mt (hcond2_1 t).mp h1) (mt (hcond2_2 t).mp h2)) (noFlush2_3_A t ((hcond2_0 t).mpr h0) (mt (hcond2_1 t).mp h1) (mt (hcond2_2 t).mp h2))]
        by_cases hz : t.val = 0
        · rw [PhiS2_castSucc V c t, PhiS2_zero V c _ _ hz, PhiA2_eq]
          rw [outsAt2_A V c t h0 h1 h2]
          unfold pointOuts2_A caseOuts2_A out2_A_2 sout2_A_0; (try dsimp only)
          iintro ⟨⟨HS0, Hg⟩, Ho, ⟨%d0, H0⟩, ⟨%d1, H1⟩, ⟨%d2, H2⟩, ⟨%d3, H3⟩⟩
          iapply ((kernelRun2_A c (grid2.coords t) _ _ _ _ _ _ _ _ _ _ ((hcond2_0 t).mpr h0) (mt (hcond2_1 t).mp h1) (mt (hcond2_2 t).mp h2) (iblk2 V c 0 t) (iblk2 V c 1 t)).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover2_A_0 ..)) $$ HS0
            iexact Hg
          isplitl [Ho]; · iexact Ho
          isplitl [H0]; · iexact H0
          isplitl [H1]; · iexact H1
          isplitl [H2]; · iapply (owns_writes (fun _ => cover2_A_2 ..)) $$ H2
          iexists _; iexact H3
        · exfalso; omega
  · by_cases h1 : 1 ≤ t.val
    · by_cases h2 : t.val % 32 = 31
      · rw [leaves2_0, leaves2_1, leaves2_2]
        rw [show (dat2 V c).leavesExact 3 t = owns (c : Thread nD τ) (ms2_3 t) fullShare ((dat2 V c).after 3 t) from by
      unfold Dat.leavesExact; rw [liveAt2_3_C t (mt (hcond2_0 t).mp h0) ((hcond2_1 t).mpr h1) ((hcond2_2 t).mpr h2)], after2_3]
        by_cases hz : t.val = 0
        · exfalso; omega
        · rw [PhiS2_castSucc V c t, PhiS2_pos V c _ _ hz]
          rw [outsAt2_C V c t h0 h1 h2]
          unfold pointOuts2_C caseOuts2_C out2_C_2 out2_C_3 sout2_C_0; (try dsimp only)
          iintro ⟨⟨HS0, Hg⟩, Ho, ⟨%d0, H0⟩, ⟨%d1, H1⟩, ⟨%d2, H2⟩, ⟨%d3, H3⟩⟩
          iapply ((kernelRun2_C c (grid2.coords t) _ _ _ _ _ _ _ _ _ _ (mt (hcond2_0 t).mp h0) ((hcond2_1 t).mpr h1) ((hcond2_2 t).mpr h2) (iblk2 V c 0 t) (iblk2 V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 Hg]
          · isplitl [HS0]; · iapply (owns_writes (fun _ => scover2_C_0 ..)) $$ HS0
            iexact Hg
          isplitl [Ho]; · iexact Ho
          isplitl [H0]; · iexact H0
          isplitl [H1]; · iexact H1
          isplitl [H2]; · iapply (owns_writes (fun _ => cover2_C_2 ..)) $$ H2
          iapply (owns_writes (fun _ => cover2_C_3 ..)) $$ H3
      · rw [leaves2_0, leaves2_1, leaves2_2]
        rw [Dat.leavesExact_idle (dat2 V c) 3 t (idleAt2_3_B t (mt (hcond2_0 t).mp h0) ((hcond2_1 t).mpr h1) (mt (hcond2_2 t).mp h2)) (noFlush2_3_B t (mt (hcond2_0 t).mp h0) ((hcond2_1 t).mpr h1) (mt (hcond2_2 t).mp h2))]
        by_cases hz : t.val = 0
        · exfalso; omega
        · rw [PhiS2_castSucc V c t, PhiS2_pos V c _ _ hz]
          rw [outsAt2_B V c t h0 h1 h2]
          unfold pointOuts2_B caseOuts2_B out2_B_2 sout2_B_0; (try dsimp only)
          iintro ⟨⟨HS0, Hg⟩, Ho, ⟨%d0, H0⟩, ⟨%d1, H1⟩, ⟨%d2, H2⟩, ⟨%d3, H3⟩⟩
          iapply ((kernelRun2_B c (grid2.coords t) _ _ _ _ _ _ _ _ _ _ (mt (hcond2_0 t).mp h0) ((hcond2_1 t).mpr h1) (mt (hcond2_2 t).mp h2) (iblk2 V c 0 t) (iblk2 V c 1 t) _).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover2_B_0 ..)) $$ HS0
            iexact Hg
          isplitl [Ho]; · iexact Ho
          isplitl [H0]; · iexact H0
          isplitl [H1]; · iexact H1
          isplitl [H2]; · iapply (owns_writes (fun _ => cover2_B_2 ..)) $$ H2
          iexists _; iexact H3
    · exfalso; omega

/-- The body table's row at point `t`'s slots is the body as `bodyAt2` spells it. -/
theorem defs₀_row2 (t : Fin cfg2.N) :
    defs₀ (F := F) .tc cfg2.body (cfg2.bodyArgs t (cfg2.slots t)) = bodyAt2 t := by
  unfold defs₀; rw [Defs.onTc_tc]

/-- The library's body obligation, at every point. -/
theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

/-- What the launch hands the region. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After any point but the first the invariant gives `ΦA` back. -/
theorem Phi_out2 (c : Dev nD) (t : Fin (cfg2.N + 1)) (ht : t.val ≠ 0) : (dat2 V c).Φ t ⊢ Pipeline.ΦA spec2 c := by
  rw [show (dat2 V c).Φ t = PhiS2 V c t.val (Nat.le_of_lt_succ t.isLt) from rfl, PhiS2_pos V c _ _ ht, PhiA2_eq]
  iintro ⟨HS0, Hg⟩
  isplitl [HS0]
  · iexists _; iexact HS0
  iexact Hg

/-- The same after the last point. -/
theorem hout2 (c : Dev nD) : (dat2 V c).Φ (Fin.last cfg2.N) ⊢ Pipeline.ΦA spec2 c :=
  Phi_out2 V c _ (by rw [Fin.val_last]; have : cfg2.N = 32 := N_2; omega)

end Cert.Kernel.Gen

end
-- ==== Proof.QuantDy.lean ====
/-
  Region 1 of the kernel program (quantising dy): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The condition of the body's `scf.if` 0. -/
abbrev cond1_0 (i : grid1.Coords) : Prop := (Scalar.cmpi .ne (Scalar.extui (Scalar.cmpi .eq (BitVec.ofNat 32 (i 0).val) 0#32)) 0#32) = 1#1
/-- It holds at the first point only. -/
theorem hcond1_0 : ∀ t : Fin cfg1.N, cond1_0 (grid1.coords t) ↔ t.val % 16 = 0 :=
  (fun t => by
    have ht : t.val < 16 := Nat.lt_of_lt_of_eq t.isLt N_1
    have e0 : (grid1.coords t 0).val = t.val / 1 % 16 := Pipeline.Grid.coords_val t 0 (by decide) rfl
    simp only [cond1_0, e0]
    word_cmp
   : ∀ t : Fin grid1.N, cond1_0 (grid1.coords t) ↔ t.val % 16 = 0)

/-- The condition of the body's `scf.if` 1. -/
abbrev cond1_1 (i : grid1.Coords) : Prop := (Scalar.cmpi .ne (Scalar.extui (Scalar.cmpi .sgt (BitVec.ofNat 32 (i 0).val) 0#32)) 0#32) = 1#1
/-- It holds at the points from point 1 on. -/
theorem hcond1_1 : ∀ t : Fin cfg1.N, cond1_1 (grid1.coords t) ↔ 1 ≤ t.val :=
  (by decide +kernel : ∀ t : Fin grid1.N, cond1_1 (grid1.coords t) ↔ 1 ≤ t.val)

/-- The condition of the body's `scf.if` 2. -/
abbrev cond1_2 (i : grid1.Coords) : Prop := k1_cond3 i = 1#1
/-- It holds at the last point only. -/
theorem hcond1_2 : ∀ t : Fin cfg1.N, cond1_2 (grid1.coords t) ↔ t.val % 16 = 15 :=
  (fun t => by
    have ht : t.val < 16 := Nat.lt_of_lt_of_eq t.isLt N_1
    have e0 : (grid1.coords t 0).val = t.val / 1 % 16 := Pipeline.Grid.coords_val t 0 (by decide) rfl
    simp only [cond1_2, k1_cond3, e0]
    word_cmp
   : ∀ t : Fin grid1.N, cond1_2 (grid1.coords t) ↔ t.val % 16 = 15)

/-! ## Where the windows are idle (the printed configuration's table `Cfg.idle`) -/

/-- Window 0 is never idle. -/
theorem liveAt1_0 : ∀ t : Fin cfg1.N, cfg1.idle 0 (grid1.coords t) = false := fun _ => rfl
/-- Window 1 is never idle. -/
theorem liveAt1_1 : ∀ t : Fin cfg1.N, cfg1.idle 1 (grid1.coords t) = false := fun _ => rfl
/-- Window 2 is never idle. -/
theorem liveAt1_2 : ∀ t : Fin cfg1.N, cfg1.idle 2 (grid1.coords t) = false := fun _ => rfl
/-- At the points of case A the printed configuration. -/
theorem idleAt1_3_A : ∀ t : Fin cfg1.N, cond1_0 (grid1.coords t) → ¬cond1_1 (grid1.coords t) → ¬cond1_2 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → ¬cond1_2 (grid1.coords t) → (cfg1.win 3).flush t = false := by decide +kernel
/-- At the points of case B the printed configuration. -/
theorem idleAt1_3_B : ∀ t : Fin cfg1.N, ¬cond1_0 (grid1.coords t) → cond1_1 (grid1.coords t) → ¬cond1_2 (grid1.coords t) → cfg1.idle 3 (grid1.coords t) = true := by decide +kernel
/-- At the points of case B the pipeline does not write output 3's block back. -/
theorem noFlush1_3_B : ∀ t : Fin cfg1.N, ¬cond1_0 (grid1.coords t) → cond1_1 (grid1.coords t) → ¬cond1_2 (grid1.coords t) → (cfg1.win 3).flush t = false := by decide +kernel
/-- At the points of case C the printed configuration. -/
theorem liveAt1_3_C : ∀ t : Fin cfg1.N, ¬cond1_0 (grid1.coords t) → cond1_1 (grid1.coords t) → cond1_2 (grid1.coords t) → cfg1.idle 3 (grid1.coords t) = false := by decide +kernel

/-! ## The kernel body on any staging memrefs: a subtype the run finds -/

/-- One staging buffer of output window 2, through which its contents are stated. -/
abbrev VO1_2 : View sig .tc .vmem S512x4096 .fp8e5m2 := (Memref.whole cc1_stg2_0 : Memref sig .tc .vmem S512x4096 .fp8e5m2).view
/-- One staging buffer of output window 3, through which its contents are stated. -/
abbrev VO1_3 : View sig .tc .smem S1x1 .f32 := (Memref.whole cc1_stg3_0 : Memref sig .tc .smem S1x1 .f32).view
/-- Each window's current staging memref at point `t`, spelled as the pipeline passes it. -/
abbrev ms1_0 (t : Fin cfg1.N) : Memref sig .tc .smem S1 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S512x4096 .fp8e5m2 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .smem S1x1 .f32 := win1_3.stage (cfg1.slots t 3)
abbrev hs1_3 (t : Fin cfg1.N) : (ms1_3 t).IsWhole := hstage1_3 ((cfg1.slots t 3).cast nbuf1_3)
/-- The scratch operands. -/
abbrev scM1_0 : Memref sig .tc .vmem S8x4096 .f32 := Memref.whole cc1_scratch0
/-- The scratch `arg5` the kernel carries between points, as a view. -/
abbrev VS1_0 : View sig .tc .vmem S8x4096 .f32 := scM1_0.view

/-- The scoped buffers that are neither staging nor scratch of this call, and the generator register. -/
abbrev Rest1 (c : Dev nD) : sProp 𝕄 :=
  iprop(Pipeline.scopedRestBut (Ix := Unit) (Name := ℕ) (U := UR sig nD τ) (Lvl := ℕ) (Val := Elt F) spec1 c [cc1_scratch0] ∗ ∃ r, prngReg c r)

/-- The frame kit's invariant with the scratch operands as memrefs owned at some contents. -/
theorem PhiA1_eq (c : Dev nD) :
    (Pipeline.ΦA spec1 c : sProp 𝕄)
      = iprop(iprop((∃ d, owns (c : Thread nD τ) scM1_0 fullShare d)) ∗ Rest1 c) := by
  unfold Pipeline.ΦA Rest1; rw [scopedRest1_split]; simp only [scM1_0, owns_whole]; exact BI.equiv_iff.mp ⟨BI.sep_assoc, BI.sep_assoc'⟩

section runs
variable (c : Dev nD) (i : grid1.Coords) (arg1 : Memref sig .tc .smem S1 .f32) (harg1 : arg1.IsWhole) (arg2 : Memref sig .tc .vmem S512x4096 .f32) (harg2 : arg2.IsWhole) (arg3 : Memref sig .tc .vmem S512x4096 .fp8e5m2) (harg3 : arg3.IsWhole) (arg4 : Memref sig .tc .smem S1x1 .f32) (harg4 : arg4.IsWhole) (arg5 : Memref sig .tc .vmem S8x4096 .f32) (harg5 : arg5.IsWhole)
include c i arg1 harg1 arg2 harg2 arg3 harg3 arg4 harg4 arg5 harg5

section caseA
variable (hc0 : cond1_0 i) (hc1 : ¬cond1_1 i) (hc2 : ¬cond1_2 i)
    (x0 : Vec F S1 .f32) (x1 : Vec F S512x4096 .f32)
include hc0 hc1 hc2 x0 x1

set_option maxHeartbeats 1000000 in
/-- What the body's stores leave in each output's staging memref, as pieces. -/
noncomputable def kernelRun1_A :
    Σ' (L2 : List (View.Piece (Elt F) S512x4096 .fp8e5m2)), Σ' (L3 : List (View.Piece (Elt F) S1x1 .f32)), { LS0 : List (View.Piece (Elt F) S8x4096 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1_quantise i _ harg1 _ harg2 _ harg3 _ harg4 _ harg5) K } := by
  refine ⟨?_, [], ?_, fun xi3 E K => ?run⟩
  case run =>
    simp only [cc1_quantise_eq_skeleton]; unfold cc1_quantise_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case A's pieces for output 2 tile its block. -/
theorem cover1_A_2 (y : S512x4096.Idx) :
    ∃ pc ∈ (kernelRun1_A c i _ harg1 _ harg2 _ harg3 _ harg4 _ harg5 hc0 hc1 hc2 x0 x1).1, y ∈ pc.1.set :=
  View.cover_of_tiledL _ S512x4096.size (by sl_kernel_rfl) y

/-- What case A leaves in output 2's staging buffer. -/
def out1_A_2 : Vec F S512x4096 .fp8e5m2 :=
  VO1_2.read (Elt F) (VO1_2.writes (Elt F) VO1_2.junk (kernelRun1_A c i _ harg1 _ harg2 _ harg3 _ harg4 _ harg5 hc0 hc1 hc2 x0 x1).1)

/-- Case A stores nothing into output 3. -/
def out1_A_3 : Vec F S1x1 .f32 :=
  VO1_3.read (Elt F) (VO1_3.writes (Elt F) VO1_3.junk (kernelRun1_A c i _ harg1 _ harg2 _ harg3 _ harg4 _ harg5 hc0 hc1 hc2 x0 x1).2.1)

/-- Case A's pieces for scratch `arg5`, which the kernel carries between points, cover it. -/
theorem scover1_A_0 (y : S8x4096.Idx) :
    ∃ pc ∈ (kernelRun1_A c i _ harg1 _ harg2 _ harg3 _ harg4 _ harg5 hc0 hc1 hc2 x0 x1).2.2.1, y ∈ pc.1.set :=
  View.cover_of_tiledL _ S8x4096.size (by sl_kernel_rfl) y

/-- What case A leaves in scratch `arg5`. -/
def sout1_A_0 : Vec F S8x4096 .f32 :=
  VS1_0.read (Elt F) (VS1_0.writes (Elt F) VS1_0.junk (kernelRun1_A c i _ harg1 _ harg2 _ harg3 _ harg4 _ harg5 hc0 hc1 hc2 x0 x1).2.2.1)

/-- What case A leaves in the outputs and the scratch. -/
def caseOuts1_A : Vec F S512x4096 .fp8e5m2 × Vec F S1x1 .f32 × Vec F S8x4096 .f32 :=
  (out1_A_2 c i _ harg1 _ harg2 _ harg3 _ harg4 _ harg5 hc0 hc1 hc2 x0 x1,
    out1_A_3 c i _ harg1 _ harg2 _ harg3 _ harg4 _ harg5 hc0 hc1 hc2 x0 x1,
    sout1_A_0 c i _ harg1 _ harg2 _ harg3 _ harg4 _ harg5 hc0 hc1 hc2 x0 x1)

end caseA

section caseB
variable (hc0 : ¬cond1_0 i) (hc1 : cond1_1 i) (hc2 : ¬cond1_2 i)
    (x0 : Vec F S1 .f32) (x1 : Vec F S512x4096 .f32) (xs0 : Vec F S8x4096 .f32)
include hc0 hc1 hc2 x0 x1 xs0

set_option maxHeartbeats 1000000 in
/-- What the body's stores leave in each output's staging memref, as pieces. -/
noncomputable def kernelRun1_B :
    Σ' (L2 : List (View.Piece (Elt F) S512x4096 .fp8e5m2)), Σ' (L3 : List (View.Piece (Elt F) S1x1 .f32)), { LS0 : List (View.Piece (Elt F) S8x4096 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc1_quantise i _ harg1 _ harg2 _ harg3 _ harg4 _ harg5) K } := by
  refine ⟨?_, [], ?_, fun xi3 E K => ?run⟩
  case run =>
    simp only [cc1_quantise_eq_skeleton]; unfold cc1_quantise_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case B's pieces for output 2 tile its block. -/
theorem cover1_B_2 (y : S512x4096.Idx) :
    ∃ pc ∈ (kernelRun1_B c i _ harg1 _ harg2 _ harg3 _ harg4 _ harg5 hc0 hc1 hc2 x0 x1 xs0).1, y ∈ pc.1.set :=
  View.cover_of_tiledL _ S512x4096.size (by sl_kernel_rfl) y

/-- What case B leaves in output 2's staging buffer. -/
def out1_B_2 : Vec F S512x4096 .fp8e5m2 :=
  VO1_2.read (Elt F) (VO1_2.writes (Elt F) VO1_2.junk (kernelRun1_B c i _ harg1 _ harg2 _ harg3 _ harg4 _ harg5 hc0 hc1 hc2 x0 x1 xs0).1)

/-- Case B stores nothing into output 3. -/
def out1_B_3 : Vec F S1x1 .f32 :=
  VO1_3.read (Elt F) (VO1_3.writes (Elt F) VO1_3.junk (kernelRun1_B c i _ harg1 _ harg2 _ harg3 _ harg4 _ harg5 hc0 hc1 hc2 x0 x1 xs0).2.1)

/-- Case B's pieces for scratch `arg5`, which the kernel carries between points, cover it. -/
theorem scover1_B_0 (y : S8x4096.Idx) :
    ∃ pc ∈ (kernelRun1_B c i _ harg1 _ harg2 _ harg3 _ harg4 _ harg5 hc0 hc1 hc2 x0 x1 xs0).2.2.1, y ∈ pc.1.set :=
  View.cover_of_tiledL _ S8x4096.size (by sl_kernel_rfl) y

/-- What case B leaves in scratch `arg5`. -/
def sout1_B_0 : Vec F S8x4096 .f32 :=
  VS1_0.read (Elt F) (VS1_0.writes (Elt F) VS1_0.junk (kernelRun1_B c i _ harg1 _ harg2 _ harg3 _ harg4 _ harg5 hc0 hc1 hc2 x0 x1 xs0).2.2.1)

/-- What case B leaves in the outputs and the scratch. -/
def caseOuts1_B : Vec F S512x4096 .fp8e5m2 × Vec F S1x1 .f32 × Vec F S8x4096 .f32 :=
  (out1_B_2 c i _ harg1 _ harg2 _ harg3 _ harg4 _ harg5 hc0 hc1 hc2 x0 x1 xs0,
    out1_B_3 c i _ harg1 _ harg2 _ harg3 _ harg4 _ harg5 hc0 hc1 hc2 x0 x1 xs0,
    sout1_B_0 c i _ harg1 _ harg2 _ harg3 _ harg4 _ harg5 hc0 hc1 hc2 x0 x1 xs0)

end caseB

section caseC
variable (hc0 : ¬cond1_0 i) (hc1 : cond1_1 i) (hc2 : cond1_2 i)
    (x0 : Vec F S1 .f32) (x1 : Vec F S512x4096 .f32) (xs0 : Vec F S8x4096 .f32)
include hc0 hc1 hc2 x0 x1 xs0

set_option maxHeartbeats 1000000 in
/-- What the body's stores leave in each output's staging memref, as pieces. -/
noncomputable def kernelRun1_C :
    Σ' (L2 : List (View.Piece (Elt F) S512x4096 .fp8e5m2)), Σ' (L3 : List (View.Piece (Elt F) S1x1 .f32)), { LS0 : List (View.Piece (Elt F) S8x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc1_quantise i _ harg1 _ harg2 _ harg3 _ harg4 _ harg5) K } := by
  refine ⟨?_, ?_, ?_, fun E K => ?run⟩
  case run =>
    simp only [cc1_quantise_eq_skeleton]; unfold cc1_quantise_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iexists _; iexact H3
    iexists _; iexact HS0

/-- Case C's pieces for output 2 tile its block. -/
theorem cover1_C_2 (y : S512x4096.Idx) :
    ∃ pc ∈ (kernelRun1_C c i _ harg1 _ harg2 _ harg3 _ harg4 _ harg5 hc0 hc1 hc2 x0 x1 xs0).1, y ∈ pc.1.set :=
  View.cover_of_tiledL _ S512x4096.size (by sl_kernel_rfl) y

/-- What case C leaves in output 2's staging buffer. -/
def out1_C_2 : Vec F S512x4096 .fp8e5m2 :=
  VO1_2.read (Elt F) (VO1_2.writes (Elt F) VO1_2.junk (kernelRun1_C c i _ harg1 _ harg2 _ harg3 _ harg4 _ harg5 hc0 hc1 hc2 x0 x1 xs0).1)

/-- Case C's pieces for output 3 tile its block. -/
theorem cover1_C_3 (y : S1x1.Idx) :
    ∃ pc ∈ (kernelRun1_C c i _ harg1 _ harg2 _ harg3 _ harg4 _ harg5 hc0 hc1 hc2 x0 x1 xs0).2.1, y ∈ pc.1.set :=
  View.cover_of_tiledL _ S1x1.size (by sl_kernel_rfl) y

/-- What case C leaves in output 3's staging buffer. -/
def out1_C_3 : Vec F S1x1 .f32 :=
  VO1_3.read (Elt F) (VO1_3.writes (Elt F) VO1_3.junk (kernelRun1_C c i _ harg1 _ harg2 _ harg3 _ harg4 _ harg5 hc0 hc1 hc2 x0 x1 xs0).2.1)

/-- Case C's pieces for scratch `arg5`, which the kernel carries between points, cover it. -/
theorem scover1_C_0 (y : S8x4096.Idx) :
    ∃ pc ∈ (kernelRun1_C c i _ harg1 _ harg2 _ harg3 _ harg4 _ harg5 hc0 hc1 hc2 x0 x1 xs0).2.2.1, y ∈ pc.1.set :=
  View.cover_of_tiledL _ S8x4096.size (by sl_kernel_rfl) y

/-- What case C leaves in scratch `arg5`. -/
def sout1_C_0 : Vec F S8x4096 .f32 :=
  VS1_0.read (Elt F) (VS1_0.writes (Elt F) VS1_0.junk (kernelRun1_C c i _ harg1 _ harg2 _ harg3 _ harg4 _ harg5 hc0 hc1 hc2 x0 x1 xs0).2.2.1)

/-- What case C leaves in the outputs and the scratch. -/
def caseOuts1_C : Vec F S512x4096 .fp8e5m2 × Vec F S1x1 .f32 × Vec F S8x4096 .f32 :=
  (out1_C_2 c i _ harg1 _ harg2 _ harg3 _ harg4 _ harg5 hc0 hc1 hc2 x0 x1 xs0,
    out1_C_3 c i _ harg1 _ harg2 _ harg3 _ harg4 _ harg5 hc0 hc1 hc2 x0 x1 xs0,
    sout1_C_0 c i _ harg1 _ harg2 _ harg3 _ harg4 _ harg5 hc0 hc1 hc2 x0 x1 xs0)

end caseC

end runs

/-! ## What the outputs hold after each point -/

/-- What a point of case A leaves. -/
def pointOuts1_A (c : Dev nD) (t : Fin cfg1.N) (h0 : t.val % 16 = 0) (h1 : ¬1 ≤ t.val) (h2 : ¬t.val % 16 = 15) :
    Vec F S512x4096 .fp8e5m2 × Vec F S1x1 .f32 × Vec F S8x4096 .f32 :=
  caseOuts1_A c (grid1.coords t) (ms1_0 t) (hs1_0 t) (ms1_1 t) (hs1_1 t) (ms1_2 t) (hs1_2 t) (ms1_3 t) (hs1_3 t) scM1_0 (Memref.isWhole_whole _) ((hcond1_0 t).mpr h0) (mt (hcond1_1 t).mp h1) (mt (hcond1_2 t).mp h2) (iblk1 V c 0 t) (iblk1 V c 1 t)

/-- What a point of case B leaves, from what the scratch held before it. -/
def pointOuts1_B (c : Dev nD) (t : Fin cfg1.N) (h0 : ¬t.val % 16 = 0) (h1 : 1 ≤ t.val) (h2 : ¬t.val % 16 = 15) (xs0 : Vec F S8x4096 .f32) :
    Vec F S512x4096 .fp8e5m2 × Vec F S1x1 .f32 × Vec F S8x4096 .f32 :=
  caseOuts1_B c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) (mt (hcond1_2 t).mp h2) (iblk1 V c 0 t) (iblk1 V c 1 t) xs0

/-- What a point of case C leaves, from what the scratch held before it. -/
def pointOuts1_C (c : Dev nD) (t : Fin cfg1.N) (h0 : ¬t.val % 16 = 0) (h1 : 1 ≤ t.val) (h2 : t.val % 16 = 15) (xs0 : Vec F S8x4096 .f32) :
    Vec F S512x4096 .fp8e5m2 × Vec F S1x1 .f32 × Vec F S8x4096 .f32 :=
  caseOuts1_C c (grid1.coords t) (ms1_0 t) (hs1_0 t) (ms1_1 t) (hs1_1 t) (ms1_2 t) (hs1_2 t) (ms1_3 t) (hs1_3 t) scM1_0 (Memref.isWhole_whole _) (mt (hcond1_0 t).mp h0) ((hcond1_1 t).mpr h1) ((hcond1_2 t).mpr h2) (iblk1 V c 0 t) (iblk1 V c 1 t) xs0

/-- What the outputs and the scratch hold after each point. -/
def outsAt1 (c : Dev nD) : (n : ℕ) → n < cfg1.N → Vec F S512x4096 .fp8e5m2 × Vec F S1x1 .f32 × Vec F S8x4096 .f32
  | 0, hn => pointOuts1_A V c ⟨0, hn⟩ (Nat.zero_mod _) (fun h => by (try dsimp only at h); omega) (fun h => by (try dsimp only at h); omega)
  | n + 1, hn =>
    if h0 : (n + 1) % 16 = 0 then
      if h1 : 1 ≤ (n + 1) then
        False.elim (by have hN : n + 1 < 16 := lt_of_lt_of_eq hn (show cfg1.N = 16 from N_1); omega)
      else
        if h2 : (n + 1) % 16 = 15 then
          False.elim (by have hN : n + 1 < 16 := lt_of_lt_of_eq hn (show cfg1.N = 16 from N_1); omega)
        else
          pointOuts1_A V c ⟨n + 1, hn⟩ h0 h1 h2
    else
      if h1 : 1 ≤ (n + 1) then
        if h2 : (n + 1) % 16 = 15 then
          pointOuts1_C V c ⟨n + 1, hn⟩ h0 h1 h2 (outsAt1 c n (Nat.lt_of_succ_lt hn)).2.2
        else
          pointOuts1_B V c ⟨n + 1, hn⟩ h0 h1 h2 (outsAt1 c n (Nat.lt_of_succ_lt hn)).2.2
      else
        False.elim (by have hN : n + 1 < 16 := lt_of_lt_of_eq hn (show cfg1.N = 16 from N_1); omega)

/-- `outsAt1` at a point of case A. -/
theorem outsAt1_A (c : Dev nD) (t : Fin cfg1.N) (h0 : t.val % 16 = 0) (h1 : ¬1 ≤ t.val) (h2 : ¬t.val % 16 = 15) :
    outsAt1 V c t.val t.isLt = pointOuts1_A V c t h0 h1 h2 := by
  obtain ⟨n, hn⟩ := t
  cases n with
  | zero => exact rfl
  | succ n => exact (dif_pos h0).trans ((dif_neg h1).trans ((dif_neg h2).trans rfl))

/-- `outsAt1` at a point of case B. -/
theorem outsAt1_B (c : Dev nD) (t : Fin cfg1.N) (h0 : ¬t.val % 16 = 0) (h1 : 1 ≤ t.val) (h2 : ¬t.val % 16 = 15) :
    outsAt1 V c t.val t.isLt = pointOuts1_B V c t h0 h1 h2 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt1` at a point of case C. -/
theorem outsAt1_C (c : Dev nD) (t : Fin cfg1.N) (h0 : ¬t.val % 16 = 0) (h1 : 1 ≤ t.val) (h2 : t.val % 16 = 15) :
    outsAt1 V c t.val t.isLt = pointOuts1_C V c t h0 h1 h2 (outsAt1 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2)) ∗ Rest1 c)

theorem PhiS1_zero (c : Dev nD) (n : ℕ) (h : n ≤ cfg1.N) (hz : n = 0) : PhiS1 V c n h = Pipeline.ΦA spec1 c := by
  subst hz; rfl

/-- After point `n`. -/
theorem PhiS1_succ (c : Dev nD) (n : ℕ) (hn : n < cfg1.N) :
    PhiS1 V c (n + 1) hn = iprop(iprop(owns (c : Thread nD τ) scM1_0 fullShare ((outsAt1 V c n hn).2.2)) ∗ Rest1 c) := rfl

/-- Before a point that is not the first. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2)) ∗ Rest1 c) := by
  cases n with
  | zero => exact absurd rfl hz
  | succ n => rfl

/-! ## The pipeline's proof data -/

/-- The proof data of the one pipeline on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current staging buffer holds its block at every point, fetched there or not. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- What the body must leave in window 0, at any point; so for the windows below. -/
theorem leaves1_0 (c : Dev nD) (t : Fin cfg1.N) :
    (dat1 V c).leavesExact 0 t = owns (c : Thread nD τ) (ms1_0 t) fullShare (iblk1 V c 0 t) := by
  unfold Dat.leavesExact; rw [liveAt1_0 t, after1_0]

theorem leaves1_1 (c : Dev nD) (t : Fin cfg1.N) :
    (dat1 V c).leavesExact 1 t = owns (c : Thread nD τ) (ms1_1 t) fullShare (iblk1 V c 1 t) := by
  unfold Dat.leavesExact; rw [liveAt1_1 t, after1_1]

theorem leaves1_2 (c : Dev nD) (t : Fin cfg1.N) :
    (dat1 V c).leavesExact 2 t = owns (c : Thread nD τ) (ms1_2 t) fullShare ((outsAt1 V c t.val t.isLt).1) := by
  unfold Dat.leavesExact; rw [liveAt1_2 t, after1_2]

/-! ## The body obligation, at a generic point -/

/-- What the body is called with at point `t`. -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 16 := lt_of_lt_of_eq t.isLt (show cfg1.N = 16 from N_1)
  by_cases h0 : t.val % 16 = 0
  · by_cases h1 : 1 ≤ t.val
    · exfalso; omega
    · by_cases h2 : t.val % 16 = 15
      · exfalso; omega
      · rw [leaves1_0, leaves1_1, leaves1_2]
        rw [Dat.leavesExact_idle (dat1 V c) 3 t (idleAt1_3_A t ((hcond1_0 t).mpr h0) (mt (hcond1_1 t).mp h1) (mt (hcond1_2 t).mp h2)) (noFlush1_3_A t ((hcond1_0 t).mpr h0) (mt (hcond1_1 t).mp h1) (mt (hcond1_2 t).mp h2))]
        by_cases hz : t.val = 0
        · rw [PhiS1_castSucc V c t, PhiS1_zero V c _ _ hz, PhiA1_eq]
          rw [outsAt1_A V c t h0 h1 h2]
          unfold pointOuts1_A caseOuts1_A out1_A_2 sout1_A_0; (try dsimp only)
          iintro ⟨⟨HS0, Hg⟩, Ho, ⟨%d0, H0⟩, ⟨%d1, H1⟩, ⟨%d2, H2⟩, ⟨%d3, H3⟩⟩
          iapply ((kernelRun1_A c (grid1.coords t) _ _ _ _ _ _ _ _ _ _ ((hcond1_0 t).mpr h0) (mt (hcond1_1 t).mp h1) (mt (hcond1_2 t).mp h2) (iblk1 V c 0 t) (iblk1 V c 1 t)).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover1_A_0 ..)) $$ HS0
            iexact Hg
          isplitl [Ho]; · iexact Ho
          isplitl [H0]; · iexact H0
          isplitl [H1]; · iexact H1
          isplitl [H2]; · iapply (owns_writes (fun _ => cover1_A_2 ..)) $$ H2
          iexists _; iexact H3
        · exfalso; omega
  · by_cases h1 : 1 ≤ t.val
    · by_cases h2 : t.val % 16 = 15
      · rw [leaves1_0, leaves1_1, leaves1_2]
        rw [show (dat1 V c).leavesExact 3 t = owns (c : Thread nD τ) (ms1_3 t) fullShare ((dat1 V c).after 3 t) from by
      unfold Dat.leavesExact; rw [liveAt1_3_C t (mt (hcond1_0 t).mp h0) ((hcond1_1 t).mpr h1) ((hcond1_2 t).mpr h2)], after1_3]
        by_cases hz : t.val = 0
        · exfalso; omega
        · rw [PhiS1_castSucc V c t, PhiS1_pos V c _ _ hz]
          rw [outsAt1_C V c t h0 h1 h2]
          unfold pointOuts1_C caseOuts1_C out1_C_2 out1_C_3 sout1_C_0; (try dsimp only)
          iintro ⟨⟨HS0, Hg⟩, Ho, ⟨%d0, H0⟩, ⟨%d1, H1⟩, ⟨%d2, H2⟩, ⟨%d3, H3⟩⟩
          iapply ((kernelRun1_C c (grid1.coords t) _ _ _ _ _ _ _ _ _ _ (mt (hcond1_0 t).mp h0) ((hcond1_1 t).mpr h1) ((hcond1_2 t).mpr h2) (iblk1 V c 0 t) (iblk1 V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 Hg]
          · isplitl [HS0]; · iapply (owns_writes (fun _ => scover1_C_0 ..)) $$ HS0
            iexact Hg
          isplitl [Ho]; · iexact Ho
          isplitl [H0]; · iexact H0
          isplitl [H1]; · iexact H1
          isplitl [H2]; · iapply (owns_writes (fun _ => cover1_C_2 ..)) $$ H2
          iapply (owns_writes (fun _ => cover1_C_3 ..)) $$ H3
      · rw [leaves1_0, leaves1_1, leaves1_2]
        rw [Dat.leavesExact_idle (dat1 V c) 3 t (idleAt1_3_B t (mt (hcond1_0 t).mp h0) ((hcond1_1 t).mpr h1) (mt (hcond1_2 t).mp h2)) (noFlush1_3_B t (mt (hcond1_0 t).mp h0) ((hcond1_1 t).mpr h1) (mt (hcond1_2 t).mp h2))]
        by_cases hz : t.val = 0
        · exfalso; omega
        · rw [PhiS1_castSucc V c t, PhiS1_pos V c _ _ hz]
          rw [outsAt1_B V c t h0 h1 h2]
          unfold pointOuts1_B caseOuts1_B out1_B_2 sout1_B_0; (try dsimp only)
          iintro ⟨⟨HS0, Hg⟩, Ho, ⟨%d0, H0⟩, ⟨%d1, H1⟩, ⟨%d2, H2⟩, ⟨%d3, H3⟩⟩
          iapply ((kernelRun1_B c (grid1.coords t) _ _ _ _ _ _ _ _ _ _ (mt (hcond1_0 t).mp h0) ((hcond1_1 t).mpr h1) (mt (hcond1_2 t).mp h2) (iblk1 V c 0 t) (iblk1 V c 1 t) _).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover1_B_0 ..)) $$ HS0
            iexact Hg
          isplitl [Ho]; · iexact Ho
          isplitl [H0]; · iexact H0
          isplitl [H1]; · iexact H1
          isplitl [H2]; · iapply (owns_writes (fun _ => cover1_B_2 ..)) $$ H2
          iexists _; iexact H3
    · exfalso; omega

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ Pipeline.ΦA spec1 c :=
  Phi_out1 V c _ (by rw [Fin.val_last]; have : cfg1.N = 16 := N_1; omega)

end Cert.Kernel.Gen

end
-- ==== Proof.QuantX.lean ====
/-
  Region 0 of the kernel program (quantising x): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The condition of the body's `scf.if` 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val % 16 = 0 :=
  (fun t => by
    have ht : t.val < 16 := Nat.lt_of_lt_of_eq t.isLt N_0
    have e0 : (grid0.coords t 0).val = t.val / 1 % 16 := Pipeline.Grid.coords_val t 0 (by decide) rfl
    simp only [cond0_0, e0]
    word_cmp
   : ∀ t : Fin grid0.N, cond0_0 (grid0.coords t) ↔ t.val % 16 = 0)

/-- The condition of the body's `scf.if` 1. -/
abbrev cond0_1 (i : grid0.Coords) : Prop := (Scalar.cmpi .ne (Scalar.extui (Scalar.cmpi .sgt (BitVec.ofNat 32 (i 0).val) 0#32)) 0#32) = 1#1
/-- It holds at the points from point 1 on. -/
theorem hcond0_1 : ∀ t : Fin cfg0.N, cond0_1 (grid0.coords t) ↔ 1 ≤ t.val :=
  (by decide +kernel : ∀ t : Fin grid0.N, cond0_1 (grid0.coords t) ↔ 1 ≤ t.val)

/-- The condition of the body's `scf.if` 2. -/
abbrev cond0_2 (i : grid0.Coords) : Prop := k0_cond3 i = 1#1
/-- It holds at the last point only. -/
theorem hcond0_2 : ∀ t : Fin cfg0.N, cond0_2 (grid0.coords t) ↔ t.val % 16 = 15 :=
  (fun t => by
    have ht : t.val < 16 := Nat.lt_of_lt_of_eq t.isLt N_0
    have e0 : (grid0.coords t 0).val = t.val / 1 % 16 := Pipeline.Grid.coords_val t 0 (by decide) rfl
    simp only [cond0_2, k0_cond3, e0]
    word_cmp
   : ∀ t : Fin grid0.N, cond0_2 (grid0.coords t) ↔ t.val % 16 = 15)

/-! ## Where the windows are idle (the printed configuration's table `Cfg.idle`) -/

/-- Window 0 is never idle. -/
theorem liveAt0_0 : ∀ t : Fin cfg0.N, cfg0.idle 0 (grid0.coords t) = false := fun _ => rfl
/-- Window 1 is never idle. -/
theorem liveAt0_1 : ∀ t : Fin cfg0.N, cfg0.idle 1 (grid0.coords t) = false := fun _ => rfl
/-- Window 2 is never idle. -/
theorem liveAt0_2 : ∀ t : Fin cfg0.N, cfg0.idle 2 (grid0.coords t) = false := fun _ => rfl
/-- At the points of case A the printed configuration. -/
theorem idleAt0_3_A : ∀ t : Fin cfg0.N, cond0_0 (grid0.coords t) → ¬cond0_1 (grid0.coords t) → ¬cond0_2 (grid0.coords t) → cfg0.idle 3 (grid0.coords t) = true := by decide +kernel
/-- At the points of case A the pipeline does not write output 3's block back. -/
theorem noFlush0_3_A : ∀ t : Fin cfg0.N, cond0_0 (grid0.coords t) → ¬cond0_1 (grid0.coords t) → ¬cond0_2 (grid0.coords t) → (cfg0.win 3).flush t = false := by decide +kernel
/-- At the points of case B the printed configuration. -/
theorem idleAt0_3_B : ∀ t : Fin cfg0.N, ¬cond0_0 (grid0.coords t) → cond0_1 (grid0.coords t) → ¬cond0_2 (grid0.coords t) → cfg0.idle 3 (grid0.coords t) = true := by decide +kernel
/-- At the points of case B the pipeline does not write output 3's block back. -/
theorem noFlush0_3_B : ∀ t : Fin cfg0.N, ¬cond0_0 (grid0.coords t) → cond0_1 (grid0.coords t) → ¬cond0_2 (grid0.coords t) → (cfg0.win 3).flush t = false := by decide +kernel
/-- At the points of case C the printed configuration. -/
theorem liveAt0_3_C : ∀ t : Fin cfg0.N, ¬cond0_0 (grid0.coords t) → cond0_1 (grid0.coords t) → cond0_2 (grid0.coords t) → cfg0.idle 3 (grid0.coords t) = false := by decide +kernel

/-! ## The kernel body on any staging memrefs: a subtype the run finds -/

/-- One staging buffer of output window 2, through which its contents are stated. -/
abbrev VO0_2 : View sig .tc .vmem S512x4096 .fp8e4m3 := (Memref.whole cc0_stg2_0 : Memref sig .tc .vmem S512x4096 .fp8e4m3).view
/-- One staging buffer of output window 3, through which its contents are stated. -/
abbrev VO0_3 : View sig .tc .smem S1x1 .f32 := (Memref.whole cc0_stg3_0 : Memref sig .tc .smem S1x1 .f32).view
/-- Each window's current staging memref at point `t`, spelled as the pipeline passes it. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x4096 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .smem S1x1 .f32 := win0_3.stage (cfg0.slots t 3)
abbrev hs0_3 (t : Fin cfg0.N) : (ms0_3 t).IsWhole := hstage0_3 ((cfg0.slots t 3).cast nbuf0_3)
/-- The scratch operands. -/
abbrev scM0_0 : Memref sig .tc .vmem S8x4096 .f32 := Memref.whole cc0_scratch0
/-- The scratch `arg5` the kernel carries between points, as a view. -/
abbrev VS0_0 : View sig .tc .vmem S8x4096 .f32 := scM0_0.view

/-- The scoped buffers that are neither staging nor scratch of this call, and the generator register. -/
abbrev Rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

/-- The frame kit's invariant with the scratch operands as memrefs owned at some contents. -/
theorem PhiA0_eq (c : Dev nD) :
    (Pipeline.ΦA spec0 c : sProp 𝕄)
      = iprop(iprop((∃ d, owns (c : Thread nD τ) scM0_0 fullShare d)) ∗ Rest0 c) := by
  unfold Pipeline.ΦA Rest0; rw [scopedRest0_split]; simp only [scM0_0, owns_whole]; exact BI.equiv_iff.mp ⟨BI.sep_assoc, BI.sep_assoc'⟩

section runs
variable (c : Dev nD) (i : grid0.Coords) (arg1 : Memref sig .tc .smem S1 .f32) (harg1 : arg1.IsWhole) (arg2 : Memref sig .tc .vmem S512x4096 .f32) (harg2 : arg2.IsWhole) (arg3 : Memref sig .tc .vmem S512x4096 .fp8e4m3) (harg3 : arg3.IsWhole) (arg4 : Memref sig .tc .smem S1x1 .f32) (harg4 : arg4.IsWhole) (arg5 : Memref sig .tc .vmem S8x4096 .f32) (harg5 : arg5.IsWhole)
include c i arg1 harg1 arg2 harg2 arg3 harg3 arg4 harg4 arg5 harg5

section caseA
variable (hc0 : cond0_0 i) (hc1 : ¬cond0_1 i) (hc2 : ¬cond0_2 i)
    (x0 : Vec F S1 .f32) (x1 : Vec F S512x4096 .f32)
include hc0 hc1 hc2 x0 x1

set_option maxHeartbeats 1000000 in
/-- What the body's stores leave in each output's staging memref, as pieces. -/
noncomputable def kernelRun0_A :
    Σ' (L2 : List (View.Piece (Elt F) S512x4096 .fp8e4m3)), Σ' (L3 : List (View.Piece (Elt F) S1x1 .f32)), { LS0 : List (View.Piece (Elt F) S8x4096 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ (∃ d, owns (c : Thread nD τ) arg5 fullShare d)
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_quantise i _ harg1 _ harg2 _ harg3 _ harg4 _ harg5) K } := by
  refine ⟨?_, [], ?_, fun xi3 E K => ?run⟩
  case run =>
    simp only [cc0_quantise_eq_skeleton]; unfold cc0_quantise_skel
    unfold owns
    iintro ⟨⟨%f0, %hf0, H0⟩, ⟨%f1, %hf1, H1⟩, ⟨%d2, %f2, -, H2⟩, ⟨%f3, %hf3, H3⟩, ⟨%ds0, %fs0, -, HS0⟩, Hk⟩
    obtain rfl := harg1.eq_unread hf0; obtain rfl := harg2.eq_unread hf1; obtain rfl := harg4.eq_unread hf3
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case A's pieces for output 2 tile its block. -/
theorem cover0_A_2 (y : S512x4096.Idx) :
    ∃ pc ∈ (kernelRun0_A c i _ harg1 _ harg2 _ harg3 _ harg4 _ harg5 hc0 hc1 hc2 x0 x1).1, y ∈ pc.1.set :=
  View.cover_of_tiledL _ S512x4096.size (by sl_kernel_rfl) y

/-- What case A leaves in output 2's staging buffer. -/
def out0_A_2 : Vec F S512x4096 .fp8e4m3 :=
  VO0_2.read (Elt F) (VO0_2.writes (Elt F) VO0_2.junk (kernelRun0_A c i _ harg1 _ harg2 _ harg3 _ harg4 _ harg5 hc0 hc1 hc2 x0 x1).1)

/-- Case A stores nothing into output 3. -/
def out0_A_3 : Vec F S1x1 .f32 :=
  VO0_3.read (Elt F) (VO0_3.writes (Elt F) VO0_3.junk (kernelRun0_A c i _ harg1 _ harg2 _ harg3 _ harg4 _ harg5 hc0 hc1 hc2 x0 x1).2.1)

/-- Case A's pieces for scratch `arg5`, which the kernel carries between points, cover it. -/
theorem scover0_A_0 (y : S8x4096.Idx) :
    ∃ pc ∈ (kernelRun0_A c i _ harg1 _ harg2 _ harg3 _ harg4 _ harg5 hc0 hc1 hc2 x0 x1).2.2.1, y ∈ pc.1.set :=
  View.cover_of_tiledL _ S8x4096.size (by sl_kernel_rfl) y

/-- What case A leaves in scratch `arg5`. -/
def sout0_A_0 : Vec F S8x4096 .f32 :=
  VS0_0.read (Elt F) (VS0_0.writes (Elt F) VS0_0.junk (kernelRun0_A c i _ harg1 _ harg2 _ harg3 _ harg4 _ harg5 hc0 hc1 hc2 x0 x1).2.2.1)

/-- What case A leaves in the outputs and the scratch. -/
def caseOuts0_A : Vec F S512x4096 .fp8e4m3 × Vec F S1x1 .f32 × Vec F S8x4096 .f32 :=
  (out0_A_2 c i _ harg1 _ harg2 _ harg3 _ harg4 _ harg5 hc0 hc1 hc2 x0 x1,
    out0_A_3 c i _ harg1 _ harg2 _ harg3 _ harg4 _ harg5 hc0 hc1 hc2 x0 x1,
    sout0_A_0 c i _ harg1 _ harg2 _ harg3 _ harg4 _ harg5 hc0 hc1 hc2 x0 x1)

end caseA

section caseB
variable (hc0 : ¬cond0_0 i) (hc1 : cond0_1 i) (hc2 : ¬cond0_2 i)
    (x0 : Vec F S1 .f32) (x1 : Vec F S512x4096 .f32) (xs0 : Vec F S8x4096 .f32)
include hc0 hc1 hc2 x0 x1 xs0

set_option maxHeartbeats 1000000 in
/-- What the body's stores leave in each output's staging memref, as pieces. -/
noncomputable def kernelRun0_B :
    Σ' (L2 : List (View.Piece (Elt F) S512x4096 .fp8e4m3)), Σ' (L3 : List (View.Piece (Elt F) S1x1 .f32)), { LS0 : List (View.Piece (Elt F) S8x4096 .f32) //
      ∀ (xi3 : Vec F S1x1 .f32) (E : Set ℕ) (K : PUnit → sProp 𝕄),
        iprop(owns (c : Thread nD τ) arg1 fullShare x0 ∗ owns (c : Thread nD τ) arg2 fullShare x1 ∗ (∃ d, owns (c : Thread nD τ) arg3 fullShare d) ∗ owns (c : Thread nD τ) arg4 fullShare xi3 ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ owns (c : Thread nD τ) arg4 fullShare xi3 ∗ (∃ f, arg5.view.loc (c : Thread nD τ) ↦[arg5.view.set]{fullShare} arg5.view.writes (Elt F) f LS0)) -∗ K ⟨⟩))
          ⊢ wp frame (wpE (defs₀ (F := F)) Variants.none c none) E (cc0_quantise i _ harg1 _ harg2 _ harg3 _ harg4 _ harg5) K } := by
  refine ⟨?_, [], ?_, fun xi3 E K => ?run⟩
  case run =>
    simp only [cc0_quantise_eq_skeleton]; unfold cc0_quantise_skel
    unfold owns
    iintro ⟨⟨%f0, %hf0, H0⟩, ⟨%f1, %hf1, H1⟩, ⟨%d2, %f2, -, H2⟩, ⟨%f3, %hf3, H3⟩, ⟨%fs0, %hfs0, HS0⟩, Hk⟩
    obtain rfl := harg1.eq_unread hf0; obtain rfl := harg2.eq_unread hf1; obtain rfl := harg4.eq_unread hf3; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iapply (owns_unread harg4 _) $$ H3
    iexists _; iexact HS0

/-- Case B's pieces for output 2 tile its block. -/
theorem cover0_B_2 (y : S512x4096.Idx) :
    ∃ pc ∈ (kernelRun0_B c i _ harg1 _ harg2 _ harg3 _ harg4 _ harg5 hc0 hc1 hc2 x0 x1 xs0).1, y ∈ pc.1.set :=
  View.cover_of_tiledL _ S512x4096.size (by sl_kernel_rfl) y

/-- What case B leaves in output 2's staging buffer. -/
def out0_B_2 : Vec F S512x4096 .fp8e4m3 :=
  VO0_2.read (Elt F) (VO0_2.writes (Elt F) VO0_2.junk (kernelRun0_B c i _ harg1 _ harg2 _ harg3 _ harg4 _ harg5 hc0 hc1 hc2 x0 x1 xs0).1)

/-- Case B stores nothing into output 3. -/
def out0_B_3 : Vec F S1x1 .f32 :=
  VO0_3.read (Elt F) (VO0_3.writes (Elt F) VO0_3.junk (kernelRun0_B c i _ harg1 _ harg2 _ harg3 _ harg4 _ harg5 hc0 hc1 hc2 x0 x1 xs0).2.1)

/-- Case B's pieces for scratch `arg5`, which the kernel carries between points, cover it. -/
theorem scover0_B_0 (y : S8x4096.Idx) :
    ∃ pc ∈ (kernelRun0_B c i _ harg1 _ harg2 _ harg3 _ harg4 _ harg5 hc0 hc1 hc2 x0 x1 xs0).2.2.1, y ∈ pc.1.set :=
  View.cover_of_tiledL _ S8x4096.size (by sl_kernel_rfl) y

/-- What case B leaves in scratch `arg5`. -/
def sout0_B_0 : Vec F S8x4096 .f32 :=
  VS0_0.read (Elt F) (VS0_0.writes (Elt F) VS0_0.junk (kernelRun0_B c i _ harg1 _ harg2 _ harg3 _ harg4 _ harg5 hc0 hc1 hc2 x0 x1 xs0).2.2.1)

/-- What case B leaves in the outputs and the scratch. -/
def caseOuts0_B : Vec F S512x4096 .fp8e4m3 × Vec F S1x1 .f32 × Vec F S8x4096 .f32 :=
  (out0_B_2 c i _ harg1 _ harg2 _ harg3 _ harg4 _ harg5 hc0 hc1 hc2 x0 x1 xs0,
    out0_B_3 c i _ harg1 _ harg2 _ harg3 _ harg4 _ harg5 hc0 hc1 hc2 x0 x1 xs0,
    sout0_B_0 c i _ harg1 _ harg2 _ harg3 _ harg4 _ harg5 hc0 hc1 hc2 x0 x1 xs0)

end caseB

section caseC
variable (hc0 : ¬cond0_0 i) (hc1 : cond0_1 i) (hc2 : cond0_2 i)
    (x0 : Vec F S1 .f32) (x1 : Vec F S512x4096 .f32) (xs0 : Vec F S8x4096 .f32)
include hc0 hc1 hc2 x0 x1 xs0

set_option maxHeartbeats 1000000 in
/-- What the body's stores leave in each output's staging memref, as pieces. -/
noncomputable def kernelRun0_C :
    Σ' (L2 : List (View.Piece (Elt F) S512x4096 .fp8e4m3)), Σ' (L3 : List (View.Piece (Elt F) S1x1 .f32)), { LS0 : List (View.Piece (Elt F) S8x4096 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_quantise i _ harg1 _ harg2 _ harg3 _ harg4 _ harg5) K } := by
  refine ⟨?_, ?_, ?_, fun E K => ?run⟩
  case run =>
    simp only [cc0_quantise_eq_skeleton]; unfold cc0_quantise_skel
    unfold owns
    iintro ⟨⟨%f0, %hf0, H0⟩, ⟨%f1, %hf1, H1⟩, ⟨%d2, %f2, -, H2⟩, ⟨%d3, %f3, -, H3⟩, ⟨%fs0, %hfs0, HS0⟩, Hk⟩
    obtain rfl := harg1.eq_unread hf0; obtain rfl := harg2.eq_unread hf1; obtain rfl := harg5.eq_unread hfs0
    sl_exec (disch := first | sl_exact hc0 | sl_exact hc1 | sl_exact hc2)
    sl_step
    iapply Hk
    isplitl [H0]; · iapply (owns_unread harg1 _) $$ H0
    isplitl [H1]; · iapply (owns_unread harg2 _) $$ H1
    isplitl [H2]; · iexists _; iexact H2
    isplitl [H3]; · iexists _; iexact H3
    iexists _; iexact HS0

/-- Case C's pieces for output 2 tile its block. -/
theorem cover0_C_2 (y : S512x4096.Idx) :
    ∃ pc ∈ (kernelRun0_C c i _ harg1 _ harg2 _ harg3 _ harg4 _ harg5 hc0 hc1 hc2 x0 x1 xs0).1, y ∈ pc.1.set :=
  View.cover_of_tiledL _ S512x4096.size (by sl_kernel_rfl) y

/-- What case C leaves in output 2's staging buffer. -/
def out0_C_2 : Vec F S512x4096 .fp8e4m3 :=
  VO0_2.read (Elt F) (VO0_2.writes (Elt F) VO0_2.junk (kernelRun0_C c i _ harg1 _ harg2 _ harg3 _ harg4 _ harg5 hc0 hc1 hc2 x0 x1 xs0).1)

/-- Case C's pieces for output 3 tile its block. -/
theorem cover0_C_3 (y : S1x1.Idx) :
    ∃ pc ∈ (kernelRun0_C c i _ harg1 _ harg2 _ harg3 _ harg4 _ harg5 hc0 hc1 hc2 x0 x1 xs0).2.1, y ∈ pc.1.set :=
  View.cover_of_tiledL _ S1x1.size (by sl_kernel_rfl) y

/-- What case C leaves in output 3's staging buffer. -/
def out0_C_3 : Vec F S1x1 .f32 :=
  VO0_3.read (Elt F) (VO0_3.writes (Elt F) VO0_3.junk (kernelRun0_C c i _ harg1 _ harg2 _ harg3 _ harg4 _ harg5 hc0 hc1 hc2 x0 x1 xs0).2.1)

/-- Case C's pieces for scratch `arg5`, which the kernel carries between points, cover it. -/
theorem scover0_C_0 (y : S8x4096.Idx) :
    ∃ pc ∈ (kernelRun0_C c i _ harg1 _ harg2 _ harg3 _ harg4 _ harg5 hc0 hc1 hc2 x0 x1 xs0).2.2.1, y ∈ pc.1.set :=
  View.cover_of_tiledL _ S8x4096.size (by sl_kernel_rfl) y

/-- What case C leaves in scratch `arg5`. -/
def sout0_C_0 : Vec F S8x4096 .f32 :=
  VS0_0.read (Elt F) (VS0_0.writes (Elt F) VS0_0.junk (kernelRun0_C c i _ harg1 _ harg2 _ harg3 _ harg4 _ harg5 hc0 hc1 hc2 x0 x1 xs0).2.2.1)

/-- What case C leaves in the outputs and the scratch. -/
def caseOuts0_C : Vec F S512x4096 .fp8e4m3 × Vec F S1x1 .f32 × Vec F S8x4096 .f32 :=
  (out0_C_2 c i _ harg1 _ harg2 _ harg3 _ harg4 _ harg5 hc0 hc1 hc2 x0 x1 xs0,
    out0_C_3 c i _ harg1 _ harg2 _ harg3 _ harg4 _ harg5 hc0 hc1 hc2 x0 x1 xs0,
    sout0_C_0 c i _ harg1 _ harg2 _ harg3 _ harg4 _ harg5 hc0 hc1 hc2 x0 x1 xs0)

end caseC

end runs

/-! ## What the outputs hold after each point -/

/-- What a point of case A leaves. -/
def pointOuts0_A (c : Dev nD) (t : Fin cfg0.N) (h0 : t.val % 16 = 0) (h1 : ¬1 ≤ t.val) (h2 : ¬t.val % 16 = 15) :
    Vec F S512x4096 .fp8e4m3 × Vec F S1x1 .f32 × Vec F S8x4096 .f32 :=
  caseOuts0_A c (grid0.coords t) (ms0_0 t) (hs0_0 t) (ms0_1 t) (hs0_1 t) (ms0_2 t) (hs0_2 t) (ms0_3 t) (hs0_3 t) scM0_0 (Memref.isWhole_whole _) ((hcond0_0 t).mpr h0) (mt (hcond0_1 t).mp h1) (mt (hcond0_2 t).mp h2) (iblk0 V c 0 t) (iblk0 V c 1 t)

/-- What a point of case B leaves, from what the scratch held before it. -/
def pointOuts0_B (c : Dev nD) (t : Fin cfg0.N) (h0 : ¬t.val % 16 = 0) (h1 : 1 ≤ t.val) (h2 : ¬t.val % 16 = 15) (xs0 : Vec F S8x4096 .f32) :
    Vec F S512x4096 .fp8e4m3 × Vec F S1x1 .f32 × Vec F S8x4096 .f32 :=
  caseOuts0_B c (grid0.coords t) (ms0_0 t) (hs0_0 t) (ms0_1 t) (hs0_1 t) (ms0_2 t) (hs0_2 t) (ms0_3 t) (hs0_3 t) scM0_0 (Memref.isWhole_whole _) (mt (hcond0_0 t).mp h0) ((hcond0_1 t).mpr h1) (mt (hcond0_2 t).mp h2) (iblk0 V c 0 t) (iblk0 V c 1 t) xs0

/-- What a point of case C leaves, from what the scratch held before it. -/
def pointOuts0_C (c : Dev nD) (t : Fin cfg0.N) (h0 : ¬t.val % 16 = 0) (h1 : 1 ≤ t.val) (h2 : t.val % 16 = 15) (xs0 : Vec F S8x4096 .f32) :
    Vec F S512x4096 .fp8e4m3 × Vec F S1x1 .f32 × Vec F S8x4096 .f32 :=
  caseOuts0_C c (grid0.coords t) (ms0_0 t) (hs0_0 t) (ms0_1 t) (hs0_1 t) (ms0_2 t) (hs0_2 t) (ms0_3 t) (hs0_3 t) scM0_0 (Memref.isWhole_whole _) (mt (hcond0_0 t).mp h0) ((hcond0_1 t).mpr h1) ((hcond0_2 t).mpr h2) (iblk0 V c 0 t) (iblk0 V c 1 t) xs0

/-- What the outputs and the scratch hold after each point. -/
def outsAt0 (c : Dev nD) : (n : ℕ) → n < cfg0.N → Vec F S512x4096 .fp8e4m3 × Vec F S1x1 .f32 × Vec F S8x4096 .f32
  | 0, hn => pointOuts0_A V c ⟨0, hn⟩ (Nat.zero_mod _) (fun h => by (try dsimp only at h); omega) (fun h => by (try dsimp only at h); omega)
  | n + 1, hn =>
    if h0 : (n + 1) % 16 = 0 then
      if h1 : 1 ≤ (n + 1) then
        False.elim (by have hN : n + 1 < 16 := lt_of_lt_of_eq hn (show cfg0.N = 16 from N_0); omega)
      else
        if h2 : (n + 1) % 16 = 15 then
          False.elim (by have hN : n + 1 < 16 := lt_of_lt_of_eq hn (show cfg0.N = 16 from N_0); omega)
        else
          pointOuts0_A V c ⟨n + 1, hn⟩ h0 h1 h2
    else
      if h1 : 1 ≤ (n + 1) then
        if h2 : (n + 1) % 16 = 15 then
          pointOuts0_C V c ⟨n + 1, hn⟩ h0 h1 h2 (outsAt0 c n (Nat.lt_of_succ_lt hn)).2.2
        else
          pointOuts0_B V c ⟨n + 1, hn⟩ h0 h1 h2 (outsAt0 c n (Nat.lt_of_succ_lt hn)).2.2
      else
        False.elim (by have hN : n + 1 < 16 := lt_of_lt_of_eq hn (show cfg0.N = 16 from N_0); omega)

/-- `outsAt0` at a point of case A. -/
theorem outsAt0_A (c : Dev nD) (t : Fin cfg0.N) (h0 : t.val % 16 = 0) (h1 : ¬1 ≤ t.val) (h2 : ¬t.val % 16 = 15) :
    outsAt0 V c t.val t.isLt = pointOuts0_A V c t h0 h1 h2 := by
  obtain ⟨n, hn⟩ := t
  cases n with
  | zero => exact rfl
  | succ n => exact (dif_pos h0).trans ((dif_neg h1).trans ((dif_neg h2).trans rfl))

/-- `outsAt0` at a point of case B. -/
theorem outsAt0_B (c : Dev nD) (t : Fin cfg0.N) (h0 : ¬t.val % 16 = 0) (h1 : 1 ≤ t.val) (h2 : ¬t.val % 16 = 15) :
    outsAt0 V c t.val t.isLt = pointOuts0_B V c t h0 h1 h2 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_neg h2).trans rfl))

/-- `outsAt0` at a point of case C. -/
theorem outsAt0_C (c : Dev nD) (t : Fin cfg0.N) (h0 : ¬t.val % 16 = 0) (h1 : 1 ≤ t.val) (h2 : t.val % 16 = 15) :
    outsAt0 V c t.val t.isLt = pointOuts0_C V c t h0 h1 h2 (outsAt0 V c (t.val - 1) (Nat.lt_of_le_of_lt (Nat.sub_le _ _) t.isLt)).2.2 := by
  obtain ⟨n, hn⟩ := t
  cases n with
  | zero => exact (by exfalso; (try dsimp only at h0); exact absurd (Nat.zero_mod _) h0)
  | succ n => exact (dif_neg h0).trans ((dif_pos h1).trans ((dif_pos h2).trans rfl))

/-- The region invariant before position `n` with a scratch the kernel CARRIES between points. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2)) ∗ Rest0 c)

theorem PhiS0_zero (c : Dev nD) (n : ℕ) (h : n ≤ cfg0.N) (hz : n = 0) : PhiS0 V c n h = Pipeline.ΦA spec0 c := by
  subst hz; rfl

/-- After point `n`. -/
theorem PhiS0_succ (c : Dev nD) (n : ℕ) (hn : n < cfg0.N) :
    PhiS0 V c (n + 1) hn = iprop(iprop(owns (c : Thread nD τ) scM0_0 fullShare ((outsAt0 V c n hn).2.2)) ∗ Rest0 c) := rfl

/-- Before a point that is not the first. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2)) ∗ Rest0 c) := by
  cases n with
  | zero => exact absurd rfl hz
  | succ n => rfl

/-! ## The pipeline's proof data -/

/-- The proof data of the one pipeline on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
    | ⟨3, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem after0_3 (c : Dev nD) (t : Fin cfg0.N) : (dat0 V c).after 3 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the body must leave in window 0, at any point; so for the windows below. -/
theorem leaves0_0 (c : Dev nD) (t : Fin cfg0.N) :
    (dat0 V c).leavesExact 0 t = owns (c : Thread nD τ) (ms0_0 t) fullShare (iblk0 V c 0 t) := by
  unfold Dat.leavesExact; rw [liveAt0_0 t, after0_0]

theorem leaves0_1 (c : Dev nD) (t : Fin cfg0.N) :
    (dat0 V c).leavesExact 1 t = owns (c : Thread nD τ) (ms0_1 t) fullShare (iblk0 V c 1 t) := by
  unfold Dat.leavesExact; rw [liveAt0_1 t, after0_1]

theorem leaves0_2 (c : Dev nD) (t : Fin cfg0.N) :
    (dat0 V c).leavesExact 2 t = owns (c : Thread nD τ) (ms0_2 t) fullShare ((outsAt0 V c t.val t.isLt).1) := by
  unfold Dat.leavesExact; rw [liveAt0_2 t, after0_2]

/-! ## The body obligation, at a generic point -/

/-- What the body is called with at point `t`. -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

set_option maxHeartbeats 4800000 in
/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 16 := lt_of_lt_of_eq t.isLt (show cfg0.N = 16 from N_0)
  by_cases h0 : t.val % 16 = 0
  · by_cases h1 : 1 ≤ t.val
    · exfalso; omega
    · by_cases h2 : t.val % 16 = 15
      · exfalso; omega
      · rw [leaves0_0, leaves0_1, leaves0_2]
        rw [Dat.leavesExact_idle (dat0 V c) 3 t (idleAt0_3_A t ((hcond0_0 t).mpr h0) (mt (hcond0_1 t).mp h1) (mt (hcond0_2 t).mp h2)) (noFlush0_3_A t ((hcond0_0 t).mpr h0) (mt (hcond0_1 t).mp h1) (mt (hcond0_2 t).mp h2))]
        by_cases hz : t.val = 0
        · rw [PhiS0_castSucc V c t, PhiS0_zero V c _ _ hz, PhiA0_eq]
          rw [outsAt0_A V c t h0 h1 h2]
          unfold pointOuts0_A caseOuts0_A out0_A_2 sout0_A_0; (try dsimp only)
          iintro ⟨⟨HS0, Hg⟩, Ho, ⟨%d0, H0⟩, ⟨%d1, H1⟩, ⟨%d2, H2⟩, ⟨%d3, H3⟩⟩
          iapply ((kernelRun0_A c (grid0.coords t) _ _ _ _ _ _ _ _ _ _ ((hcond0_0 t).mpr h0) (mt (hcond0_1 t).mp h1) (mt (hcond0_2 t).mp h2) (iblk0 V c 0 t) (iblk0 V c 1 t)).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover0_A_0 ..)) $$ HS0
            iexact Hg
          isplitl [Ho]; · iexact Ho
          isplitl [H0]; · iexact H0
          isplitl [H1]; · iexact H1
          isplitl [H2]; · iapply (owns_writes (fun _ => cover0_A_2 ..)) $$ H2
          iexists _; iexact H3
        · exfalso; omega
  · by_cases h1 : 1 ≤ t.val
    · by_cases h2 : t.val % 16 = 15
      · rw [leaves0_0, leaves0_1, leaves0_2]
        rw [show (dat0 V c).leavesExact 3 t = owns (c : Thread nD τ) (ms0_3 t) fullShare ((dat0 V c).after 3 t) from by
      unfold Dat.leavesExact; rw [liveAt0_3_C t (mt (hcond0_0 t).mp h0) ((hcond0_1 t).mpr h1) ((hcond0_2 t).mpr h2)], after0_3]
        by_cases hz : t.val = 0
        · exfalso; omega
        · rw [PhiS0_castSucc V c t, PhiS0_pos V c _ _ hz]
          rw [outsAt0_C V c t h0 h1 h2]
          unfold pointOuts0_C caseOuts0_C out0_C_2 out0_C_3 sout0_C_0; (try dsimp only)
          iintro ⟨⟨HS0, Hg⟩, Ho, ⟨%d0, H0⟩, ⟨%d1, H1⟩, ⟨%d2, H2⟩, ⟨%d3, H3⟩⟩
          iapply ((kernelRun0_C c (grid0.coords t) _ _ _ _ _ _ _ _ _ _ (mt (hcond0_0 t).mp h0) ((hcond0_1 t).mpr h1) ((hcond0_2 t).mpr h2) (iblk0 V c 0 t) (iblk0 V c 1 t) _).2.2.2 Set.univ _)
          isplitl [H0]; · iexact H0
          isplitl [H1]; · iexact H1
          isplitl [H2]; · iexists _; iexact H2
          isplitl [H3]; · iexists _; iexact H3
          isplitl [HS0]; · iexact HS0
          iintro ⟨H0, H1, ⟨%e2, H2⟩, ⟨%e3, H3⟩, ⟨%es0, HS0⟩⟩
          isplitl [HS0 Hg]
          · isplitl [HS0]; · iapply (owns_writes (fun _ => scover0_C_0 ..)) $$ HS0
            iexact Hg
          isplitl [Ho]; · iexact Ho
          isplitl [H0]; · iexact H0
          isplitl [H1]; · iexact H1
          isplitl [H2]; · iapply (owns_writes (fun _ => cover0_C_2 ..)) $$ H2
          iapply (owns_writes (fun _ => cover0_C_3 ..)) $$ H3
      · rw [leaves0_0, leaves0_1, leaves0_2]
        rw [Dat.leavesExact_idle (dat0 V c) 3 t (idleAt0_3_B t (mt (hcond0_0 t).mp h0) ((hcond0_1 t).mpr h1) (mt (hcond0_2 t).mp h2)) (noFlush0_3_B t (mt (hcond0_0 t).mp h0) ((hcond0_1 t).mpr h1) (mt (hcond0_2 t).mp h2))]
        by_cases hz : t.val = 0
        · exfalso; omega
        · rw [PhiS0_castSucc V c t, PhiS0_pos V c _ _ hz]
          rw [outsAt0_B V c t h0 h1 h2]
          unfold pointOuts0_B caseOuts0_B out0_B_2 sout0_B_0; (try dsimp only)
          iintro ⟨⟨HS0, Hg⟩, Ho, ⟨%d0, H0⟩, ⟨%d1, H1⟩, ⟨%d2, H2⟩, ⟨%d3, H3⟩⟩
          iapply ((kernelRun0_B c (grid0.coords t) _ _ _ _ _ _ _ _ _ _ (mt (hcond0_0 t).mp h0) ((hcond0_1 t).mpr h1) (mt (hcond0_2 t).mp h2) (iblk0 V c 0 t) (iblk0 V c 1 t) _).2.2.2 _ Set.univ _)
          isplitl [H0]; · iexact H0
          isplitl [H1]; · iexact H1
          isplitl [H2]; · iexists _; iexact H2
          isplitl [H3]; · iexact H3
          isplitl [HS0]; · iexact HS0
          iintro ⟨H0, H1, ⟨%e2, H2⟩, H3, ⟨%es0, HS0⟩⟩
          isplitl [HS0 Hg]
          · isplitl [HS0]; · iapply (owns_writes (fun _ => scover0_B_0 ..)) $$ HS0
            iexact Hg
          isplitl [Ho]; · iexact Ho
          isplitl [H0]; · iexact H0
          isplitl [H1]; · iexact H1
          isplitl [H2]; · iapply (owns_writes (fun _ => cover0_B_2 ..)) $$ H2
          iexists _; iexact H3
    · exfalso; omega

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ Pipeline.ΦA spec0 c :=
  Phi_out0 V c _ (by rw [Fin.val_last]; have : cfg0.N = 16 := N_0; omega)

end Cert.Kernel.Gen

end
-- ==== Proof.MatmulDw1.lean ====
/-
  Region 8 of the kernel program (the product dw1): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- The condition of the body's `scf.if` 0. -/
abbrev cond8_0 (i : grid8.Coords) : Prop := (Scalar.cmpi .ne (Scalar.extui (Scalar.cmpi .eq (BitVec.ofNat 32 (i 2).val) 0#32)) 0#32) = 1#1
/-- It holds at the points ≡ 0. -/
theorem hcond8_0 : ∀ t : Fin cfg8.N, cond8_0 (grid8.coords t) ↔ t.val % 2 = 0 :=
  (fun t => by
    have ht : t.val < 64 := Nat.lt_of_lt_of_eq t.isLt N_8
    have e0 : (grid8.coords t 0).val = t.val / 16 % 4 := Pipeline.Grid.coords_val t 0 (by decide) rfl
    have e1 : (grid8.coords t 1).val = t.val / 2 % 8 := Pipeline.Grid.coords_val t 1 (by decide) rfl
    have e2 : (grid8.coords t 2).val = t.val / 1 % 2 := Pipeline.Grid.coords_val t 2 (by decide) rfl
    simp only [cond8_0, e0, e1, e2]
    word_cmp
   : ∀ t : Fin grid8.N, cond8_0 (grid8.coords t) ↔ t.val % 2 = 0)

/-- The condition of the body's `scf.if` 1. -/
abbrev cond8_1 (i : grid8.Coords) : Prop := (Scalar.cmpi .ne (Scalar.extui (Scalar.cmpi .eq (BitVec.ofNat 32 (i 2).val) 1#32)) 0#32) = 1#1
/-- It holds at the points ≡ 1. -/
theorem hcond8_1 : ∀ t : Fin cfg8.N, cond8_1 (grid8.coords t) ↔ t.val % 2 = 1 :=
  (fun t => by
    have ht : t.val < 64 := Nat.lt_of_lt_of_eq t.isLt N_8
    have e0 : (grid8.coords t 0).val = t.val / 16 % 4 := Pipeline.Grid.coords_val t 0 (by decide) rfl
    have e1 : (grid8.coords t 1).val = t.val / 2 % 8 := Pipeline.Grid.coords_val t 1 (by decide) rfl
    have e2 : (grid8.coords t 2).val = t.val / 1 % 2 := Pipeline.Grid.coords_val t 2 (by decide) rfl
    simp only [cond8_1, e0, e1, e2]
    word_cmp
   : ∀ t : Fin grid8.N, cond8_1 (grid8.coords t) ↔ t.val % 2 = 1)

/-! ## The kernel body on any staging memrefs: a subtype the run finds -/

/-- One staging buffer of output window 3, through which its contents are stated. -/
abbrev VO8_3 : View sig .tc .vmem S1024x2048 .f32 := (Memref.whole cc8_stg3_0 : Memref sig .tc .vmem S1024x2048 .f32).view
/-- Each window's current staging memref at point `t`, spelled as the pipeline passes it. -/
abbrev ms8_0 (t : Fin cfg8.N) : Memref sig .tc .smem S1 .f32 := win8_0.stage (cfg8.slots t 0)
abbrev hs8_0 (t : Fin cfg8.N) : (ms8_0 t).IsWhole := hstage8_0 ((cfg8.slots t 0).cast nbuf8_0)
abbrev ms8_1 (t : Fin cfg8.N) : Memref sig .tc .vmem S4096x1024 .fp8e4m3 := win8_1.stage (cfg8.slots t 1)
abbrev hs8_1 (t : Fin cfg8.N) : (ms8_1 t).IsWhole := hstage8_1 ((cfg8.slots t 1).cast nbuf8_1)
abbrev ms8_2 (t : Fin cfg8.N) : Memref sig .tc .vmem S4096x2048 .fp8e5m2 := win8_2.stage (cfg8.slots t 2)
abbrev hs8_2 (t : Fin cfg8.N) : (ms8_2 t).IsWhole := hstage8_2 ((cfg8.slots t 2).cast nbuf8_2)
abbrev ms8_3 (t : Fin cfg8.N) : Memref sig .tc .vmem S1024x2048 .f32 := win8_3.stage (cfg8.slots t 3)
abbrev hs8_3 (t : Fin cfg8.N) : (ms8_3 t).IsWhole := hstage8_3 ((cfg8.slots t 3).cast nbuf8_3)

section runs
variable (c : Dev nD) (i : grid8.Coords) (arg3 : Memref sig .tc .smem S1 .f32) (harg3 : arg3.IsWhole) (arg4 : Memref sig .tc .vmem S4096x1024 .fp8e4m3) (harg4 : arg4.IsWhole) (arg5 : Memref sig .tc .vmem S4096x2048 .fp8e5m2) (harg5 : arg5.IsWhole) (arg6 : Memref sig .tc .vmem S1024x2048 .f32) (harg6 : arg6.IsWhole)
include c i arg3 harg3 arg4 harg4 arg5 harg5 arg6 harg6

section caseA
variable (hc0 : cond8_0 i) (hc1 : ¬cond8_1 i)
    (x0 : Vec F S1 .f32) (x1 : Vec F S4096x1024 .fp8e4m3) (x2 : Vec F S4096x2048 .fp8e5m2)
include hc0 hc1 x0 x1 x2

set_option maxHeartbeats 1000000 in
/-- What the body's stores leave in each output's staging memref, as pieces. -/
noncomputable def kernelRun8_A :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc8_dw1 i _ harg3 _ harg4 _ harg5 _ harg6) K } := by
  refine ⟨?_, fun E K => ?run⟩
  case run =>
    simp only [cc8_dw1_eq_skeleton]; unfold cc8_dw1_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case A's pieces for output 3 tile its block. -/
theorem cover8_A_3 (y : S1024x2048.Idx) :
    ∃ pc ∈ (kernelRun8_A c i _ harg3 _ harg4 _ harg5 _ harg6 hc0 hc1 x0 x1 x2).1, y ∈ pc.1.set :=
  View.cover_of_tiledL _ S1024x2048.size (by sl_kernel_rfl) y

/-- What case A leaves in output 3's staging buffer. -/
def out8_A_3 : Vec F S1024x2048 .f32 :=
  VO8_3.read (Elt F) (VO8_3.writes (Elt F) VO8_3.junk (kernelRun8_A c i _ harg3 _ harg4 _ harg5 _ harg6 hc0 hc1 x0 x1 x2).1)

end caseA

section caseB
variable (hc0 : ¬cond8_0 i) (hc1 : cond8_1 i)
    (x0 : Vec F S1 .f32) (x1 : Vec F S4096x1024 .fp8e4m3) (x2 : Vec F S4096x2048 .fp8e5m2) (xo3 : Vec F S1024x2048 .f32)
include hc0 hc1 x0 x1 x2 xo3

set_option maxHeartbeats 1000000 in
/-- What the body's stores leave in each output's staging memref, as pieces. -/
noncomputable def kernelRun8_B :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc8_dw1 i _ harg3 _ harg4 _ harg5 _ harg6) K } := by
  refine ⟨?_, fun E K => ?run⟩
  case run =>
    simp only [cc8_dw1_eq_skeleton]; unfold cc8_dw1_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case B's pieces for output 3 tile its block. -/
theorem cover8_B_3 (y : S1024x2048.Idx) :
    ∃ pc ∈ (kernelRun8_B c i _ harg3 _ harg4 _ harg5 _ harg6 hc0 hc1 x0 x1 x2 xo3).1, y ∈ pc.1.set :=
  View.cover_of_tiledL _ S1024x2048.size (by sl_kernel_rfl) y

/-- What case B leaves in output 3's staging buffer. -/
def out8_B_3 : Vec F S1024x2048 .f32 :=
  VO8_3.read (Elt F) (VO8_3.writes (Elt F) VO8_3.junk (kernelRun8_B c i _ harg3 _ harg4 _ harg5 _ harg6 hc0 hc1 x0 x1 x2 xo3).1)

end caseB

end runs

/-! ## What the outputs hold after each point -/

/-- What a point of case A leaves. -/
def pointOuts8_A (c : Dev nD) (t : Fin cfg8.N) (h0 : t.val % 2 = 0) (h1 : ¬t.val % 2 = 1) :
    Vec F S1024x2048 .f32 :=
  out8_A_3 c (grid8.coords t) (ms8_0 t) (hs8_0 t) (ms8_1 t) (hs8_1 t) (ms8_2 t) (hs8_2 t) (ms8_3 t) (hs8_3 t) ((hcond8_0 t).mpr h0) (mt (hcond8_1 t).mp h1) (iblk8 V c 0 t) (iblk8 V c 1 t) (iblk8 V c 2 t)

/-- What a point of case B leaves, from what the scratch held before it. -/
def pointOuts8_B (c : Dev nD) (t : Fin cfg8.N) (h0 : ¬t.val % 2 = 0) (h1 : t.val % 2 = 1) (xo3 : Vec F S1024x2048 .f32) :
    Vec F S1024x2048 .f32 :=
  out8_B_3 c (grid8.coords t) (ms8_0 t) (hs8_0 t) (ms8_1 t) (hs8_1 t) (ms8_2 t) (hs8_2 t) (ms8_3 t) (hs8_3 t) (mt (hcond8_0 t).mp h0) ((hcond8_1 t).mpr h1) (iblk8 V c 0 t) (iblk8 V c 1 t) (iblk8 V c 2 t) xo3

/-- What the outputs and the scratch hold after each point. -/
def outsAt8 (c : Dev nD) : (n : ℕ) → n < cfg8.N → Vec F S1024x2048 .f32
  | 0, hn => pointOuts8_A V c ⟨0, hn⟩ (Nat.zero_mod _) (fun h => by (try dsimp only at h); omega)
  | n + 1, hn =>
    if h0 : (n + 1) % 2 = 0 then
      if h1 : (n + 1) % 2 = 1 then
        False.elim (by have hN : n + 1 < 64 := lt_of_lt_of_eq hn (show cfg8.N = 64 from N_8); omega)
      else
        pointOuts8_A V c ⟨n + 1, hn⟩ h0 h1
    else
      if h1 : (n + 1) % 2 = 1 then
        pointOuts8_B V c ⟨n + 1, hn⟩ h0 h1 (outsAt8 c n (Nat.lt_of_succ_lt hn))
      else
        False.elim (by have hN : n + 1 < 64 := lt_of_lt_of_eq hn (show cfg8.N = 64 from N_8); omega)

/-- `outsAt8` at a point of case A. -/
theorem outsAt8_A (c : Dev nD) (t : Fin cfg8.N) (h0 : t.val % 2 = 0) (h1 : ¬t.val % 2 = 1) :
    outsAt8 V c t.val t.isLt = pointOuts8_A V c t h0 h1 := by
  obtain ⟨n, hn⟩ := t
  cases n with
  | zero => exact rfl
  | succ n => exact (dif_pos h0).trans ((dif_neg h1).trans rfl)

/-- `outsAt8` at a point of case B. -/
theorem outsAt8_B (c : Dev nD) (t : Fin cfg8.N) (h0 : ¬t.val % 2 = 0) (h1 : t.val % 2 = 1) :
    outsAt8 V c t.val t.isLt = pointOuts8_B V c t h0 h1 (outsAt8 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => (outsAt8 V c t.val t.isLt)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = (outsAt8 V c t.val t.isLt) := by dsimp only [dat8]

/-- Each input's current staging buffer holds its block at every point, fetched there or not. -/
theorem before8_0 (c : Dev nD) (t : Fin cfg8.N) (d) : (dat8 V c).before 0 t d = iblk8 V c 0 t :=
  ((dat8 V c).before_in_eq_fetched 0 rfl (fun _ => rfl) (fun _ _ _ => rfl) (fun t => by rw [after8_0]; unfold Dat.blockOf iblk8; rw [A_eq8]; try rfl) t d).trans
    (by unfold Dat.fetched Dat.blockOf iblk8; rw [A_eq8]; try rfl)
theorem before8_1 (c : Dev nD) (t : Fin cfg8.N) (d) : (dat8 V c).before 1 t d = iblk8 V c 1 t :=
  ((dat8 V c).before_in_eq_fetched 1 rfl (fun _ => rfl) (fun _ _ _ => rfl) (fun t => by rw [after8_1]; unfold Dat.blockOf iblk8; rw [A_eq8]; try rfl) t d).trans
    (by unfold Dat.fetched Dat.blockOf iblk8; rw [A_eq8]; try rfl)
theorem before8_2 (c : Dev nD) (t : Fin cfg8.N) (d) : (dat8 V c).before 2 t d = iblk8 V c 2 t :=
  ((dat8 V c).before_in_eq_fetched 2 rfl (fun _ => rfl) (fun _ _ _ => rfl) (fun t => by rw [after8_2]; unfold Dat.blockOf iblk8; rw [A_eq8]; try rfl) t d).trans
    (by unfold Dat.fetched Dat.blockOf iblk8; rw [A_eq8]; try rfl)
/-- At a point of case B output 3's current staging buffer holds what the body left at the point before. -/
theorem before8_3_B (c : Dev nD) (t : Fin cfg8.N) (h0 : ¬t.val % 2 = 0) (h1 : t.val % 2 = 1) (d) :
    (dat8 V c).before 3 t d = (outsAt8 V c (t.val - 1) (Nat.lt_of_le_of_lt (Nat.sub_le _ _) t.isLt)) := by
  have hN : t.val < 64 := lt_of_lt_of_eq t.isLt (show cfg8.N = 64 from N_8)
  rw [Dat.before_out_kept _ 3 rfl t (by omega) (Bool.eq_false_iff.mpr fun h => by have := (flush8_3 _).mp h; dsimp only at this; omega)
    (fun _ => rfl) (fun _ _ => rfl)]
  dsimp only [dat8]

/-! ## The body obligation, at a generic point -/

/-- What the body is called with at point `t`. -/
def bodyPre8 (c : Dev nD) (t : Fin cfg8.N) : sProp 𝕄 :=
  iprop((dat8 V c).Φ t.castSucc ∗ (dat8 V c).owesAt () t.castSucc
    ∗ (∃ d, owns (c : Thread nD τ) (ms8_0 t) fullShare ((dat8 V c).before 0 t d))
    ∗ (∃ d, owns (c : Thread nD τ) (ms8_1 t) fullShare ((dat8 V c).before 1 t d))
    ∗ (∃ d, owns (c : Thread nD τ) (ms8_2 t) fullShare ((dat8 V c).before 2 t d))
    ∗ (∃ d, owns (c : Thread nD τ) (ms8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (ms8_0 t) fullShare ((dat8 V c).after 0 t)
    ∗ owns (c : Thread nD τ) (ms8_1 t) fullShare ((dat8 V c).after 1 t)
    ∗ owns (c : Thread nD τ) (ms8_2 t) fullShare ((dat8 V c).after 2 t)
    ∗ owns (c : Thread nD τ) (ms8_3 t) fullShare ((dat8 V c).after 3 t))

set_option maxHeartbeats 800000 in
/-- The body at any point. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  have hN : t.val < 64 := lt_of_lt_of_eq t.isLt (show cfg8.N = 64 from N_8)
  by_cases h0 : t.val % 2 = 0
  · by_cases h1 : t.val % 2 = 1
    · exfalso; omega
    · rw [outsAt8_A V c t h0 h1]
      unfold pointOuts8_A out8_A_3
      iintro ⟨HΦ, Ho, ⟨%d0, H0⟩, ⟨%d1, H1⟩, ⟨%d2, H2⟩, ⟨%d3, H3⟩⟩
      iapply ((kernelRun8_A c (grid8.coords t) _ _ _ _ _ _ _ _ ((hcond8_0 t).mpr h0) (mt (hcond8_1 t).mp h1) (iblk8 V c 0 t) (iblk8 V c 1 t) (iblk8 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover8_A_3 ..)) $$ H3
  · by_cases h1 : t.val % 2 = 1
    · rw [outsAt8_B V c t h0 h1]
      simp only [before8_3_B V c t h0 h1]
      unfold pointOuts8_B out8_B_3
      iintro ⟨HΦ, Ho, ⟨%d0, H0⟩, ⟨%d1, H1⟩, ⟨%d2, H2⟩, ⟨%d3, H3⟩⟩
      iapply ((kernelRun8_B c (grid8.coords t) _ _ _ _ _ _ _ _ (mt (hcond8_0 t).mp h0) ((hcond8_1 t).mpr h1) (iblk8 V c 0 t) (iblk8 V c 1 t) (iblk8 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover8_B_3 ..)) $$ H3
    · exfalso; omega

/-- The body table's row at point `t`'s slots is the body as `bodyAt8` spells it. -/
theorem defs₀_row8 (t : Fin cfg8.N) :
    defs₀ (F := F) .tc cfg8.body (cfg8.bodyArgs t (cfg8.slots t)) = bodyAt8 t := by
  unfold defs₀; rw [Defs.onTc_tc]

/-- The library's body obligation, at every point. -/
theorem body_obligation8 (c : Dev nD) : BodyObligation (dat8 (F := F) V c) (defs₀ (F := F)) Variants.none () Set.univ := fun t => by
  rw [bigSep_W8, bigSep_W8, defs₀_row8]
  exact triple_restated (sound_body8 V c t) rfl .rfl fun _ => .rfl

end Cert.Kernel.Gen

end
-- ==== Proof.MatmulDw2.lean ====
/-
  Region 7 of the kernel program (the product dw2): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- The condition of the body's `scf.if` 0. -/
abbrev cond7_0 (i : grid7.Coords) : Prop := (Scalar.cmpi .ne (Scalar.extui (Scalar.cmpi .eq (BitVec.ofNat 32 (i 2).val) 0#32)) 0#32) = 1#1
/-- It holds at the points ≡ 0. -/
theorem hcond7_0 : ∀ t : Fin cfg7.N, cond7_0 (grid7.coords t) ↔ t.val % 2 = 0 :=
  (fun t => by
    have ht : t.val < 64 := Nat.lt_of_lt_of_eq t.isLt N_7
    have e0 : (grid7.coords t 0).val = t.val / 4 % 16 := Pipeline.Grid.coords_val t 0 (by decide) rfl
    have e1 : (grid7.coords t 1).val = t.val / 2 % 2 := Pipeline.Grid.coords_val t 1 (by decide) rfl
    have e2 : (grid7.coords t 2).val = t.val / 1 % 2 := Pipeline.Grid.coords_val t 2 (by decide) rfl
    simp only [cond7_0, e0, e1, e2]
    word_cmp
   : ∀ t : Fin grid7.N, cond7_0 (grid7.coords t) ↔ t.val % 2 = 0)

/-- The condition of the body's `scf.if` 1. -/
abbrev cond7_1 (i : grid7.Coords) : Prop := (Scalar.cmpi .ne (Scalar.extui (Scalar.cmpi .eq (BitVec.ofNat 32 (i 2).val) 1#32)) 0#32) = 1#1
/-- It holds at the points ≡ 1. -/
theorem hcond7_1 : ∀ t : Fin cfg7.N, cond7_1 (grid7.coords t) ↔ t.val % 2 = 1 :=
  (fun t => by
    have ht : t.val < 64 := Nat.lt_of_lt_of_eq t.isLt N_7
    have e0 : (grid7.coords t 0).val = t.val / 4 % 16 := Pipeline.Grid.coords_val t 0 (by decide) rfl
    have e1 : (grid7.coords t 1).val = t.val / 2 % 2 := Pipeline.Grid.coords_val t 1 (by decide) rfl
    have e2 : (grid7.coords t 2).val = t.val / 1 % 2 := Pipeline.Grid.coords_val t 2 (by decide) rfl
    simp only [cond7_1, e0, e1, e2]
    word_cmp
   : ∀ t : Fin grid7.N, cond7_1 (grid7.coords t) ↔ t.val % 2 = 1)

/-! ## The kernel body on any staging memrefs: a subtype the run finds -/

/-- One staging buffer of output window 3, through which its contents are stated. -/
abbrev VO7_3 : View sig .tc .vmem S1024x2048 .f32 := (Memref.whole cc7_stg3_0 : Memref sig .tc .vmem S1024x2048 .f32).view
/-- Each window's current staging memref at point `t`, spelled as the pipeline passes it. -/
abbrev ms7_0 (t : Fin cfg7.N) : Memref sig .tc .smem S1 .f32 := win7_0.stage (cfg7.slots t 0)
abbrev hs7_0 (t : Fin cfg7.N) : (ms7_0 t).IsWhole := hstage7_0 ((cfg7.slots t 0).cast nbuf7_0)
abbrev ms7_1 (t : Fin cfg7.N) : Memref sig .tc .vmem S4096x1024 .fp8e4m3 := win7_1.stage (cfg7.slots t 1)
abbrev hs7_1 (t : Fin cfg7.N) : (ms7_1 t).IsWhole := hstage7_1 ((cfg7.slots t 1).cast nbuf7_1)
abbrev ms7_2 (t : Fin cfg7.N) : Memref sig .tc .vmem S4096x2048 .fp8e5m2 := win7_2.stage (cfg7.slots t 2)
abbrev hs7_2 (t : Fin cfg7.N) : (ms7_2 t).IsWhole := hstage7_2 ((cfg7.slots t 2).cast nbuf7_2)
abbrev ms7_3 (t : Fin cfg7.N) : Memref sig .tc .vmem S1024x2048 .f32 := win7_3.stage (cfg7.slots t 3)
abbrev hs7_3 (t : Fin cfg7.N) : (ms7_3 t).IsWhole := hstage7_3 ((cfg7.slots t 3).cast nbuf7_3)

section runs
variable (c : Dev nD) (i : grid7.Coords) (arg3 : Memref sig .tc .smem S1 .f32) (harg3 : arg3.IsWhole) (arg4 : Memref sig .tc .vmem S4096x1024 .fp8e4m3) (harg4 : arg4.IsWhole) (arg5 : Memref sig .tc .vmem S4096x2048 .fp8e5m2) (harg5 : arg5.IsWhole) (arg6 : Memref sig .tc .vmem S1024x2048 .f32) (harg6 : arg6.IsWhole)
include c i arg3 harg3 arg4 harg4 arg5 harg5 arg6 harg6

section caseA
variable (hc0 : cond7_0 i) (hc1 : ¬cond7_1 i)
    (x0 : Vec F S1 .f32) (x1 : Vec F S4096x1024 .fp8e4m3) (x2 : Vec F S4096x2048 .fp8e5m2)
include hc0 hc1 x0 x1 x2

set_option maxHeartbeats 1000000 in
/-- What the body's stores leave in each output's staging memref, as pieces. -/
noncomputable def kernelRun7_A :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc7_dw2 i _ harg3 _ harg4 _ harg5 _ harg6) K } := by
  refine ⟨?_, fun E K => ?run⟩
  case run =>
    simp only [cc7_dw2_eq_skeleton]; unfold cc7_dw2_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case A's pieces for output 3 tile its block. -/
theorem cover7_A_3 (y : S1024x2048.Idx) :
    ∃ pc ∈ (kernelRun7_A c i _ harg3 _ harg4 _ harg5 _ harg6 hc0 hc1 x0 x1 x2).1, y ∈ pc.1.set :=
  View.cover_of_tiledL _ S1024x2048.size (by sl_kernel_rfl) y

/-- What case A leaves in output 3's staging buffer. -/
def out7_A_3 : Vec F S1024x2048 .f32 :=
  VO7_3.read (Elt F) (VO7_3.writes (Elt F) VO7_3.junk (kernelRun7_A c i _ harg3 _ harg4 _ harg5 _ harg6 hc0 hc1 x0 x1 x2).1)

end caseA

section caseB
variable (hc0 : ¬cond7_0 i) (hc1 : cond7_1 i)
    (x0 : Vec F S1 .f32) (x1 : Vec F S4096x1024 .fp8e4m3) (x2 : Vec F S4096x2048 .fp8e5m2) (xo3 : Vec F S1024x2048 .f32)
include hc0 hc1 x0 x1 x2 xo3

set_option maxHeartbeats 1000000 in
/-- What the body's stores leave in each output's staging memref, as pieces. -/
noncomputable def kernelRun7_B :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc7_dw2 i _ harg3 _ harg4 _ harg5 _ harg6) K } := by
  refine ⟨?_, fun E K => ?run⟩
  case run =>
    simp only [cc7_dw2_eq_skeleton]; unfold cc7_dw2_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case B's pieces for output 3 tile its block. -/
theorem cover7_B_3 (y : S1024x2048.Idx) :
    ∃ pc ∈ (kernelRun7_B c i _ harg3 _ harg4 _ harg5 _ harg6 hc0 hc1 x0 x1 x2 xo3).1, y ∈ pc.1.set :=
  View.cover_of_tiledL _ S1024x2048.size (by sl_kernel_rfl) y

/-- What case B leaves in output 3's staging buffer. -/
def out7_B_3 : Vec F S1024x2048 .f32 :=
  VO7_3.read (Elt F) (VO7_3.writes (Elt F) VO7_3.junk (kernelRun7_B c i _ harg3 _ harg4 _ harg5 _ harg6 hc0 hc1 x0 x1 x2 xo3).1)

end caseB

end runs

/-! ## What the outputs hold after each point -/

/-- What a point of case A leaves. -/
def pointOuts7_A (c : Dev nD) (t : Fin cfg7.N) (h0 : t.val % 2 = 0) (h1 : ¬t.val % 2 = 1) :
    Vec F S1024x2048 .f32 :=
  out7_A_3 c (grid7.coords t) (ms7_0 t) (hs7_0 t) (ms7_1 t) (hs7_1 t) (ms7_2 t) (hs7_2 t) (ms7_3 t) (hs7_3 t) ((hcond7_0 t).mpr h0) (mt (hcond7_1 t).mp h1) (iblk7 V c 0 t) (iblk7 V c 1 t) (iblk7 V c 2 t)

/-- What a point of case B leaves, from what the scratch held before it. -/
def pointOuts7_B (c : Dev nD) (t : Fin cfg7.N) (h0 : ¬t.val % 2 = 0) (h1 : t.val % 2 = 1) (xo3 : Vec F S1024x2048 .f32) :
    Vec F S1024x2048 .f32 :=
  out7_B_3 c (grid7.coords t) (ms7_0 t) (hs7_0 t) (ms7_1 t) (hs7_1 t) (ms7_2 t) (hs7_2 t) (ms7_3 t) (hs7_3 t) (mt (hcond7_0 t).mp h0) ((hcond7_1 t).mpr h1) (iblk7 V c 0 t) (iblk7 V c 1 t) (iblk7 V c 2 t) xo3

/-- What the outputs and the scratch hold after each point. -/
def outsAt7 (c : Dev nD) : (n : ℕ) → n < cfg7.N → Vec F S1024x2048 .f32
  | 0, hn => pointOuts7_A V c ⟨0, hn⟩ (Nat.zero_mod _) (fun h => by (try dsimp only at h); omega)
  | n + 1, hn =>
    if h0 : (n + 1) % 2 = 0 then
      if h1 : (n + 1) % 2 = 1 then
        False.elim (by have hN : n + 1 < 64 := lt_of_lt_of_eq hn (show cfg7.N = 64 from N_7); omega)
      else
        pointOuts7_A V c ⟨n + 1, hn⟩ h0 h1
    else
      if h1 : (n + 1) % 2 = 1 then
        pointOuts7_B V c ⟨n + 1, hn⟩ h0 h1 (outsAt7 c n (Nat.lt_of_succ_lt hn))
      else
        False.elim (by have hN : n + 1 < 64 := lt_of_lt_of_eq hn (show cfg7.N = 64 from N_7); omega)

/-- `outsAt7` at a point of case A. -/
theorem outsAt7_A (c : Dev nD) (t : Fin cfg7.N) (h0 : t.val % 2 = 0) (h1 : ¬t.val % 2 = 1) :
    outsAt7 V c t.val t.isLt = pointOuts7_A V c t h0 h1 := by
  obtain ⟨n, hn⟩ := t
  cases n with
  | zero => exact rfl
  | succ n => exact (dif_pos h0).trans ((dif_neg h1).trans rfl)

/-- `outsAt7` at a point of case B. -/
theorem outsAt7_B (c : Dev nD) (t : Fin cfg7.N) (h0 : ¬t.val % 2 = 0) (h1 : t.val % 2 = 1) :
    outsAt7 V c t.val t.isLt = pointOuts7_B V c t h0 h1 (outsAt7 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => (outsAt7 V c t.val t.isLt)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = (outsAt7 V c t.val t.isLt) := by dsimp only [dat7]

/-- Each input's current staging buffer holds its block at every point, fetched there or not. -/
theorem before7_0 (c : Dev nD) (t : Fin cfg7.N) (d) : (dat7 V c).before 0 t d = iblk7 V c 0 t :=
  ((dat7 V c).before_in_eq_fetched 0 rfl (fun _ => rfl) (fun _ _ _ => rfl) (fun t => by rw [after7_0]; unfold Dat.blockOf iblk7; rw [A_eq7]; try rfl) t d).trans
    (by unfold Dat.fetched Dat.blockOf iblk7; rw [A_eq7]; try rfl)
theorem before7_1 (c : Dev nD) (t : Fin cfg7.N) (d) : (dat7 V c).before 1 t d = iblk7 V c 1 t :=
  ((dat7 V c).before_in_eq_fetched 1 rfl (fun _ => rfl) (fun _ _ _ => rfl) (fun t => by rw [after7_1]; unfold Dat.blockOf iblk7; rw [A_eq7]; try rfl) t d).trans
    (by unfold Dat.fetched Dat.blockOf iblk7; rw [A_eq7]; try rfl)
theorem before7_2 (c : Dev nD) (t : Fin cfg7.N) (d) : (dat7 V c).before 2 t d = iblk7 V c 2 t :=
  ((dat7 V c).before_in_eq_fetched 2 rfl (fun _ => rfl) (fun _ _ _ => rfl) (fun t => by rw [after7_2]; unfold Dat.blockOf iblk7; rw [A_eq7]; try rfl) t d).trans
    (by unfold Dat.fetched Dat.blockOf iblk7; rw [A_eq7]; try rfl)
/-- At a point of case B output 3's current staging buffer holds what the body left at the point before. -/
theorem before7_3_B (c : Dev nD) (t : Fin cfg7.N) (h0 : ¬t.val % 2 = 0) (h1 : t.val % 2 = 1) (d) :
    (dat7 V c).before 3 t d = (outsAt7 V c (t.val - 1) (Nat.lt_of_le_of_lt (Nat.sub_le _ _) t.isLt)) := by
  have hN : t.val < 64 := lt_of_lt_of_eq t.isLt (show cfg7.N = 64 from N_7)
  rw [Dat.before_out_kept _ 3 rfl t (by omega) (Bool.eq_false_iff.mpr fun h => by have := (flush7_3 _).mp h; dsimp only at this; omega)
    (fun _ => rfl) (fun _ _ => rfl)]
  dsimp only [dat7]

/-! ## The body obligation, at a generic point -/

/-- What the body is called with at point `t`. -/
def bodyPre7 (c : Dev nD) (t : Fin cfg7.N) : sProp 𝕄 :=
  iprop((dat7 V c).Φ t.castSucc ∗ (dat7 V c).owesAt () t.castSucc
    ∗ (∃ d, owns (c : Thread nD τ) (ms7_0 t) fullShare ((dat7 V c).before 0 t d))
    ∗ (∃ d, owns (c : Thread nD τ) (ms7_1 t) fullShare ((dat7 V c).before 1 t d))
    ∗ (∃ d, owns (c : Thread nD τ) (ms7_2 t) fullShare ((dat7 V c).before 2 t d))
    ∗ (∃ d, owns (c : Thread nD τ) (ms7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (ms7_0 t) fullShare ((dat7 V c).after 0 t)
    ∗ owns (c : Thread nD τ) (ms7_1 t) fullShare ((dat7 V c).after 1 t)
    ∗ owns (c : Thread nD τ) (ms7_2 t) fullShare ((dat7 V c).after 2 t)
    ∗ owns (c : Thread nD τ) (ms7_3 t) fullShare ((dat7 V c).after 3 t))

set_option maxHeartbeats 800000 in
/-- The body at any point. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  have hN : t.val < 64 := lt_of_lt_of_eq t.isLt (show cfg7.N = 64 from N_7)
  by_cases h0 : t.val % 2 = 0
  · by_cases h1 : t.val % 2 = 1
    · exfalso; omega
    · rw [outsAt7_A V c t h0 h1]
      unfold pointOuts7_A out7_A_3
      iintro ⟨HΦ, Ho, ⟨%d0, H0⟩, ⟨%d1, H1⟩, ⟨%d2, H2⟩, ⟨%d3, H3⟩⟩
      iapply ((kernelRun7_A c (grid7.coords t) _ _ _ _ _ _ _ _ ((hcond7_0 t).mpr h0) (mt (hcond7_1 t).mp h1) (iblk7 V c 0 t) (iblk7 V c 1 t) (iblk7 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover7_A_3 ..)) $$ H3
  · by_cases h1 : t.val % 2 = 1
    · rw [outsAt7_B V c t h0 h1]
      simp only [before7_3_B V c t h0 h1]
      unfold pointOuts7_B out7_B_3
      iintro ⟨HΦ, Ho, ⟨%d0, H0⟩, ⟨%d1, H1⟩, ⟨%d2, H2⟩, ⟨%d3, H3⟩⟩
      iapply ((kernelRun7_B c (grid7.coords t) _ _ _ _ _ _ _ _ (mt (hcond7_0 t).mp h0) ((hcond7_1 t).mpr h1) (iblk7 V c 0 t) (iblk7 V c 1 t) (iblk7 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover7_B_3 ..)) $$ H3
    · exfalso; omega

/-- The body table's row at point `t`'s slots is the body as `bodyAt7` spells it. -/
theorem defs₀_row7 (t : Fin cfg7.N) :
    defs₀ (F := F) .tc cfg7.body (cfg7.bodyArgs t (cfg7.slots t)) = bodyAt7 t := by
  unfold defs₀; rw [Defs.onTc_tc]

/-- The library's body obligation, at every point. -/
theorem body_obligation7 (c : Dev nD) : BodyObligation (dat7 (F := F) V c) (defs₀ (F := F)) Variants.none () Set.univ := fun t => by
  rw [bigSep_W7, bigSep_W7, defs₀_row7]
  exact triple_restated (sound_body7 V c t) rfl .rfl fun _ => .rfl

end Cert.Kernel.Gen

end
-- ==== Proof.MatmulDx.lean ====
/-
  Region 6 of the kernel program (the product dx): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- The condition of the body's `scf.if` 0. -/
abbrev cond6_0 (i : grid6.Coords) : Prop := (Scalar.cmpi .ne (Scalar.extui (Scalar.cmpi .eq (BitVec.ofNat 32 (i 2).val) 0#32)) 0#32) = 1#1
/-- It holds at the points ≡ 0. -/
theorem hcond6_0 : ∀ t : Fin cfg6.N, cond6_0 (grid6.coords t) ↔ t.val % 4 = 0 :=
  (fun t => by
    have ht : t.val < 64 := Nat.lt_of_lt_of_eq t.isLt N_6
    have e0 : (grid6.coords t 0).val = t.val / 8 % 8 := Pipeline.Grid.coords_val t 0 (by decide) rfl
    have e1 : (grid6.coords t 1).val = t.val / 4 % 2 := Pipeline.Grid.coords_val t 1 (by decide) rfl
    have e2 : (grid6.coords t 2).val = t.val / 1 % 4 := Pipeline.Grid.coords_val t 2 (by decide) rfl
    simp only [cond6_0, e0, e1, e2]
    word_cmp
   : ∀ t : Fin grid6.N, cond6_0 (grid6.coords t) ↔ t.val % 4 = 0)

/-- The condition of the body's `scf.if` 1. -/
abbrev cond6_1 (i : grid6.Coords) : Prop := (Scalar.cmpi .ne (Scalar.extui (Scalar.cmpi .eq (BitVec.ofNat 32 (i 2).val) 3#32)) 0#32) = 1#1
/-- It holds at the points ≡ 3. -/
theorem hcond6_1 : ∀ t : Fin cfg6.N, cond6_1 (grid6.coords t) ↔ t.val % 4 = 3 :=
  (fun t => by
    have ht : t.val < 64 := Nat.lt_of_lt_of_eq t.isLt N_6
    have e0 : (grid6.coords t 0).val = t.val / 8 % 8 := Pipeline.Grid.coords_val t 0 (by decide) rfl
    have e1 : (grid6.coords t 1).val = t.val / 4 % 2 := Pipeline.Grid.coords_val t 1 (by decide) rfl
    have e2 : (grid6.coords t 2).val = t.val / 1 % 4 := Pipeline.Grid.coords_val t 2 (by decide) rfl
    simp only [cond6_1, e0, e1, e2]
    word_cmp
   : ∀ t : Fin grid6.N, cond6_1 (grid6.coords t) ↔ t.val % 4 = 3)

/-! ## The kernel body on any staging memrefs: a subtype the run finds -/

/-- One staging buffer of output window 3, through which its contents are stated. -/
abbrev VO6_3 : View sig .tc .vmem S1024x2048 .f32 := (Memref.whole cc6_stg3_0 : Memref sig .tc .vmem S1024x2048 .f32).view
/-- Each window's current staging memref at point `t`, spelled as the pipeline passes it. -/
abbrev ms6_0 (t : Fin cfg6.N) : Memref sig .tc .smem S1 .f32 := win6_0.stage (cfg6.slots t 0)
abbrev hs6_0 (t : Fin cfg6.N) : (ms6_0 t).IsWhole := hstage6_0 ((cfg6.slots t 0).cast nbuf6_0)
abbrev ms6_1 (t : Fin cfg6.N) : Memref sig .tc .vmem S1024x4096 .fp8e5m2 := win6_1.stage (cfg6.slots t 1)
abbrev hs6_1 (t : Fin cfg6.N) : (ms6_1 t).IsWhole := hstage6_1 ((cfg6.slots t 1).cast nbuf6_1)
abbrev ms6_2 (t : Fin cfg6.N) : Memref sig .tc .vmem S2048x4096 .fp8e4m3 := win6_2.stage (cfg6.slots t 2)
abbrev hs6_2 (t : Fin cfg6.N) : (ms6_2 t).IsWhole := hstage6_2 ((cfg6.slots t 2).cast nbuf6_2)
abbrev ms6_3 (t : Fin cfg6.N) : Memref sig .tc .vmem S1024x2048 .f32 := win6_3.stage (cfg6.slots t 3)
abbrev hs6_3 (t : Fin cfg6.N) : (ms6_3 t).IsWhole := hstage6_3 ((cfg6.slots t 3).cast nbuf6_3)

section runs
variable (c : Dev nD) (i : grid6.Coords) (arg3 : Memref sig .tc .smem S1 .f32) (harg3 : arg3.IsWhole) (arg4 : Memref sig .tc .vmem S1024x4096 .fp8e5m2) (harg4 : arg4.IsWhole) (arg5 : Memref sig .tc .vmem S2048x4096 .fp8e4m3) (harg5 : arg5.IsWhole) (arg6 : Memref sig .tc .vmem S1024x2048 .f32) (harg6 : arg6.IsWhole)
include c i arg3 harg3 arg4 harg4 arg5 harg5 arg6 harg6

section caseA
variable (hc0 : cond6_0 i) (hc1 : ¬cond6_1 i)
    (x0 : Vec F S1 .f32) (x1 : Vec F S1024x4096 .fp8e5m2) (x2 : Vec F S2048x4096 .fp8e4m3)
include hc0 hc1 x0 x1 x2

set_option maxHeartbeats 1000000 in
/-- What the body's stores leave in each output's staging memref, as pieces. -/
noncomputable def kernelRun6_A :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc6_dx i _ harg3 _ harg4 _ harg5 _ harg6) K } := by
  refine ⟨?_, fun E K => ?run⟩
  case run =>
    simp only [cc6_dx_eq_skeleton]; unfold cc6_dx_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case A's pieces for output 3 tile its block. -/
theorem cover6_A_3 (y : S1024x2048.Idx) :
    ∃ pc ∈ (kernelRun6_A c i _ harg3 _ harg4 _ harg5 _ harg6 hc0 hc1 x0 x1 x2).1, y ∈ pc.1.set :=
  View.cover_of_tiledL _ S1024x2048.size (by sl_kernel_rfl) y

/-- What case A leaves in output 3's staging buffer. -/
def out6_A_3 : Vec F S1024x2048 .f32 :=
  VO6_3.read (Elt F) (VO6_3.writes (Elt F) VO6_3.junk (kernelRun6_A c i _ harg3 _ harg4 _ harg5 _ harg6 hc0 hc1 x0 x1 x2).1)

end caseA

section caseB
variable (hc0 : ¬cond6_0 i) (hc1 : ¬cond6_1 i)
    (x0 : Vec F S1 .f32) (x1 : Vec F S1024x4096 .fp8e5m2) (x2 : Vec F S2048x4096 .fp8e4m3) (xo3 : Vec F S1024x2048 .f32)
include hc0 hc1 x0 x1 x2 xo3

set_option maxHeartbeats 1000000 in
/-- What the body's stores leave in each output's staging memref, as pieces. -/
noncomputable def kernelRun6_B :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc6_dx i _ harg3 _ harg4 _ harg5 _ harg6) K } := by
  refine ⟨?_, fun E K => ?run⟩
  case run =>
    simp only [cc6_dx_eq_skeleton]; unfold cc6_dx_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case B's pieces for output 3 tile its block. -/
theorem cover6_B_3 (y : S1024x2048.Idx) :
    ∃ pc ∈ (kernelRun6_B c i _ harg3 _ harg4 _ harg5 _ harg6 hc0 hc1 x0 x1 x2 xo3).1, y ∈ pc.1.set :=
  View.cover_of_tiledL _ S1024x2048.size (by sl_kernel_rfl) y

/-- What case B leaves in output 3's staging buffer. -/
def out6_B_3 : Vec F S1024x2048 .f32 :=
  VO6_3.read (Elt F) (VO6_3.writes (Elt F) VO6_3.junk (kernelRun6_B c i _ harg3 _ harg4 _ harg5 _ harg6 hc0 hc1 x0 x1 x2 xo3).1)

end caseB

section caseC
variable (hc0 : ¬cond6_0 i) (hc1 : cond6_1 i)
    (x0 : Vec F S1 .f32) (x1 : Vec F S1024x4096 .fp8e5m2) (x2 : Vec F S2048x4096 .fp8e4m3) (xo3 : Vec F S1024x2048 .f32)
include hc0 hc1 x0 x1 x2 xo3

set_option maxHeartbeats 1000000 in
/-- What the body's stores leave in each output's staging memref, as pieces. -/
noncomputable def kernelRun6_C :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc6_dx i _ harg3 _ harg4 _ harg5 _ harg6) K } := by
  refine ⟨?_, fun E K => ?run⟩
  case run =>
    simp only [cc6_dx_eq_skeleton]; unfold cc6_dx_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case C's pieces for output 3 tile its block. -/
theorem cover6_C_3 (y : S1024x2048.Idx) :
    ∃ pc ∈ (kernelRun6_C c i _ harg3 _ harg4 _ harg5 _ harg6 hc0 hc1 x0 x1 x2 xo3).1, y ∈ pc.1.set :=
  View.cover_of_tiledL _ S1024x2048.size (by sl_kernel_rfl) y

/-- What case C leaves in output 3's staging buffer. -/
def out6_C_3 : Vec F S1024x2048 .f32 :=
  VO6_3.read (Elt F) (VO6_3.writes (Elt F) VO6_3.junk (kernelRun6_C c i _ harg3 _ harg4 _ harg5 _ harg6 hc0 hc1 x0 x1 x2 xo3).1)

end caseC

end runs

/-! ## What the outputs hold after each point -/

/-- What a point of case A leaves. -/
def pointOuts6_A (c : Dev nD) (t : Fin cfg6.N) (h0 : t.val % 4 = 0) (h1 : ¬t.val % 4 = 3) :
    Vec F S1024x2048 .f32 :=
  out6_A_3 c (grid6.coords t) (ms6_0 t) (hs6_0 t) (ms6_1 t) (hs6_1 t) (ms6_2 t) (hs6_2 t) (ms6_3 t) (hs6_3 t) ((hcond6_0 t).mpr h0) (mt (hcond6_1 t).mp h1) (iblk6 V c 0 t) (iblk6 V c 1 t) (iblk6 V c 2 t)

/-- What a point of case B leaves, from what the scratch held before it. -/
def pointOuts6_B (c : Dev nD) (t : Fin cfg6.N) (h0 : ¬t.val % 4 = 0) (h1 : ¬t.val % 4 = 3) (xo3 : Vec F S1024x2048 .f32) :
    Vec F S1024x2048 .f32 :=
  out6_B_3 c (grid6.coords t) (ms6_0 t) (hs6_0 t) (ms6_1 t) (hs6_1 t) (ms6_2 t) (hs6_2 t) (ms6_3 t) (hs6_3 t) (mt (hcond6_0 t).mp h0) (mt (hcond6_1 t).mp h1) (iblk6 V c 0 t) (iblk6 V c 1 t) (iblk6 V c 2 t) xo3

/-- What a point of case C leaves, from what the scratch held before it. -/
def pointOuts6_C (c : Dev nD) (t : Fin cfg6.N) (h0 : ¬t.val % 4 = 0) (h1 : t.val % 4 = 3) (xo3 : Vec F S1024x2048 .f32) :
    Vec F S1024x2048 .f32 :=
  out6_C_3 c (grid6.coords t) (ms6_0 t) (hs6_0 t) (ms6_1 t) (hs6_1 t) (ms6_2 t) (hs6_2 t) (ms6_3 t) (hs6_3 t) (mt (hcond6_0 t).mp h0) ((hcond6_1 t).mpr h1) (iblk6 V c 0 t) (iblk6 V c 1 t) (iblk6 V c 2 t) xo3

/-- What the outputs and the scratch hold after each point. -/
def outsAt6 (c : Dev nD) : (n : ℕ) → n < cfg6.N → Vec F S1024x2048 .f32
  | 0, hn => pointOuts6_A V c ⟨0, hn⟩ (Nat.zero_mod _) (fun h => by (try dsimp only at h); omega)
  | n + 1, hn =>
    if h0 : (n + 1) % 4 = 0 then
      if h1 : (n + 1) % 4 = 3 then
        False.elim (by have hN : n + 1 < 64 := lt_of_lt_of_eq hn (show cfg6.N = 64 from N_6); omega)
      else
        pointOuts6_A V c ⟨n + 1, hn⟩ h0 h1
    else
      if h1 : (n + 1) % 4 = 3 then
        pointOuts6_C V c ⟨n + 1, hn⟩ h0 h1 (outsAt6 c n (Nat.lt_of_succ_lt hn))
      else
        pointOuts6_B V c ⟨n + 1, hn⟩ h0 h1 (outsAt6 c n (Nat.lt_of_succ_lt hn))

/-- `outsAt6` at a point of case A. -/
theorem outsAt6_A (c : Dev nD) (t : Fin cfg6.N) (h0 : t.val % 4 = 0) (h1 : ¬t.val % 4 = 3) :
    outsAt6 V c t.val t.isLt = pointOuts6_A V c t h0 h1 := by
  obtain ⟨n, hn⟩ := t
  cases n with
  | zero => exact rfl
  | succ n => exact (dif_pos h0).trans ((dif_neg h1).trans rfl)

/-- `outsAt6` at a point of case B. -/
theorem outsAt6_B (c : Dev nD) (t : Fin cfg6.N) (h0 : ¬t.val % 4 = 0) (h1 : ¬t.val % 4 = 3) :
    outsAt6 V c t.val t.isLt = pointOuts6_B V c t h0 h1 (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt6` at a point of case C. -/
theorem outsAt6_C (c : Dev nD) (t : Fin cfg6.N) (h0 : ¬t.val % 4 = 0) (h1 : t.val % 4 = 3) :
    outsAt6 V c t.val t.isLt = pointOuts6_C V c t h0 h1 (outsAt6 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => (outsAt6 V c t.val t.isLt)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = (outsAt6 V c t.val t.isLt) := by dsimp only [dat6]

/-- Each input's current staging buffer holds its block at every point, fetched there or not. -/
theorem before6_0 (c : Dev nD) (t : Fin cfg6.N) (d) : (dat6 V c).before 0 t d = iblk6 V c 0 t :=
  ((dat6 V c).before_in_eq_fetched 0 rfl (fun _ => rfl) (fun _ _ _ => rfl) (fun t => by rw [after6_0]; unfold Dat.blockOf iblk6; rw [A_eq6]; try rfl) t d).trans
    (by unfold Dat.fetched Dat.blockOf iblk6; rw [A_eq6]; try rfl)
theorem before6_1 (c : Dev nD) (t : Fin cfg6.N) (d) : (dat6 V c).before 1 t d = iblk6 V c 1 t :=
  ((dat6 V c).before_in_eq_fetched 1 rfl (fun _ => rfl) (fun _ _ _ => rfl) (fun t => by rw [after6_1]; unfold Dat.blockOf iblk6; rw [A_eq6]; try rfl) t d).trans
    (by unfold Dat.fetched Dat.blockOf iblk6; rw [A_eq6]; try rfl)
theorem before6_2 (c : Dev nD) (t : Fin cfg6.N) (d) : (dat6 V c).before 2 t d = iblk6 V c 2 t :=
  ((dat6 V c).before_in_eq_fetched 2 rfl (fun _ => rfl) (fun _ _ _ => rfl) (fun t => by rw [after6_2]; unfold Dat.blockOf iblk6; rw [A_eq6]; try rfl) t d).trans
    (by unfold Dat.fetched Dat.blockOf iblk6; rw [A_eq6]; try rfl)
/-- At a point of case B output 3's current staging buffer holds what the body left at the point before. -/
theorem before6_3_B (c : Dev nD) (t : Fin cfg6.N) (h0 : ¬t.val % 4 = 0) (h1 : ¬t.val % 4 = 3) (d) :
    (dat6 V c).before 3 t d = (outsAt6 V c (t.val - 1) (Nat.lt_of_le_of_lt (Nat.sub_le _ _) t.isLt)) := by
  have hN : t.val < 64 := lt_of_lt_of_eq t.isLt (show cfg6.N = 64 from N_6)
  rw [Dat.before_out_kept _ 3 rfl t (by omega) (Bool.eq_false_iff.mpr fun h => by have := (flush6_3 _).mp h; dsimp only at this; omega)
    (fun _ => rfl) (fun _ _ => rfl)]
  dsimp only [dat6]
/-- At a point of case C output 3's current staging buffer holds what the body left at the point before. -/
theorem before6_3_C (c : Dev nD) (t : Fin cfg6.N) (h0 : ¬t.val % 4 = 0) (h1 : t.val % 4 = 3) (d) :
    (dat6 V c).before 3 t d = (outsAt6 V c (t.val - 1) (Nat.lt_of_le_of_lt (Nat.sub_le _ _) t.isLt)) := by
  have hN : t.val < 64 := lt_of_lt_of_eq t.isLt (show cfg6.N = 64 from N_6)
  rw [Dat.before_out_kept _ 3 rfl t (by omega) (Bool.eq_false_iff.mpr fun h => by have := (flush6_3 _).mp h; dsimp only at this; omega)
    (fun _ => rfl) (fun _ _ => rfl)]
  dsimp only [dat6]

/-! ## The body obligation, at a generic point -/

/-- What the body is called with at point `t`. -/
def bodyPre6 (c : Dev nD) (t : Fin cfg6.N) : sProp 𝕄 :=
  iprop((dat6 V c).Φ t.castSucc ∗ (dat6 V c).owesAt () t.castSucc
    ∗ (∃ d, owns (c : Thread nD τ) (ms6_0 t) fullShare ((dat6 V c).before 0 t d))
    ∗ (∃ d, owns (c : Thread nD τ) (ms6_1 t) fullShare ((dat6 V c).before 1 t d))
    ∗ (∃ d, owns (c : Thread nD τ) (ms6_2 t) fullShare ((dat6 V c).before 2 t d))
    ∗ (∃ d, owns (c : Thread nD τ) (ms6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (ms6_0 t) fullShare ((dat6 V c).after 0 t)
    ∗ owns (c : Thread nD τ) (ms6_1 t) fullShare ((dat6 V c).after 1 t)
    ∗ owns (c : Thread nD τ) (ms6_2 t) fullShare ((dat6 V c).after 2 t)
    ∗ owns (c : Thread nD τ) (ms6_3 t) fullShare ((dat6 V c).after 3 t))

set_option maxHeartbeats 1200000 in
/-- The body at any point. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  have hN : t.val < 64 := lt_of_lt_of_eq t.isLt (show cfg6.N = 64 from N_6)
  by_cases h0 : t.val % 4 = 0
  · by_cases h1 : t.val % 4 = 3
    · exfalso; omega
    · rw [outsAt6_A V c t h0 h1]
      unfold pointOuts6_A out6_A_3
      iintro ⟨HΦ, Ho, ⟨%d0, H0⟩, ⟨%d1, H1⟩, ⟨%d2, H2⟩, ⟨%d3, H3⟩⟩
      iapply ((kernelRun6_A c (grid6.coords t) _ _ _ _ _ _ _ _ ((hcond6_0 t).mpr h0) (mt (hcond6_1 t).mp h1) (iblk6 V c 0 t) (iblk6 V c 1 t) (iblk6 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover6_A_3 ..)) $$ H3
  · by_cases h1 : t.val % 4 = 3
    · rw [outsAt6_C V c t h0 h1]
      simp only [before6_3_C V c t h0 h1]
      unfold pointOuts6_C out6_C_3
      iintro ⟨HΦ, Ho, ⟨%d0, H0⟩, ⟨%d1, H1⟩, ⟨%d2, H2⟩, ⟨%d3, H3⟩⟩
      iapply ((kernelRun6_C c (grid6.coords t) _ _ _ _ _ _ _ _ (mt (hcond6_0 t).mp h0) ((hcond6_1 t).mpr h1) (iblk6 V c 0 t) (iblk6 V c 1 t) (iblk6 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover6_C_3 ..)) $$ H3
    · rw [outsAt6_B V c t h0 h1]
      simp only [before6_3_B V c t h0 h1]
      unfold pointOuts6_B out6_B_3
      iintro ⟨HΦ, Ho, ⟨%d0, H0⟩, ⟨%d1, H1⟩, ⟨%d2, H2⟩, ⟨%d3, H3⟩⟩
      iapply ((kernelRun6_B c (grid6.coords t) _ _ _ _ _ _ _ _ (mt (hcond6_0 t).mp h0) (mt (hcond6_1 t).mp h1) (iblk6 V c 0 t) (iblk6 V c 1 t) (iblk6 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover6_B_3 ..)) $$ H3

/-- The body table's row at point `t`'s slots is the body as `bodyAt6` spells it. -/
theorem defs₀_row6 (t : Fin cfg6.N) :
    defs₀ (F := F) .tc cfg6.body (cfg6.bodyArgs t (cfg6.slots t)) = bodyAt6 t := by
  unfold defs₀; rw [Defs.onTc_tc]

/-- The library's body obligation, at every point. -/
theorem body_obligation6 (c : Dev nD) : BodyObligation (dat6 (F := F) V c) (defs₀ (F := F)) Variants.none () Set.univ := fun t => by
  rw [bigSep_W6, bigSep_W6, defs₀_row6]
  exact triple_restated (sound_body6 V c t) rfl .rfl fun _ => .rfl

end Cert.Kernel.Gen

end
-- ==== Proof.MatmulY.lean ====
/-
  Region 5 of the kernel program (the product y): its blocks, the body's run in each case of its conditionals, what the
  outputs hold point by point, the proof data and the body obligation, at any buffer contents `V` on entry.
-/
module

public import proofs.«01_k».proof.Proof.Owns

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- The condition of the body's `scf.if` 0. -/
abbrev cond5_0 (i : grid5.Coords) : Prop := (Scalar.cmpi .ne (Scalar.extui (Scalar.cmpi .eq (BitVec.ofNat 32 (i 2).val) 0#32)) 0#32) = 1#1
/-- It holds at the points ≡ 0. -/
theorem hcond5_0 : ∀ t : Fin cfg5.N, cond5_0 (grid5.coords t) ↔ t.val % 4 = 0 :=
  (fun t => by
    have ht : t.val < 64 := Nat.lt_of_lt_of_eq t.isLt N_5
    have e0 : (grid5.coords t 0).val = t.val / 8 % 8 := Pipeline.Grid.coords_val t 0 (by decide) rfl
    have e1 : (grid5.coords t 1).val = t.val / 4 % 2 := Pipeline.Grid.coords_val t 1 (by decide) rfl
    have e2 : (grid5.coords t 2).val = t.val / 1 % 4 := Pipeline.Grid.coords_val t 2 (by decide) rfl
    simp only [cond5_0, e0, e1, e2]
    word_cmp
   : ∀ t : Fin grid5.N, cond5_0 (grid5.coords t) ↔ t.val % 4 = 0)

/-- The condition of the body's `scf.if` 1. -/
abbrev cond5_1 (i : grid5.Coords) : Prop := (Scalar.cmpi .ne (Scalar.extui (Scalar.cmpi .eq (BitVec.ofNat 32 (i 2).val) 3#32)) 0#32) = 1#1
/-- It holds at the points ≡ 3. -/
theorem hcond5_1 : ∀ t : Fin cfg5.N, cond5_1 (grid5.coords t) ↔ t.val % 4 = 3 :=
  (fun t => by
    have ht : t.val < 64 := Nat.lt_of_lt_of_eq t.isLt N_5
    have e0 : (grid5.coords t 0).val = t.val / 8 % 8 := Pipeline.Grid.coords_val t 0 (by decide) rfl
    have e1 : (grid5.coords t 1).val = t.val / 4 % 2 := Pipeline.Grid.coords_val t 1 (by decide) rfl
    have e2 : (grid5.coords t 2).val = t.val / 1 % 4 := Pipeline.Grid.coords_val t 2 (by decide) rfl
    simp only [cond5_1, e0, e1, e2]
    word_cmp
   : ∀ t : Fin grid5.N, cond5_1 (grid5.coords t) ↔ t.val % 4 = 3)

/-! ## The kernel body on any staging memrefs: a subtype the run finds -/

/-- One staging buffer of output window 3, through which its contents are stated. -/
abbrev VO5_3 : View sig .tc .vmem S1024x2048 .f32 := (Memref.whole cc5_stg3_0 : Memref sig .tc .vmem S1024x2048 .f32).view
/-- Each window's current staging memref at point `t`, spelled as the pipeline passes it. -/
abbrev ms5_0 (t : Fin cfg5.N) : Memref sig .tc .smem S1 .f32 := win5_0.stage (cfg5.slots t 0)
abbrev hs5_0 (t : Fin cfg5.N) : (ms5_0 t).IsWhole := hstage5_0 ((cfg5.slots t 0).cast nbuf5_0)
abbrev ms5_1 (t : Fin cfg5.N) : Memref sig .tc .vmem S1024x4096 .fp8e4m3 := win5_1.stage (cfg5.slots t 1)
abbrev hs5_1 (t : Fin cfg5.N) : (ms5_1 t).IsWhole := hstage5_1 ((cfg5.slots t 1).cast nbuf5_1)
abbrev ms5_2 (t : Fin cfg5.N) : Memref sig .tc .vmem S4096x2048 .fp8e4m3 := win5_2.stage (cfg5.slots t 2)
abbrev hs5_2 (t : Fin cfg5.N) : (ms5_2 t).IsWhole := hstage5_2 ((cfg5.slots t 2).cast nbuf5_2)
abbrev ms5_3 (t : Fin cfg5.N) : Memref sig .tc .vmem S1024x2048 .f32 := win5_3.stage (cfg5.slots t 3)
abbrev hs5_3 (t : Fin cfg5.N) : (ms5_3 t).IsWhole := hstage5_3 ((cfg5.slots t 3).cast nbuf5_3)

section runs
variable (c : Dev nD) (i : grid5.Coords) (arg3 : Memref sig .tc .smem S1 .f32) (harg3 : arg3.IsWhole) (arg4 : Memref sig .tc .vmem S1024x4096 .fp8e4m3) (harg4 : arg4.IsWhole) (arg5 : Memref sig .tc .vmem S4096x2048 .fp8e4m3) (harg5 : arg5.IsWhole) (arg6 : Memref sig .tc .vmem S1024x2048 .f32) (harg6 : arg6.IsWhole)
include c i arg3 harg3 arg4 harg4 arg5 harg5 arg6 harg6

section caseA
variable (hc0 : cond5_0 i) (hc1 : ¬cond5_1 i)
    (x0 : Vec F S1 .f32) (x1 : Vec F S1024x4096 .fp8e4m3) (x2 : Vec F S4096x2048 .fp8e4m3)
include hc0 hc1 x0 x1 x2

set_option maxHeartbeats 1000000 in
/-- What the body's stores leave in each output's staging memref, as pieces. -/
noncomputable def kernelRun5_A :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc5_y i _ harg3 _ harg4 _ harg5 _ harg6) K } := by
  refine ⟨?_, fun E K => ?run⟩
  case run =>
    simp only [cc5_y_eq_skeleton]; unfold cc5_y_skel
    unfold owns
    iintro ⟨⟨%f0, %hf0, H0⟩, ⟨%f1, %hf1, H1⟩, ⟨%f2, %hf2, H2⟩, ⟨%d3, %f3, -, H3⟩, Hk⟩
    obtain rfl := harg3.eq_unread hf0; obtain rfl := harg4.eq_unread hf1; obtain rfl := harg5.eq_unread hf2
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case A's pieces for output 3 tile its block. -/
theorem cover5_A_3 (y : S1024x2048.Idx) :
    ∃ pc ∈ (kernelRun5_A c i _ harg3 _ harg4 _ harg5 _ harg6 hc0 hc1 x0 x1 x2).1, y ∈ pc.1.set :=
  View.cover_of_tiledL _ S1024x2048.size (by sl_kernel_rfl) y

/-- What case A leaves in output 3's staging buffer. -/
def out5_A_3 : Vec F S1024x2048 .f32 :=
  VO5_3.read (Elt F) (VO5_3.writes (Elt F) VO5_3.junk (kernelRun5_A c i _ harg3 _ harg4 _ harg5 _ harg6 hc0 hc1 x0 x1 x2).1)

end caseA

section caseB
variable (hc0 : ¬cond5_0 i) (hc1 : ¬cond5_1 i)
    (x0 : Vec F S1 .f32) (x1 : Vec F S1024x4096 .fp8e4m3) (x2 : Vec F S4096x2048 .fp8e4m3) (xo3 : Vec F S1024x2048 .f32)
include hc0 hc1 x0 x1 x2 xo3

set_option maxHeartbeats 1000000 in
/-- What the body's stores leave in each output's staging memref, as pieces. -/
noncomputable def kernelRun5_B :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc5_y i _ harg3 _ harg4 _ harg5 _ harg6) K } := by
  refine ⟨?_, fun E K => ?run⟩
  case run =>
    simp only [cc5_y_eq_skeleton]; unfold cc5_y_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case B's pieces for output 3 tile its block. -/
theorem cover5_B_3 (y : S1024x2048.Idx) :
    ∃ pc ∈ (kernelRun5_B c i _ harg3 _ harg4 _ harg5 _ harg6 hc0 hc1 x0 x1 x2 xo3).1, y ∈ pc.1.set :=
  View.cover_of_tiledL _ S1024x2048.size (by sl_kernel_rfl) y

/-- What case B leaves in output 3's staging buffer. -/
def out5_B_3 : Vec F S1024x2048 .f32 :=
  VO5_3.read (Elt F) (VO5_3.writes (Elt F) VO5_3.junk (kernelRun5_B c i _ harg3 _ harg4 _ harg5 _ harg6 hc0 hc1 x0 x1 x2 xo3).1)

end caseB

section caseC
variable (hc0 : ¬cond5_0 i) (hc1 : cond5_1 i)
    (x0 : Vec F S1 .f32) (x1 : Vec F S1024x4096 .fp8e4m3) (x2 : Vec F S4096x2048 .fp8e4m3) (xo3 : Vec F S1024x2048 .f32)
include hc0 hc1 x0 x1 x2 xo3

set_option maxHeartbeats 1000000 in
/-- What the body's stores leave in each output's staging memref, as pieces. -/
noncomputable def kernelRun5_C :
    { L3 : List (View.Piece (Elt F) S1024x2048 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare xo3
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f L3)) -∗ K ⟨⟩))
          ⊢ wp frame (wpE (defs₀ (F := F)) Variants.none c none) E (cc5_y i _ harg3 _ harg4 _ harg5 _ harg6) K } := by
  refine ⟨?_, fun E K => ?run⟩
  case run =>
    simp only [cc5_y_eq_skeleton]; unfold cc5_y_skel
    unfold owns
    iintro ⟨⟨%f0, %hf0, H0⟩, ⟨%f1, %hf1, H1⟩, ⟨%f2, %hf2, H2⟩, ⟨%f3, %hf3, H3⟩, Hk⟩
    obtain rfl := harg3.eq_unread hf0; obtain rfl := harg4.eq_unread hf1; obtain rfl := harg5.eq_unread hf2; obtain rfl := harg6.eq_unread hf3
    sl_exec (disch := first | sl_exact hc0 | sl_exact hc1)
    sl_step
    iapply Hk
    isplitl [H0]; · iapply (owns_unread harg3 _) $$ H0
    isplitl [H1]; · iapply (owns_unread harg4 _) $$ H1
    isplitl [H2]; · iapply (owns_unread harg5 _) $$ H2
    iexists _; iexact H3

/-- Case C's pieces for output 3 tile its block. -/
theorem cover5_C_3 (y : S1024x2048.Idx) :
    ∃ pc ∈ (kernelRun5_C c i _ harg3 _ harg4 _ harg5 _ harg6 hc0 hc1 x0 x1 x2 xo3).1, y ∈ pc.1.set :=
  View.cover_of_tiledL _ S1024x2048.size (by sl_kernel_rfl) y

/-- What case C leaves in output 3's staging buffer. -/
def out5_C_3 : Vec F S1024x2048 .f32 :=
  VO5_3.read (Elt F) (VO5_3.writes (Elt F) VO5_3.junk (kernelRun5_C c i _ harg3 _ harg4 _ harg5 _ harg6 hc0 hc1 x0 x1 x2 xo3).1)

end caseC

end runs

/-! ## What the outputs hold after each point -/

/-- What a point of case A leaves. -/
def pointOuts5_A (c : Dev nD) (t : Fin cfg5.N) (h0 : t.val % 4 = 0) (h1 : ¬t.val % 4 = 3) :
    Vec F S1024x2048 .f32 :=
  out5_A_3 c (grid5.coords t) (ms5_0 t) (hs5_0 t) (ms5_1 t) (hs5_1 t) (ms5_2 t) (hs5_2 t) (ms5_3 t) (hs5_3 t) ((hcond5_0 t).mpr h0) (mt (hcond5_1 t).mp h1) (iblk5 V c 0 t) (iblk5 V c 1 t) (iblk5 V c 2 t)

/-- What a point of case B leaves, from what the scratch held before it. -/
def pointOuts5_B (c : Dev nD) (t : Fin cfg5.N) (h0 : ¬t.val % 4 = 0) (h1 : ¬t.val % 4 = 3) (xo3 : Vec F S1024x2048 .f32) :
    Vec F S1024x2048 .f32 :=
  out5_B_3 c (grid5.coords t) (ms5_0 t) (hs5_0 t) (ms5_1 t) (hs5_1 t) (ms5_2 t) (hs5_2 t) (ms5_3 t) (hs5_3 t) (mt (hcond5_0 t).mp h0) (mt (hcond5_1 t).mp h1) (iblk5 V c 0 t) (iblk5 V c 1 t) (iblk5 V c 2 t) xo3

/-- What a point of case C leaves, from what the scratch held before it. -/
def pointOuts5_C (c : Dev nD) (t : Fin cfg5.N) (h0 : ¬t.val % 4 = 0) (h1 : t.val % 4 = 3) (xo3 : Vec F S1024x2048 .f32) :
    Vec F S1024x2048 .f32 :=
  out5_C_3 c (grid5.coords t) (ms5_0 t) (hs5_0 t) (ms5_1 t) (hs5_1 t) (ms5_2 t) (hs5_2 t) (ms5_3 t) (hs5_3 t) (mt (hcond5_0 t).mp h0) ((hcond5_1 t).mpr h1) (iblk5 V c 0 t) (iblk5 V c 1 t) (iblk5 V c 2 t) xo3

/-- What the outputs and the scratch hold after each point. -/
def outsAt5 (c : Dev nD) : (n : ℕ) → n < cfg5.N → Vec F S1024x2048 .f32
  | 0, hn => pointOuts5_A V c ⟨0, hn⟩ (Nat.zero_mod _) (fun h => by (try dsimp only at h); omega)
  | n + 1, hn =>
    if h0 : (n + 1) % 4 = 0 then
      if h1 : (n + 1) % 4 = 3 then
        False.elim (by have hN : n + 1 < 64 := lt_of_lt_of_eq hn (show cfg5.N = 64 from N_5); omega)
      else
        pointOuts5_A V c ⟨n + 1, hn⟩ h0 h1
    else
      if h1 : (n + 1) % 4 = 3 then
        pointOuts5_C V c ⟨n + 1, hn⟩ h0 h1 (outsAt5 c n (Nat.lt_of_succ_lt hn))
      else
        pointOuts5_B V c ⟨n + 1, hn⟩ h0 h1 (outsAt5 c n (Nat.lt_of_succ_lt hn))

/-- `outsAt5` at a point of case A. -/
theorem outsAt5_A (c : Dev nD) (t : Fin cfg5.N) (h0 : t.val % 4 = 0) (h1 : ¬t.val % 4 = 3) :
    outsAt5 V c t.val t.isLt = pointOuts5_A V c t h0 h1 := by
  obtain ⟨n, hn⟩ := t
  cases n with
  | zero => exact rfl
  | succ n => exact (dif_pos h0).trans ((dif_neg h1).trans rfl)

/-- `outsAt5` at a point of case B. -/
theorem outsAt5_B (c : Dev nD) (t : Fin cfg5.N) (h0 : ¬t.val % 4 = 0) (h1 : ¬t.val % 4 = 3) :
    outsAt5 V c t.val t.isLt = pointOuts5_B V c t h0 h1 (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

/-- `outsAt5` at a point of case C. -/
theorem outsAt5_C (c : Dev nD) (t : Fin cfg5.N) (h0 : ¬t.val % 4 = 0) (h1 : t.val % 4 = 3) :
    outsAt5 V c t.val t.isLt = pointOuts5_C V c t h0 h1 (outsAt5 V c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => (outsAt5 V c t.val t.isLt)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = (outsAt5 V c t.val t.isLt) := by dsimp only [dat5]

/-- Each input's current staging buffer holds its block at every point, fetched there or not. -/
theorem before5_0 (c : Dev nD) (t : Fin cfg5.N) (d) : (dat5 V c).before 0 t d = iblk5 V c 0 t :=
  ((dat5 V c).before_in_eq_fetched 0 rfl (fun _ => rfl) (fun _ _ _ => rfl) (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl) (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl) (fun t => by rw [after5_2]; unfold Dat.blockOf iblk5; rw [A_eq5]; try rfl) t d).trans
    (by unfold Dat.fetched Dat.blockOf iblk5; rw [A_eq5]; try rfl)
/-- At a point of case B output 3's current staging buffer holds what the body left at the point before. -/
theorem before5_3_B (c : Dev nD) (t : Fin cfg5.N) (h0 : ¬t.val % 4 = 0) (h1 : ¬t.val % 4 = 3) (d) :
    (dat5 V c).before 3 t d = (outsAt5 V c (t.val - 1) (Nat.lt_of_le_of_lt (Nat.sub_le _ _) t.isLt)) := by
  have hN : t.val < 64 := lt_of_lt_of_eq t.isLt (show cfg5.N = 64 from N_5)
  rw [Dat.before_out_kept _ 3 rfl t (by omega) (Bool.eq_false_iff.mpr fun h => by have := (flush5_3 _).mp h; dsimp only at this; omega)
    (fun _ => rfl) (fun _ _ => rfl)]
  dsimp only [dat5]
/-- At a point of case C output 3's current staging buffer holds what the body left at the point before. -/
theorem before5_3_C (c : Dev nD) (t : Fin cfg5.N) (h0 : ¬t.val % 4 = 0) (h1 : t.val % 4 = 3) (d) :
    (dat5 V c).before 3 t d = (outsAt5 V c (t.val - 1) (Nat.lt_of_le_of_lt (Nat.sub_le _ _) t.isLt)) := by
  have hN : t.val < 64 := lt_of_lt_of_eq t.isLt (show cfg5.N = 64 from N_5)
  rw [Dat.before_out_kept _ 3 rfl t (by omega) (Bool.eq_false_iff.mpr fun h => by have := (flush5_3 _).mp h; dsimp only at this; omega)
    (fun _ => rfl) (fun _ _ => rfl)]
  dsimp only [dat5]

/-! ## The body obligation, at a generic point -/

/-- What the body is called with at point `t`. -/
def bodyPre5 (c : Dev nD) (t : Fin cfg5.N) : sProp 𝕄 :=
  iprop((dat5 V c).Φ t.castSucc ∗ (dat5 V c).owesAt () t.castSucc
    ∗ (∃ d, owns (c : Thread nD τ) (ms5_0 t) fullShare ((dat5 V c).before 0 t d))
    ∗ (∃ d, owns (c : Thread nD τ) (ms5_1 t) fullShare ((dat5 V c).before 1 t d))
    ∗ (∃ d, owns (c : Thread nD τ) (ms5_2 t) fullShare ((dat5 V c).before 2 t d))
    ∗ (∃ d, owns (c : Thread nD τ) (ms5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (ms5_0 t) fullShare ((dat5 V c).after 0 t)
    ∗ owns (c : Thread nD τ) (ms5_1 t) fullShare ((dat5 V c).after 1 t)
    ∗ owns (c : Thread nD τ) (ms5_2 t) fullShare ((dat5 V c).after 2 t)
    ∗ owns (c : Thread nD τ) (ms5_3 t) fullShare ((dat5 V c).after 3 t))

set_option maxHeartbeats 1200000 in
/-- The body at any point. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  have hN : t.val < 64 := lt_of_lt_of_eq t.isLt (show cfg5.N = 64 from N_5)
  by_cases h0 : t.val % 4 = 0
  · by_cases h1 : t.val % 4 = 3
    · exfalso; omega
    · rw [outsAt5_A V c t h0 h1]
      unfold pointOuts5_A out5_A_3
      iintro ⟨HΦ, Ho, ⟨%d0, H0⟩, ⟨%d1, H1⟩, ⟨%d2, H2⟩, ⟨%d3, H3⟩⟩
      iapply ((kernelRun5_A c (grid5.coords t) _ _ _ _ _ _ _ _ ((hcond5_0 t).mpr h0) (mt (hcond5_1 t).mp h1) (iblk5 V c 0 t) (iblk5 V c 1 t) (iblk5 V c 2 t)).2 Set.univ _)
      isplitl [H0]; · iexact H0
      isplitl [H1]; · iexact H1
      isplitl [H2]; · iexact H2
      isplitl [H3]; · iexists _; iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover5_A_3 ..)) $$ H3
  · by_cases h1 : t.val % 4 = 3
    · rw [outsAt5_C V c t h0 h1]
      simp only [before5_3_C V c t h0 h1]
      unfold pointOuts5_C out5_C_3
      iintro ⟨HΦ, Ho, ⟨%d0, H0⟩, ⟨%d1, H1⟩, ⟨%d2, H2⟩, ⟨%d3, H3⟩⟩
      iapply ((kernelRun5_C c (grid5.coords t) _ _ _ _ _ _ _ _ (mt (hcond5_0 t).mp h0) ((hcond5_1 t).mpr h1) (iblk5 V c 0 t) (iblk5 V c 1 t) (iblk5 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover5_C_3 ..)) $$ H3
    · rw [outsAt5_B V c t h0 h1]
      simp only [before5_3_B V c t h0 h1]
      unfold pointOuts5_B out5_B_3
      iintro ⟨HΦ, Ho, ⟨%d0, H0⟩, ⟨%d1, H1⟩, ⟨%d2, H2⟩, ⟨%d3, H3⟩⟩
      iapply ((kernelRun5_B c (grid5.coords t) _ _ _ _ _ _ _ _ (mt (hcond5_0 t).mp h0) (mt (hcond5_1 t).mp h1) (iblk5 V c 0 t) (iblk5 V c 1 t) (iblk5 V c 2 t) _).2 Set.univ _)
      isplitl [H0]; · iexact H0
      isplitl [H1]; · iexact H1
      isplitl [H2]; · iexact H2
      isplitl [H3]; · iexact H3
      iintro ⟨H0, H1, H2, ⟨%e3, H3⟩⟩
      isplitl [HΦ]; · iexact HΦ
      isplitl [Ho]; · iexact Ho
      isplitl [H0]; · iexact H0
      isplitl [H1]; · iexact H1
      isplitl [H2]; · iexact H2
      iapply (owns_writes (fun _ => cover5_B_3 ..)) $$ H3

/-- The body table's row at point `t`'s slots is the body as `bodyAt5` spells it. -/
theorem defs₀_row5 (t : Fin cfg5.N) :
    defs₀ (F := F) .tc cfg5.body (cfg5.bodyArgs t (cfg5.slots t)) = bodyAt5 t := by
  unfold defs₀; rw [Defs.onTc_tc]

/-- The library's body obligation, at every point. -/
theorem body_obligation5 (c : Dev nD) : BodyObligation (dat5 (F := F) V c) (defs₀ (F := F)) Variants.none () Set.univ := fun t => by
  rw [bigSep_W5, bigSep_W5, defs₀_row5]
  exact triple_restated (sound_body5 V c t) rfl .rfl fun _ => .rfl

end Cert.Kernel.Gen

end
-- ==== Proof.MatmulSum.lean ====
/-
  What an accumulating matrix product computes over the extended reals, apart from any program: a sweep over the blocks of
  the contracted axis that starts at zero, adds one block's products at each point and multiplies by a scale at the last one
  ends with the scale times the whole sum.
-/
module

public import Idealize.ShloMosaic.Lib.Pipeline.Value
public import Idealize.ShloMosaic.Lib.Pointwise

@[expose] public section

noncomputable section

namespace Cert.Model

open Idealize.ShloMosaic

theorem hz2 : (![0, 0] : Fin 2 → Nat) = fun _ => 0 := funext fun a => by fin_cases a <;> rfl

/-- A load of a whole array of rank two. -/
theorem ld_whole {Val : EltTy → Type} {e : EltTy} {a b : ℕ} (inb : ∀ k, (![0, 0] : Fin 2 → ℕ) k + (![a, b] : Fin 2 → ℕ) k ≤ (![a, b] : Fin 2 → ℕ) k)
    (X : (⟨2, ![a, b]⟩ : Shape).Idx → Val e) : View.ld X (Rect.unit (s := ⟨2, ![a, b]⟩) ![0, 0] ![a, b] inb) = X :=
  View.ld_unit_zero (S := ⟨2, ![a, b]⟩) hz2 inb X

/-- A vector of one element, loaded, is that element. -/
theorem ld_one {Val : EltTy → Type} {e : EltTy} (x : (⟨1, ![1]⟩ : Shape).Idx → Val e) (i j : (⟨1, ![1]⟩ : Shape).Idx) : x i = x j := by
  congr 1
  funext a
  match a with
  | ⟨0, _⟩ => exact Subsingleton.elim (α := Fin 1) _ _

/-- A matrix read at two natural numbers, zero outside it. -/
def at2 {M N : ℕ} (v : (⟨2, ![M, N]⟩ : Shape).Idx → EReal) (a b : ℕ) : EReal :=
  if h : a < M ∧ b < N then v (ix2 ⟨a, h.1⟩ ⟨b, h.2⟩) else 0

theorem at2_val {M N : ℕ} (v : (⟨2, ![M, N]⟩ : Shape).Idx → EReal) (a : Fin M) (b : Fin N) : at2 v a b = v (ix2 a b) := by
  unfold at2; rw [dif_pos ⟨a.isLt, b.isLt⟩]

theorem at2_of {M N : ℕ} (v : (⟨2, ![M, N]⟩ : Shape).Idx → EReal) (i : (⟨2, ![M, N]⟩ : Shape).Idx) (a b : ℕ)
    (ha : (i 0).val = a) (hb : (i 1).val = b) : v i = at2 v a b := by
  subst ha hb
  exact (congrArg v (eq_ix2 i)).trans (at2_val v (i 0) (i 1)).symm

/-- One block's part of a sum over a range, added to the blocks before it. -/
theorem sum_block (g : ℕ → EReal) (KS q : ℕ) :
    ∑ k : Fin (q * KS), g k + ∑ k : Fin KS, g (q * KS + k) = ∑ k : Fin ((q + 1) * KS), g k := by
  rw [Fin.sum_univ_eq_sum_range g, Fin.sum_univ_eq_sum_range (fun k => g (q * KS + k)), Fin.sum_univ_eq_sum_range g,
    Nat.succ_mul, Finset.sum_range_add]

/-- Quotient and rest of a number written with both. -/
theorem div_mod_of (KB d r n : ℕ) (h : n = KB * d + r) (hr : r < KB) : n / KB = d ∧ n % KB = r := by
  subst h
  exact ⟨by rw [Nat.mul_add_div (by omega), Nat.div_eq_of_lt hr, Nat.add_zero], by rw [Nat.mul_add_mod, Nat.mod_eq_of_lt hr]⟩

/-- The sweep: `o` is zero plus the first block's sum at a first point, the point before plus the block's sum at a middle
    point, and that times `s` at a last point. -/
theorem sweep {J : Type} (N KB KS KT : ℕ) (hKB : 2 ≤ KB) (hKT : KT = KB * KS) (o : (n : ℕ) → n < N → J → EReal) (s : EReal) (g : ℕ → J → ℕ → EReal)
    (hA : ∀ (n : ℕ) (h : n < N) (j : J), n % KB = 0 → o n h j = 0 + ∑ k : Fin KS, g (n / KB) j (n % KB * KS + k))
    (hB : ∀ (n : ℕ) (h : n + 1 < N) (j : J), (n + 1) % KB ≠ 0 → (n + 1) % KB ≠ KB - 1 →
      o (n + 1) h j = o n (Nat.lt_of_succ_lt h) j + ∑ k : Fin KS, g ((n + 1) / KB) j ((n + 1) % KB * KS + k))
    (hC : ∀ (n : ℕ) (h : n + 1 < N) (j : J), (n + 1) % KB = KB - 1 →
      o (n + 1) h j = (o n (Nat.lt_of_succ_lt h) j + ∑ k : Fin KS, g ((n + 1) / KB) j ((n + 1) % KB * KS + k)) * s)
    (n : ℕ) (h : n < N) (j : J) (hl : n % KB = KB - 1) : o n h j = (∑ k : Fin KT, g (n / KB) j k) * s := by
  subst hKT
  have key : ∀ (q : ℕ) (n : ℕ) (h : n < N) (j : J), n % KB = q → q ≠ KB - 1 → o n h j = ∑ k : Fin ((q + 1) * KS), g (n / KB) j k := by
    intro q
    induction q with
    | zero =>
      intro n h j hn _
      have e : ∑ k : Fin (0 * KS), g (n / KB) j k = 0 := by
        rw [Fin.sum_univ_eq_sum_range (g (n / KB) j), Nat.zero_mul, Finset.range_zero, Finset.sum_empty]
      rw [hA n h j hn, hn, ← sum_block (g (n / KB) j) KS 0, e]
    | succ q ih =>
      intro n h j hn hne
      cases n with
      | zero => simp at hn
      | succ n =>
        have hlt := Nat.mod_lt (n + 1) (show 0 < KB by omega)
        have hd : (n + 1) / KB = n / KB ∧ n % KB = q := by
          have h1 := Nat.div_add_mod (n + 1) KB
          have h4 := div_mod_of KB ((n + 1) / KB) q n (by omega) (by omega)
          exact ⟨h4.1.symm, h4.2⟩
        rw [hB n h j (by omega) (by omega), ih n (Nat.lt_of_succ_lt h) j hd.2 (by omega), ← hd.1, hn, sum_block (g ((n + 1) / KB) j)]
  cases n with
  | zero => rw [Nat.zero_mod] at hl; omega
  | succ n =>
    have hd : (n + 1) / KB = n / KB ∧ n % KB = KB - 2 := by
      have h1 := Nat.div_add_mod (n + 1) KB
      have h4 := div_mod_of KB ((n + 1) / KB) (KB - 2) n (by omega) (by omega)
      exact ⟨h4.1.symm, h4.2⟩
    rw [hC n h j hl, key (KB - 2) n (Nat.lt_of_succ_lt h) j hd.2 (by omega), ← hd.1, hl]
    have e : KB - 2 + 1 = KB - 1 := by omega
    rw [e, sum_block (g ((n + 1) / KB) j), show KB - 1 + 1 = KB by omega]

/-- A scaled product `l r`. -/
def mmNN {M K N : ℕ} (l : (⟨2, ![M, K]⟩ : Shape).Idx → EReal) (r : (⟨2, ![K, N]⟩ : Shape).Idx → EReal) (s : EReal) :
    (⟨2, ![M, N]⟩ : Shape).Idx → EReal := fun j => (∑ k : Fin K, l (ix2 (j 0) k) * r (ix2 k (j 1))) * s

/-- A scaled product `l rᵀ`. -/
def mmNT {M K N : ℕ} (l : (⟨2, ![M, K]⟩ : Shape).Idx → EReal) (r : (⟨2, ![N, K]⟩ : Shape).Idx → EReal) (s : EReal) :
    (⟨2, ![M, N]⟩ : Shape).Idx → EReal := fun j => (∑ k : Fin K, l (ix2 (j 0) k) * r (ix2 (j 1) k)) * s

/-- A scaled product `lᵀ r`. -/
def mmTN {M K N : ℕ} (l : (⟨2, ![K, M]⟩ : Shape).Idx → EReal) (r : (⟨2, ![K, N]⟩ : Shape).Idx → EReal) (s : EReal) :
    (⟨2, ![M, N]⟩ : Shape).Idx → EReal := fun j => (∑ k : Fin K, l (ix2 k (j 0)) * r (ix2 k (j 1))) * s

end Cert.Model

end
-- ==== Proof.MatmulYVal.lean ====
/-
  The values of region 5: the block its matrix product leaves at each grid point, in each of the body's cases, the running
  sum over the contracted axis, and the whole array it ends with.
-/
module

public import proofs.«01_k».proof.Proof.MatmulY
public import proofs.«01_k».proof.Proof.MatmulSum

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid5.Coords) (arg3 : Memref sig .tc .smem S1 .f32) (harg3 : arg3.IsWhole) (arg4 : Memref sig .tc .vmem S1024x4096 .fp8e4m3) (harg4 : arg4.IsWhole) (arg5 : Memref sig .tc .vmem S4096x2048 .fp8e4m3) (harg5 : arg5.IsWhole) (arg6 : Memref sig .tc .vmem S1024x2048 .f32) (harg6 : arg6.IsWhole)

section caseA
variable (hc0 : cond5_0 i) (hc1 : ¬cond5_1 i)
    (x0 : Vec F S1 .f32) (x1 : Vec F S1024x4096 .fp8e4m3) (x2 : Vec F S4096x2048 .fp8e4m3)

/-- A first point leaves its block's product, over zeros. -/
theorem val5_A :
    out5_A_3 c i _ harg3 _ harg4 _ harg5 _ harg6 hc0 hc1 x0 x1 x2 = k5_pay2 (k5_pay1 (F := F)) x1 x2 := by
  unfold out5_A_3
  rw [View.read_writes_eq_canon _ _ _ (fun _ => cover5_A_3 ..)]
  unfold kernelRun5_A
  dsimp only
  sl_unfold_words
  rw [View.canon_cons_unit_zero (S := S1024x2048) hz2, View.readCov_unit_zero (S := S1024x2048) _ hz2]
  simp only [View.readAt_eq_ld, Memref.IsWhole.read_unread, ld_whole]

end caseA

section caseB
variable (hc0 : ¬cond5_0 i) (hc1 : ¬cond5_1 i)
    (x0 : Vec F S1 .f32) (x1 : Vec F S1024x4096 .fp8e4m3) (x2 : Vec F S4096x2048 .fp8e4m3) (xo3 : Vec F S1024x2048 .f32)

/-- A middle point adds its block's product to what was there. -/
theorem val5_B :
    out5_B_3 c i _ harg3 _ harg4 _ harg5 _ harg6 hc0 hc1 x0 x1 x2 xo3 = k5_pay2 xo3 x1 x2 := by
  unfold out5_B_3
  rw [View.read_writes_eq_canon _ _ _ (fun _ => cover5_B_3 ..)]
  unfold kernelRun5_B
  dsimp only
  rw [View.canon_unit_zero hz2]
  simp only [View.readAt_eq_ld, Memref.IsWhole.read_unread, ld_whole]

end caseB

section caseC
variable (hc0 : ¬cond5_0 i) (hc1 : cond5_1 i)
    (x0 : Vec F S1 .f32) (x1 : Vec F S1024x4096 .fp8e4m3) (x2 : Vec F S4096x2048 .fp8e4m3) (xo3 : Vec F S1024x2048 .f32)

/-- A last point adds its block's product and multiplies by the scale. -/
theorem val5_C :
    out5_C_3 c i _ harg3 _ harg4 _ harg5 _ harg6 hc0 hc1 x0 x1 x2 xo3 = k5_pay3 (k5_pay2 xo3 x1 x2) (x0 (ix1 0)) := by
  unfold out5_C_3
  rw [View.read_writes_eq_canon _ _ _ (fun _ => cover5_C_3 ..)]
  unfold kernelRun5_C
  dsimp only
  sl_unfold_words
  rw [View.canon_cons_unit_zero (S := S1024x2048) hz2, View.readCov_unit_zero (S := S1024x2048) _ hz2]
  simp only [View.readAt_eq_ld, Memref.IsWhole.read_unread, ld_whole]
  exact congrArg (k5_pay3 _) (ld_one x0 _ _)

end caseC

end runs

end

/-- The block product at an index, over the extended reals. -/
theorem pay5_2_apply (xo : Vec Ideal S1024x2048 .f32) (x1 : Vec Ideal S1024x4096 .fp8e4m3) (x2 : Vec Ideal S4096x2048 .fp8e4m3) (j : S1024x2048.Idx) :
    k5_pay2 xo x1 x2 j = (xo j : EReal) + ∑ k : Fin 4096, (x1 (ix2 (j 0) k) : EReal) * x2 (ix2 k (j 1)) := by
  pointwise [k5_pay2]

/-- The scaling at an index, over the extended reals. -/
theorem pay5_3_apply (xo : Vec Ideal S1024x2048 .f32) (s : EReal) (j : S1024x2048.Idx) :
    k5_pay3 (F := Ideal) xo s j = (xo j : EReal) * s := by
  pointwise [k5_pay3]

theorem pay5_1_apply (j : S1024x2048.Idx) : k5_pay1 (F := Ideal) j = (0 : EReal) := by
  pointwise [k5_pay1]

theorem lidx5 : ∀ t : Fin grid5.N, win5_1.index t 0 = t.val / 4 / 2 ∧ win5_1.index t 1 = t.val % 4 := by decide +kernel
theorem ridx5 : ∀ t : Fin grid5.N, win5_2.index t 0 = t.val % 4 ∧ win5_2.index t 1 = t.val / 4 % 2 := by decide +kernel
theorem oidx5 : ∀ t : Fin grid5.N, win5_3.index t 0 = t.val / 4 / 2 ∧ win5_3.index t 1 = t.val / 4 % 2 := by decide +kernel

variable (V : (c : Dev nD) → (b : Ref sig .tc) → Buf (Elt Ideal) ((c : Thread nD τ).loc b))

/-- The left operand, the right operand and the scale of the product. -/
abbrev lhs5 (c : Dev nD) : S8192x16384.Idx → EReal := V c (Pipeline.arrRef spec5 1)
abbrev rhs5 (c : Dev nD) : S16384x4096.Idx → EReal := V c (Pipeline.arrRef spec5 2)
abbrev scl5 (c : Dev nD) : EReal := (V c (Pipeline.arrRef spec5 0) : S1.Idx → EReal) (ix1 0)

/-- A block of the left operand. -/
theorem iblk5_1_apply (c : Dev nD) (t : Fin cfg5.N) (j : S1024x4096.Idx) :
    (iblk5 V c 1 t : S1024x4096.Idx → EReal) j = at2 (lhs5 V c) (t.val / 4 / 2 * 1024 + (j 0).val) (t.val % 4 * 4096 + (j 1).val) := by
  refine Eq.trans ?_ (at2_of (lhs5 V c) (((cfg5.win 1).blk t).view.emb j) _ _ ?_ ?_)
  · unfold iblk5; rw [View.read_apply]; rfl
  · exact (Pipeline.Window.rect_emb_val_off win5_1 t j 0).trans (by show win5_1.index t 0 * 1024 + _ = _; rw [(lidx5 t).1])
  · exact (Pipeline.Window.rect_emb_val_off win5_1 t j 1).trans (by show win5_1.index t 1 * 4096 + _ = _; rw [(lidx5 t).2])

/-- A block of the right operand. -/
theorem iblk5_2_apply (c : Dev nD) (t : Fin cfg5.N) (j : S4096x2048.Idx) :
    (iblk5 V c 2 t : S4096x2048.Idx → EReal) j = at2 (rhs5 V c) (t.val % 4 * 4096 + (j 0).val) (t.val / 4 % 2 * 2048 + (j 1).val) := by
  refine Eq.trans ?_ (at2_of (rhs5 V c) (((cfg5.win 2).blk t).view.emb j) _ _ ?_ ?_)
  · unfold iblk5; rw [View.read_apply]; rfl
  · exact (Pipeline.Window.rect_emb_val_off win5_2 t j 0).trans (by show win5_2.index t 0 * 4096 + _ = _; rw [(ridx5 t).1])
  · exact (Pipeline.Window.rect_emb_val_off win5_2 t j 1).trans (by show win5_2.index t 1 * 2048 + _ = _; rw [(ridx5 t).2])

/-- The scale, at every point. -/
theorem iblk5_0_apply (c : Dev nD) (t : Fin cfg5.N) (j : S1.Idx) : (iblk5 V c 0 t : S1.Idx → EReal) j = scl5 V c := by
  unfold iblk5; rw [View.read_apply]; exact ld_one (Val := Elt Ideal) (e := .f32) _ _ _

/-- The term of the running sum: block `q` of the result, at `j`, at `k` along the contracted axis. -/
def term5 (c : Dev nD) (q : ℕ) (j : S1024x2048.Idx) (k : ℕ) : EReal :=
  at2 (lhs5 V c) (q / 2 * 1024 + (j 0).val) k * at2 (rhs5 V c) k (q % 2 * 2048 + (j 1).val)

theorem block5 (c : Dev nD) (xo : Vec Ideal S1024x2048 .f32) (n : ℕ) (h : n < cfg5.N) (j : S1024x2048.Idx) :
    k5_pay2 xo (iblk5 V c 1 ⟨n, h⟩) (iblk5 V c 2 ⟨n, h⟩) j
      = (xo j : EReal) + ∑ k : Fin 4096, term5 V c (n / 4) j (n % 4 * 4096 + k) := by
  rw [pay5_2_apply]
  congr 1
  refine Finset.sum_congr rfl fun k _ => ?_
  exact congrArg₂ (· * ·) (iblk5_1_apply V c ⟨n, h⟩ (ix2 (j 0) k)) (iblk5_2_apply V c ⟨n, h⟩ (ix2 k (j 1)))

/-- A last point holds the scaled product of its whole row and column. -/
theorem outs5_last (c : Dev nD) (n : ℕ) (h : n < cfg5.N) (j : S1024x2048.Idx) (hl : n % 4 = 3) :
    (outsAt5 V c n h : S1024x2048.Idx → EReal) j = (∑ k : Fin 16384, term5 V c (n / 4) j k) * scl5 V c := by
  refine sweep cfg5.N 4 4096 16384 (by decide) (by norm_num) (fun n h j => (outsAt5 V c n h : S1024x2048.Idx → EReal) j) (scl5 V c) (term5 V c) ?_ ?_ ?_ n h j hl
  · intro n h j hn
    refine (congrFun ((outsAt5_A V c ⟨n, h⟩ hn (by dsimp only; omega)).trans (val5_A ..)) j).trans ?_
    rw [block5 V c _ n h j, pay5_1_apply]
  · intro n h j hn hn'
    refine (congrFun ((outsAt5_B V c ⟨n + 1, h⟩ hn hn').trans (val5_B ..)) j).trans ?_
    exact block5 V c _ (n + 1) h j
  · intro n h j hn
    refine (congrFun ((outsAt5_C V c ⟨n + 1, h⟩ (by dsimp only; omega) hn).trans (val5_C ..)) j).trans ?_
    rw [pay5_3_apply, block5 V c _ (n + 1) h j, iblk5_0_apply]
    rfl

/-- The product the region computes. -/
def result5 (c : Dev nD) : Buf (Elt Ideal) ((c : Thread nD τ).loc (Pipeline.arrRef spec5 3)) :=
  (mmNN (lhs5 V c) (rhs5 V c) (scl5 V c) : S8192x4096.Idx → EReal)

theorem flushed5_eq (c : Dev nD) (t : Fin cfg5.N) (hf : (cfg5.win 3).flush t = true) :
    (dat5 V c).flushed 3 t = ((cfg5.win 3).blk t).view.read (Elt Ideal) (result5 V c) := by
  have h3 := (flush5_3 t).mp hf
  show (cfg5.win 3).cut (grid5.coords t) ((dat5 V c).after 3 t) = _
  rw [after5_3]
  refine funext fun (j : S1024x2048.Idx) => ?_
  refine (outs5_last V c t.val t.isLt j h3).trans ?_
  rw [View.read_apply]
  have e0 : ((((cfg5.win 3).blk t).view.emb j : S8192x4096.Idx) 0).val = t.val / 4 / 2 * 1024 + (j 0).val :=
    (Pipeline.Window.rect_emb_val_off win5_3 t j 0).trans (by show win5_3.index t 0 * 1024 + _ = _; rw [(oidx5 t).1])
  have e1 : ((((cfg5.win 3).blk t).view.emb j : S8192x4096.Idx) 1).val = t.val / 4 % 2 * 2048 + (j 1).val :=
    (Pipeline.Window.rect_emb_val_off win5_3 t j 1).trans (by show win5_3.index t 1 * 2048 + _ = _; rw [(oidx5 t).2])
  generalize ((cfg5.win 3).blk t).view.emb j = i at e0 e1 ⊢
  show _ = (∑ k : Fin 16384, lhs5 V c (ix2 (i 0) k) * rhs5 V c (ix2 k (i 1))) * scl5 V c
  refine congrArg (fun x : EReal => x * scl5 V c) (Finset.sum_congr rfl fun k _ => ?_)
  exact congrArg₂ (· * ·) (at2_of (lhs5 V c) (ix2 (i 0) k) _ _ e0 rfl).symm (at2_of (rhs5 V c) (ix2 k (i 1)) _ _ rfl e1).symm

/-- The array region 5 leaves is the scaled product of its operands. -/
theorem final5 (c : Dev nD) : (dat5 V c).arrAt 3 cfg5.N = result5 V c :=
  (dat5 V c).arrAt_eq_of_cover 3 (result5 V c) (flushed5_eq V c) fun i => by
    have h0 : ((i : S8192x4096.Idx) 0).val < 8192 := (i 0).isLt
    have h1 : ((i : S8192x4096.Idx) 1).val < 4096 := (i 1).isLt
    have hN : cfg5.N = 64 := N_5
    refine ⟨⟨(((i : S8192x4096.Idx) 0).val / 1024 * 2 + ((i : S8192x4096.Idx) 1).val / 2048) * 4 + 3, by omega⟩, (flush5_3 _).mpr (by dsimp only; omega), ?_⟩
    generalize ht : (⟨(((i : S8192x4096.Idx) 0).val / 1024 * 2 + ((i : S8192x4096.Idx) 1).val / 2048) * 4 + 3, _⟩ : Fin cfg5.N) = t
    have hv : t.val = (((i : S8192x4096.Idx) 0).val / 1024 * 2 + ((i : S8192x4096.Idx) 1).val / 2048) * 4 + 3 := by rw [← ht]
    show i ∈ ((View.whole (Pipeline.arrRef spec5 3)).slice (win5_3.rect t)).set
    rw [View.set_slice_whole, Rect.mem_set_unit]
    intro a
    match a with
    | ⟨0, _⟩ => show win5_3.index t 0 * 1024 ≤ ((i : S8192x4096.Idx) 0).val ∧ ((i : S8192x4096.Idx) 0).val < win5_3.index t 0 * 1024 + 1024
                rw [(oidx5 t).1]; omega
    | ⟨1, _⟩ => show win5_3.index t 1 * 2048 ≤ ((i : S8192x4096.Idx) 1).val ∧ ((i : S8192x4096.Idx) 1).val < win5_3.index t 1 * 2048 + 2048
                rw [(oidx5 t).2]; omega

end Cert.Kernel.Gen

end
-- ==== Proof.MatmulDxVal.lean ====
/-
  The values of region 6: the block its matrix product leaves at each grid point, in each of the body's cases, the running
  sum over the contracted axis, and the whole array it ends with.
-/
module

public import proofs.«01_k».proof.Proof.MatmulDx
public import proofs.«01_k».proof.Proof.MatmulYVal

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid6.Coords) (arg3 : Memref sig .tc .smem S1 .f32) (harg3 : arg3.IsWhole) (arg4 : Memref sig .tc .vmem S1024x4096 .fp8e5m2) (harg4 : arg4.IsWhole) (arg5 : Memref sig .tc .vmem S2048x4096 .fp8e4m3) (harg5 : arg5.IsWhole) (arg6 : Memref sig .tc .vmem S1024x2048 .f32) (harg6 : arg6.IsWhole)

section caseA
variable (hc0 : cond6_0 i) (hc1 : ¬cond6_1 i)
    (x0 : Vec F S1 .f32) (x1 : Vec F S1024x4096 .fp8e5m2) (x2 : Vec F S2048x4096 .fp8e4m3)

/-- A first point leaves its block's product, over zeros. -/
theorem val6_A :
    out6_A_3 c i _ harg3 _ harg4 _ harg5 _ harg6 hc0 hc1 x0 x1 x2 = k6_pay2 (k6_pay1 (F := F)) x1 x2 := by
  unfold out6_A_3
  rw [View.read_writes_eq_canon _ _ _ (fun _ => cover6_A_3 ..)]
  unfold kernelRun6_A
  dsimp only
  sl_unfold_words
  rw [View.canon_cons_unit_zero (S := S1024x2048) hz2, View.readCov_unit_zero (S := S1024x2048) _ hz2]
  simp only [View.readAt_eq_ld, Memref.IsWhole.read_unread, ld_whole]

end caseA

section caseB
variable (hc0 : ¬cond6_0 i) (hc1 : ¬cond6_1 i)
    (x0 : Vec F S1 .f32) (x1 : Vec F S1024x4096 .fp8e5m2) (x2 : Vec F S2048x4096 .fp8e4m3) (xo3 : Vec F S1024x2048 .f32)

/-- A middle point adds its block's product to what was there. -/
theorem val6_B :
    out6_B_3 c i _ harg3 _ harg4 _ harg5 _ harg6 hc0 hc1 x0 x1 x2 xo3 = k6_pay2 xo3 x1 x2 := by
  unfold out6_B_3
  rw [View.read_writes_eq_canon _ _ _ (fun _ => cover6_B_3 ..)]
  unfold kernelRun6_B
  dsimp only
  rw [View.canon_unit_zero hz2]
  simp only [View.readAt_eq_ld, Memref.IsWhole.read_unread, ld_whole]

end caseB

section caseC
variable (hc0 : ¬cond6_0 i) (hc1 : cond6_1 i)
    (x0 : Vec F S1 .f32) (x1 : Vec F S1024x4096 .fp8e5m2) (x2 : Vec F S2048x4096 .fp8e4m3) (xo3 : Vec F S1024x2048 .f32)

/-- A last point adds its block's product and multiplies by the scale. -/
theorem val6_C :
    out6_C_3 c i _ harg3 _ harg4 _ harg5 _ harg6 hc0 hc1 x0 x1 x2 xo3 = k6_pay3 (k6_pay2 xo3 x1 x2) (x0 (ix1 0)) := by
  unfold out6_C_3
  rw [View.read_writes_eq_canon _ _ _ (fun _ => cover6_C_3 ..)]
  unfold kernelRun6_C
  dsimp only
  sl_unfold_words
  rw [View.canon_cons_unit_zero (S := S1024x2048) hz2, View.readCov_unit_zero (S := S1024x2048) _ hz2]
  simp only [View.readAt_eq_ld, Memref.IsWhole.read_unread, ld_whole]
  exact congrArg (k6_pay3 _) (ld_one x0 _ _)

end caseC

end runs

end

/-- The block product at an index, over the extended reals. -/
theorem pay6_2_apply (xo : Vec Ideal S1024x2048 .f32) (x1 : Vec Ideal S1024x4096 .fp8e5m2) (x2 : Vec Ideal S2048x4096 .fp8e4m3) (j : S1024x2048.Idx) :
    k6_pay2 xo x1 x2 j = (xo j : EReal) + ∑ k : Fin 4096, (x1 (ix2 (j 0) k) : EReal) * x2 (ix2 (j 1) k) := by
  pointwise [k6_pay2]

/-- The scaling at an index, over the extended reals. -/
theorem pay6_3_apply (xo : Vec Ideal S1024x2048 .f32) (s : EReal) (j : S1024x2048.Idx) :
    k6_pay3 (F := Ideal) xo s j = (xo j : EReal) * s := by
  pointwise [k6_pay3]

theorem pay6_1_apply (j : S1024x2048.Idx) : k6_pay1 (F := Ideal) j = (0 : EReal) := by
  pointwise [k6_pay1]

theorem lidx6 : ∀ t : Fin grid6.N, win6_1.index t 0 = t.val / 4 / 2 ∧ win6_1.index t 1 = t.val % 4 := by decide +kernel
theorem ridx6 : ∀ t : Fin grid6.N, win6_2.index t 0 = t.val / 4 % 2 ∧ win6_2.index t 1 = t.val % 4 := by decide +kernel
theorem oidx6 : ∀ t : Fin grid6.N, win6_3.index t 0 = t.val / 4 / 2 ∧ win6_3.index t 1 = t.val / 4 % 2 := by decide +kernel

variable (V : (c : Dev nD) → (b : Ref sig .tc) → Buf (Elt Ideal) ((c : Thread nD τ).loc b))

/-- The left operand, the right operand and the scale of the product. -/
abbrev lhs6 (c : Dev nD) : S8192x16384.Idx → EReal := V c (Pipeline.arrRef spec6 1)
abbrev rhs6 (c : Dev nD) : S4096x16384.Idx → EReal := V c (Pipeline.arrRef spec6 2)
abbrev scl6 (c : Dev nD) : EReal := (V c (Pipeline.arrRef spec6 0) : S1.Idx → EReal) (ix1 0)

/-- A block of the left operand. -/
theorem iblk6_1_apply (c : Dev nD) (t : Fin cfg6.N) (j : S1024x4096.Idx) :
    (iblk6 V c 1 t : S1024x4096.Idx → EReal) j = at2 (lhs6 V c) (t.val / 4 / 2 * 1024 + (j 0).val) (t.val % 4 * 4096 + (j 1).val) := by
  refine Eq.trans ?_ (at2_of (lhs6 V c) (((cfg6.win 1).blk t).view.emb j) _ _ ?_ ?_)
  · unfold iblk6; rw [View.read_apply]; rfl
  · exact (Pipeline.Window.rect_emb_val_off win6_1 t j 0).trans (by show win6_1.index t 0 * 1024 + _ = _; rw [(lidx6 t).1])
  · exact (Pipeline.Window.rect_emb_val_off win6_1 t j 1).trans (by show win6_1.index t 1 * 4096 + _ = _; rw [(lidx6 t).2])

/-- A block of the right operand. -/
theorem iblk6_2_apply (c : Dev nD) (t : Fin cfg6.N) (j : S2048x4096.Idx) :
    (iblk6 V c 2 t : S2048x4096.Idx → EReal) j = at2 (rhs6 V c) (t.val / 4 % 2 * 2048 + (j 0).val) (t.val % 4 * 4096 + (j 1).val) := by
  refine Eq.trans ?_ (at2_of (rhs6 V c) (((cfg6.win 2).blk t).view.emb j) _ _ ?_ ?_)
  · unfold iblk6; rw [View.read_apply]; rfl
  · exact (Pipeline.Window.rect_emb_val_off win6_2 t j 0).trans (by show win6_2.index t 0 * 2048 + _ = _; rw [(ridx6 t).1])
  · exact (Pipeline.Window.rect_emb_val_off win6_2 t j 1).trans (by show win6_2.index t 1 * 4096 + _ = _; rw [(ridx6 t).2])

/-- The scale, at every point. -/
theorem iblk6_0_apply (c : Dev nD) (t : Fin cfg6.N) (j : S1.Idx) : (iblk6 V c 0 t : S1.Idx → EReal) j = scl6 V c := by
  unfold iblk6; rw [View.read_apply]; exact ld_one (Val := Elt Ideal) (e := .f32) _ _ _

/-- The term of the running sum: block `q` of the result, at `j`, at `k` along the contracted axis. -/
def term6 (c : Dev nD) (q : ℕ) (j : S1024x2048.Idx) (k : ℕ) : EReal :=
  at2 (lhs6 V c) (q / 2 * 1024 + (j 0).val) k * at2 (rhs6 V c) (q % 2 * 2048 + (j 1).val) k

theorem block6 (c : Dev nD) (xo : Vec Ideal S1024x2048 .f32) (n : ℕ) (h : n < cfg6.N) (j : S1024x2048.Idx) :
    k6_pay2 xo (iblk6 V c 1 ⟨n, h⟩) (iblk6 V c 2 ⟨n, h⟩) j
      = (xo j : EReal) + ∑ k : Fin 4096, term6 V c (n / 4) j (n % 4 * 4096 + k) := by
  rw [pay6_2_apply]
  congr 1
  refine Finset.sum_congr rfl fun k _ => ?_
  exact congrArg₂ (· * ·) (iblk6_1_apply V c ⟨n, h⟩ (ix2 (j 0) k)) (iblk6_2_apply V c ⟨n, h⟩ (ix2 (j 1) k))

/-- A last point holds the scaled product of its whole row and column. -/
theorem outs6_last (c : Dev nD) (n : ℕ) (h : n < cfg6.N) (j : S1024x2048.Idx) (hl : n % 4 = 3) :
    (outsAt6 V c n h : S1024x2048.Idx → EReal) j = (∑ k : Fin 16384, term6 V c (n / 4) j k) * scl6 V c := by
  refine sweep cfg6.N 4 4096 16384 (by decide) (by norm_num) (fun n h j => (outsAt6 V c n h : S1024x2048.Idx → EReal) j) (scl6 V c) (term6 V c) ?_ ?_ ?_ n h j hl
  · intro n h j hn
    refine (congrFun ((outsAt6_A V c ⟨n, h⟩ hn (by dsimp only; omega)).trans (val6_A ..)) j).trans ?_
    rw [block6 V c _ n h j, pay6_1_apply]
  · intro n h j hn hn'
    refine (congrFun ((outsAt6_B V c ⟨n + 1, h⟩ hn hn').trans (val6_B ..)) j).trans ?_
    exact block6 V c _ (n + 1) h j
  · intro n h j hn
    refine (congrFun ((outsAt6_C V c ⟨n + 1, h⟩ (by dsimp only; omega) hn).trans (val6_C ..)) j).trans ?_
    rw [pay6_3_apply, block6 V c _ (n + 1) h j, iblk6_0_apply]
    rfl

/-- The product the region computes. -/
def result6 (c : Dev nD) : Buf (Elt Ideal) ((c : Thread nD τ).loc (Pipeline.arrRef spec6 3)) :=
  (mmNT (lhs6 V c) (rhs6 V c) (scl6 V c) : S8192x4096.Idx → EReal)

theorem flushed6_eq (c : Dev nD) (t : Fin cfg6.N) (hf : (cfg6.win 3).flush t = true) :
    (dat6 V c).flushed 3 t = ((cfg6.win 3).blk t).view.read (Elt Ideal) (result6 V c) := by
  have h3 := (flush6_3 t).mp hf
  show (cfg6.win 3).cut (grid6.coords t) ((dat6 V c).after 3 t) = _
  rw [after6_3]
  refine funext fun (j : S1024x2048.Idx) => ?_
  refine (outs6_last V c t.val t.isLt j h3).trans ?_
  rw [View.read_apply]
  have e0 : ((((cfg6.win 3).blk t).view.emb j : S8192x4096.Idx) 0).val = t.val / 4 / 2 * 1024 + (j 0).val :=
    (Pipeline.Window.rect_emb_val_off win6_3 t j 0).trans (by show win6_3.index t 0 * 1024 + _ = _; rw [(oidx6 t).1])
  have e1 : ((((cfg6.win 3).blk t).view.emb j : S8192x4096.Idx) 1).val = t.val / 4 % 2 * 2048 + (j 1).val :=
    (Pipeline.Window.rect_emb_val_off win6_3 t j 1).trans (by show win6_3.index t 1 * 2048 + _ = _; rw [(oidx6 t).2])
  generalize ((cfg6.win 3).blk t).view.emb j = i at e0 e1 ⊢
  show _ = (∑ k : Fin 16384, lhs6 V c (ix2 (i 0) k) * rhs6 V c (ix2 (i 1) k)) * scl6 V c
  refine congrArg (fun x : EReal => x * scl6 V c) (Finset.sum_congr rfl fun k _ => ?_)
  exact congrArg₂ (· * ·) (at2_of (lhs6 V c) (ix2 (i 0) k) _ _ e0 rfl).symm (at2_of (rhs6 V c) (ix2 (i 1) k) _ _ e1 rfl).symm

/-- The array region 6 leaves is the scaled product of its operands. -/
theorem final6 (c : Dev nD) : (dat6 V c).arrAt 3 cfg6.N = result6 V c :=
  (dat6 V c).arrAt_eq_of_cover 3 (result6 V c) (flushed6_eq V c) fun i => by
    have h0 : ((i : S8192x4096.Idx) 0).val < 8192 := (i 0).isLt
    have h1 : ((i : S8192x4096.Idx) 1).val < 4096 := (i 1).isLt
    have hN : cfg6.N = 64 := N_6
    refine ⟨⟨(((i : S8192x4096.Idx) 0).val / 1024 * 2 + ((i : S8192x4096.Idx) 1).val / 2048) * 4 + 3, by omega⟩, (flush6_3 _).mpr (by dsimp only; omega), ?_⟩
    generalize ht : (⟨(((i : S8192x4096.Idx) 0).val / 1024 * 2 + ((i : S8192x4096.Idx) 1).val / 2048) * 4 + 3, _⟩ : Fin cfg6.N) = t
    have hv : t.val = (((i : S8192x4096.Idx) 0).val / 1024 * 2 + ((i : S8192x4096.Idx) 1).val / 2048) * 4 + 3 := by rw [← ht]
    show i ∈ ((View.whole (Pipeline.arrRef spec6 3)).slice (win6_3.rect t)).set
    rw [View.set_slice_whole, Rect.mem_set_unit]
    intro a
    match a with
    | ⟨0, _⟩ => show win6_3.index t 0 * 1024 ≤ ((i : S8192x4096.Idx) 0).val ∧ ((i : S8192x4096.Idx) 0).val < win6_3.index t 0 * 1024 + 1024
                rw [(oidx6 t).1]; omega
    | ⟨1, _⟩ => show win6_3.index t 1 * 2048 ≤ ((i : S8192x4096.Idx) 1).val ∧ ((i : S8192x4096.Idx) 1).val < win6_3.index t 1 * 2048 + 2048
                rw [(oidx6 t).2]; omega

end Cert.Kernel.Gen

end
-- ==== Proof.MatmulDw2Val.lean ====
/-
  The values of region 7: the block its matrix product leaves at each grid point, in each of the body's cases, the running
  sum over the contracted axis, and the whole array it ends with.
-/
module

public import proofs.«01_k».proof.Proof.MatmulDw2
public import proofs.«01_k».proof.Proof.MatmulDxVal

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid7.Coords) (arg3 : Memref sig .tc .smem S1 .f32) (harg3 : arg3.IsWhole) (arg4 : Memref sig .tc .vmem S4096x1024 .fp8e4m3) (harg4 : arg4.IsWhole) (arg5 : Memref sig .tc .vmem S4096x2048 .fp8e5m2) (harg5 : arg5.IsWhole) (arg6 : Memref sig .tc .vmem S1024x2048 .f32) (harg6 : arg6.IsWhole)

section caseA
variable (hc0 : cond7_0 i) (hc1 : ¬cond7_1 i)
    (x0 : Vec F S1 .f32) (x1 : Vec F S4096x1024 .fp8e4m3) (x2 : Vec F S4096x2048 .fp8e5m2)

/-- A first point leaves its block's product, over zeros. -/
theorem val7_A :
    out7_A_3 c i _ harg3 _ harg4 _ harg5 _ harg6 hc0 hc1 x0 x1 x2 = k7_pay2 (k7_pay1 (F := F)) x1 x2 := by
  unfold out7_A_3
  rw [View.read_writes_eq_canon _ _ _ (fun _ => cover7_A_3 ..)]
  unfold kernelRun7_A
  dsimp only
  sl_unfold_words
  rw [View.canon_cons_unit_zero (S := S1024x2048) hz2, View.readCov_unit_zero (S := S1024x2048) _ hz2]
  simp only [View.readAt_eq_ld, Memref.IsWhole.read_unread, ld_whole]

end caseA

section caseB
variable (hc0 : ¬cond7_0 i) (hc1 : cond7_1 i)
    (x0 : Vec F S1 .f32) (x1 : Vec F S4096x1024 .fp8e4m3) (x2 : Vec F S4096x2048 .fp8e5m2) (xo3 : Vec F S1024x2048 .f32)

/-- A last point adds its block's product and multiplies by the scale. -/
theorem val7_B :
    out7_B_3 c i _ harg3 _ harg4 _ harg5 _ harg6 hc0 hc1 x0 x1 x2 xo3 = k7_pay3 (k7_pay2 xo3 x1 x2) (x0 (ix1 0)) := by
  unfold out7_B_3
  rw [View.read_writes_eq_canon _ _ _ (fun _ => cover7_B_3 ..)]
  unfold kernelRun7_B
  dsimp only
  sl_unfold_words
  rw [View.canon_cons_unit_zero (S := S1024x2048) hz2, View.readCov_unit_zero (S := S1024x2048) _ hz2]
  simp only [View.readAt_eq_ld, Memref.IsWhole.read_unread, ld_whole]
  exact congrArg (k7_pay3 _) (ld_one x0 _ _)

end caseB

end runs

end

/-- The block product at an index, over the extended reals. -/
theorem pay7_2_apply (xo : Vec Ideal S1024x2048 .f32) (x1 : Vec Ideal S4096x1024 .fp8e4m3) (x2 : Vec Ideal S4096x2048 .fp8e5m2) (j : S1024x2048.Idx) :
    k7_pay2 xo x1 x2 j = (xo j : EReal) + ∑ k : Fin 4096, (x1 (ix2 k (j 0)) : EReal) * x2 (ix2 k (j 1)) := by
  pointwise [k7_pay2]

/-- The scaling at an index, over the extended reals. -/
theorem pay7_3_apply (xo : Vec Ideal S1024x2048 .f32) (s : EReal) (j : S1024x2048.Idx) :
    k7_pay3 (F := Ideal) xo s j = (xo j : EReal) * s := by
  pointwise [k7_pay3]

theorem pay7_1_apply (j : S1024x2048.Idx) : k7_pay1 (F := Ideal) j = (0 : EReal) := by
  pointwise [k7_pay1]

theorem lidx7 : ∀ t : Fin grid7.N, win7_1.index t 0 = t.val % 2 ∧ win7_1.index t 1 = t.val / 2 / 2 := by decide +kernel
theorem ridx7 : ∀ t : Fin grid7.N, win7_2.index t 0 = t.val % 2 ∧ win7_2.index t 1 = t.val / 2 % 2 := by decide +kernel
theorem oidx7 : ∀ t : Fin grid7.N, win7_3.index t 0 = t.val / 2 / 2 ∧ win7_3.index t 1 = t.val / 2 % 2 := by decide +kernel

variable (V : (c : Dev nD) → (b : Ref sig .tc) → Buf (Elt Ideal) ((c : Thread nD τ).loc b))

/-- The left operand, the right operand and the scale of the product. -/
abbrev lhs7 (c : Dev nD) : S8192x16384.Idx → EReal := V c (Pipeline.arrRef spec7 1)
abbrev rhs7 (c : Dev nD) : S8192x4096.Idx → EReal := V c (Pipeline.arrRef spec7 2)
abbrev scl7 (c : Dev nD) : EReal := (V c (Pipeline.arrRef spec7 0) : S1.Idx → EReal) (ix1 0)

/-- A block of the left operand. -/
theorem iblk7_1_apply (c : Dev nD) (t : Fin cfg7.N) (j : S4096x1024.Idx) :
    (iblk7 V c 1 t : S4096x1024.Idx → EReal) j = at2 (lhs7 V c) (t.val % 2 * 4096 + (j 0).val) (t.val / 2 / 2 * 1024 + (j 1).val) := by
  refine Eq.trans ?_ (at2_of (lhs7 V c) (((cfg7.win 1).blk t).view.emb j) _ _ ?_ ?_)
  · unfold iblk7; rw [View.read_apply]; rfl
  · exact (Pipeline.Window.rect_emb_val_off win7_1 t j 0).trans (by show win7_1.index t 0 * 4096 + _ = _; rw [(lidx7 t).1])
  · exact (Pipeline.Window.rect_emb_val_off win7_1 t j 1).trans (by show win7_1.index t 1 * 1024 + _ = _; rw [(lidx7 t).2])

/-- A block of the right operand. -/
theorem iblk7_2_apply (c : Dev nD) (t : Fin cfg7.N) (j : S4096x2048.Idx) :
    (iblk7 V c 2 t : S4096x2048.Idx → EReal) j = at2 (rhs7 V c) (t.val % 2 * 4096 + (j 0).val) (t.val / 2 % 2 * 2048 + (j 1).val) := by
  refine Eq.trans ?_ (at2_of (rhs7 V c) (((cfg7.win 2).blk t).view.emb j) _ _ ?_ ?_)
  · unfold iblk7; rw [View.read_apply]; rfl
  · exact (Pipeline.Window.rect_emb_val_off win7_2 t j 0).trans (by show win7_2.index t 0 * 4096 + _ = _; rw [(ridx7 t).1])
  · exact (Pipeline.Window.rect_emb_val_off win7_2 t j 1).trans (by show win7_2.index t 1 * 2048 + _ = _; rw [(ridx7 t).2])

/-- The scale, at every point. -/
theorem iblk7_0_apply (c : Dev nD) (t : Fin cfg7.N) (j : S1.Idx) : (iblk7 V c 0 t : S1.Idx → EReal) j = scl7 V c := by
  unfold iblk7; rw [View.read_apply]; exact ld_one (Val := Elt Ideal) (e := .f32) _ _ _

/-- The term of the running sum: block `q` of the result, at `j`, at `k` along the contracted axis. -/
def term7 (c : Dev nD) (q : ℕ) (j : S1024x2048.Idx) (k : ℕ) : EReal :=
  at2 (lhs7 V c) k (q / 2 * 1024 + (j 0).val) * at2 (rhs7 V c) k (q % 2 * 2048 + (j 1).val)

theorem block7 (c : Dev nD) (xo : Vec Ideal S1024x2048 .f32) (n : ℕ) (h : n < cfg7.N) (j : S1024x2048.Idx) :
    k7_pay2 xo (iblk7 V c 1 ⟨n, h⟩) (iblk7 V c 2 ⟨n, h⟩) j
      = (xo j : EReal) + ∑ k : Fin 4096, term7 V c (n / 2) j (n % 2 * 4096 + k) := by
  rw [pay7_2_apply]
  congr 1
  refine Finset.sum_congr rfl fun k _ => ?_
  exact congrArg₂ (· * ·) (iblk7_1_apply V c ⟨n, h⟩ (ix2 k (j 0))) (iblk7_2_apply V c ⟨n, h⟩ (ix2 k (j 1)))

/-- A last point holds the scaled product of its whole row and column. -/
theorem outs7_last (c : Dev nD) (n : ℕ) (h : n < cfg7.N) (j : S1024x2048.Idx) (hl : n % 2 = 1) :
    (outsAt7 V c n h : S1024x2048.Idx → EReal) j = (∑ k : Fin 8192, term7 V c (n / 2) j k) * scl7 V c := by
  refine sweep cfg7.N 2 4096 8192 (by decide) (by norm_num) (fun n h j => (outsAt7 V c n h : S1024x2048.Idx → EReal) j) (scl7 V c) (term7 V c) ?_ ?_ ?_ n h j hl
  · intro n h j hn
    refine (congrFun ((outsAt7_A V c ⟨n, h⟩ hn (by dsimp only; omega)).trans (val7_A ..)) j).trans ?_
    rw [block7 V c _ n h j, pay7_1_apply]
  · intro n h j hn hn'
    omega
  · intro n h j hn
    refine (congrFun ((outsAt7_B V c ⟨n + 1, h⟩ (by dsimp only; omega) hn).trans (val7_B ..)) j).trans ?_
    rw [pay7_3_apply, block7 V c _ (n + 1) h j, iblk7_0_apply]
    rfl

/-- The product the region computes. -/
def result7 (c : Dev nD) : Buf (Elt Ideal) ((c : Thread nD τ).loc (Pipeline.arrRef spec7 3)) :=
  (mmTN (lhs7 V c) (rhs7 V c) (scl7 V c) : S16384x4096.Idx → EReal)

theorem flushed7_eq (c : Dev nD) (t : Fin cfg7.N) (hf : (cfg7.win 3).flush t = true) :
    (dat7 V c).flushed 3 t = ((cfg7.win 3).blk t).view.read (Elt Ideal) (result7 V c) := by
  have h3 := (flush7_3 t).mp hf
  show (cfg7.win 3).cut (grid7.coords t) ((dat7 V c).after 3 t) = _
  rw [after7_3]
  refine funext fun (j : S1024x2048.Idx) => ?_
  refine (outs7_last V c t.val t.isLt j h3).trans ?_
  rw [View.read_apply]
  have e0 : ((((cfg7.win 3).blk t).view.emb j : S16384x4096.Idx) 0).val = t.val / 2 / 2 * 1024 + (j 0).val :=
    (Pipeline.Window.rect_emb_val_off win7_3 t j 0).trans (by show win7_3.index t 0 * 1024 + _ = _; rw [(oidx7 t).1])
  have e1 : ((((cfg7.win 3).blk t).view.emb j : S16384x4096.Idx) 1).val = t.val / 2 % 2 * 2048 + (j 1).val :=
    (Pipeline.Window.rect_emb_val_off win7_3 t j 1).trans (by show win7_3.index t 1 * 2048 + _ = _; rw [(oidx7 t).2])
  generalize ((cfg7.win 3).blk t).view.emb j = i at e0 e1 ⊢
  show _ = (∑ k : Fin 8192, lhs7 V c (ix2 k (i 0)) * rhs7 V c (ix2 k (i 1))) * scl7 V c
  refine congrArg (fun x : EReal => x * scl7 V c) (Finset.sum_congr rfl fun k _ => ?_)
  exact congrArg₂ (· * ·) (at2_of (lhs7 V c) (ix2 k (i 0)) _ _ rfl e0).symm (at2_of (rhs7 V c) (ix2 k (i 1)) _ _ rfl e1).symm

/-- The array region 7 leaves is the scaled product of its operands. -/
theorem final7 (c : Dev nD) : (dat7 V c).arrAt 3 cfg7.N = result7 V c :=
  (dat7 V c).arrAt_eq_of_cover 3 (result7 V c) (flushed7_eq V c) fun i => by
    have h0 : ((i : S16384x4096.Idx) 0).val < 16384 := (i 0).isLt
    have h1 : ((i : S16384x4096.Idx) 1).val < 4096 := (i 1).isLt
    have hN : cfg7.N = 64 := N_7
    refine ⟨⟨(((i : S16384x4096.Idx) 0).val / 1024 * 2 + ((i : S16384x4096.Idx) 1).val / 2048) * 2 + 1, by omega⟩, (flush7_3 _).mpr (by dsimp only; omega), ?_⟩
    generalize ht : (⟨(((i : S16384x4096.Idx) 0).val / 1024 * 2 + ((i : S16384x4096.Idx) 1).val / 2048) * 2 + 1, _⟩ : Fin cfg7.N) = t
    have hv : t.val = (((i : S16384x4096.Idx) 0).val / 1024 * 2 + ((i : S16384x4096.Idx) 1).val / 2048) * 2 + 1 := by rw [← ht]
    show i ∈ ((View.whole (Pipeline.arrRef spec7 3)).slice (win7_3.rect t)).set
    rw [View.set_slice_whole, Rect.mem_set_unit]
    intro a
    match a with
    | ⟨0, _⟩ => show win7_3.index t 0 * 1024 ≤ ((i : S16384x4096.Idx) 0).val ∧ ((i : S16384x4096.Idx) 0).val < win7_3.index t 0 * 1024 + 1024
                rw [(oidx7 t).1]; omega
    | ⟨1, _⟩ => show win7_3.index t 1 * 2048 ≤ ((i : S16384x4096.Idx) 1).val ∧ ((i : S16384x4096.Idx) 1).val < win7_3.index t 1 * 2048 + 2048
                rw [(oidx7 t).2]; omega

end Cert.Kernel.Gen

end
-- ==== Proof.MatmulDw1Val.lean ====
/-
  The values of region 8: the block its matrix product leaves at each grid point, in each of the body's cases, the running
  sum over the contracted axis, and the whole array it ends with.
-/
module

public import proofs.«01_k».proof.Proof.MatmulDw1
public import proofs.«01_k».proof.Proof.MatmulDw2Val

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid8.Coords) (arg3 : Memref sig .tc .smem S1 .f32) (harg3 : arg3.IsWhole) (arg4 : Memref sig .tc .vmem S4096x1024 .fp8e4m3) (harg4 : arg4.IsWhole) (arg5 : Memref sig .tc .vmem S4096x2048 .fp8e5m2) (harg5 : arg5.IsWhole) (arg6 : Memref sig .tc .vmem S1024x2048 .f32) (harg6 : arg6.IsWhole)

section caseA
variable (hc0 : cond8_0 i) (hc1 : ¬cond8_1 i)
    (x0 : Vec F S1 .f32) (x1 : Vec F S4096x1024 .fp8e4m3) (x2 : Vec F S4096x2048 .fp8e5m2)

/-- A first point leaves its block's product, over zeros. -/
theorem val8_A :
    out8_A_3 c i _ harg3 _ harg4 _ harg5 _ harg6 hc0 hc1 x0 x1 x2 = k8_pay2 (k8_pay1 (F := F)) x1 x2 := by
  unfold out8_A_3
  rw [View.read_writes_eq_canon _ _ _ (fun _ => cover8_A_3 ..)]
  unfold kernelRun8_A
  dsimp only
  sl_unfold_words
  rw [View.canon_cons_unit_zero (S := S1024x2048) hz2, View.readCov_unit_zero (S := S1024x2048) _ hz2]
  simp only [View.readAt_eq_ld, Memref.IsWhole.read_unread, ld_whole]

end caseA

section caseB
variable (hc0 : ¬cond8_0 i) (hc1 : cond8_1 i)
    (x0 : Vec F S1 .f32) (x1 : Vec F S4096x1024 .fp8e4m3) (x2 : Vec F S4096x2048 .fp8e5m2) (xo3 : Vec F S1024x2048 .f32)

/-- A last point adds its block's product and multiplies by the scale. -/
theorem val8_B :
    out8_B_3 c i _ harg3 _ harg4 _ harg5 _ harg6 hc0 hc1 x0 x1 x2 xo3 = k8_pay3 (k8_pay2 xo3 x1 x2) (x0 (ix1 0)) := by
  unfold out8_B_3
  rw [View.read_writes_eq_canon _ _ _ (fun _ => cover8_B_3 ..)]
  unfold kernelRun8_B
  dsimp only
  sl_unfold_words
  rw [View.canon_cons_unit_zero (S := S1024x2048) hz2, View.readCov_unit_zero (S := S1024x2048) _ hz2]
  simp only [View.readAt_eq_ld, Memref.IsWhole.read_unread, ld_whole]
  exact congrArg (k8_pay3 _) (ld_one x0 _ _)

end caseB

end runs

end

/-- The block product at an index, over the extended reals. -/
theorem pay8_2_apply (xo : Vec Ideal S1024x2048 .f32) (x1 : Vec Ideal S4096x1024 .fp8e4m3) (x2 : Vec Ideal S4096x2048 .fp8e5m2) (j : S1024x2048.Idx) :
    k8_pay2 xo x1 x2 j = (xo j : EReal) + ∑ k : Fin 4096, (x1 (ix2 k (j 0)) : EReal) * x2 (ix2 k (j 1)) := by
  pointwise [k8_pay2]

/-- The scaling at an index, over the extended reals. -/
theorem pay8_3_apply (xo : Vec Ideal S1024x2048 .f32) (s : EReal) (j : S1024x2048.Idx) :
    k8_pay3 (F := Ideal) xo s j = (xo j : EReal) * s := by
  pointwise [k8_pay3]

theorem pay8_1_apply (j : S1024x2048.Idx) : k8_pay1 (F := Ideal) j = (0 : EReal) := by
  pointwise [k8_pay1]

theorem lidx8 : ∀ t : Fin grid8.N, win8_1.index t 0 = t.val % 2 ∧ win8_1.index t 1 = t.val / 2 / 8 := by decide +kernel
theorem ridx8 : ∀ t : Fin grid8.N, win8_2.index t 0 = t.val % 2 ∧ win8_2.index t 1 = t.val / 2 % 8 := by decide +kernel
theorem oidx8 : ∀ t : Fin grid8.N, win8_3.index t 0 = t.val / 2 / 8 ∧ win8_3.index t 1 = t.val / 2 % 8 := by decide +kernel

variable (V : (c : Dev nD) → (b : Ref sig .tc) → Buf (Elt Ideal) ((c : Thread nD τ).loc b))

/-- The left operand, the right operand and the scale of the product. -/
abbrev lhs8 (c : Dev nD) : S8192x4096.Idx → EReal := V c (Pipeline.arrRef spec8 1)
abbrev rhs8 (c : Dev nD) : S8192x16384.Idx → EReal := V c (Pipeline.arrRef spec8 2)
abbrev scl8 (c : Dev nD) : EReal := (V c (Pipeline.arrRef spec8 0) : S1.Idx → EReal) (ix1 0)

/-- A block of the left operand. -/
theorem iblk8_1_apply (c : Dev nD) (t : Fin cfg8.N) (j : S4096x1024.Idx) :
    (iblk8 V c 1 t : S4096x1024.Idx → EReal) j = at2 (lhs8 V c) (t.val % 2 * 4096 + (j 0).val) (t.val / 2 / 8 * 1024 + (j 1).val) := by
  refine Eq.trans ?_ (at2_of (lhs8 V c) (((cfg8.win 1).blk t).view.emb j) _ _ ?_ ?_)
  · unfold iblk8; rw [View.read_apply]; rfl
  · exact (Pipeline.Window.rect_emb_val_off win8_1 t j 0).trans (by show win8_1.index t 0 * 4096 + _ = _; rw [(lidx8 t).1])
  · exact (Pipeline.Window.rect_emb_val_off win8_1 t j 1).trans (by show win8_1.index t 1 * 1024 + _ = _; rw [(lidx8 t).2])

/-- A block of the right operand. -/
theorem iblk8_2_apply (c : Dev nD) (t : Fin cfg8.N) (j : S4096x2048.Idx) :
    (iblk8 V c 2 t : S4096x2048.Idx → EReal) j = at2 (rhs8 V c) (t.val % 2 * 4096 + (j 0).val) (t.val / 2 % 8 * 2048 + (j 1).val) := by
  refine Eq.trans ?_ (at2_of (rhs8 V c) (((cfg8.win 2).blk t).view.emb j) _ _ ?_ ?_)
  · unfold iblk8; rw [View.read_apply]; rfl
  · exact (Pipeline.Window.rect_emb_val_off win8_2 t j 0).trans (by show win8_2.index t 0 * 4096 + _ = _; rw [(ridx8 t).1])
  · exact (Pipeline.Window.rect_emb_val_off win8_2 t j 1).trans (by show win8_2.index t 1 * 2048 + _ = _; rw [(ridx8 t).2])

/-- The scale, at every point. -/
theorem iblk8_0_apply (c : Dev nD) (t : Fin cfg8.N) (j : S1.Idx) : (iblk8 V c 0 t : S1.Idx → EReal) j = scl8 V c := by
  unfold iblk8; rw [View.read_apply]; exact ld_one (Val := Elt Ideal) (e := .f32) _ _ _

/-- The term of the running sum: block `q` of the result, at `j`, at `k` along the contracted axis. -/
def term8 (c : Dev nD) (q : ℕ) (j : S1024x2048.Idx) (k : ℕ) : EReal :=
  at2 (lhs8 V c) k (q / 8 * 1024 + (j 0).val) * at2 (rhs8 V c) k (q % 8 * 2048 + (j 1).val)

theorem block8 (c : Dev nD) (xo : Vec Ideal S1024x2048 .f32) (n : ℕ) (h : n < cfg8.N) (j : S1024x2048.Idx) :
    k8_pay2 xo (iblk8 V c 1 ⟨n, h⟩) (iblk8 V c 2 ⟨n, h⟩) j
      = (xo j : EReal) + ∑ k : Fin 4096, term8 V c (n / 2) j (n % 2 * 4096 + k) := by
  rw [pay8_2_apply]
  congr 1
  refine Finset.sum_congr rfl fun k _ => ?_
  exact congrArg₂ (· * ·) (iblk8_1_apply V c ⟨n, h⟩ (ix2 k (j 0))) (iblk8_2_apply V c ⟨n, h⟩ (ix2 k (j 1)))

/-- A last point holds the scaled product of its whole row and column. -/
theorem outs8_last (c : Dev nD) (n : ℕ) (h : n < cfg8.N) (j : S1024x2048.Idx) (hl : n % 2 = 1) :
    (outsAt8 V c n h : S1024x2048.Idx → EReal) j = (∑ k : Fin 8192, term8 V c (n / 2) j k) * scl8 V c := by
  refine sweep cfg8.N 2 4096 8192 (by decide) (by norm_num) (fun n h j => (outsAt8 V c n h : S1024x2048.Idx → EReal) j) (scl8 V c) (term8 V c) ?_ ?_ ?_ n h j hl
  · intro n h j hn
    refine (congrFun ((outsAt8_A V c ⟨n, h⟩ hn (by dsimp only; omega)).trans (val8_A ..)) j).trans ?_
    rw [block8 V c _ n h j, pay8_1_apply]
  · intro n h j hn hn'
    omega
  · intro n h j hn
    refine (congrFun ((outsAt8_B V c ⟨n + 1, h⟩ (by dsimp only; omega) hn).trans (val8_B ..)) j).trans ?_
    rw [pay8_3_apply, block8 V c _ (n + 1) h j, iblk8_0_apply]
    rfl

/-- The product the region computes. -/
def result8 (c : Dev nD) : Buf (Elt Ideal) ((c : Thread nD τ).loc (Pipeline.arrRef spec8 3)) :=
  (mmTN (lhs8 V c) (rhs8 V c) (scl8 V c) : S4096x16384.Idx → EReal)

theorem flushed8_eq (c : Dev nD) (t : Fin cfg8.N) (hf : (cfg8.win 3).flush t = true) :
    (dat8 V c).flushed 3 t = ((cfg8.win 3).blk t).view.read (Elt Ideal) (result8 V c) := by
  have h3 := (flush8_3 t).mp hf
  show (cfg8.win 3).cut (grid8.coords t) ((dat8 V c).after 3 t) = _
  rw [after8_3]
  refine funext fun (j : S1024x2048.Idx) => ?_
  refine (outs8_last V c t.val t.isLt j h3).trans ?_
  rw [View.read_apply]
  have e0 : ((((cfg8.win 3).blk t).view.emb j : S4096x16384.Idx) 0).val = t.val / 2 / 8 * 1024 + (j 0).val :=
    (Pipeline.Window.rect_emb_val_off win8_3 t j 0).trans (by show win8_3.index t 0 * 1024 + _ = _; rw [(oidx8 t).1])
  have e1 : ((((cfg8.win 3).blk t).view.emb j : S4096x16384.Idx) 1).val = t.val / 2 % 8 * 2048 + (j 1).val :=
    (Pipeline.Window.rect_emb_val_off win8_3 t j 1).trans (by show win8_3.index t 1 * 2048 + _ = _; rw [(oidx8 t).2])
  generalize ((cfg8.win 3).blk t).view.emb j = i at e0 e1 ⊢
  show _ = (∑ k : Fin 8192, lhs8 V c (ix2 k (i 0)) * rhs8 V c (ix2 k (i 1))) * scl8 V c
  refine congrArg (fun x : EReal => x * scl8 V c) (Finset.sum_congr rfl fun k _ => ?_)
  exact congrArg₂ (· * ·) (at2_of (lhs8 V c) (ix2 k (i 0)) _ _ rfl e0).symm (at2_of (rhs8 V c) (ix2 k (i 1)) _ _ rfl e1).symm

/-- The array region 8 leaves is the scaled product of its operands. -/
theorem final8 (c : Dev nD) : (dat8 V c).arrAt 3 cfg8.N = result8 V c :=
  (dat8 V c).arrAt_eq_of_cover 3 (result8 V c) (flushed8_eq V c) fun i => by
    have h0 : ((i : S4096x16384.Idx) 0).val < 4096 := (i 0).isLt
    have h1 : ((i : S4096x16384.Idx) 1).val < 16384 := (i 1).isLt
    have hN : cfg8.N = 64 := N_8
    refine ⟨⟨(((i : S4096x16384.Idx) 0).val / 1024 * 8 + ((i : S4096x16384.Idx) 1).val / 2048) * 2 + 1, by omega⟩, (flush8_3 _).mpr (by dsimp only; omega), ?_⟩
    generalize ht : (⟨(((i : S4096x16384.Idx) 0).val / 1024 * 8 + ((i : S4096x16384.Idx) 1).val / 2048) * 2 + 1, _⟩ : Fin cfg8.N) = t
    have hv : t.val = (((i : S4096x16384.Idx) 0).val / 1024 * 8 + ((i : S4096x16384.Idx) 1).val / 2048) * 2 + 1 := by rw [← ht]
    show i ∈ ((View.whole (Pipeline.arrRef spec8 3)).slice (win8_3.rect t)).set
    rw [View.set_slice_whole, Rect.mem_set_unit]
    intro a
    match a with
    | ⟨0, _⟩ => show win8_3.index t 0 * 1024 ≤ ((i : S4096x16384.Idx) 0).val ∧ ((i : S4096x16384.Idx) 0).val < win8_3.index t 0 * 1024 + 1024
                rw [(oidx8 t).1]; omega
    | ⟨1, _⟩ => show win8_3.index t 1 * 2048 ≤ ((i : S4096x16384.Idx) 1).val ∧ ((i : S4096x16384.Idx) 1).val < win8_3.index t 1 * 2048 + 2048
                rw [(oidx8 t).2]; omega

end Cert.Kernel.Gen

end
-- ==== Proof.Amax.lean ====
/-
  The largest magnitude of an array over the extended reals, by its upper bounds: a reduction by maximum, a reshape and a
  running maximum are each bounded exactly when what they range over is. And the quantised value of an element.
-/
module

public import proofs.«01_k».proof.Proof.MatmulSum

@[expose] public section

noncomputable section

namespace Cert.Model

open Idealize.ShloMosaic

/-- The least element is what a maximum reduction starts from. -/
theorem ofBits_bot : (FloatOps.ofBits (F := Ideal) .f32 0xFF800000#32 : EReal) = ⊥ := by
  show Ideal.ofBits .f32 0xFF800000#32 = ⊥
  simp [Ideal.ofBits, Ideal.ieee]

/-- A reduction by maximum is bounded at every result index exactly when its source is bounded everywhere. -/
theorem red_le {s t : Shape} {axes : List (Fin s.rank)} (src : FVec Ideal s .f32) (h : s.Reduces axes t) (hφ : FKind.Formats .f32)
    (hacc : (0xFF800000#32 : BitVec FTy.f32.bits) = FKind.maximumf.neutral .f32 hφ) (b : EReal) :
    (∀ j, (multiReduction .maximumf axes t src 0xFF800000#32 h hφ hacc j : EReal) ≤ b) ↔ ∀ i, (src i : EReal) ≤ b := by
  have key : ∀ j, (multiReduction .maximumf axes t src 0xFF800000#32 h hφ hacc j : EReal)
      = (Finset.univ.filter fun i => h.drop i = j).fold max ⊥ (fun i => (src i : EReal)) := fun j => by
    rw [multiReduction_maximumf_eq_fold, ofBits_bot]; rfl
  constructor
  · intro hb i
    have := hb (h.drop i)
    rw [key, Finset.fold_max_le] at this
    exact this.2 i (by simp)
  · intro hb j
    rw [key, Finset.fold_max_le]
    exact ⟨bot_le, fun i _ => hb i⟩

/-- A reshape is bounded exactly when its operand is. -/
theorem cast_le {s t : Shape} (x : s.Idx → EReal) (h : s.ShapeCasts t) (b : EReal) :
    (∀ j, shapeCast t x h j ≤ b) ↔ ∀ i, x i ≤ b := by
  unfold shapeCast
  constructor
  · intro hb i
    have := hb ((Shape.reshapeEquiv h).symm i)
    simpa using this
  · exact fun hb j => hb _

/-- The whole maximum of a matrix, taken through a leading unit axis, is bounded exactly when the matrix is. -/
theorem scalar_le {R C : ℕ} (v : FVec Ideal ⟨2, ![R, C]⟩ .f32) (h1 : (⟨2, ![R, C]⟩ : Shape).ShapeCasts ⟨3, ![1, R, C]⟩)
    (h2 : (⟨3, ![1, R, C]⟩ : Shape).Reduces [1, 2] ⟨1, ![1]⟩) (hφ : FKind.Formats .f32)
    (hacc : (0xFF800000#32 : BitVec FTy.f32.bits) = FKind.maximumf.neutral .f32 hφ)
    (h3 : (⟨1, ![1]⟩ : Shape).ShapeCasts ⟨3, ![1, 1, 1]⟩) (k : (⟨3, ![1, 1, 1]⟩ : Shape).Idx) (b : EReal) :
    (shapeCast ⟨3, ![1, 1, 1]⟩ (multiReduction .maximumf [1, 2] ⟨1, ![1]⟩ (shapeCast ⟨3, ![1, R, C]⟩ v h1) 0xFF800000#32 h2 hφ hacc) h3 k : EReal) ≤ b
      ↔ ∀ j, (v j : EReal) ≤ b := by
  rw [← cast_le (fun j => (v j : EReal)) h1 b]
  refine Iff.trans ?_ (red_le (shapeCast ⟨3, ![1, R, C]⟩ v h1) h2 hφ hacc b)
  constructor
  · intro hb j
    rw [ld_one (Val := Elt Ideal) (e := .f32) (multiReduction .maximumf [1, 2] ⟨1, ![1]⟩ (shapeCast ⟨3, ![1, R, C]⟩ v h1) 0xFF800000#32 h2 hφ hacc) j (Shape.reshapeEquiv h3 k)]
    exact hb
  · exact fun hb => hb _

/-- The code of an element: scaled by the inverse scale and clipped to the format's range. -/
def code (lo hi : BitVec 32) (inv v : EReal) : EReal :=
  min (Ideal.ofBits .f32 hi) (max (Ideal.ofBits .f32 lo) (v * inv))

/-- The Gaussian's cumulative distribution, as the hidden layer's activation writes it. -/
def cdf (h : EReal) : EReal :=
  Ideal.ofBits .f32 0x3F000000#32 * (1 + Ideal.erf (h * Ideal.ofBits .f32 0x3F3504F3#32))

/-- The activation. -/
def gelu (h : EReal) : EReal := h * cdf h

/-- The activation's derivative. -/
def dgelu (h : EReal) : EReal :=
  cdf h + h * Ideal.ofBits .f32 0x3ECC422A#32 * Ideal.exp (Ideal.ofBits .f32 0xBF000000#32 * h * h)

/-- The magnitude of an element. -/
def mag (x : EReal) : EReal := max x (-x)

theorem mag_nonneg (x : EReal) : 0 ≤ mag x := by
  unfold mag
  rcases le_total 0 x with h | h
  · exact le_max_of_le_left h
  · exact le_max_of_le_right (EReal.neg_nonneg.mpr h)

/-- The largest magnitude of an array. -/
def amax {S : Type} (v : S → EReal) : EReal := ⨆ i, mag (v i)

theorem amax_eq {S : Type} (v : S → EReal) (x : EReal) (h : ∀ b, x ≤ b ↔ ∀ i, mag (v i) ≤ b) : x = amax v :=
  eq_of_forall_ge_iff fun b => by rw [h b]; unfold amax; rw [iSup_le_iff]

end Cert.Model

end
-- ==== Proof.QuantXVal.lean ====
/-
  The values of region 0: the codes each grid point leaves, the running largest magnitude, and the two arrays it ends with.
-/
module

public import proofs.«01_k».proof.Proof.QuantX
public import proofs.«01_k».proof.Proof.MatmulDw1Val
public import proofs.«01_k».proof.Proof.Amax

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid0.Coords) (arg1 : Memref sig .tc .smem S1 .f32) (harg1 : arg1.IsWhole) (arg2 : Memref sig .tc .vmem S512x4096 .f32) (harg2 : arg2.IsWhole) (arg3 : Memref sig .tc .vmem S512x4096 .fp8e4m3) (harg3 : arg3.IsWhole) (arg4 : Memref sig .tc .smem S1x1 .f32) (harg4 : arg4.IsWhole) (arg5 : Memref sig .tc .vmem S8x4096 .f32) (harg5 : arg5.IsWhole)

section caseA
variable (hc0 : cond0_0 i) (hc1 : ¬cond0_1 i) (hc2 : ¬cond0_2 i)
    (x0 : Vec F S1 .f32) (x1 : Vec F S512x4096 .f32)

theorem val0_A_2 :
    out0_A_2 c i _ harg1 _ harg2 _ harg3 _ harg4 _ harg5 hc0 hc1 hc2 x0 x1 = k0_pay2 x1 (x0 (ix1 0)) := by
  unfold out0_A_2
  rw [View.read_writes_eq_canon _ _ _ (fun _ => cover0_A_2 ..)]
  unfold kernelRun0_A
  dsimp only
  sl_unfold_words
  rw [View.canon_unit_zero hz2]
  simp only [View.readAt_eq_ld, Memref.IsWhole.read_unread, ld_whole]
  exact congrArg (k0_pay2 _) (ld_one x0 _ _)

theorem sval0_A :
    sout0_A_0 c i _ harg1 _ harg2 _ harg3 _ harg4 _ harg5 hc0 hc1 hc2 x0 x1 = k0_pay4 x1 := by
  unfold sout0_A_0
  rw [View.read_writes_eq_canon _ _ _ (fun _ => scover0_A_0 ..)]
  unfold kernelRun0_A
  dsimp only
  sl_unfold_words
  rw [View.canon_unit_zero hz2]
  simp only [View.readAt_eq_ld, Memref.IsWhole.read_unread, ld_whole]

end caseA

section caseB
variable (hc0 : ¬cond0_0 i) (hc1 : cond0_1 i) (hc2 : ¬cond0_2 i)
    (x0 : Vec F S1 .f32) (x1 : Vec F S512x4096 .f32) (xs0 : Vec F S8x4096 .f32)

theorem val0_B_2 :
    out0_B_2 c i _ harg1 _ harg2 _ harg3 _ harg4 _ harg5 hc0 hc1 hc2 x0 x1 xs0 = k0_pay2 x1 (x0 (ix1 0)) := by
  unfold out0_B_2
  rw [View.read_writes_eq_canon _ _ _ (fun _ => cover0_B_2 ..)]
  unfold kernelRun0_B
  dsimp only
  sl_unfold_words
  rw [View.canon_unit_zero hz2]
  simp only [View.readAt_eq_ld, Memref.IsWhole.read_unread, ld_whole]
  exact congrArg (k0_pay2 _) (ld_one x0 _ _)

theorem sval0_B :
    sout0_B_0 c i _ harg1 _ harg2 _ harg3 _ harg4 _ harg5 hc0 hc1 hc2 x0 x1 xs0 = k0_pay5 x1 xs0 := by
  unfold sout0_B_0
  rw [View.read_writes_eq_canon _ _ _ (fun _ => scover0_B_0 ..)]
  unfold kernelRun0_B
  dsimp only
  sl_unfold_words
  rw [View.canon_unit_zero hz2]
  simp only [View.readAt_eq_ld, Memref.IsWhole.read_unread, ld_whole]

end caseB

section caseC
variable (hc0 : ¬cond0_0 i) (hc1 : cond0_1 i) (hc2 : cond0_2 i)
    (x0 : Vec F S1 .f32) (x1 : Vec F S512x4096 .f32) (xs0 : Vec F S8x4096 .f32)

theorem val0_C_2 :
    out0_C_2 c i _ harg1 _ harg2 _ harg3 _ harg4 _ harg5 hc0 hc1 hc2 x0 x1 xs0 = k0_pay2 x1 (x0 (ix1 0)) := by
  unfold out0_C_2
  rw [View.read_writes_eq_canon _ _ _ (fun _ => cover0_C_2 ..)]
  unfold kernelRun0_C
  dsimp only
  sl_unfold_words
  rw [View.canon_unit_zero hz2]
  simp only [View.readAt_eq_ld, Memref.IsWhole.read_unread, ld_whole]
  exact congrArg (k0_pay2 _) (ld_one x0 _ _)

theorem sval0_C :
    sout0_C_0 c i _ harg1 _ harg2 _ harg3 _ harg4 _ harg5 hc0 hc1 hc2 x0 x1 xs0 = k0_pay5 x1 xs0 := by
  unfold sout0_C_0
  rw [View.read_writes_eq_canon _ _ _ (fun _ => scover0_C_0 ..)]
  unfold kernelRun0_C
  dsimp only
  sl_unfold_words
  rw [View.canon_unit_zero hz2]
  simp only [View.readAt_eq_ld, Memref.IsWhole.read_unread, ld_whole]

theorem val0_C_3 :
    out0_C_3 c i _ harg1 _ harg2 _ harg3 _ harg4 _ harg5 hc0 hc1 hc2 x0 x1 xs0 = fun _ => k0_pay6 (k0_pay5 x1 xs0) := by
  unfold out0_C_3
  rw [View.read_writes_eq_canon _ _ _ (fun _ => cover0_C_3 ..)]
  unfold kernelRun0_C
  dsimp only
  sl_unfold_words
  rw [View.canon_unit_zero (S := S1x1) hz2, View.readCov_unit_zero (S := S8x4096) _ hz2]
  simp only [View.readAt_eq_ld, Memref.IsWhole.read_unread, ld_whole]
  rfl

end caseC

end runs

end

/-- A code at an index, over the extended reals. -/
theorem pay0_2_apply (x : Vec Ideal S512x4096 .f32) (s : EReal) (j : S512x4096.Idx) :
    k0_pay2 (F := Ideal) x s j = code (0xC3E00000#32) (0x43E00000#32) s (x j) := by
  pointwise [k0_pay2, k0_pay1]
  rfl

/-- One block's magnitudes, folded to the scratch's shape, by upper bounds. -/
theorem pay0_3_le (x : Vec Ideal S512x4096 .f32) (b : EReal) :
    (∀ j, (k0_pay3 (F := Ideal) x j : EReal) ≤ b) ↔ ∀ i : S512x4096.Idx, mag (x i) ≤ b := by
  unfold k0_pay3 k0_pay1
  rw [shapeCast_self]
  exact (red_le _ _ _ _ b).trans (cast_le _ _ b)

theorem pay0_4_le (x : Vec Ideal S512x4096 .f32) (b : EReal) :
    (∀ j, (k0_pay4 (F := Ideal) x j : EReal) ≤ b) ↔ ∀ i : S512x4096.Idx, mag (x i) ≤ b := by
  unfold k0_pay4
  rw [shapeCast_self]
  exact pay0_3_le x b

theorem pay0_5_le (x : Vec Ideal S512x4096 .f32) (s : Vec Ideal S8x4096 .f32) (b : EReal) :
    (∀ j, (k0_pay5 (F := Ideal) x s j : EReal) ≤ b) ↔ (∀ j, (s j : EReal) ≤ b) ∧ ∀ i : S512x4096.Idx, mag (x i) ≤ b := by
  unfold k0_pay5
  rw [shapeCast_self, ← pay0_3_le x b, ← forall_and]
  exact forall_congr' fun j => (max_le_iff : max (s j : EReal) (k0_pay3 (F := Ideal) x j) ≤ b ↔ _)

theorem pay0_6_le (s : Vec Ideal S8x4096 .f32) (b : EReal) : (k0_pay6 (F := Ideal) s : EReal) ≤ b ↔ ∀ j, (s j : EReal) ≤ b := by
  unfold k0_pay6
  dsimp only
  exact scalar_le _ _ _ _ _ _ _ b

theorem iidx0 : ∀ t : Fin grid0.N, win0_1.index t 0 = t.val ∧ win0_1.index t 1 = 0 := by decide +kernel
theorem oidx0 : ∀ t : Fin grid0.N, win0_2.index t 0 = t.val ∧ win0_2.index t 1 = 0 := by decide +kernel
theorem aidx0 : ∀ t : Fin grid0.N, win0_3.index t 0 = 0 ∧ win0_3.index t 1 = 0 := by decide +kernel

variable (V : (c : Dev nD) → (b : Ref sig .tc) → Buf (Elt Ideal) ((c : Thread nD τ).loc b))

/-- The array and the inverse scale. -/
abbrev src0 (c : Dev nD) : S8192x4096.Idx → EReal := V c (Pipeline.arrRef spec0 1)
abbrev inv0 (c : Dev nD) : EReal := (V c (Pipeline.arrRef spec0 0) : S1.Idx → EReal) (ix1 0)

theorem iblk0_1_apply (c : Dev nD) (t : Fin cfg0.N) (j : S512x4096.Idx) :
    (iblk0 V c 1 t : S512x4096.Idx → EReal) j = at2 (src0 V c) (t.val * 512 + (j 0).val) (j 1).val := by
  refine Eq.trans ?_ (at2_of (src0 V c) (((cfg0.win 1).blk t).view.emb j) _ _ ?_ ?_)
  · unfold iblk0; rw [View.read_apply]; rfl
  · exact (Pipeline.Window.rect_emb_val_off win0_1 t j 0).trans (by show win0_1.index t 0 * 512 + _ = _; rw [(iidx0 t).1])
  · exact (Pipeline.Window.rect_emb_val_off win0_1 t j 1).trans (by show win0_1.index t 1 * 4096 + _ = _; rw [(iidx0 t).2, Nat.zero_mul, Nat.zero_add])

theorem iblk0_0_apply (c : Dev nD) (t : Fin cfg0.N) (j : S1.Idx) : (iblk0 V c 0 t : S1.Idx → EReal) j = inv0 V c := by
  unfold iblk0; rw [View.read_apply]; exact ld_one (Val := Elt Ideal) (e := .f32) _ _ _

/-- Every point leaves its block's codes. -/
theorem codes0 (c : Dev nD) (t : Fin cfg0.N) :
    (outsAt0 V c t.val t.isLt).1 = k0_pay2 (F := Ideal) (iblk0 V c 1 t) ((iblk0 V c 0 t : S1.Idx → EReal) (ix1 0)) := by
  have hN : cfg0.N = 16 := N_0
  have ht := t.isLt
  by_cases h0 : t.val % 16 = 0
  · rw [outsAt0_A V c t h0 (by omega) (by omega)]; dsimp only [pointOuts0_A, caseOuts0_A]; rw [val0_A_2]
  by_cases h2 : t.val % 16 = 15
  · rw [outsAt0_C V c t h0 (by omega) h2]; dsimp only [pointOuts0_C, caseOuts0_C]; rw [val0_C_2]
  · rw [outsAt0_B V c t h0 (by omega) h2]; dsimp only [pointOuts0_B, caseOuts0_B]; rw [val0_B_2]

/-- The scratch after point `n` is bounded exactly when the blocks up to `n` are. -/
theorem scratch0 (c : Dev nD) (b : EReal) : ∀ (n : ℕ) (h : n < cfg0.N),
    (∀ j, ((outsAt0 V c n h).2.2 j : EReal) ≤ b)
      ↔ ∀ (t : Fin cfg0.N), t.val ≤ n → ∀ i : S512x4096.Idx, mag ((iblk0 V c 1 t : S512x4096.Idx → EReal) i) ≤ b
  | 0, h => by
    have e : (outsAt0 V c 0 h).2.2 = k0_pay4 (F := Ideal) (iblk0 V c 1 ⟨0, h⟩) := by
      rw [outsAt0_A V c ⟨0, h⟩ (Nat.zero_mod _) (by dsimp only; omega) (by dsimp only; omega)]; dsimp only [pointOuts0_A, caseOuts0_A]; rw [sval0_A]
    rw [e, pay0_4_le]
    exact ⟨fun hb t ht i => by obtain rfl : t = ⟨0, h⟩ := Fin.ext (by dsimp only; omega); exact hb i, fun hb => hb ⟨0, h⟩ (Nat.le_refl _)⟩
  | n + 1, h => by
    have hN : cfg0.N = 16 := N_0
    have e : (outsAt0 V c (n + 1) h).2.2 = k0_pay5 (F := Ideal) (iblk0 V c 1 ⟨n + 1, h⟩) (outsAt0 V c n (Nat.lt_of_succ_lt h)).2.2 := by
      by_cases h2 : (n + 1) % 16 = 15
      · rw [outsAt0_C V c ⟨n + 1, h⟩ (by dsimp only; omega) (by dsimp only; omega) h2]; dsimp only [pointOuts0_C, caseOuts0_C]; rw [sval0_C]; rfl
      · rw [outsAt0_B V c ⟨n + 1, h⟩ (by dsimp only; omega) (by dsimp only; omega) h2]; dsimp only [pointOuts0_B, caseOuts0_B]; rw [sval0_B]; rfl
    rw [e, pay0_5_le, scratch0 c b n (Nat.lt_of_succ_lt h)]
    constructor
    · rintro ⟨h1, h2⟩ t ht i
      rcases Nat.lt_or_ge t.val (n + 1) with hlt | hge
      · exact h1 t (by omega) i
      · obtain rfl : t = ⟨n + 1, h⟩ := Fin.ext (by dsimp only; omega)
        exact h2 i
    · exact fun hb => ⟨fun t ht => hb t (by omega), hb ⟨n + 1, h⟩ (Nat.le_refl _)⟩

/-- The codes the region computes. -/
def result0 (c : Dev nD) : Buf (Elt Ideal) ((c : Thread nD τ).loc (Pipeline.arrRef spec0 2)) :=
  (fun i => code (0xC3E00000#32) (0x43E00000#32) (inv0 V c) (src0 V c i) : S8192x4096.Idx → EReal)

theorem flushed0_eq (c : Dev nD) (t : Fin cfg0.N) (hf : (cfg0.win 2).flush t = true) :
    (dat0 V c).flushed 2 t = ((cfg0.win 2).blk t).view.read (Elt Ideal) (result0 V c) := by
  show (cfg0.win 2).cut (grid0.coords t) ((dat0 V c).after 2 t) = _
  rw [after0_2, codes0]
  refine funext fun (j : S512x4096.Idx) => ?_
  refine (pay0_2_apply _ _ j).trans ?_
  rw [View.read_apply, iblk0_0_apply, iblk0_1_apply]
  have e0 : ((((cfg0.win 2).blk t).view.emb j : S8192x4096.Idx) 0).val = t.val * 512 + (j 0).val :=
    (Pipeline.Window.rect_emb_val_off win0_2 t j 0).trans (by show win0_2.index t 0 * 512 + _ = _; rw [(oidx0 t).1])
  have e1 : ((((cfg0.win 2).blk t).view.emb j : S8192x4096.Idx) 1).val = (j 1).val :=
    (Pipeline.Window.rect_emb_val_off win0_2 t j 1).trans (by show win0_2.index t 1 * 4096 + _ = _; rw [(oidx0 t).2, Nat.zero_mul, Nat.zero_add])
  exact congrArg (code _ _ _) (at2_of (src0 V c) _ _ _ e0 e1).symm

/-- The codes array the region leaves. -/
theorem final0 (c : Dev nD) : (dat0 V c).arrAt 2 cfg0.N = result0 V c :=
  (dat0 V c).arrAt_eq_of_cover 2 (result0 V c) (flushed0_eq V c) fun i => by
    have h0 : ((i : S8192x4096.Idx) 0).val < 8192 := (i 0).isLt
    have h1 : ((i : S8192x4096.Idx) 1).val < 4096 := (i 1).isLt
    have hN : cfg0.N = 16 := N_0
    refine ⟨⟨((i : S8192x4096.Idx) 0).val / 512, by omega⟩, flush0_2 _, ?_⟩
    generalize ht : (⟨((i : S8192x4096.Idx) 0).val / 512, _⟩ : Fin cfg0.N) = t
    have hv : t.val = ((i : S8192x4096.Idx) 0).val / 512 := by rw [← ht]
    show i ∈ ((View.whole (Pipeline.arrRef spec0 2)).slice (win0_2.rect t)).set
    rw [View.set_slice_whole, Rect.mem_set_unit]
    intro a
    match a with
    | ⟨0, _⟩ => show win0_2.index t 0 * 512 ≤ ((i : S8192x4096.Idx) 0).val ∧ ((i : S8192x4096.Idx) 0).val < win0_2.index t 0 * 512 + 512
                rw [(oidx0 t).1]; omega
    | ⟨1, _⟩ => show win0_2.index t 1 * 4096 ≤ ((i : S8192x4096.Idx) 1).val ∧ ((i : S8192x4096.Idx) 1).val < win0_2.index t 1 * 4096 + 4096
                rw [(oidx0 t).2]; omega

/-- The largest magnitude the region computes, in its one-element array. -/
def resultAmax0 (c : Dev nD) : Buf (Elt Ideal) ((c : Thread nD τ).loc (Pipeline.arrRef spec0 3)) :=
  (fun _ => amax (src0 V c) : S1x1.Idx → EReal)

theorem amax0 (c : Dev nD) (t : Fin cfg0.N) (h : t.val % 16 = 15) :
    (outsAt0 V c t.val t.isLt).2.1 = (fun _ => amax (src0 V c) : S1x1.Idx → EReal) := by
  have hN : cfg0.N = 16 := N_0
  have ht := t.isLt
  have e : (outsAt0 V c t.val t.isLt).2.1 = fun _ => k0_pay6 (F := Ideal) (outsAt0 V c t.val t.isLt).2.2 := by
    rw [outsAt0_C V c t (by omega) (by omega) h]; dsimp only [pointOuts0_C, caseOuts0_C]; rw [val0_C_3, sval0_C]
  rw [e]
  refine funext fun _ => amax_eq _ _ fun b => ?_
  rw [pay0_6_le, scratch0]
  constructor
  · intro hb i
    have h0 : (i 0).val < 8192 := (i 0).isLt
    have := hb ⟨(i 0).val / 512, by omega⟩ (by dsimp only; omega) (ix2 ⟨(i 0).val % 512, by omega⟩ (i 1))
    rw [iblk0_1_apply] at this
    rw [at2_of (src0 V c) i ((i 0).val / 512 * 512 + (i 0).val % 512) (i 1).val (by omega) rfl]
    exact this
  · intro hb s _ i
    have h0 : (i 0).val < 512 := (i 0).isLt
    have hs := s.isLt
    have hlt : s.val * 512 + (i 0).val < 8192 := by omega
    have := hb (ix2 ⟨s.val * 512 + (i 0).val, hlt⟩ (i 1))
    rw [at2_of (src0 V c) (ix2 ⟨s.val * 512 + (i 0).val, hlt⟩ (i 1)) (s.val * 512 + (i 0).val) (i 1).val rfl rfl] at this
    rw [iblk0_1_apply]
    exact this

theorem flushedAmax0 (c : Dev nD) (t : Fin cfg0.N) (hf : (cfg0.win 3).flush t = true) :
    (dat0 V c).flushed 3 t = ((cfg0.win 3).blk t).view.read (Elt Ideal) (resultAmax0 V c) := by
  show (cfg0.win 3).cut (grid0.coords t) ((dat0 V c).after 3 t) = _
  rw [after0_3, amax0 V c t ((flush0_3 t).mp hf)]
  funext j
  rw [View.read_apply]
  rfl

/-- The largest magnitude the region leaves. -/
theorem finalAmax0 (c : Dev nD) : (dat0 V c).arrAt 3 cfg0.N = resultAmax0 V c :=
  (dat0 V c).arrAt_eq_of_cover 3 (resultAmax0 V c) (flushedAmax0 V c) fun i => by
    have h0 : ((i : S1x1.Idx) 0).val < 1 := (i 0).isLt
    have h1 : ((i : S1x1.Idx) 1).val < 1 := (i 1).isLt
    have hN : cfg0.N = 16 := N_0
    refine ⟨⟨15, by omega⟩, (flush0_3 _).mpr rfl, ?_⟩
    generalize (⟨15, _⟩ : Fin cfg0.N) = t
    show i ∈ ((View.whole (Pipeline.arrRef spec0 3)).slice (win0_3.rect t)).set
    rw [View.set_slice_whole, Rect.mem_set_unit]
    intro a
    match a with
    | ⟨0, _⟩ => show win0_3.index t 0 * 1 ≤ ((i : S1x1.Idx) 0).val ∧ ((i : S1x1.Idx) 0).val < win0_3.index t 0 * 1 + 1
                rw [(aidx0 t).1]; omega
    | ⟨1, _⟩ => show win0_3.index t 1 * 1 ≤ ((i : S1x1.Idx) 1).val ∧ ((i : S1x1.Idx) 1).val < win0_3.index t 1 * 1 + 1
                rw [(aidx0 t).2]; omega

end Cert.Kernel.Gen

end
-- ==== Proof.QuantDyVal.lean ====
/-
  The values of region 1: the codes each grid point leaves, the running largest magnitude, and the two arrays it ends with.
-/
module

public import proofs.«01_k».proof.Proof.QuantDy
public import proofs.«01_k».proof.Proof.QuantXVal
public import proofs.«01_k».proof.Proof.Amax

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid1.Coords) (arg1 : Memref sig .tc .smem S1 .f32) (harg1 : arg1.IsWhole) (arg2 : Memref sig .tc .vmem S512x4096 .f32) (harg2 : arg2.IsWhole) (arg3 : Memref sig .tc .vmem S512x4096 .fp8e5m2) (harg3 : arg3.IsWhole) (arg4 : Memref sig .tc .smem S1x1 .f32) (harg4 : arg4.IsWhole) (arg5 : Memref sig .tc .vmem S8x4096 .f32) (harg5 : arg5.IsWhole)

section caseA
variable (hc0 : cond1_0 i) (hc1 : ¬cond1_1 i) (hc2 : ¬cond1_2 i)
    (x0 : Vec F S1 .f32) (x1 : Vec F S512x4096 .f32)

theorem val1_A_2 :
    out1_A_2 c i _ harg1 _ harg2 _ harg3 _ harg4 _ harg5 hc0 hc1 hc2 x0 x1 = k1_pay2 x1 (x0 (ix1 0)) := by
  unfold out1_A_2
  rw [View.read_writes_eq_canon _ _ _ (fun _ => cover1_A_2 ..)]
  unfold kernelRun1_A
  dsimp only
  sl_unfold_words
  rw [View.canon_unit_zero hz2]
  simp only [View.readAt_eq_ld, Memref.IsWhole.read_unread, ld_whole]
  exact congrArg (k1_pay2 _) (ld_one x0 _ _)

theorem sval1_A :
    sout1_A_0 c i _ harg1 _ harg2 _ harg3 _ harg4 _ harg5 hc0 hc1 hc2 x0 x1 = k1_pay4 x1 := by
  unfold sout1_A_0
  rw [View.read_writes_eq_canon _ _ _ (fun _ => scover1_A_0 ..)]
  unfold kernelRun1_A
  dsimp only
  sl_unfold_words
  rw [View.canon_unit_zero hz2]
  simp only [View.readAt_eq_ld, Memref.IsWhole.read_unread, ld_whole]

end caseA

section caseB
variable (hc0 : ¬cond1_0 i) (hc1 : cond1_1 i) (hc2 : ¬cond1_2 i)
    (x0 : Vec F S1 .f32) (x1 : Vec F S512x4096 .f32) (xs0 : Vec F S8x4096 .f32)

theorem val1_B_2 :
    out1_B_2 c i _ harg1 _ harg2 _ harg3 _ harg4 _ harg5 hc0 hc1 hc2 x0 x1 xs0 = k1_pay2 x1 (x0 (ix1 0)) := by
  unfold out1_B_2
  rw [View.read_writes_eq_canon _ _ _ (fun _ => cover1_B_2 ..)]
  unfold kernelRun1_B
  dsimp only
  sl_unfold_words
  rw [View.canon_unit_zero hz2]
  simp only [View.readAt_eq_ld, Memref.IsWhole.read_unread, ld_whole]
  exact congrArg (k1_pay2 _) (ld_one x0 _ _)

theorem sval1_B :
    sout1_B_0 c i _ harg1 _ harg2 _ harg3 _ harg4 _ harg5 hc0 hc1 hc2 x0 x1 xs0 = k1_pay5 x1 xs0 := by
  unfold sout1_B_0
  rw [View.read_writes_eq_canon _ _ _ (fun _ => scover1_B_0 ..)]
  unfold kernelRun1_B
  dsimp only
  sl_unfold_words
  rw [View.canon_unit_zero hz2]
  simp only [View.readAt_eq_ld, Memref.IsWhole.read_unread, ld_whole]

end caseB

section caseC
variable (hc0 : ¬cond1_0 i) (hc1 : cond1_1 i) (hc2 : cond1_2 i)
    (x0 : Vec F S1 .f32) (x1 : Vec F S512x4096 .f32) (xs0 : Vec F S8x4096 .f32)

theorem val1_C_2 :
    out1_C_2 c i _ harg1 _ harg2 _ harg3 _ harg4 _ harg5 hc0 hc1 hc2 x0 x1 xs0 = k1_pay2 x1 (x0 (ix1 0)) := by
  unfold out1_C_2
  rw [View.read_writes_eq_canon _ _ _ (fun _ => cover1_C_2 ..)]
  unfold kernelRun1_C
  dsimp only
  sl_unfold_words
  rw [View.canon_unit_zero hz2]
  simp only [View.readAt_eq_ld, Memref.IsWhole.read_unread, ld_whole]
  exact congrArg (k1_pay2 _) (ld_one x0 _ _)

theorem sval1_C :
    sout1_C_0 c i _ harg1 _ harg2 _ harg3 _ harg4 _ harg5 hc0 hc1 hc2 x0 x1 xs0 = k1_pay5 x1 xs0 := by
  unfold sout1_C_0
  rw [View.read_writes_eq_canon _ _ _ (fun _ => scover1_C_0 ..)]
  unfold kernelRun1_C
  dsimp only
  sl_unfold_words
  rw [View.canon_unit_zero hz2]
  simp only [View.readAt_eq_ld, Memref.IsWhole.read_unread, ld_whole]

theorem val1_C_3 :
    out1_C_3 c i _ harg1 _ harg2 _ harg3 _ harg4 _ harg5 hc0 hc1 hc2 x0 x1 xs0 = fun _ => k1_pay6 (k1_pay5 x1 xs0) := by
  unfold out1_C_3
  rw [View.read_writes_eq_canon _ _ _ (fun _ => cover1_C_3 ..)]
  unfold kernelRun1_C
  dsimp only
  sl_unfold_words
  rw [View.canon_unit_zero (S := S1x1) hz2, View.readCov_unit_zero (S := S8x4096) _ hz2]
  simp only [View.readAt_eq_ld, Memref.IsWhole.read_unread, ld_whole]
  rfl

end caseC

end runs

end

/-- A code at an index, over the extended reals. -/
theorem pay1_2_apply (x : Vec Ideal S512x4096 .f32) (s : EReal) (j : S512x4096.Idx) :
    k1_pay2 (F := Ideal) x s j = code (0xC7600000#32) (0x47600000#32) s (x j) := by
  pointwise [k1_pay2, k1_pay1]
  rfl

/-- One block's magnitudes, folded to the scratch's shape, by upper bounds. -/
theorem pay1_3_le (x : Vec Ideal S512x4096 .f32) (b : EReal) :
    (∀ j, (k1_pay3 (F := Ideal) x j : EReal) ≤ b) ↔ ∀ i : S512x4096.Idx, mag (x i) ≤ b := by
  unfold k1_pay3 k1_pay1
  rw [shapeCast_self]
  exact (red_le _ _ _ _ b).trans (cast_le _ _ b)

theorem pay1_4_le (x : Vec Ideal S512x4096 .f32) (b : EReal) :
    (∀ j, (k1_pay4 (F := Ideal) x j : EReal) ≤ b) ↔ ∀ i : S512x4096.Idx, mag (x i) ≤ b := by
  unfold k1_pay4
  rw [shapeCast_self]
  exact pay1_3_le x b

theorem pay1_5_le (x : Vec Ideal S512x4096 .f32) (s : Vec Ideal S8x4096 .f32) (b : EReal) :
    (∀ j, (k1_pay5 (F := Ideal) x s j : EReal) ≤ b) ↔ (∀ j, (s j : EReal) ≤ b) ∧ ∀ i : S512x4096.Idx, mag (x i) ≤ b := by
  unfold k1_pay5
  rw [shapeCast_self, ← pay1_3_le x b, ← forall_and]
  exact forall_congr' fun j => (max_le_iff : max (s j : EReal) (k1_pay3 (F := Ideal) x j) ≤ b ↔ _)

theorem pay1_6_le (s : Vec Ideal S8x4096 .f32) (b : EReal) : (k1_pay6 (F := Ideal) s : EReal) ≤ b ↔ ∀ j, (s j : EReal) ≤ b := by
  unfold k1_pay6
  dsimp only
  exact scalar_le _ _ _ _ _ _ _ b

theorem iidx1 : ∀ t : Fin grid1.N, win1_1.index t 0 = t.val ∧ win1_1.index t 1 = 0 := by decide +kernel
theorem oidx1 : ∀ t : Fin grid1.N, win1_2.index t 0 = t.val ∧ win1_2.index t 1 = 0 := by decide +kernel
theorem aidx1 : ∀ t : Fin grid1.N, win1_3.index t 0 = 0 ∧ win1_3.index t 1 = 0 := by decide +kernel

variable (V : (c : Dev nD) → (b : Ref sig .tc) → Buf (Elt Ideal) ((c : Thread nD τ).loc b))

/-- The array and the inverse scale. -/
abbrev src1 (c : Dev nD) : S8192x4096.Idx → EReal := V c (Pipeline.arrRef spec1 1)
abbrev inv1 (c : Dev nD) : EReal := (V c (Pipeline.arrRef spec1 0) : S1.Idx → EReal) (ix1 0)

theorem iblk1_1_apply (c : Dev nD) (t : Fin cfg1.N) (j : S512x4096.Idx) :
    (iblk1 V c 1 t : S512x4096.Idx → EReal) j = at2 (src1 V c) (t.val * 512 + (j 0).val) (j 1).val := by
  refine Eq.trans ?_ (at2_of (src1 V c) (((cfg1.win 1).blk t).view.emb j) _ _ ?_ ?_)
  · unfold iblk1; rw [View.read_apply]; rfl
  · exact (Pipeline.Window.rect_emb_val_off win1_1 t j 0).trans (by show win1_1.index t 0 * 512 + _ = _; rw [(iidx1 t).1])
  · exact (Pipeline.Window.rect_emb_val_off win1_1 t j 1).trans (by show win1_1.index t 1 * 4096 + _ = _; rw [(iidx1 t).2, Nat.zero_mul, Nat.zero_add])

theorem iblk1_0_apply (c : Dev nD) (t : Fin cfg1.N) (j : S1.Idx) : (iblk1 V c 0 t : S1.Idx → EReal) j = inv1 V c := by
  unfold iblk1; rw [View.read_apply]; exact ld_one (Val := Elt Ideal) (e := .f32) _ _ _

/-- Every point leaves its block's codes. -/
theorem codes1 (c : Dev nD) (t : Fin cfg1.N) :
    (outsAt1 V c t.val t.isLt).1 = k1_pay2 (F := Ideal) (iblk1 V c 1 t) ((iblk1 V c 0 t : S1.Idx → EReal) (ix1 0)) := by
  have hN : cfg1.N = 16 := N_1
  have ht := t.isLt
  by_cases h0 : t.val % 16 = 0
  · rw [outsAt1_A V c t h0 (by omega) (by omega)]; dsimp only [pointOuts1_A, caseOuts1_A]; rw [val1_A_2]
  by_cases h2 : t.val % 16 = 15
  · rw [outsAt1_C V c t h0 (by omega) h2]; dsimp only [pointOuts1_C, caseOuts1_C]; rw [val1_C_2]
  · rw [outsAt1_B V c t h0 (by omega) h2]; dsimp only [pointOuts1_B, caseOuts1_B]; rw [val1_B_2]

/-- The scratch after point `n` is bounded exactly when the blocks up to `n` are. -/
theorem scratch1 (c : Dev nD) (b : EReal) : ∀ (n : ℕ) (h : n < cfg1.N),
    (∀ j, ((outsAt1 V c n h).2.2 j : EReal) ≤ b)
      ↔ ∀ (t : Fin cfg1.N), t.val ≤ n → ∀ i : S512x4096.Idx, mag ((iblk1 V c 1 t : S512x4096.Idx → EReal) i) ≤ b
  | 0, h => by
    have e : (outsAt1 V c 0 h).2.2 = k1_pay4 (F := Ideal) (iblk1 V c 1 ⟨0, h⟩) := by
      rw [outsAt1_A V c ⟨0, h⟩ (Nat.zero_mod _) (by dsimp only; omega) (by dsimp only; omega)]; dsimp only [pointOuts1_A, caseOuts1_A]; rw [sval1_A]
    rw [e, pay1_4_le]
    exact ⟨fun hb t ht i => by obtain rfl : t = ⟨0, h⟩ := Fin.ext (by dsimp only; omega); exact hb i, fun hb => hb ⟨0, h⟩ (Nat.le_refl _)⟩
  | n + 1, h => by
    have hN : cfg1.N = 16 := N_1
    have e : (outsAt1 V c (n + 1) h).2.2 = k1_pay5 (F := Ideal) (iblk1 V c 1 ⟨n + 1, h⟩) (outsAt1 V c n (Nat.lt_of_succ_lt h)).2.2 := by
      by_cases h2 : (n + 1) % 16 = 15
      · rw [outsAt1_C V c ⟨n + 1, h⟩ (by dsimp only; omega) (by dsimp only; omega) h2]; dsimp only [pointOuts1_C, caseOuts1_C]; rw [sval1_C]; rfl
      · rw [outsAt1_B V c ⟨n + 1, h⟩ (by dsimp only; omega) (by dsimp only; omega) h2]; dsimp only [pointOuts1_B, caseOuts1_B]; rw [sval1_B]; rfl
    rw [e, pay1_5_le, scratch1 c b n (Nat.lt_of_succ_lt h)]
    constructor
    · rintro ⟨h1, h2⟩ t ht i
      rcases Nat.lt_or_ge t.val (n + 1) with hlt | hge
      · exact h1 t (by omega) i
      · obtain rfl : t = ⟨n + 1, h⟩ := Fin.ext (by dsimp only; omega)
        exact h2 i
    · exact fun hb => ⟨fun t ht => hb t (by omega), hb ⟨n + 1, h⟩ (Nat.le_refl _)⟩

/-- The codes the region computes. -/
def result1 (c : Dev nD) : Buf (Elt Ideal) ((c : Thread nD τ).loc (Pipeline.arrRef spec1 2)) :=
  (fun i => code (0xC7600000#32) (0x47600000#32) (inv1 V c) (src1 V c i) : S8192x4096.Idx → EReal)

theorem flushed1_eq (c : Dev nD) (t : Fin cfg1.N) (hf : (cfg1.win 2).flush t = true) :
    (dat1 V c).flushed 2 t = ((cfg1.win 2).blk t).view.read (Elt Ideal) (result1 V c) := by
  show (cfg1.win 2).cut (grid1.coords t) ((dat1 V c).after 2 t) = _
  rw [after1_2, codes1]
  refine funext fun (j : S512x4096.Idx) => ?_
  refine (pay1_2_apply _ _ j).trans ?_
  rw [View.read_apply, iblk1_0_apply, iblk1_1_apply]
  have e0 : ((((cfg1.win 2).blk t).view.emb j : S8192x4096.Idx) 0).val = t.val * 512 + (j 0).val :=
    (Pipeline.Window.rect_emb_val_off win1_2 t j 0).trans (by show win1_2.index t 0 * 512 + _ = _; rw [(oidx1 t).1])
  have e1 : ((((cfg1.win 2).blk t).view.emb j : S8192x4096.Idx) 1).val = (j 1).val :=
    (Pipeline.Window.rect_emb_val_off win1_2 t j 1).trans (by show win1_2.index t 1 * 4096 + _ = _; rw [(oidx1 t).2, Nat.zero_mul, Nat.zero_add])
  exact congrArg (code _ _ _) (at2_of (src1 V c) _ _ _ e0 e1).symm

/-- The codes array the region leaves. -/
theorem final1 (c : Dev nD) : (dat1 V c).arrAt 2 cfg1.N = result1 V c :=
  (dat1 V c).arrAt_eq_of_cover 2 (result1 V c) (flushed1_eq V c) fun i => by
    have h0 : ((i : S8192x4096.Idx) 0).val < 8192 := (i 0).isLt
    have h1 : ((i : S8192x4096.Idx) 1).val < 4096 := (i 1).isLt
    have hN : cfg1.N = 16 := N_1
    refine ⟨⟨((i : S8192x4096.Idx) 0).val / 512, by omega⟩, flush1_2 _, ?_⟩
    generalize ht : (⟨((i : S8192x4096.Idx) 0).val / 512, _⟩ : Fin cfg1.N) = t
    have hv : t.val = ((i : S8192x4096.Idx) 0).val / 512 := by rw [← ht]
    show i ∈ ((View.whole (Pipeline.arrRef spec1 2)).slice (win1_2.rect t)).set
    rw [View.set_slice_whole, Rect.mem_set_unit]
    intro a
    match a with
    | ⟨0, _⟩ => show win1_2.index t 0 * 512 ≤ ((i : S8192x4096.Idx) 0).val ∧ ((i : S8192x4096.Idx) 0).val < win1_2.index t 0 * 512 + 512
                rw [(oidx1 t).1]; omega
    | ⟨1, _⟩ => show win1_2.index t 1 * 4096 ≤ ((i : S8192x4096.Idx) 1).val ∧ ((i : S8192x4096.Idx) 1).val < win1_2.index t 1 * 4096 + 4096
                rw [(oidx1 t).2]; omega

/-- The largest magnitude the region computes, in its one-element array. -/
def resultAmax1 (c : Dev nD) : Buf (Elt Ideal) ((c : Thread nD τ).loc (Pipeline.arrRef spec1 3)) :=
  (fun _ => amax (src1 V c) : S1x1.Idx → EReal)

theorem amax1 (c : Dev nD) (t : Fin cfg1.N) (h : t.val % 16 = 15) :
    (outsAt1 V c t.val t.isLt).2.1 = (fun _ => amax (src1 V c) : S1x1.Idx → EReal) := by
  have hN : cfg1.N = 16 := N_1
  have ht := t.isLt
  have e : (outsAt1 V c t.val t.isLt).2.1 = fun _ => k1_pay6 (F := Ideal) (outsAt1 V c t.val t.isLt).2.2 := by
    rw [outsAt1_C V c t (by omega) (by omega) h]; dsimp only [pointOuts1_C, caseOuts1_C]; rw [val1_C_3, sval1_C]
  rw [e]
  refine funext fun _ => amax_eq _ _ fun b => ?_
  rw [pay1_6_le, scratch1]
  constructor
  · intro hb i
    have h0 : (i 0).val < 8192 := (i 0).isLt
    have := hb ⟨(i 0).val / 512, by omega⟩ (by dsimp only; omega) (ix2 ⟨(i 0).val % 512, by omega⟩ (i 1))
    rw [iblk1_1_apply] at this
    rw [at2_of (src1 V c) i ((i 0).val / 512 * 512 + (i 0).val % 512) (i 1).val (by omega) rfl]
    exact this
  · intro hb s _ i
    have h0 : (i 0).val < 512 := (i 0).isLt
    have hs := s.isLt
    have hlt : s.val * 512 + (i 0).val < 8192 := by omega
    have := hb (ix2 ⟨s.val * 512 + (i 0).val, hlt⟩ (i 1))
    rw [at2_of (src1 V c) (ix2 ⟨s.val * 512 + (i 0).val, hlt⟩ (i 1)) (s.val * 512 + (i 0).val) (i 1).val rfl rfl] at this
    rw [iblk1_1_apply]
    exact this

theorem flushedAmax1 (c : Dev nD) (t : Fin cfg1.N) (hf : (cfg1.win 3).flush t = true) :
    (dat1 V c).flushed 3 t = ((cfg1.win 3).blk t).view.read (Elt Ideal) (resultAmax1 V c) := by
  show (cfg1.win 3).cut (grid1.coords t) ((dat1 V c).after 3 t) = _
  rw [after1_3, amax1 V c t ((flush1_3 t).mp hf)]
  funext j
  rw [View.read_apply]
  rfl

/-- The largest magnitude the region leaves. -/
theorem finalAmax1 (c : Dev nD) : (dat1 V c).arrAt 3 cfg1.N = resultAmax1 V c :=
  (dat1 V c).arrAt_eq_of_cover 3 (resultAmax1 V c) (flushedAmax1 V c) fun i => by
    have h0 : ((i : S1x1.Idx) 0).val < 1 := (i 0).isLt
    have h1 : ((i : S1x1.Idx) 1).val < 1 := (i 1).isLt
    have hN : cfg1.N = 16 := N_1
    refine ⟨⟨15, by omega⟩, (flush1_3 _).mpr rfl, ?_⟩
    generalize (⟨15, _⟩ : Fin cfg1.N) = t
    show i ∈ ((View.whole (Pipeline.arrRef spec1 3)).slice (win1_3.rect t)).set
    rw [View.set_slice_whole, Rect.mem_set_unit]
    intro a
    match a with
    | ⟨0, _⟩ => show win1_3.index t 0 * 1 ≤ ((i : S1x1.Idx) 0).val ∧ ((i : S1x1.Idx) 0).val < win1_3.index t 0 * 1 + 1
                rw [(aidx1 t).1]; omega
    | ⟨1, _⟩ => show win1_3.index t 1 * 1 ≤ ((i : S1x1.Idx) 1).val ∧ ((i : S1x1.Idx) 1).val < win1_3.index t 1 * 1 + 1
                rw [(aidx1 t).2]; omega

end Cert.Kernel.Gen

end
-- ==== Proof.QuantW1Val.lean ====
/-
  The values of region 2: the codes each grid point leaves, the running largest magnitude, and the two arrays it ends with.
-/
module

public import proofs.«01_k».proof.Proof.QuantW1
public import proofs.«01_k».proof.Proof.QuantDyVal
public import proofs.«01_k».proof.Proof.Amax

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid2.Coords) (arg1 : Memref sig .tc .smem S1 .f32) (harg1 : arg1.IsWhole) (arg2 : Memref sig .tc .vmem S128x16384 .f32) (harg2 : arg2.IsWhole) (arg3 : Memref sig .tc .vmem S128x16384 .fp8e4m3) (harg3 : arg3.IsWhole) (arg4 : Memref sig .tc .smem S1x1 .f32) (harg4 : arg4.IsWhole) (arg5 : Memref sig .tc .vmem S8x16384 .f32) (harg5 : arg5.IsWhole)

section caseA
variable (hc0 : cond2_0 i) (hc1 : ¬cond2_1 i) (hc2 : ¬cond2_2 i)
    (x0 : Vec F S1 .f32) (x1 : Vec F S128x16384 .f32)

theorem val2_A_2 :
    out2_A_2 c i _ harg1 _ harg2 _ harg3 _ harg4 _ harg5 hc0 hc1 hc2 x0 x1 = k2_pay1 x1 (x0 (ix1 0)) := by
  unfold out2_A_2
  rw [View.read_writes_eq_canon _ _ _ (fun _ => cover2_A_2 ..)]
  unfold kernelRun2_A
  dsimp only
  sl_unfold_words
  rw [View.canon_unit_zero hz2]
  simp only [View.readAt_eq_ld, Memref.IsWhole.read_unread, ld_whole]
  exact congrArg (k2_pay1 _) (ld_one x0 _ _)

theorem sval2_A :
    sout2_A_0 c i _ harg1 _ harg2 _ harg3 _ harg4 _ harg5 hc0 hc1 hc2 x0 x1 = k2_pay3 x1 := by
  unfold sout2_A_0
  rw [View.read_writes_eq_canon _ _ _ (fun _ => scover2_A_0 ..)]
  unfold kernelRun2_A
  dsimp only
  sl_unfold_words
  rw [View.canon_unit_zero hz2]
  simp only [View.readAt_eq_ld, Memref.IsWhole.read_unread, ld_whole]

end caseA

section caseB
variable (hc0 : ¬cond2_0 i) (hc1 : cond2_1 i) (hc2 : ¬cond2_2 i)
    (x0 : Vec F S1 .f32) (x1 : Vec F S128x16384 .f32) (xs0 : Vec F S8x16384 .f32)

theorem val2_B_2 :
    out2_B_2 c i _ harg1 _ harg2 _ harg3 _ harg4 _ harg5 hc0 hc1 hc2 x0 x1 xs0 = k2_pay1 x1 (x0 (ix1 0)) := by
  unfold out2_B_2
  rw [View.read_writes_eq_canon _ _ _ (fun _ => cover2_B_2 ..)]
  unfold kernelRun2_B
  dsimp only
  sl_unfold_words
  rw [View.canon_unit_zero hz2]
  simp only [View.readAt_eq_ld, Memref.IsWhole.read_unread, ld_whole]
  exact congrArg (k2_pay1 _) (ld_one x0 _ _)

theorem sval2_B :
    sout2_B_0 c i _ harg1 _ harg2 _ harg3 _ harg4 _ harg5 hc0 hc1 hc2 x0 x1 xs0 = k2_pay4 x1 xs0 := by
  unfold sout2_B_0
  rw [View.read_writes_eq_canon _ _ _ (fun _ => scover2_B_0 ..)]
  unfold kernelRun2_B
  dsimp only
  sl_unfold_words
  rw [View.canon_unit_zero hz2]
  simp only [View.readAt_eq_ld, Memref.IsWhole.read_unread, ld_whole]

end caseB

section caseC
variable (hc0 : ¬cond2_0 i) (hc1 : cond2_1 i) (hc2 : cond2_2 i)
    (x0 : Vec F S1 .f32) (x1 : Vec F S128x16384 .f32) (xs0 : Vec F S8x16384 .f32)

theorem val2_C_2 :
    out2_C_2 c i _ harg1 _ harg2 _ harg3 _ harg4 _ harg5 hc0 hc1 hc2 x0 x1 xs0 = k2_pay1 x1 (x0 (ix1 0)) := by
  unfold out2_C_2
  rw [View.read_writes_eq_canon _ _ _ (fun _ => cover2_C_2 ..)]
  unfold kernelRun2_C
  dsimp only
  sl_unfold_words
  rw [View.canon_unit_zero hz2]
  simp only [View.readAt_eq_ld, Memref.IsWhole.read_unread, ld_whole]
  exact congrArg (k2_pay1 _) (ld_one x0 _ _)

theorem sval2_C :
    sout2_C_0 c i _ harg1 _ harg2 _ harg3 _ harg4 _ harg5 hc0 hc1 hc2 x0 x1 xs0 = k2_pay4 x1 xs0 := by
  unfold sout2_C_0
  rw [View.read_writes_eq_canon _ _ _ (fun _ => scover2_C_0 ..)]
  unfold kernelRun2_C
  dsimp only
  sl_unfold_words
  rw [View.canon_unit_zero hz2]
  simp only [View.readAt_eq_ld, Memref.IsWhole.read_unread, ld_whole]

theorem val2_C_3 :
    out2_C_3 c i _ harg1 _ harg2 _ harg3 _ harg4 _ harg5 hc0 hc1 hc2 x0 x1 xs0 = fun _ => k2_pay5 (k2_pay4 x1 xs0) := by
  unfold out2_C_3
  rw [View.read_writes_eq_canon _ _ _ (fun _ => cover2_C_3 ..)]
  unfold kernelRun2_C
  dsimp only
  sl_unfold_words
  rw [View.canon_unit_zero (S := S1x1) hz2, View.readCov_unit_zero (S := S8x16384) _ hz2]
  simp only [View.readAt_eq_ld, Memref.IsWhole.read_unread, ld_whole]
  rfl

end caseC

end runs

end

/-- A code at an index, over the extended reals. -/
theorem pay2_2_apply (x : Vec Ideal S128x16384 .f32) (s : EReal) (j : S128x16384.Idx) :
    k2_pay1 (F := Ideal) x s j = code (0xC3E00000#32) (0x43E00000#32) s (x j) := by
  pointwise [k2_pay1]
  rfl

/-- One block's magnitudes, folded to the scratch's shape, by upper bounds. -/
theorem pay2_3_le (x : Vec Ideal S128x16384 .f32) (b : EReal) :
    (∀ j, (k2_pay2 (F := Ideal) x j : EReal) ≤ b) ↔ ∀ i : S128x16384.Idx, mag (x i) ≤ b := by
  unfold k2_pay2
  exact (red_le _ _ _ _ b).trans (cast_le _ _ b)

theorem pay2_4_le (x : Vec Ideal S128x16384 .f32) (b : EReal) :
    (∀ j, (k2_pay3 (F := Ideal) x j : EReal) ≤ b) ↔ ∀ i : S128x16384.Idx, mag (x i) ≤ b := by
  unfold k2_pay3
  rw [shapeCast_self]
  exact pay2_3_le x b

theorem pay2_5_le (x : Vec Ideal S128x16384 .f32) (s : Vec Ideal S8x16384 .f32) (b : EReal) :
    (∀ j, (k2_pay4 (F := Ideal) x s j : EReal) ≤ b) ↔ (∀ j, (s j : EReal) ≤ b) ∧ ∀ i : S128x16384.Idx, mag (x i) ≤ b := by
  unfold k2_pay4
  rw [shapeCast_self, ← pay2_3_le x b, ← forall_and]
  exact forall_congr' fun j => (max_le_iff : max (s j : EReal) (k2_pay2 (F := Ideal) x j) ≤ b ↔ _)

theorem pay2_6_le (s : Vec Ideal S8x16384 .f32) (b : EReal) : (k2_pay5 (F := Ideal) s : EReal) ≤ b ↔ ∀ j, (s j : EReal) ≤ b := by
  unfold k2_pay5
  dsimp only
  exact scalar_le _ _ _ _ _ _ _ b

theorem iidx2 : ∀ t : Fin grid2.N, win2_1.index t 0 = t.val ∧ win2_1.index t 1 = 0 := by decide +kernel
theorem oidx2 : ∀ t : Fin grid2.N, win2_2.index t 0 = t.val ∧ win2_2.index t 1 = 0 := by decide +kernel
theorem aidx2 : ∀ t : Fin grid2.N, win2_3.index t 0 = 0 ∧ win2_3.index t 1 = 0 := by decide +kernel

variable (V : (c : Dev nD) → (b : Ref sig .tc) → Buf (Elt Ideal) ((c : Thread nD τ).loc b))

/-- The array and the inverse scale. -/
abbrev src2 (c : Dev nD) : S4096x16384.Idx → EReal := V c (Pipeline.arrRef spec2 1)
abbrev inv2 (c : Dev nD) : EReal := (V c (Pipeline.arrRef spec2 0) : S1.Idx → EReal) (ix1 0)

theorem iblk2_1_apply (c : Dev nD) (t : Fin cfg2.N) (j : S128x16384.Idx) :
    (iblk2 V c 1 t : S128x16384.Idx → EReal) j = at2 (src2 V c) (t.val * 128 + (j 0).val) (j 1).val := by
  refine Eq.trans ?_ (at2_of (src2 V c) (((cfg2.win 1).blk t).view.emb j) _ _ ?_ ?_)
  · unfold iblk2; rw [View.read_apply]; rfl
  · exact (Pipeline.Window.rect_emb_val_off win2_1 t j 0).trans (by show win2_1.index t 0 * 128 + _ = _; rw [(iidx2 t).1])
  · exact (Pipeline.Window.rect_emb_val_off win2_1 t j 1).trans (by show win2_1.index t 1 * 16384 + _ = _; rw [(iidx2 t).2, Nat.zero_mul, Nat.zero_add])

theorem iblk2_0_apply (c : Dev nD) (t : Fin cfg2.N) (j : S1.Idx) : (iblk2 V c 0 t : S1.Idx → EReal) j = inv2 V c := by
  unfold iblk2; rw [View.read_apply]; exact ld_one (Val := Elt Ideal) (e := .f32) _ _ _

/-- Every point leaves its block's codes. -/
theorem codes2 (c : Dev nD) (t : Fin cfg2.N) :
    (outsAt2 V c t.val t.isLt).1 = k2_pay1 (F := Ideal) (iblk2 V c 1 t) ((iblk2 V c 0 t : S1.Idx → EReal) (ix1 0)) := by
  have hN : cfg2.N = 32 := N_2
  have ht := t.isLt
  by_cases h0 : t.val % 32 = 0
  · rw [outsAt2_A V c t h0 (by omega) (by omega)]; dsimp only [pointOuts2_A, caseOuts2_A]; rw [val2_A_2]
  by_cases h2 : t.val % 32 = 31
  · rw [outsAt2_C V c t h0 (by omega) h2]; dsimp only [pointOuts2_C, caseOuts2_C]; rw [val2_C_2]
  · rw [outsAt2_B V c t h0 (by omega) h2]; dsimp only [pointOuts2_B, caseOuts2_B]; rw [val2_B_2]

/-- The scratch after point `n` is bounded exactly when the blocks up to `n` are. -/
theorem scratch2 (c : Dev nD) (b : EReal) : ∀ (n : ℕ) (h : n < cfg2.N),
    (∀ j, ((outsAt2 V c n h).2.2 j : EReal) ≤ b)
      ↔ ∀ (t : Fin cfg2.N), t.val ≤ n → ∀ i : S128x16384.Idx, mag ((iblk2 V c 1 t : S128x16384.Idx → EReal) i) ≤ b
  | 0, h => by
    have e : (outsAt2 V c 0 h).2.2 = k2_pay3 (F := Ideal) (iblk2 V c 1 ⟨0, h⟩) := by
      rw [outsAt2_A V c ⟨0, h⟩ (Nat.zero_mod _) (by dsimp only; omega) (by dsimp only; omega)]; dsimp only [pointOuts2_A, caseOuts2_A]; rw [sval2_A]
    rw [e, pay2_4_le]
    exact ⟨fun hb t ht i => by obtain rfl : t = ⟨0, h⟩ := Fin.ext (by dsimp only; omega); exact hb i, fun hb => hb ⟨0, h⟩ (Nat.le_refl _)⟩
  | n + 1, h => by
    have hN : cfg2.N = 32 := N_2
    have e : (outsAt2 V c (n + 1) h).2.2 = k2_pay4 (F := Ideal) (iblk2 V c 1 ⟨n + 1, h⟩) (outsAt2 V c n (Nat.lt_of_succ_lt h)).2.2 := by
      by_cases h2 : (n + 1) % 32 = 31
      · rw [outsAt2_C V c ⟨n + 1, h⟩ (by dsimp only; omega) (by dsimp only; omega) h2]; dsimp only [pointOuts2_C, caseOuts2_C]; rw [sval2_C]; rfl
      · rw [outsAt2_B V c ⟨n + 1, h⟩ (by dsimp only; omega) (by dsimp only; omega) h2]; dsimp only [pointOuts2_B, caseOuts2_B]; rw [sval2_B]; rfl
    rw [e, pay2_5_le, scratch2 c b n (Nat.lt_of_succ_lt h)]
    constructor
    · rintro ⟨h1, h2⟩ t ht i
      rcases Nat.lt_or_ge t.val (n + 1) with hlt | hge
      · exact h1 t (by omega) i
      · obtain rfl : t = ⟨n + 1, h⟩ := Fin.ext (by dsimp only; omega)
        exact h2 i
    · exact fun hb => ⟨fun t ht => hb t (by omega), hb ⟨n + 1, h⟩ (Nat.le_refl _)⟩

/-- The codes the region computes. -/
def result2 (c : Dev nD) : Buf (Elt Ideal) ((c : Thread nD τ).loc (Pipeline.arrRef spec2 2)) :=
  (fun i => code (0xC3E00000#32) (0x43E00000#32) (inv2 V c) (src2 V c i) : S4096x16384.Idx → EReal)

theorem flushed2_eq (c : Dev nD) (t : Fin cfg2.N) (hf : (cfg2.win 2).flush t = true) :
    (dat2 V c).flushed 2 t = ((cfg2.win 2).blk t).view.read (Elt Ideal) (result2 V c) := by
  show (cfg2.win 2).cut (grid2.coords t) ((dat2 V c).after 2 t) = _
  rw [after2_2, codes2]
  refine funext fun (j : S128x16384.Idx) => ?_
  refine (pay2_2_apply _ _ j).trans ?_
  rw [View.read_apply, iblk2_0_apply, iblk2_1_apply]
  have e0 : ((((cfg2.win 2).blk t).view.emb j : S4096x16384.Idx) 0).val = t.val * 128 + (j 0).val :=
    (Pipeline.Window.rect_emb_val_off win2_2 t j 0).trans (by show win2_2.index t 0 * 128 + _ = _; rw [(oidx2 t).1])
  have e1 : ((((cfg2.win 2).blk t).view.emb j : S4096x16384.Idx) 1).val = (j 1).val :=
    (Pipeline.Window.rect_emb_val_off win2_2 t j 1).trans (by show win2_2.index t 1 * 16384 + _ = _; rw [(oidx2 t).2, Nat.zero_mul, Nat.zero_add])
  exact congrArg (code _ _ _) (at2_of (src2 V c) _ _ _ e0 e1).symm

/-- The codes array the region leaves. -/
theorem final2 (c : Dev nD) : (dat2 V c).arrAt 2 cfg2.N = result2 V c :=
  (dat2 V c).arrAt_eq_of_cover 2 (result2 V c) (flushed2_eq V c) fun i => by
    have h0 : ((i : S4096x16384.Idx) 0).val < 4096 := (i 0).isLt
    have h1 : ((i : S4096x16384.Idx) 1).val < 16384 := (i 1).isLt
    have hN : cfg2.N = 32 := N_2
    refine ⟨⟨((i : S4096x16384.Idx) 0).val / 128, by omega⟩, flush2_2 _, ?_⟩
    generalize ht : (⟨((i : S4096x16384.Idx) 0).val / 128, _⟩ : Fin cfg2.N) = t
    have hv : t.val = ((i : S4096x16384.Idx) 0).val / 128 := by rw [← ht]
    show i ∈ ((View.whole (Pipeline.arrRef spec2 2)).slice (win2_2.rect t)).set
    rw [View.set_slice_whole, Rect.mem_set_unit]
    intro a
    match a with
    | ⟨0, _⟩ => show win2_2.index t 0 * 128 ≤ ((i : S4096x16384.Idx) 0).val ∧ ((i : S4096x16384.Idx) 0).val < win2_2.index t 0 * 128 + 128
                rw [(oidx2 t).1]; omega
    | ⟨1, _⟩ => show win2_2.index t 1 * 16384 ≤ ((i : S4096x16384.Idx) 1).val ∧ ((i : S4096x16384.Idx) 1).val < win2_2.index t 1 * 16384 + 16384
                rw [(oidx2 t).2]; omega

/-- The largest magnitude the region computes, in its one-element array. -/
def resultAmax2 (c : Dev nD) : Buf (Elt Ideal) ((c : Thread nD τ).loc (Pipeline.arrRef spec2 3)) :=
  (fun _ => amax (src2 V c) : S1x1.Idx → EReal)

theorem amax2 (c : Dev nD) (t : Fin cfg2.N) (h : t.val % 32 = 31) :
    (outsAt2 V c t.val t.isLt).2.1 = (fun _ => amax (src2 V c) : S1x1.Idx → EReal) := by
  have hN : cfg2.N = 32 := N_2
  have ht := t.isLt
  have e : (outsAt2 V c t.val t.isLt).2.1 = fun _ => k2_pay5 (F := Ideal) (outsAt2 V c t.val t.isLt).2.2 := by
    rw [outsAt2_C V c t (by omega) (by omega) h]; dsimp only [pointOuts2_C, caseOuts2_C]; rw [val2_C_3, sval2_C]
  rw [e]
  refine funext fun _ => amax_eq _ _ fun b => ?_
  rw [pay2_6_le, scratch2]
  constructor
  · intro hb i
    have h0 : (i 0).val < 4096 := (i 0).isLt
    have := hb ⟨(i 0).val / 128, by omega⟩ (by dsimp only; omega) (ix2 ⟨(i 0).val % 128, by omega⟩ (i 1))
    rw [iblk2_1_apply] at this
    rw [at2_of (src2 V c) i ((i 0).val / 128 * 128 + (i 0).val % 128) (i 1).val (by omega) rfl]
    exact this
  · intro hb s _ i
    have h0 : (i 0).val < 128 := (i 0).isLt
    have hs := s.isLt
    have hlt : s.val * 128 + (i 0).val < 4096 := by omega
    have := hb (ix2 ⟨s.val * 128 + (i 0).val, hlt⟩ (i 1))
    rw [at2_of (src2 V c) (ix2 ⟨s.val * 128 + (i 0).val, hlt⟩ (i 1)) (s.val * 128 + (i 0).val) (i 1).val rfl rfl] at this
    rw [iblk2_1_apply]
    exact this

theorem flushedAmax2 (c : Dev nD) (t : Fin cfg2.N) (hf : (cfg2.win 3).flush t = true) :
    (dat2 V c).flushed 3 t = ((cfg2.win 3).blk t).view.read (Elt Ideal) (resultAmax2 V c) := by
  show (cfg2.win 3).cut (grid2.coords t) ((dat2 V c).after 3 t) = _
  rw [after2_3, amax2 V c t ((flush2_3 t).mp hf)]
  funext j
  rw [View.read_apply]
  rfl

/-- The largest magnitude the region leaves. -/
theorem finalAmax2 (c : Dev nD) : (dat2 V c).arrAt 3 cfg2.N = resultAmax2 V c :=
  (dat2 V c).arrAt_eq_of_cover 3 (resultAmax2 V c) (flushedAmax2 V c) fun i => by
    have h0 : ((i : S1x1.Idx) 0).val < 1 := (i 0).isLt
    have h1 : ((i : S1x1.Idx) 1).val < 1 := (i 1).isLt
    have hN : cfg2.N = 32 := N_2
    refine ⟨⟨31, by omega⟩, (flush2_3 _).mpr rfl, ?_⟩
    generalize (⟨31, _⟩ : Fin cfg2.N) = t
    show i ∈ ((View.whole (Pipeline.arrRef spec2 3)).slice (win2_3.rect t)).set
    rw [View.set_slice_whole, Rect.mem_set_unit]
    intro a
    match a with
    | ⟨0, _⟩ => show win2_3.index t 0 * 1 ≤ ((i : S1x1.Idx) 0).val ∧ ((i : S1x1.Idx) 0).val < win2_3.index t 0 * 1 + 1
                rw [(aidx2 t).1]; omega
    | ⟨1, _⟩ => show win2_3.index t 1 * 1 ≤ ((i : S1x1.Idx) 1).val ∧ ((i : S1x1.Idx) 1).val < win2_3.index t 1 * 1 + 1
                rw [(aidx2 t).2]; omega

end Cert.Kernel.Gen

end
-- ==== Proof.QuantW2Val.lean ====
/-
  The values of region 3: the codes each grid point leaves, the running largest magnitude, and the two arrays it ends with.
-/
module

public import proofs.«01_k».proof.Proof.QuantW2
public import proofs.«01_k».proof.Proof.QuantW1Val
public import proofs.«01_k».proof.Proof.Amax

@[expose] public section

set_option maxRecDepth 16384

noncomputable section

namespace Cert.Kernel.Gen

open Idealize.ShloMosaic Idealize.ShloMosaic.TcCoe Idealize.SL.Sem Cert.Model
open Idealize.ShloMosaic.Pipeline (Dat)

section
variable {F : FTy → Type} [FloatOps F]

section runs
variable (c : Dev nD) (i : grid3.Coords) (arg1 : Memref sig .tc .smem S1 .f32) (harg1 : arg1.IsWhole) (arg2 : Memref sig .tc .vmem S512x4096 .f32) (harg2 : arg2.IsWhole) (arg3 : Memref sig .tc .vmem S512x4096 .fp8e4m3) (harg3 : arg3.IsWhole) (arg4 : Memref sig .tc .smem S1x1 .f32) (harg4 : arg4.IsWhole) (arg5 : Memref sig .tc .vmem S8x4096 .f32) (harg5 : arg5.IsWhole)

section caseA
variable (hc0 : cond3_0 i) (hc1 : ¬cond3_1 i) (hc2 : ¬cond3_2 i)
    (x0 : Vec F S1 .f32) (x1 : Vec F S512x4096 .f32)

theorem val3_A_2 :
    out3_A_2 c i _ harg1 _ harg2 _ harg3 _ harg4 _ harg5 hc0 hc1 hc2 x0 x1 = k3_pay1 x1 (x0 (ix1 0)) := by
  unfold out3_A_2
  rw [View.read_writes_eq_canon _ _ _ (fun _ => cover3_A_2 ..)]
  unfold kernelRun3_A
  dsimp only
  sl_unfold_words
  rw [View.canon_unit_zero hz2]
  simp only [View.readAt_eq_ld, Memref.IsWhole.read_unread, ld_whole]
  exact congrArg (k3_pay1 _) (ld_one x0 _ _)

theorem sval3_A :
    sout3_A_0 c i _ harg1 _ harg2 _ harg3 _ harg4 _ harg5 hc0 hc1 hc2 x0 x1 = k3_pay3 x1 := by
  unfold sout3_A_0
  rw [View.read_writes_eq_canon _ _ _ (fun _ => scover3_A_0 ..)]
  unfold kernelRun3_A
  dsimp only
  sl_unfold_words
  rw [View.canon_unit_zero hz2]
  simp only [View.readAt_eq_ld, Memref.IsWhole.read_unread, ld_whole]

end caseA

section caseB
variable (hc0 : ¬cond3_0 i) (hc1 : cond3_1 i) (hc2 : ¬cond3_2 i)
    (x0 : Vec F S1 .f32) (x1 : Vec F S512x4096 .f32) (xs0 : Vec F S8x4096 .f32)

theorem val3_B_2 :
    out3_B_2 c i _ harg1 _ harg2 _ harg3 _ harg4 _ harg5 hc0 hc1 hc2 x0 x1 xs0 = k3_pay1 x1 (x0 (ix1 0)) := by
  unfold out3_B_2
  rw [View.read_writes_eq_canon _ _ _ (fun _ => cover3_B_2 ..)]
  unfold kernelRun3_B
  dsimp only
  sl_unfold_words
  rw [View.canon_unit_zero hz2]
  simp only [View.readAt_eq_ld, Memref.IsWhole.read_unread, ld_whole]
  exact congrArg (k3_pay1 _) (ld_one x0 _ _)

theorem sval3_B :
    sout3_B_0 c i _ harg1 _ harg2 _ harg3 _ harg4 _ harg5 hc0 hc1 hc2 x0 x1 xs0 = k3_pay4 x1 xs0 := by
  unfold sout3_B_0
  rw [View.read_writes_eq_canon _ _ _ (fun _ => scover3_B_0 ..)]
  unfold kernelRun3_B
  dsimp only
  sl_unfold_words
  rw [View.canon_unit_zero hz2]
  simp only [View.readAt_eq_ld, Memref.IsWhole.read_unread, ld_whole]

end caseB

section caseC
variable (hc0 : ¬cond3_0 i) (hc1 : cond3_1 i) (hc2 : cond3_2 i)
    (x0 : Vec F S1 .f32) (x1 : Vec F S512x4096 .f32) (xs0 : Vec F S8x4096 .f32)

theorem val3_C_2 :
    out3_C_2 c i _ harg1 _ harg2 _ harg3 _ harg4 _ harg5 hc0 hc1 hc2 x0 x1 xs0 = k3_pay1 x1 (x0 (ix1 0)) := by
  unfold out3_C_2
  rw [View.read_writes_eq_canon _ _ _ (fun _ => cover3_C_2 ..)]
  unfold kernelRun3_C
  dsimp only
  sl_unfold_words
  rw [View.canon_unit_zero hz2]
  simp only [View.readAt_eq_ld, Memref.IsWhole.read_unread, ld_whole]
  exact congrArg (k3_pay1 _) (ld_one x0 _ _)

theorem sval3_C :
    sout3_C_0 c i _ harg1 _ harg2 _ harg3 _ harg4 _ harg5 hc0 hc1 hc2 x0 x1 xs0 = k3_pay4 x1 xs0 := by
  unfold sout3_C_0
  rw [View.read_writes_eq_canon _ _ _ (fun _ => scover3_C_0 ..)]
  unfold kernelRun3_C
  dsimp only
  sl_unfold_words
  rw [View.canon_unit_zero hz2]
  simp only [View.readAt_eq_ld, Memref.IsWhole.read_unread, ld_whole]

theorem val3_C_3 :
    out3_C_3 c i _ harg1 _ harg2 _ harg3 _ harg4 _ harg5 hc0 hc1 hc2 x0 x1 xs0 = fun _ => k3_pay5 (k3_pay4 x1 xs0) := by
  unfold out3_C_3
  rw [View.read_writes_eq_canon _ _ _ (fun _ => cover3_C_3 ..)]
  unfold kernelRun3_C
  dsimp only
  sl_unfold_words
  rw [View.canon_unit_zero (S := S1x1) hz2, View.readCov_unit_zero (S := S8x4096) _ hz2]
  simp only [View.readAt_eq_ld, Memref.IsWhole.read_unread, ld_whole]
  rfl

end caseC

end runs

end

/-- A code at an index, over the extended reals. -/
theorem pay3_2_apply (x : Vec Ideal S512x4096 .f32) (s : EReal) (j : S512x4096.Idx) :
    k3_pay1 (F := Ideal) x s j = code (0xC3E00000#32) (0x43E00000#32) s (x j) := by
  pointwise [k3_pay1]
  rfl

/-- One block's magnitudes, folded to the scratch's shape, by upper bounds. -/
theorem pay3_3_le (x : Vec Ideal S512x4096 .f32) (b : EReal) :
    (∀ j, (k3_pay2 (F := Ideal) x j : EReal) ≤ b) ↔ ∀ i : S512x4096.Idx, mag (x i) ≤ b := by
  unfold k3_pay2
  exact (red_le _ _ _ _ b).trans (cast_le _ _ b)

theorem pay3_4_le (x : Vec Ideal S512x4096 .f32) (b : EReal) :
    (∀ j, (k3_pay3 (F := Ideal) x j : EReal) ≤ b) ↔ ∀ i : S512x4096.Idx, mag (x i) ≤ b := by
  unfold k3_pay3
  rw [shapeCast_self]
  exact pay3_3_le x b

theorem pay3_5_le (x : Vec Ideal S512x4096 .f32) (s : Vec Ideal S8x4096 .f32) (b : EReal) :
    (∀ j, (k3_pay4 (F := Ideal) x s j : EReal) ≤ b) ↔ (∀ j, (s j : EReal) ≤ b) ∧ ∀ i : S512x4096.Idx, mag (x i) ≤ b := by
  unfold k3_pay4
  rw [shapeCast_self, ← pay3_3_le x b, ← forall_and]
  exact forall_congr' fun j => (max_le_iff : max (s j : EReal) (k3_pay2 (F := Ideal) x j) ≤ b ↔ _)

theorem pay3_6_le (s : Vec Ideal S8x4096 .f32) (b : EReal) : (k3_pay5 (F := Ideal) s : EReal) ≤ b ↔ ∀ j, (s j : EReal) ≤ b := by
  unfold k3_pay5
  dsimp only
  exact scalar_le _ _ _ _ _ _ _ b

theorem iidx3 : ∀ t : Fin grid3.N, win3_1.index t 0 = t.val ∧ win3_1.index t 1 = 0 := by decide +kernel
theorem oidx3 : ∀ t : Fin grid3.N, win3_2.index t 0 = t.val ∧ win3_2.index t 1 = 0 := by decide +kernel
theorem aidx3 : ∀ t : Fin grid3.N, win3_3.index t 0 = 0 ∧ win3_3.index t 1 = 0 := by decide +kernel

variable (V : (c : Dev nD) → (b : Ref sig .tc) → Buf (Elt Ideal) ((c : Thread nD τ).loc b))

/-- The array and the inverse scale. -/
abbrev src3 (c : Dev nD) : S16384x4096.Idx → EReal := V c (Pipeline.arrRef spec3 1)
abbrev inv3 (c : Dev nD) : EReal := (V c (Pipeline.arrRef spec3 0) : S1.Idx → EReal) (ix1 0)

theorem iblk3_1_apply (c : Dev nD) (t : Fin cfg3.N) (j : S512x4096.Idx) :
    (iblk3 V c 1 t : S512x4096.Idx → EReal) j = at2 (src3 V c) (t.val * 512 + (j 0).val) (j 1).val := by
  refine Eq.trans ?_ (at2_of (src3 V c) (((cfg3.win 1).blk t).view.emb j) _ _ ?_ ?_)
  · unfold iblk3; rw [View.read_apply]; rfl
  · exact (Pipeline.Window.rect_emb_val_off win3_1 t j 0).trans (by show win3_1.index t 0 * 512 + _ = _; rw [(iidx3 t).1])
  · exact (Pipeline.Window.rect_emb_val_off win3_1 t j 1).trans (by show win3_1.index t 1 * 4096 + _ = _; rw [(iidx3 t).2, Nat.zero_mul, Nat.zero_add])

theorem iblk3_0_apply (c : Dev nD) (t : Fin cfg3.N) (j : S1.Idx) : (iblk3 V c 0 t : S1.Idx → EReal) j = inv3 V c := by
  unfold iblk3; rw [View.read_apply]; exact ld_one (Val := Elt Ideal) (e := .f32) _ _ _

/-- Every point leaves its block's codes. -/
theorem codes3 (c : Dev nD) (t : Fin cfg3.N) :
    (outsAt3 V c t.val t.isLt).1 = k3_pay1 (F := Ideal) (iblk3 V c 1 t) ((iblk3 V c 0 t : S1.Idx → EReal) (ix1 0)) := by
  have hN : cfg3.N = 32 := N_3
  have ht := t.isLt
  by_cases h0 : t.val % 32 = 0
  · rw [outsAt3_A V c t h0 (by omega) (by omega)]; dsimp only [pointOuts3_A, caseOuts3_A]; rw [val3_A_2]
  by_cases h2 : t.val % 32 = 31
  · rw [outsAt3_C V c t h0 (by omega) h2]; dsimp only [pointOuts3_C, caseOuts3_C]; rw [val3_C_2]
  · rw [outsAt3_B V c t h0 (by omega) h2]; dsimp only [pointOuts3_B, caseOuts3_B]; rw [val3_B_2]

/-- The scratch after point `n` is bounded exactly when the blocks up to `n` are. -/
theorem scratch3 (c : Dev nD) (b : EReal) : ∀ (n : ℕ) (h : n < cfg3.N),
    (∀ j, ((outsAt3 V c n h).2.2 j : EReal) ≤ b)
      ↔ ∀ (t : Fin cfg3.N), t.val ≤ n → ∀ i : S512x4096.Idx, mag ((iblk3 V c 1 t : S512x4096.Idx → EReal) i) ≤ b
  | 0, h => by
    have e : (outsAt3 V c 0 h).2.2 = k3_pay3 (F := Ideal) (iblk3 V c 1 ⟨0, h⟩) := by
      rw [outsAt3_A V c ⟨0, h⟩ (Nat.zero_mod _) (by dsimp only; omega) (by dsimp only; omega)]; dsimp only [pointOuts3_A, caseOuts3_A]; rw [sval3_A]
    rw [e, pay3_4_le]
    exact ⟨fun hb t ht i => by obtain rfl : t = ⟨0, h⟩ := Fin.ext (by dsimp only; omega); exact hb i, fun hb => hb ⟨0, h⟩ (Nat.le_refl _)⟩
  | n + 1, h => by
    have hN : cfg3.N = 32 := N_3
    have e : (outsAt3 V c (n + 1) h).2.2 = k3_pay4 (F := Ideal) (iblk3 V c 1 ⟨n + 1, h⟩) (outsAt3 V c n (Nat.lt_of_succ_lt h)).2.2 := by
      by_cases h2 : (n + 1) % 32 = 31
      · rw [outsAt3_C V c ⟨n + 1, h⟩ (by dsimp only; omega) (by dsimp only; omega) h2]; dsimp only [pointOuts3_C, caseOuts3_C]; rw [sval3_C]; rfl
      · rw [outsAt3_B V c ⟨n + 1, h⟩ (by dsimp only; omega) (by dsimp only; omega) h2]; dsimp only [pointOuts3_B, caseOuts3_B]; rw [sval3_B]; rfl
    rw [e, pay3_5_le, scratch3 c b n (Nat.lt_of_succ_lt h)]
    constructor
    · rintro ⟨h1, h2⟩ t ht i
      rcases Nat.lt_or_ge t.val (n + 1) with hlt | hge
      · exact h1 t (by omega) i
      · obtain rfl : t = ⟨n + 1, h⟩ := Fin.ext (by dsimp only; omega)
        exact h2 i
    · exact fun hb => ⟨fun t ht => hb t (by omega), hb ⟨n + 1, h⟩ (Nat.le_refl _)⟩

/-- The codes the region computes. -/
def result3 (c : Dev nD) : Buf (Elt Ideal) ((c : Thread nD τ).loc (Pipeline.arrRef spec3 2)) :=
  (fun i => code (0xC3E00000#32) (0x43E00000#32) (inv3 V c) (src3 V c i) : S16384x4096.Idx → EReal)

theorem flushed3_eq (c : Dev nD) (t : Fin cfg3.N) (hf : (cfg3.win 2).flush t = true) :
    (dat3 V c).flushed 2 t = ((cfg3.win 2).blk t).view.read (Elt Ideal) (result3 V c) := by
  show (cfg3.win 2).cut (grid3.coords t) ((dat3 V c).after 2 t) = _
  rw [after3_2, codes3]
  refine funext fun (j : S512x4096.Idx) => ?_
  refine (pay3_2_apply _ _ j).trans ?_
  rw [View.read_apply, iblk3_0_apply, iblk3_1_apply]
  have e0 : ((((cfg3.win 2).blk t).view.emb j : S16384x4096.Idx) 0).val = t.val * 512 + (j 0).val :=
    (Pipeline.Window.rect_emb_val_off win3_2 t j 0).trans (by show win3_2.index t 0 * 512 + _ = _; rw [(oidx3 t).1])
  have e1 : ((((cfg3.win 2).blk t).view.emb j : S16384x4096.Idx) 1).val = (j 1).val :=
    (Pipeline.Window.rect_emb_val_off win3_2 t j 1).trans (by show win3_2.index t 1 * 4096 + _ = _; rw [(oidx3 t).2, Nat.zero_mul, Nat.zero_add])
  exact congrArg (code _ _ _) (at2_of (src3 V c) _ _ _ e0 e1).symm

/-- The codes array the region leaves. -/
theorem final3 (c : Dev nD) : (dat3 V c).arrAt 2 cfg3.N = result3 V c :=
  (dat3 V c).arrAt_eq_of_cover 2 (result3 V c) (flushed3_eq V c) fun i => by
    have h0 : ((i : S16384x4096.Idx) 0).val < 16384 := (i 0).isLt
    have h1 : ((i : S16384x4096.Idx) 1).val < 4096 := (i 1).isLt
    have hN : cfg3.N = 32 := N_3
    refine ⟨⟨((i : S16384x4096.Idx) 0).val / 512, by omega⟩, flush3_2 _, ?_⟩
    generalize ht : (⟨((i : S16384x4096.Idx) 0).val / 512, _⟩ : Fin cfg3.N) = t
    have hv : t.val = ((i : S16384x4096.Idx) 0).val / 512 := by rw [← ht]
    show i ∈ ((View.whole (Pipeline.arrRef spec3 2)).slice (win3_2.rect t)).set
    rw [View.set_slice_whole, Rect.mem_set_unit]
    intro a
    match a with
    | ⟨0, _⟩ => show win3_2.index t 0 * 512 ≤ ((i : S16384x4096.Idx) 0).val ∧ ((i : S16384x4096.Idx) 0).val < win3_2.index t 0 * 512 + 512
                rw [(oidx3 t).1]; omega
    | ⟨1, _⟩ => show win3_2.index t 1 * 4096 ≤ ((i : S16384x4096.Idx) 1).val ∧ ((i : S16384x4096.Idx) 1).val < win3_2.index t 1 * 4096 + 4096
                rw [(oidx3 t).2]; omega

/-- The largest magnitude the region computes, in its one-element array. -/
def resultAmax3 (c : Dev nD) : Buf (Elt Ideal) ((c : Thread nD τ).loc (Pipeline.arrRef spec3 3)) :=
  (fun _ => amax (src3 V c) : S1x1.Idx → EReal)

theorem amax3 (c : Dev nD) (t : Fin cfg3.N) (h : t.val % 32 = 31) :
    (outsAt3 V c t.val t.isLt).2.1 = (fun _ => amax (src3 V c) : S1x1.Idx → EReal) := by
  have hN : cfg3.N = 32 := N_3
  have ht := t.isLt
  have e : (outsAt3 V c t.val t.isLt).2.1 = fun _ => k3_pay5 (F := Ideal) (outsAt3 V c t.val t.isLt).2.2 := by
    rw [outsAt3_C V c t (by omega) (by omega) h]; dsimp only [pointOuts3_C, caseOuts3_C]; rw [val3_C_3, sval3_C]
  rw [e]
  refine funext fun _ => amax_eq _ _ fun b => ?_
  rw [pay3_6_le, scratch3]
  constructor
  · intro hb i
    have h0 : (i 0).val < 16384 := (i 0).isLt
    have := hb ⟨(i 0).val / 512, by omega⟩ (by dsimp only; omega) (ix2 ⟨(i 0).val % 512, by omega⟩ (i 1))
    rw [iblk3_1_apply] at this
    rw [at2_of (src3 V c) i ((i 0).val / 512 * 512 + (i 0).val % 512) (i 1).val (by omega) rfl]
    exact this
  · intro hb s _ i
    have h0 : (i 0).val < 512 := (i 0).isLt
    have hs := s.isLt
    have hlt : s.val * 512 + (i 0).val < 16384 := by omega
    have := hb (ix2 ⟨s.val * 512 + (i 0).val, hlt⟩ (i 1))
    rw [at2_of (src3 V c) (ix2 ⟨s.val * 512 + (i 0).val, hlt⟩ (i 1)) (s.val * 512 + (i 0).val) (i 1).val rfl rfl] at this
    rw [iblk3_1_apply]
    exact this

theorem flushedAmax3 (c : Dev nD) (t : Fin cfg3.N) (hf : (cfg3.win 3).flush t = true) :
    (dat3 V c).flushed 3 t = ((cfg3.win 3).blk t).view.read (Elt Ideal) (resultAmax3 V c) := by
  show (cfg3.win 3).cut (grid3.coords t) ((dat3 V c).after 3 t) = _
  rw [after3_3, amax3 V c t ((flush3_3 t).mp hf)]
  funext j
  rw [View.read_apply]
  rfl

/-- The largest magnitude the region leaves. -/
theorem finalAmax3 (c : Dev nD) : (dat3 V c).arrAt 3 cfg3.N = resultAmax3 V c :=
  (dat3 V c).arrAt_eq_of_cover 3 (resultAmax3 V c) (flushedAmax3 V c) fun i => by
    have h0 : ((i : S1x1.Idx) 0).val < 1 := (i 0).isLt
    have h1 : ((i : S1x1.Idx) 1).val < 1 := (i 1).isLt
    have hN : cfg3.N = 32 := N_3
    refine ⟨⟨31, by omega⟩, (flush3_3 _).mpr rfl, ?_⟩
    generalize (⟨31, _⟩ : Fin cfg3.N) = t
    show i ∈ ((View.whole (Pipeline.arrRef spec3 3)).slice (win3_3.rect t)).set
    rw [View.set_slice_whole, Rect.mem_set_unit]
    intro a
    match a with
    | ⟨0, _⟩ => show win3_3.index t 0 * 1 ≤ ((i : S1x1.Idx) 0).val ∧ ((i : S1x1.Idx) 0).val < win3_3.index t 0 * 1 + 1
                rw [(aidx3 t).1]; omega
    | ⟨1, _⟩ => show win3_3.index t 1 * 1 ≤ ((i : S1x1.Idx) 1).val ∧ ((i : S1x1.Idx) 1).val < win3_3.index t 1 * 1 + 1
                rw [(aidx3 t).2]; omega

end Cert.Kernel.Gen

end
-- ==== Proof.HiddenCase.lean ====
/-
  The values of the hidden layer's region: the codes of the activation and of its gradient that each grid point leaves, the two
  running largest magnitudes, and the four arrays it ends with.
-/
module

public import proofs.«01_k».proof.Proof.Hidden
public import proofs.«01_k».proof.Proof.QuantW2Val
public import Idealize.ShloMosaic.Lib.VecWindow

@[expose] public section

set_option maxRecDepth 16384

noncomputable section

namespace Cert.Kernel.Gen

open Idealize.ShloMosaic Idealize.ShloMosaic.TcCoe Idealize.SL.Sem Cert.Model
open Idealize.ShloMosaic.Pipeline (Dat)

/-! ## One chunk of 256 rows -/

theorem pay4_9_apply (s : EReal) (x : Vec Ideal S256x4096 .fp8e4m3) (w : Vec Ideal S4096x1024 .fp8e4m3) (j : S256x1024.Idx) :
    k4_pay9 (F := Ideal) s x w j = gelu (mmNN x w s j) := by
  pointwise [k4_pay9, k4_pay8, k4_pay7]
  rfl

/-- The gradient's chunk, from its two products. -/
abbrev dchunk (s s1 : EReal) (x : Vec Ideal S256x4096 .fp8e4m3) (w : Vec Ideal S4096x1024 .fp8e4m3) (d : Vec Ideal S256x4096 .fp8e5m2)
    (w2 : Vec Ideal S1024x4096 .fp8e4m3) : FVec Ideal S256x1024 .f32 :=
  k4_pay11 (F := Ideal) s1 (k4_pay6 d w2) (k4_pay7 s x w) (k4_pay8 s x w) (k4_pay10 s x w)

theorem dchunk_apply (s s1 : EReal) (x : Vec Ideal S256x4096 .fp8e4m3) (w : Vec Ideal S4096x1024 .fp8e4m3) (d : Vec Ideal S256x4096 .fp8e5m2)
    (w2 : Vec Ideal S1024x4096 .fp8e4m3) (j : S256x1024.Idx) :
    dchunk s s1 x w d w2 j = mmNT d w2 s1 j * dgelu (mmNN x w s j) := by
  pointwise [dchunk, k4_pay11, k4_pay10, k4_pay8, k4_pay7, k4_pay6]
  rfl

theorem pay4_12_apply (s : EReal) (a : FVec Ideal S256x1024 .f32) (j : S256x1024.Idx) :
    k4_pay12 (F := Ideal) s a j = code 0xC3E00000#32 0x43E00000#32 s (a j) := by
  pointwise [k4_pay12]
  rfl

theorem pay4_22_apply (s : EReal) (a : FVec Ideal S256x1024 .f32) (j : S256x1024.Idx) :
    k4_pay22 (F := Ideal) s a j = code 0xC7600000#32 0x47600000#32 s (a j) := by
  pointwise [k4_pay22]
  rfl

theorem pay4_fold_le (a : FVec Ideal S256x1024 .f32) (b : EReal) :
    (∀ j, (multiReduction .maximumf [0] S8x1024 (shapeCast S32x8x1024 (absf a) shapeCasts_S256x1024_S32x8x1024) 0xFF800000#32 reduces_S32x8x1024_S8x1024 (.inl rfl) rfl j : EReal) ≤ b)
      ↔ ∀ i : S256x1024.Idx, mag (a i) ≤ b :=
  (red_le _ _ _ _ b).trans (cast_le _ _ b)

theorem pay4_14_le (a : FVec Ideal S256x1024 .f32) (s : Vec Ideal S8x1024 .f32) (b : EReal) :
    (∀ j, (k4_pay14 (F := Ideal) a s j : EReal) ≤ b) ↔ (∀ j, (s j : EReal) ≤ b) ∧ ∀ i : S256x1024.Idx, mag (a i) ≤ b := by
  unfold k4_pay14
  rw [shapeCast_self, ← pay4_fold_le a b, ← forall_and]
  exact forall_congr' fun j => max_le_iff

theorem pay4_2_le (s : Vec Ideal S8x1024 .f32) (b : EReal) : (k4_pay2 (F := Ideal) s : EReal) ≤ b ↔ ∀ j, (s j : EReal) ≤ b := by
  unfold k4_pay2
  exact scalar_le _ _ _ _ _ _ _ b

/-! ## One block, of four chunks -/

/-- A scalar of the four, loaded. -/
theorem ld_four (x : Vec Ideal S4 .f32) (q : Fin 4) (inb) (i : (Rect.unit (s := S4) ![q.val] S1.size inb).shape.Idx) :
    View.ld x (Rect.unit (s := S4) ![q.val] S1.size inb) i = x (ix1 q) := by
  show x _ = x _
  congr 1
  funext a
  match a with
  | ⟨0, _⟩ => exact Fin.ext (by show q.val + 1 * (i 0).val = q.val; have : (i 0).val < 1 := (i 0).isLt; omega)

/-- Each of the four scalars, loaded. -/
theorem four (x : Vec Ideal S4 .f32) :
    (∀ inb i, View.ld x (Rect.unit (s := S4) ![0] ![1] inb) i = x (ix1 0)) ∧
    (∀ inb i, View.ld x (Rect.unit (s := S4) ![1] ![1] inb) i = x (ix1 1)) ∧
    (∀ inb i, View.ld x (Rect.unit (s := S4) ![2] ![1] inb) i = x (ix1 2)) ∧
    (∀ inb i, View.ld x (Rect.unit (s := S4) ![3] ![1] inb) i = x (ix1 3)) :=
  ⟨ld_four x 0, ld_four x 1, ld_four x 2, ld_four x 3⟩

/-- The activation of a block. -/
def ablk (x0 : Vec Ideal S4 .f32) (x1 : Vec Ideal S1024x4096 .fp8e4m3) (x3 : Vec Ideal S4096x1024 .fp8e4m3) (j : S1024x1024.Idx) : EReal :=
  gelu (mmNN x1 x3 (x0 (ix1 0)) j)

/-- The gradient at a block. -/
def dblk (x0 : Vec Ideal S4 .f32) (x1 : Vec Ideal S1024x4096 .fp8e4m3) (x2 : Vec Ideal S1024x4096 .fp8e5m2) (x3 : Vec Ideal S4096x1024 .fp8e4m3)
    (x4 : Vec Ideal S1024x4096 .fp8e4m3) (j : S1024x1024.Idx) : EReal :=
  mmNT x2 x4 (x0 (ix1 1)) j * dgelu (mmNN x1 x3 (x0 (ix1 0)) j)

/-- Rows `o` to `o + 255` of a block. -/
def rows {e : EltTy} (o : ℕ) (inb : ∀ a, (![o, 0] : Fin 2 → ℕ) a + S256x4096.size a ≤ S1024x4096.size a) (x : Vec Ideal S1024x4096 e) : Vec Ideal S256x4096 e :=
  View.ld x (Rect.unit (s := S1024x4096) ![o, 0] S256x4096.size inb)

theorem rows_apply {e : EltTy} (o : ℕ) (inb) (inb') (x : Vec Ideal S1024x4096 e) (j : S256x1024.Idx) (k : Fin 4096) :
    rows o inb x (ix2 (j 0) k) = x (ix2 ((Rect.unit (s := S1024x1024) ![o, 0] S256x1024.size inb').emb j 0) k) := by
  show x _ = x _
  congr 1
  funext a
  match a with
  | ⟨0, _⟩ => rfl
  | ⟨1, _⟩ => exact Fin.ext (by show 0 + 1 * k.val = k.val; omega)

theorem col_eq (o : ℕ) (inb') (j : S256x1024.Idx) : (Rect.unit (s := S1024x1024) ![o, 0] S256x1024.size inb').emb j 1 = j 1 :=
  Fin.ext (by show 0 + 1 * (j 1).val = (j 1).val; omega)

/-- A chunk of the activation is the block's at the chunk's rows. -/
theorem achunk_eq (o : ℕ) (inb) (inb') (x0 : Vec Ideal S4 .f32) (x1 : Vec Ideal S1024x4096 .fp8e4m3) (x3 : Vec Ideal S4096x1024 .fp8e4m3) (j : S256x1024.Idx) :
    (k4_pay9 (F := Ideal) (x0 (ix1 0)) (rows o inb x1) x3 j : EReal) = ablk x0 x1 x3 ((Rect.unit (s := S1024x1024) ![o, 0] S256x1024.size inb').emb j) := by
  rw [pay4_9_apply]
  unfold ablk mmNN
  simp only [rows_apply o inb inb', col_eq o inb' j]

theorem dchunk_eq (o : ℕ) (inb) (inb') (x0 : Vec Ideal S4 .f32) (x1 : Vec Ideal S1024x4096 .fp8e4m3) (x2 : Vec Ideal S1024x4096 .fp8e5m2) (x3 : Vec Ideal S4096x1024 .fp8e4m3)
    (x4 : Vec Ideal S1024x4096 .fp8e4m3) (j : S256x1024.Idx) :
    (dchunk (x0 (ix1 0)) (x0 (ix1 1)) (rows o inb x1) x3 (rows o inb x2) x4 j : EReal)
      = dblk x0 x1 x2 x3 x4 ((Rect.unit (s := S1024x1024) ![o, 0] S256x1024.size inb').emb j) := by
  rw [dchunk_apply]
  unfold dblk mmNN mmNT
  simp only [rows_apply o inb inb', col_eq o inb' j]

/-- A chunk of the activation's codes, at the chunk's rows of the block. -/
theorem acode_eq (o : ℕ) (inb) (inb') (x0 : Vec Ideal S4 .f32) (x1 : Vec Ideal S1024x4096 .fp8e4m3) (x3 : Vec Ideal S4096x1024 .fp8e4m3) (j : S256x1024.Idx) :
    (k4_pay12 (F := Ideal) (x0 (ix1 2)) (k4_pay9 (x0 (ix1 0)) (rows o inb x1) x3) j : EReal)
      = code 0xC3E00000#32 0x43E00000#32 (x0 (ix1 2)) (ablk x0 x1 x3 ((Rect.unit (s := S1024x1024) ![o, 0] S256x1024.size inb').emb j)) := by
  rw [pay4_12_apply, achunk_eq o inb inb']

theorem dcode_eq (o : ℕ) (inb) (inb') (x0 : Vec Ideal S4 .f32) (x1 : Vec Ideal S1024x4096 .fp8e4m3) (x2 : Vec Ideal S1024x4096 .fp8e5m2) (x3 : Vec Ideal S4096x1024 .fp8e4m3)
    (x4 : Vec Ideal S1024x4096 .fp8e4m3) (j : S256x1024.Idx) :
    (k4_pay22 (F := Ideal) (x0 (ix1 3)) (dchunk (x0 (ix1 0)) (x0 (ix1 1)) (rows o inb x1) x3 (rows o inb x2) x4) j : EReal)
      = code 0xC7600000#32 0x47600000#32 (x0 (ix1 3)) (dblk x0 x1 x2 x3 x4 ((Rect.unit (s := S1024x1024) ![o, 0] S256x1024.size inb').emb j)) := by
  rw [pay4_22_apply, dchunk_eq o inb inb']

/-- The four chunks make up the block. -/
theorem mem_chunks (y : S1024x1024.Idx) (i0 i1 i2 i3) :
    y ∈ (Rect.unit (s := S1024x1024) ![0, 0] S256x1024.size i0).set ∨ y ∈ (Rect.unit (s := S1024x1024) ![256, 0] S256x1024.size i1).set
      ∨ y ∈ (Rect.unit (s := S1024x1024) ![512, 0] S256x1024.size i2).set ∨ y ∈ (Rect.unit (s := S1024x1024) ![768, 0] S256x1024.size i3).set := by
  have h0 : (y 0).val < 1024 := (y 0).isLt
  have h1 : (y 1).val < 1024 := (y 1).isLt
  have key : ∀ (o : ℕ) (i), o ≤ (y 0).val → (y 0).val < o + 256 → y ∈ (Rect.unit (s := S1024x1024) ![o, 0] S256x1024.size i).set := fun o i hl hu => by
    rw [Rect.mem_set_unit]
    intro a
    match a with
    | ⟨0, _⟩ => exact ⟨hl, hu⟩
    | ⟨1, _⟩ => exact ⟨Nat.zero_le _, by show (y 1).val < 0 + 1024; omega⟩
  by_cases ha : (y 0).val < 256
  · exact Or.inl (key 0 i0 (Nat.zero_le _) (by omega))
  by_cases hb : (y 0).val < 512
  · exact Or.inr (Or.inl (key 256 i1 (by omega) (by omega)))
  by_cases hc : (y 0).val < 768
  · exact Or.inr (Or.inr (Or.inl (key 512 i2 (by omega) (by omega))))
  · exact Or.inr (Or.inr (Or.inr (key 768 i3 (by omega) (by omega))))

/-- What holds on each chunk holds on the block. -/
theorem chunks_forall (P : S1024x1024.Idx → Prop) (i0 i1 i2 i3) :
    ((((∀ j, P ((Rect.unit (s := S1024x1024) ![0, 0] S256x1024.size i0).emb j)) ∧ ∀ j, P ((Rect.unit (s := S1024x1024) ![256, 0] S256x1024.size i1).emb j))
      ∧ ∀ j, P ((Rect.unit (s := S1024x1024) ![512, 0] S256x1024.size i2).emb j)) ∧ ∀ j, P ((Rect.unit (s := S1024x1024) ![768, 0] S256x1024.size i3).emb j))
      ↔ ∀ y, P y := by
  constructor
  · rintro ⟨⟨⟨h0, h1⟩, h2⟩, h3⟩ y
    have hit : ∀ (r : Rect S1024x1024), (∀ j, P (r.emb j)) → y ∈ r.set → P y := fun r h hm => by
      obtain ⟨j, rfl⟩ := r.exists_idx_of_mem hm
      exact h j
    rcases mem_chunks y i0 i1 i2 i3 with h | h | h | h
    · exact hit _ h0 h
    · exact hit _ h1 h
    · exact hit _ h2 h
    · exact hit _ h3 h
  · exact fun h => ⟨⟨⟨fun _ => h _, fun _ => h _⟩, fun _ => h _⟩, fun _ => h _⟩

/-- Four chunks' magnitudes folded into the activation's scratch. -/
def afold (x0 : Vec Ideal S4 .f32) (x1 : Vec Ideal S1024x4096 .fp8e4m3) (x3 : Vec Ideal S4096x1024 .fp8e4m3) (s : Vec Ideal S8x1024 .f32) : Vec Ideal S8x1024 .f32 :=
  let a (o : ℕ) (inb) := k4_pay9 (F := Ideal) (x0 (ix1 0)) (rows o inb x1) x3
  k4_pay14 (a 768 inb_S1024x4096_S256x4096_768_0) (k4_pay14 (a 512 inb_S1024x4096_S256x4096_512_0)
    (k4_pay14 (a 256 inb_S1024x4096_S256x4096_256_0) (k4_pay14 (a 0 inb_S1024x4096_S256x4096_0_0) s)))

/-- Four chunks' magnitudes folded into the gradient's scratch. -/
def dfold (x0 : Vec Ideal S4 .f32) (x1 : Vec Ideal S1024x4096 .fp8e4m3) (x2 : Vec Ideal S1024x4096 .fp8e5m2) (x3 : Vec Ideal S4096x1024 .fp8e4m3)
    (x4 : Vec Ideal S1024x4096 .fp8e4m3) (s : Vec Ideal S8x1024 .f32) : Vec Ideal S8x1024 .f32 :=
  let d (o : ℕ) (inb) := dchunk (x0 (ix1 0)) (x0 (ix1 1)) (rows o inb x1) x3 (rows o inb x2) x4
  k4_pay14 (d 768 inb_S1024x4096_S256x4096_768_0) (k4_pay14 (d 512 inb_S1024x4096_S256x4096_512_0)
    (k4_pay14 (d 256 inb_S1024x4096_S256x4096_256_0) (k4_pay14 (d 0 inb_S1024x4096_S256x4096_0_0) s)))

theorem afold_le (x0 : Vec Ideal S4 .f32) (x1 : Vec Ideal S1024x4096 .fp8e4m3) (x3 : Vec Ideal S4096x1024 .fp8e4m3) (s : Vec Ideal S8x1024 .f32) (b : EReal) :
    (∀ j, (afold x0 x1 x3 s j : EReal) ≤ b) ↔ (∀ j, (s j : EReal) ≤ b) ∧ ∀ y, mag (ablk x0 x1 x3 y) ≤ b := by
  rw [← chunks_forall (fun y => mag (ablk x0 x1 x3 y) ≤ b) inb_S1024x1024_S256x1024_0_0 inb_S1024x1024_S256x1024_256_0 inb_S1024x1024_S256x1024_512_0 inb_S1024x1024_S256x1024_768_0]
  simp only [afold, pay4_14_le, achunk_eq 0 _ inb_S1024x1024_S256x1024_0_0, achunk_eq 256 _ inb_S1024x1024_S256x1024_256_0, achunk_eq 512 _ inb_S1024x1024_S256x1024_512_0,
    achunk_eq 768 _ inb_S1024x1024_S256x1024_768_0, and_assoc]
  exact Iff.rfl

theorem dfold_le (x0 : Vec Ideal S4 .f32) (x1 : Vec Ideal S1024x4096 .fp8e4m3) (x2 : Vec Ideal S1024x4096 .fp8e5m2) (x3 : Vec Ideal S4096x1024 .fp8e4m3)
    (x4 : Vec Ideal S1024x4096 .fp8e4m3) (s : Vec Ideal S8x1024 .f32) (b : EReal) :
    (∀ j, (dfold x0 x1 x2 x3 x4 s j : EReal) ≤ b) ↔ (∀ j, (s j : EReal) ≤ b) ∧ ∀ y, mag (dblk x0 x1 x2 x3 x4 y) ≤ b := by
  rw [← chunks_forall (fun y => mag (dblk x0 x1 x2 x3 x4 y) ≤ b) inb_S1024x1024_S256x1024_0_0 inb_S1024x1024_S256x1024_256_0 inb_S1024x1024_S256x1024_512_0 inb_S1024x1024_S256x1024_768_0]
  simp only [dfold, pay4_14_le, dchunk_eq 0 _ inb_S1024x1024_S256x1024_0_0, dchunk_eq 256 _ inb_S1024x1024_S256x1024_256_0, dchunk_eq 512 _ inb_S1024x1024_S256x1024_512_0,
    dchunk_eq 768 _ inb_S1024x1024_S256x1024_768_0, and_assoc]
  exact Iff.rfl

/-- The activation's codes. -/
def acodes (x0 : Vec Ideal S4 .f32) (x1 : Vec Ideal S1024x4096 .fp8e4m3) (x3 : Vec Ideal S4096x1024 .fp8e4m3) : Vec Ideal S1024x1024 .fp8e4m3 :=
  fun y => code 0xC3E00000#32 0x43E00000#32 (x0 (ix1 2)) (ablk x0 x1 x3 y)

/-- The gradient's codes. -/
def dcodes (x0 : Vec Ideal S4 .f32) (x1 : Vec Ideal S1024x4096 .fp8e4m3) (x2 : Vec Ideal S1024x4096 .fp8e5m2) (x3 : Vec Ideal S4096x1024 .fp8e4m3)
    (x4 : Vec Ideal S1024x4096 .fp8e4m3) : Vec Ideal S1024x1024 .fp8e5m2 :=
  fun y => code 0xC7600000#32 0x47600000#32 (x0 (ix1 3)) (dblk x0 x1 x2 x3 x4 y)

/-! ## The body's cases -/

section runs
variable (c : Dev nD) (i : grid4.Coords) (arg2 : Memref sig .tc .smem S4 .f32) (harg2 : arg2.IsWhole) (arg3 : Memref sig .tc .vmem S1024x4096 .fp8e4m3) (harg3 : arg3.IsWhole) (arg4 : Memref sig .tc .vmem S1024x4096 .fp8e5m2) (harg4 : arg4.IsWhole) (arg5 : Memref sig .tc .vmem S4096x1024 .fp8e4m3) (harg5 : arg5.IsWhole) (arg6 : Memref sig .tc .vmem S1024x4096 .fp8e4m3) (harg6 : arg6.IsWhole) (arg7 : Memref sig .tc .vmem S1024x1024 .fp8e4m3) (harg7 : arg7.IsWhole) (arg8 : Memref sig .tc .vmem S1024x1024 .fp8e5m2) (harg8 : arg8.IsWhole) (arg9 : Memref sig .tc .smem S1x1 .f32) (harg9 : arg9.IsWhole) (arg10 : Memref sig .tc .smem S1x1 .f32) (harg10 : arg10.IsWhole) (arg11 : Memref sig .tc .vmem S8x1024 .f32) (harg11 : arg11.IsWhole) (arg12 : Memref sig .tc .vmem S8x1024 .f32) (harg12 : arg12.IsWhole)

section caseA
variable (hc0 : cond4_0 i) (hc1 : ¬cond4_1 i)
    (x0 : Vec Ideal S4 .f32) (x1 : Vec Ideal S1024x4096 .fp8e4m3) (x2 : Vec Ideal S1024x4096 .fp8e5m2) (x3 : Vec Ideal S4096x1024 .fp8e4m3) (x4 : Vec Ideal S1024x4096 .fp8e4m3)

theorem val4_A_5 :
    out4_A_5 (F := Ideal) c i _ harg2 _ harg3 _ harg4 _ harg5 _ harg6 _ harg7 _ harg8 _ harg9 _ harg10 _ harg11 _ harg12 hc0 hc1 x0 x1 x2 x3 x4 = acodes x0 x1 x3 := by
  unfold out4_A_5
  rw [View.read_writes_eq_canon _ _ _ (fun _ => cover4_A_5 ..)]
  unfold kernelRun4_A
  dsimp only
  sl_unfold_words
  simp only [View.readAt_eq_ld, Memref.IsWhole.read_unread, ld_whole, View.readCov_full (s := S8x1024), four x0]
  refine funext fun y => View.canon_apply_of_pieces (acodes x0 x1 x3) _ ?_ y ?_
  · intro p hp
    simp only [List.mem_cons, List.not_mem_nil, or_false] at hp
    rcases hp with rfl | rfl | rfl | rfl
    · exact fun x => acode_eq 768 inb_S1024x4096_S256x4096_768_0 inb_S1024x1024_S256x1024_768_0 x0 x1 x3 x
    · exact fun x => acode_eq 512 inb_S1024x4096_S256x4096_512_0 inb_S1024x1024_S256x1024_512_0 x0 x1 x3 x
    · exact fun x => acode_eq 256 inb_S1024x4096_S256x4096_256_0 inb_S1024x1024_S256x1024_256_0 x0 x1 x3 x
    · exact fun x => acode_eq 0 inb_S1024x4096_S256x4096_0_0 inb_S1024x1024_S256x1024_0_0 x0 x1 x3 x
  · rcases mem_chunks y inb_S1024x1024_S256x1024_0_0 inb_S1024x1024_S256x1024_256_0 inb_S1024x1024_S256x1024_512_0 inb_S1024x1024_S256x1024_768_0 with h | h | h | h
    · exact ⟨_, .tail _ (.tail _ (.tail _ (.head _))), h⟩
    · exact ⟨_, .tail _ (.tail _ (.head _)), h⟩
    · exact ⟨_, .tail _ (.head _), h⟩
    · exact ⟨_, .head _, h⟩

theorem val4_A_6 :
    out4_A_6 (F := Ideal) c i _ harg2 _ harg3 _ harg4 _ harg5 _ harg6 _ harg7 _ harg8 _ harg9 _ harg10 _ harg11 _ harg12 hc0 hc1 x0 x1 x2 x3 x4 = dcodes x0 x1 x2 x3 x4 := by
  unfold out4_A_6
  rw [View.read_writes_eq_canon _ _ _ (fun _ => cover4_A_6 ..)]
  unfold kernelRun4_A
  dsimp only
  sl_unfold_words
  simp only [View.readAt_eq_ld, Memref.IsWhole.read_unread, ld_whole, View.readCov_full (s := S8x1024), four x0]
  refine funext fun y => View.canon_apply_of_pieces (dcodes x0 x1 x2 x3 x4) _ ?_ y ?_
  · intro p hp
    simp only [List.mem_cons, List.not_mem_nil, or_false] at hp
    rcases hp with rfl | rfl | rfl | rfl
    · exact fun x => dcode_eq 768 inb_S1024x4096_S256x4096_768_0 inb_S1024x1024_S256x1024_768_0 x0 x1 x2 x3 x4 x
    · exact fun x => dcode_eq 512 inb_S1024x4096_S256x4096_512_0 inb_S1024x1024_S256x1024_512_0 x0 x1 x2 x3 x4 x
    · exact fun x => dcode_eq 256 inb_S1024x4096_S256x4096_256_0 inb_S1024x1024_S256x1024_256_0 x0 x1 x2 x3 x4 x
    · exact fun x => dcode_eq 0 inb_S1024x4096_S256x4096_0_0 inb_S1024x1024_S256x1024_0_0 x0 x1 x2 x3 x4 x
  · rcases mem_chunks y inb_S1024x1024_S256x1024_0_0 inb_S1024x1024_S256x1024_256_0 inb_S1024x1024_S256x1024_512_0 inb_S1024x1024_S256x1024_768_0 with h | h | h | h
    · exact ⟨_, .tail _ (.tail _ (.tail _ (.head _))), h⟩
    · exact ⟨_, .tail _ (.tail _ (.head _)), h⟩
    · exact ⟨_, .tail _ (.head _), h⟩
    · exact ⟨_, .head _, h⟩

theorem sval4_A_0 :
    sout4_A_0 (F := Ideal) c i _ harg2 _ harg3 _ harg4 _ harg5 _ harg6 _ harg7 _ harg8 _ harg9 _ harg10 _ harg11 _ harg12 hc0 hc1 x0 x1 x2 x3 x4 = afold x0 x1 x3 (k4_pay4 (F := Ideal)) := by
  unfold sout4_A_0
  rw [View.read_writes_eq_canon _ _ _ (fun _ => scover4_A_0 ..)]
  unfold kernelRun4_A
  dsimp only
  sl_unfold_words
  rw [View.canon_cons_unit_zero (S := S8x1024) hz2]
  simp only [View.readAt_eq_ld, Memref.IsWhole.read_unread, ld_whole, View.readCov_full (s := S8x1024), four x0]
  rfl

theorem sval4_A_1 :
    sout4_A_1 (F := Ideal) c i _ harg2 _ harg3 _ harg4 _ harg5 _ harg6 _ harg7 _ harg8 _ harg9 _ harg10 _ harg11 _ harg12 hc0 hc1 x0 x1 x2 x3 x4 = dfold x0 x1 x2 x3 x4 (k4_pay5 (F := Ideal)) := by
  unfold sout4_A_1
  rw [View.read_writes_eq_canon _ _ _ (fun _ => scover4_A_1 ..)]
  unfold kernelRun4_A
  dsimp only
  sl_unfold_words
  rw [View.canon_cons_unit_zero (S := S8x1024) hz2]
  simp only [View.readAt_eq_ld, Memref.IsWhole.read_unread, ld_whole, View.readCov_full (s := S8x1024), four x0]
  rfl

end caseA

section caseB
variable (hc0 : ¬cond4_0 i) (hc1 : ¬cond4_1 i)
    (x0 : Vec Ideal S4 .f32) (x1 : Vec Ideal S1024x4096 .fp8e4m3) (x2 : Vec Ideal S1024x4096 .fp8e5m2) (x3 : Vec Ideal S4096x1024 .fp8e4m3) (x4 : Vec Ideal S1024x4096 .fp8e4m3) (xs0 : Vec Ideal S8x1024 .f32) (xs1 : Vec Ideal S8x1024 .f32)

theorem val4_B_5 :
    out4_B_5 (F := Ideal) c i _ harg2 _ harg3 _ harg4 _ harg5 _ harg6 _ harg7 _ harg8 _ harg9 _ harg10 _ harg11 _ harg12 hc0 hc1 x0 x1 x2 x3 x4 xs0 xs1 = acodes x0 x1 x3 := by
  unfold out4_B_5
  rw [View.read_writes_eq_canon _ _ _ (fun _ => cover4_B_5 ..)]
  unfold kernelRun4_B
  dsimp only
  sl_unfold_words
  simp only [View.readAt_eq_ld, Memref.IsWhole.read_unread, ld_whole, View.readCov_full (s := S8x1024), four x0]
  refine funext fun y => View.canon_apply_of_pieces (acodes x0 x1 x3) _ ?_ y ?_
  · intro p hp
    simp only [List.mem_cons, List.not_mem_nil, or_false] at hp
    rcases hp with rfl | rfl | rfl | rfl
    · exact fun x => acode_eq 768 inb_S1024x4096_S256x4096_768_0 inb_S1024x1024_S256x1024_768_0 x0 x1 x3 x
    · exact fun x => acode_eq 512 inb_S1024x4096_S256x4096_512_0 inb_S1024x1024_S256x1024_512_0 x0 x1 x3 x
    · exact fun x => acode_eq 256 inb_S1024x4096_S256x4096_256_0 inb_S1024x1024_S256x1024_256_0 x0 x1 x3 x
    · exact fun x => acode_eq 0 inb_S1024x4096_S256x4096_0_0 inb_S1024x1024_S256x1024_0_0 x0 x1 x3 x
  · rcases mem_chunks y inb_S1024x1024_S256x1024_0_0 inb_S1024x1024_S256x1024_256_0 inb_S1024x1024_S256x1024_512_0 inb_S1024x1024_S256x1024_768_0 with h | h | h | h
    · exact ⟨_, .tail _ (.tail _ (.tail _ (.head _))), h⟩
    · exact ⟨_, .tail _ (.tail _ (.head _)), h⟩
    · exact ⟨_, .tail _ (.head _), h⟩
    · exact ⟨_, .head _, h⟩

theorem val4_B_6 :
    out4_B_6 (F := Ideal) c i _ harg2 _ harg3 _ harg4 _ harg5 _ harg6 _ harg7 _ harg8 _ harg9 _ harg10 _ harg11 _ harg12 hc0 hc1 x0 x1 x2 x3 x4 xs0 xs1 = dcodes x0 x1 x2 x3 x4 := by
  unfold out4_B_6
  rw [View.read_writes_eq_canon _ _ _ (fun _ => cover4_B_6 ..)]
  unfold kernelRun4_B
  dsimp only
  sl_unfold_words
  simp only [View.readAt_eq_ld, Memref.IsWhole.read_unread, ld_whole, View.readCov_full (s := S8x1024), four x0]
  refine funext fun y => View.canon_apply_of_pieces (dcodes x0 x1 x2 x3 x4) _ ?_ y ?_
  · intro p hp
    simp only [List.mem_cons, List.not_mem_nil, or_false] at hp
    rcases hp with rfl | rfl | rfl | rfl
    · exact fun x => dcode_eq 768 inb_S1024x4096_S256x4096_768_0 inb_S1024x1024_S256x1024_768_0 x0 x1 x2 x3 x4 x
    · exact fun x => dcode_eq 512 inb_S1024x4096_S256x4096_512_0 inb_S1024x1024_S256x1024_512_0 x0 x1 x2 x3 x4 x
    · exact fun x => dcode_eq 256 inb_S1024x4096_S256x4096_256_0 inb_S1024x1024_S256x1024_256_0 x0 x1 x2 x3 x4 x
    · exact fun x => dcode_eq 0 inb_S1024x4096_S256x4096_0_0 inb_S1024x1024_S256x1024_0_0 x0 x1 x2 x3 x4 x
  · rcases mem_chunks y inb_S1024x1024_S256x1024_0_0 inb_S1024x1024_S256x1024_256_0 inb_S1024x1024_S256x1024_512_0 inb_S1024x1024_S256x1024_768_0 with h | h | h | h
    · exact ⟨_, .tail _ (.tail _ (.tail _ (.head _))), h⟩
    · exact ⟨_, .tail _ (.tail _ (.head _)), h⟩
    · exact ⟨_, .tail _ (.head _), h⟩
    · exact ⟨_, .head _, h⟩

theorem sval4_B_0 :
    sout4_B_0 (F := Ideal) c i _ harg2 _ harg3 _ harg4 _ harg5 _ harg6 _ harg7 _ harg8 _ harg9 _ harg10 _ harg11 _ harg12 hc0 hc1 x0 x1 x2 x3 x4 xs0 xs1 = afold x0 x1 x3 xs0 := by
  unfold sout4_B_0
  rw [View.read_writes_eq_canon _ _ _ (fun _ => scover4_B_0 ..)]
  unfold kernelRun4_B
  dsimp only
  sl_unfold_words
  rw [View.canon_cons_unit_zero (S := S8x1024) hz2]
  simp only [Memref.IsWhole.read_unread, ld_whole, View.readAt_eq_ld, ld_whole, View.readCov_full (s := S8x1024), four x0]
  rfl

theorem sval4_B_1 :
    sout4_B_1 (F := Ideal) c i _ harg2 _ harg3 _ harg4 _ harg5 _ harg6 _ harg7 _ harg8 _ harg9 _ harg10 _ harg11 _ harg12 hc0 hc1 x0 x1 x2 x3 x4 xs0 xs1 = dfold x0 x1 x2 x3 x4 xs1 := by
  unfold sout4_B_1
  rw [View.read_writes_eq_canon _ _ _ (fun _ => scover4_B_1 ..)]
  unfold kernelRun4_B
  dsimp only
  sl_unfold_words
  rw [View.canon_cons_unit_zero (S := S8x1024) hz2]
  simp only [Memref.IsWhole.read_unread, ld_whole, View.readAt_eq_ld, ld_whole, View.readCov_full (s := S8x1024), four x0]
  rfl

end caseB

section caseC
variable (hc0 : ¬cond4_0 i) (hc1 : cond4_1 i)
    (x0 : Vec Ideal S4 .f32) (x1 : Vec Ideal S1024x4096 .fp8e4m3) (x2 : Vec Ideal S1024x4096 .fp8e5m2) (x3 : Vec Ideal S4096x1024 .fp8e4m3) (x4 : Vec Ideal S1024x4096 .fp8e4m3) (xs0 : Vec Ideal S8x1024 .f32) (xs1 : Vec Ideal S8x1024 .f32)

theorem val4_C_5 :
    out4_C_5 (F := Ideal) c i _ harg2 _ harg3 _ harg4 _ harg5 _ harg6 _ harg7 _ harg8 _ harg9 _ harg10 _ harg11 _ harg12 hc0 hc1 x0 x1 x2 x3 x4 xs0 xs1 = acodes x0 x1 x3 := by
  unfold out4_C_5
  rw [View.read_writes_eq_canon _ _ _ (fun _ => cover4_C_5 ..)]
  unfold kernelRun4_C
  dsimp only
  sl_unfold_words
  simp only [View.readAt_eq_ld, Memref.IsWhole.read_unread, ld_whole, View.readCov_full (s := S8x1024), four x0]
  refine funext fun y => View.canon_apply_of_pieces (acodes x0 x1 x3) _ ?_ y ?_
  · intro p hp
    simp only [List.mem_cons, List.not_mem_nil, or_false] at hp
    rcases hp with rfl | rfl | rfl | rfl
    · exact fun x => acode_eq 768 inb_S1024x4096_S256x4096_768_0 inb_S1024x1024_S256x1024_768_0 x0 x1 x3 x
    · exact fun x => acode_eq 512 inb_S1024x4096_S256x4096_512_0 inb_S1024x1024_S256x1024_512_0 x0 x1 x3 x
    · exact fun x => acode_eq 256 inb_S1024x4096_S256x4096_256_0 inb_S1024x1024_S256x1024_256_0 x0 x1 x3 x
    · exact fun x => acode_eq 0 inb_S1024x4096_S256x4096_0_0 inb_S1024x1024_S256x1024_0_0 x0 x1 x3 x
  · rcases mem_chunks y inb_S1024x1024_S256x1024_0_0 inb_S1024x1024_S256x1024_256_0 inb_S1024x1024_S256x1024_512_0 inb_S1024x1024_S256x1024_768_0 with h | h | h | h
    · exact ⟨_, .tail _ (.tail _ (.tail _ (.head _))), h⟩
    · exact ⟨_, .tail _ (.tail _ (.head _)), h⟩
    · exact ⟨_, .tail _ (.head _), h⟩
    · exact ⟨_, .head _, h⟩

theorem val4_C_6 :
    out4_C_6 (F := Ideal) c i _ harg2 _ harg3 _ harg4 _ harg5 _ harg6 _ harg7 _ harg8 _ harg9 _ harg10 _ harg11 _ harg12 hc0 hc1 x0 x1 x2 x3 x4 xs0 xs1 = dcodes x0 x1 x2 x3 x4 := by
  unfold out4_C_6
  rw [View.read_writes_eq_canon _ _ _ (fun _ => cover4_C_6 ..)]
  unfold kernelRun4_C
  dsimp only
  sl_unfold_words
  simp only [View.readAt_eq_ld, Memref.IsWhole.read_unread, ld_whole, View.readCov_full (s := S8x1024), four x0]
  refine funext fun y => View.canon_apply_of_pieces (dcodes x0 x1 x2 x3 x4) _ ?_ y ?_
  · intro p hp
    simp only [List.mem_cons, List.not_mem_nil, or_false] at hp
    rcases hp with rfl | rfl | rfl | rfl
    · exact fun x => dcode_eq 768 inb_S1024x4096_S256x4096_768_0 inb_S1024x1024_S256x1024_768_0 x0 x1 x2 x3 x4 x
    · exact fun x => dcode_eq 512 inb_S1024x4096_S256x4096_512_0 inb_S1024x1024_S256x1024_512_0 x0 x1 x2 x3 x4 x
    · exact fun x => dcode_eq 256 inb_S1024x4096_S256x4096_256_0 inb_S1024x1024_S256x1024_256_0 x0 x1 x2 x3 x4 x
    · exact fun x => dcode_eq 0 inb_S1024x4096_S256x4096_0_0 inb_S1024x1024_S256x1024_0_0 x0 x1 x2 x3 x4 x
  · rcases mem_chunks y inb_S1024x1024_S256x1024_0_0 inb_S1024x1024_S256x1024_256_0 inb_S1024x1024_S256x1024_512_0 inb_S1024x1024_S256x1024_768_0 with h | h | h | h
    · exact ⟨_, .tail _ (.tail _ (.tail _ (.head _))), h⟩
    · exact ⟨_, .tail _ (.tail _ (.head _)), h⟩
    · exact ⟨_, .tail _ (.head _), h⟩
    · exact ⟨_, .head _, h⟩

theorem sval4_C_0 :
    sout4_C_0 (F := Ideal) c i _ harg2 _ harg3 _ harg4 _ harg5 _ harg6 _ harg7 _ harg8 _ harg9 _ harg10 _ harg11 _ harg12 hc0 hc1 x0 x1 x2 x3 x4 xs0 xs1 = afold x0 x1 x3 xs0 := by
  unfold sout4_C_0
  rw [View.read_writes_eq_canon _ _ _ (fun _ => scover4_C_0 ..)]
  unfold kernelRun4_C
  dsimp only
  sl_unfold_words
  rw [View.canon_cons_unit_zero (S := S8x1024) hz2]
  simp only [Memref.IsWhole.read_unread, ld_whole, View.readAt_eq_ld, ld_whole, View.readCov_full (s := S8x1024), four x0]
  rfl

theorem sval4_C_1 :
    sout4_C_1 (F := Ideal) c i _ harg2 _ harg3 _ harg4 _ harg5 _ harg6 _ harg7 _ harg8 _ harg9 _ harg10 _ harg11 _ harg12 hc0 hc1 x0 x1 x2 x3 x4 xs0 xs1 = dfold x0 x1 x2 x3 x4 xs1 := by
  unfold sout4_C_1
  rw [View.read_writes_eq_canon _ _ _ (fun _ => scover4_C_1 ..)]
  unfold kernelRun4_C
  dsimp only
  sl_unfold_words
  rw [View.canon_cons_unit_zero (S := S8x1024) hz2]
  simp only [Memref.IsWhole.read_unread, ld_whole, View.readAt_eq_ld, ld_whole, View.readCov_full (s := S8x1024), four x0]
  rfl

theorem val4_C_7 :
    out4_C_7 (F := Ideal) c i _ harg2 _ harg3 _ harg4 _ harg5 _ harg6 _ harg7 _ harg8 _ harg9 _ harg10 _ harg11 _ harg12 hc0 hc1 x0 x1 x2 x3 x4 xs0 xs1 = fun _ => k4_pay2 (F := Ideal) (afold x0 x1 x3 xs0) := by
  unfold out4_C_7
  rw [View.read_writes_eq_canon _ _ _ (fun _ => cover4_C_7 ..)]
  unfold kernelRun4_C
  dsimp only
  sl_unfold_words
  rw [View.canon_unit_zero (S := S1x1) hz2]
  simp only [Memref.IsWhole.read_unread, ld_whole, View.readAt_eq_ld, ld_whole, View.readCov_full (s := S8x1024), four x0]
  rfl

theorem val4_C_8 :
    out4_C_8 (F := Ideal) c i _ harg2 _ harg3 _ harg4 _ harg5 _ harg6 _ harg7 _ harg8 _ harg9 _ harg10 _ harg11 _ harg12 hc0 hc1 x0 x1 x2 x3 x4 xs0 xs1 = fun _ => k4_pay2 (F := Ideal) (dfold x0 x1 x2 x3 x4 xs1) := by
  unfold out4_C_8
  rw [View.read_writes_eq_canon _ _ _ (fun _ => cover4_C_8 ..)]
  unfold kernelRun4_C
  dsimp only
  sl_unfold_words
  rw [View.canon_unit_zero (S := S1x1) hz2]
  simp only [Memref.IsWhole.read_unread, ld_whole, View.readAt_eq_ld, ld_whole, View.readCov_full (s := S8x1024), four x0]
  rfl

end caseC

end runs

end Cert.Kernel.Gen

end
-- ==== Proof.HiddenVal.lean ====
/-
  The arrays the hidden layer's region ends with: the codes of the activation and of its gradient, and their largest magnitudes.
-/
module

public import proofs.«01_k».proof.Proof.HiddenCase

@[expose] public section

set_option maxRecDepth 16384

noncomputable section

namespace Cert.Kernel.Gen

open Idealize.ShloMosaic Idealize.ShloMosaic.TcCoe Idealize.SL.Sem Cert.Model
open Idealize.ShloMosaic.Pipeline (Dat)

theorem zero4_4 (j : S8x1024.Idx) : (k4_pay4 (F := Ideal) j : EReal) = 0 := by
  pointwise [k4_pay4]

theorem zero4_5 (j : S8x1024.Idx) : (k4_pay5 (F := Ideal) j : EReal) = 0 := by
  pointwise [k4_pay5]

theorem sidx4 : ∀ t : Fin grid4.N, win4_0.index t 0 = 0 := by decide +kernel
theorem idx4_1 : ∀ t : Fin grid4.N, win4_1.index t 0 = t.val / 16 ∧ win4_1.index t 1 = 0 := by decide +kernel
theorem idx4_2 : ∀ t : Fin grid4.N, win4_2.index t 0 = t.val / 16 ∧ win4_2.index t 1 = 0 := by decide +kernel
theorem idx4_3 : ∀ t : Fin grid4.N, win4_3.index t 0 = 0 ∧ win4_3.index t 1 = t.val % 16 := by decide +kernel
theorem idx4_4 : ∀ t : Fin grid4.N, win4_4.index t 0 = t.val % 16 ∧ win4_4.index t 1 = 0 := by decide +kernel
theorem idx4_5 : ∀ t : Fin grid4.N, win4_5.index t 0 = t.val / 16 ∧ win4_5.index t 1 = t.val % 16 := by decide +kernel
theorem idx4_6 : ∀ t : Fin grid4.N, win4_6.index t 0 = t.val / 16 ∧ win4_6.index t 1 = t.val % 16 := by decide +kernel
theorem idx4_7 : ∀ t : Fin grid4.N, win4_7.index t 0 = 0 ∧ win4_7.index t 1 = 0 := by decide +kernel
theorem idx4_8 : ∀ t : Fin grid4.N, win4_8.index t 0 = 0 ∧ win4_8.index t 1 = 0 := by decide +kernel

variable (V : (c : Dev nD) → (b : Ref sig .tc) → Buf (Elt Ideal) ((c : Thread nD τ).loc b))

/-- The four scalars and the four code arrays. -/
abbrev scl4 (c : Dev nD) : S4.Idx → EReal := V c (Pipeline.arrRef spec4 0)
abbrev xc4 (c : Dev nD) : S8192x4096.Idx → EReal := V c (Pipeline.arrRef spec4 1)
abbrev dyc4 (c : Dev nD) : S8192x4096.Idx → EReal := V c (Pipeline.arrRef spec4 2)
abbrev w1c4 (c : Dev nD) : S4096x16384.Idx → EReal := V c (Pipeline.arrRef spec4 3)
abbrev w2c4 (c : Dev nD) : S16384x4096.Idx → EReal := V c (Pipeline.arrRef spec4 4)

theorem iblk4_0_apply (c : Dev nD) (t : Fin cfg4.N) (j : S4.Idx) : (iblk4 V c 0 t : S4.Idx → EReal) j = scl4 V c j := by
  unfold iblk4
  rw [View.read_apply]
  refine congrArg (scl4 V c) (funext fun a => ?_)
  match a with
  | ⟨0, _⟩ => exact Fin.ext ((Pipeline.Window.rect_emb_val_off win4_0 t j 0).trans (by
      rw [show win4_0.kind.off (win4_0.index t 0) (win4_0.size 0) = win4_0.index t 0 * 4 from rfl, sidx4 t, Nat.zero_mul, Nat.zero_add]; rfl))

theorem iblk4_1_apply (c : Dev nD) (t : Fin cfg4.N) (j : S1024x4096.Idx) :
    (iblk4 V c 1 t : S1024x4096.Idx → EReal) j = at2 (xc4 V c) (t.val / 16 * 1024 + (j 0).val) ((j 1).val) := by
  refine Eq.trans ?_ (at2_of (xc4 V c) (((cfg4.win 1).blk t).view.emb j) _ _ ?_ ?_)
  · unfold iblk4; rw [View.read_apply]; rfl
  · exact (Pipeline.Window.rect_emb_val_off win4_1 t j 0).trans (by show win4_1.index t 0 * 1024 + _ = _; rw [(idx4_1 t).1])
  · exact (Pipeline.Window.rect_emb_val_off win4_1 t j 1).trans (by show win4_1.index t 1 * 4096 + _ = _; rw [(idx4_1 t).2, Nat.zero_mul, Nat.zero_add])

theorem iblk4_2_apply (c : Dev nD) (t : Fin cfg4.N) (j : S1024x4096.Idx) :
    (iblk4 V c 2 t : S1024x4096.Idx → EReal) j = at2 (dyc4 V c) (t.val / 16 * 1024 + (j 0).val) ((j 1).val) := by
  refine Eq.trans ?_ (at2_of (dyc4 V c) (((cfg4.win 2).blk t).view.emb j) _ _ ?_ ?_)
  · unfold iblk4; rw [View.read_apply]; rfl
  · exact (Pipeline.Window.rect_emb_val_off win4_2 t j 0).trans (by show win4_2.index t 0 * 1024 + _ = _; rw [(idx4_2 t).1])
  · exact (Pipeline.Window.rect_emb_val_off win4_2 t j 1).trans (by show win4_2.index t 1 * 4096 + _ = _; rw [(idx4_2 t).2, Nat.zero_mul, Nat.zero_add])

theorem iblk4_3_apply (c : Dev nD) (t : Fin cfg4.N) (j : S4096x1024.Idx) :
    (iblk4 V c 3 t : S4096x1024.Idx → EReal) j = at2 (w1c4 V c) ((j 0).val) (t.val % 16 * 1024 + (j 1).val) := by
  refine Eq.trans ?_ (at2_of (w1c4 V c) (((cfg4.win 3).blk t).view.emb j) _ _ ?_ ?_)
  · unfold iblk4; rw [View.read_apply]; rfl
  · exact (Pipeline.Window.rect_emb_val_off win4_3 t j 0).trans (by show win4_3.index t 0 * 4096 + _ = _; rw [(idx4_3 t).1, Nat.zero_mul, Nat.zero_add])
  · exact (Pipeline.Window.rect_emb_val_off win4_3 t j 1).trans (by show win4_3.index t 1 * 1024 + _ = _; rw [(idx4_3 t).2])

theorem iblk4_4_apply (c : Dev nD) (t : Fin cfg4.N) (j : S1024x4096.Idx) :
    (iblk4 V c 4 t : S1024x4096.Idx → EReal) j = at2 (w2c4 V c) (t.val % 16 * 1024 + (j 0).val) ((j 1).val) := by
  refine Eq.trans ?_ (at2_of (w2c4 V c) (((cfg4.win 4).blk t).view.emb j) _ _ ?_ ?_)
  · unfold iblk4; rw [View.read_apply]; rfl
  · exact (Pipeline.Window.rect_emb_val_off win4_4 t j 0).trans (by show win4_4.index t 0 * 1024 + _ = _; rw [(idx4_4 t).1])
  · exact (Pipeline.Window.rect_emb_val_off win4_4 t j 1).trans (by show win4_4.index t 1 * 4096 + _ = _; rw [(idx4_4 t).2, Nat.zero_mul, Nat.zero_add])

/-- The activation, and the gradient at the first layer's output. -/
def act4 (c : Dev nD) : S8192x16384.Idx → EReal := fun i => gelu (mmNN (xc4 V c) (w1c4 V c) (scl4 V c (ix1 0)) i)
def grad4 (c : Dev nD) : S8192x16384.Idx → EReal := fun i =>
  mmNT (dyc4 V c) (w2c4 V c) (scl4 V c (ix1 1)) i * dgelu (mmNN (xc4 V c) (w1c4 V c) (scl4 V c (ix1 0)) i)

/-- The blocks of a point. -/
abbrev blkA4 (c : Dev nD) (t : Fin cfg4.N) : S1024x1024.Idx → EReal := ablk (iblk4 V c 0 t) (iblk4 V c 1 t) (iblk4 V c 3 t)
abbrev blkD4 (c : Dev nD) (t : Fin cfg4.N) : S1024x1024.Idx → EReal :=
  dblk (iblk4 V c 0 t) (iblk4 V c 1 t) (iblk4 V c 2 t) (iblk4 V c 3 t) (iblk4 V c 4 t)

theorem pre4_eq (c : Dev nD) (t : Fin cfg4.N) (j : S1024x1024.Idx) (y : S8192x16384.Idx)
    (h0 : (y 0).val = t.val / 16 * 1024 + (j 0).val) (h1 : (y 1).val = t.val % 16 * 1024 + (j 1).val) :
    mmNN (iblk4 V c 1 t : S1024x4096.Idx → EReal) (iblk4 V c 3 t : S4096x1024.Idx → EReal) ((iblk4 V c 0 t : S4.Idx → EReal) (ix1 0)) j
      = mmNN (xc4 V c) (w1c4 V c) (scl4 V c (ix1 0)) y := by
  unfold mmNN
  rw [iblk4_0_apply]
  refine congrArg (fun z : EReal => z * scl4 V c (ix1 0)) (Finset.sum_congr rfl fun k _ => ?_)
  exact congrArg₂ (fun a b : EReal => a * b) ((iblk4_1_apply V c t (ix2 (j 0) k)).trans (at2_of (xc4 V c) (ix2 (y 0) k) _ _ h0 rfl).symm)
    ((iblk4_3_apply V c t (ix2 k (j 1))).trans (at2_of (w1c4 V c) (ix2 k (y 1)) _ _ rfl h1).symm)

theorem back4_eq (c : Dev nD) (t : Fin cfg4.N) (j : S1024x1024.Idx) (y : S8192x16384.Idx)
    (h0 : (y 0).val = t.val / 16 * 1024 + (j 0).val) (h1 : (y 1).val = t.val % 16 * 1024 + (j 1).val) :
    mmNT (iblk4 V c 2 t : S1024x4096.Idx → EReal) (iblk4 V c 4 t : S1024x4096.Idx → EReal) ((iblk4 V c 0 t : S4.Idx → EReal) (ix1 1)) j
      = mmNT (dyc4 V c) (w2c4 V c) (scl4 V c (ix1 1)) y := by
  unfold mmNT
  rw [iblk4_0_apply]
  refine congrArg (fun z : EReal => z * scl4 V c (ix1 1)) (Finset.sum_congr rfl fun k _ => ?_)
  exact congrArg₂ (fun a b : EReal => a * b) ((iblk4_2_apply V c t (ix2 (j 0) k)).trans (at2_of (dyc4 V c) (ix2 (y 0) k) _ _ h0 rfl).symm)
    ((iblk4_4_apply V c t (ix2 (j 1) k)).trans (at2_of (w2c4 V c) (ix2 (y 1) k) _ _ h1 rfl).symm)

theorem blkA4_eq (c : Dev nD) (t : Fin cfg4.N) (j : S1024x1024.Idx) (y : S8192x16384.Idx)
    (h0 : (y 0).val = t.val / 16 * 1024 + (j 0).val) (h1 : (y 1).val = t.val % 16 * 1024 + (j 1).val) : blkA4 V c t j = act4 V c y :=
  congrArg gelu (pre4_eq V c t j y h0 h1)

theorem blkD4_eq (c : Dev nD) (t : Fin cfg4.N) (j : S1024x1024.Idx) (y : S8192x16384.Idx)
    (h0 : (y 0).val = t.val / 16 * 1024 + (j 0).val) (h1 : (y 1).val = t.val % 16 * 1024 + (j 1).val) : blkD4 V c t j = grad4 V c y :=
  congrArg₂ (fun a b : EReal => a * dgelu b) (back4_eq V c t j y h0 h1) (pre4_eq V c t j y h0 h1)

/-- What holds at every block of every point holds at every index. -/
theorem blocks_forall (P : EReal → Prop) (f : Fin cfg4.N → S1024x1024.Idx → EReal) (g : S8192x16384.Idx → EReal)
    (h : ∀ t j y, (y 0).val = t.val / 16 * 1024 + (j 0).val → (y 1).val = t.val % 16 * 1024 + (j 1).val → f t j = g y) :
    (∀ t j, P (f t j)) ↔ ∀ y, P (g y) := by
  have hN : cfg4.N = 128 := N_4
  constructor
  · intro hp y
    have h0 : (y 0).val < 8192 := (y 0).isLt
    have h1 : (y 1).val < 16384 := (y 1).isLt
    rw [← h ⟨(y 0).val / 1024 * 16 + (y 1).val / 1024, by omega⟩ (ix2 ⟨(y 0).val % 1024, by omega⟩ ⟨(y 1).val % 1024, by omega⟩) y
      (by dsimp only [ix2]; omega) (by dsimp only [ix2]; omega)]
    exact hp _ _
  · intro hp t j
    have h0 : (j 0).val < 1024 := (j 0).isLt
    have h1 : (j 1).val < 1024 := (j 1).isLt
    have ht := t.isLt
    rw [h t j (ix2 ⟨t.val / 16 * 1024 + (j 0).val, by omega⟩ ⟨t.val % 16 * 1024 + (j 1).val, by omega⟩) rfl rfl]
    exact hp _

/-! ## The activation -/

theorem codes4_A (c : Dev nD) (t : Fin cfg4.N) : (outsAt4 V c t.val t.isLt).1 = acodes (iblk4 V c 0 t) (iblk4 V c 1 t) (iblk4 V c 3 t) := by
  have hN : cfg4.N = 128 := N_4
  have ht := t.isLt
  by_cases h0 : t.val % 128 = 0
  · rw [outsAt4_A V c t h0 (by omega)]; dsimp only [pointOuts4_A, caseOuts4_A]; rw [val4_A_5]
  by_cases h2 : t.val % 128 = 127
  · rw [outsAt4_C V c t h0 h2]; dsimp only [pointOuts4_C, caseOuts4_C]; rw [val4_C_5]
  · rw [outsAt4_B V c t h0 h2]; dsimp only [pointOuts4_B, caseOuts4_B]; rw [val4_B_5]

/-- The scratch after point `n` is bounded exactly when the blocks up to `n` are. -/
theorem scratch4_A (c : Dev nD) (b : EReal) : ∀ (n : ℕ) (h : n < cfg4.N),
    (∀ j, ((outsAt4 V c n h).2.2.2.2.1 j : EReal) ≤ b)
      ↔ 0 ≤ b ∧ ∀ (t : Fin cfg4.N), t.val ≤ n → ∀ i, mag (blkA4 V c t i) ≤ b
  | 0, h => by
    have e : (outsAt4 V c 0 h).2.2.2.2.1 = afold (iblk4 V c 0 ⟨0, h⟩) (iblk4 V c 1 ⟨0, h⟩) (iblk4 V c 3 ⟨0, h⟩) (k4_pay4 (F := Ideal)) := by
      rw [outsAt4_A V c ⟨0, h⟩ (Nat.zero_mod _) (by dsimp only; omega)]; dsimp only [pointOuts4_A, caseOuts4_A]; rw [sval4_A_0]
    rw [e, afold_le]
    refine and_congr ⟨fun hz => (zero4_4 (ix2 0 0)).symm.le.trans (hz _), fun hz j => (zero4_4 j).le.trans hz⟩ ?_
    exact ⟨fun hb t ht i => by obtain rfl : t = ⟨0, h⟩ := Fin.ext (by dsimp only; omega); exact hb i, fun hb => hb ⟨0, h⟩ (Nat.le_refl _)⟩
  | n + 1, h => by
    have hN : cfg4.N = 128 := N_4
    have e : (outsAt4 V c (n + 1) h).2.2.2.2.1 = afold (iblk4 V c 0 ⟨n + 1, h⟩) (iblk4 V c 1 ⟨n + 1, h⟩) (iblk4 V c 3 ⟨n + 1, h⟩) (outsAt4 V c n (Nat.lt_of_succ_lt h)).2.2.2.2.1 := by
      by_cases h2 : (n + 1) % 128 = 127
      · rw [outsAt4_C V c ⟨n + 1, h⟩ (by dsimp only; omega) h2]; dsimp only [pointOuts4_C, caseOuts4_C]; rw [sval4_C_0]; rfl
      · rw [outsAt4_B V c ⟨n + 1, h⟩ (by dsimp only; omega) h2]; dsimp only [pointOuts4_B, caseOuts4_B]; rw [sval4_B_0]; rfl
    rw [e, afold_le, scratch4_A c b n (Nat.lt_of_succ_lt h), and_assoc]
    refine and_congr Iff.rfl ?_
    constructor
    · rintro ⟨h1, h2⟩ t ht i
      rcases Nat.lt_or_ge t.val (n + 1) with hlt | hge
      · exact h1 t (by omega) i
      · obtain rfl : t = ⟨n + 1, h⟩ := Fin.ext (by dsimp only; omega)
        exact h2 i
    · exact fun hb => ⟨fun t ht => hb t (by omega), hb ⟨n + 1, h⟩ (Nat.le_refl _)⟩

/-- The activation's codes. -/
def result4_A (c : Dev nD) : Buf (Elt Ideal) ((c : Thread nD τ).loc (Pipeline.arrRef spec4 5)) :=
  (fun i => code 0xC3E00000#32 0x43E00000#32 (scl4 V c (ix1 2)) (act4 V c i) : S8192x16384.Idx → EReal)

theorem flushed4_A (c : Dev nD) (t : Fin cfg4.N) (hf : (cfg4.win 5).flush t = true) :
    (dat4 V c).flushed 5 t = ((cfg4.win 5).blk t).view.read (Elt Ideal) (result4_A V c) := by
  show (cfg4.win 5).cut (grid4.coords t) ((dat4 V c).after 5 t) = _
  rw [after4_5, codes4_A]
  refine funext fun (j : S1024x1024.Idx) => ?_
  rw [View.read_apply]
  have e0 : ((((cfg4.win 5).blk t).view.emb j : S8192x16384.Idx) 0).val = t.val / 16 * 1024 + (j 0).val :=
    (Pipeline.Window.rect_emb_val_off win4_5 t j 0).trans (by show win4_5.index t 0 * 1024 + _ = _; rw [(idx4_5 t).1])
  have e1 : ((((cfg4.win 5).blk t).view.emb j : S8192x16384.Idx) 1).val = t.val % 16 * 1024 + (j 1).val :=
    (Pipeline.Window.rect_emb_val_off win4_5 t j 1).trans (by show win4_5.index t 1 * 1024 + _ = _; rw [(idx4_5 t).2])
  exact congrArg₂ (code 0xC3E00000#32 0x43E00000#32) (iblk4_0_apply V c t (ix1 2)) (blkA4_eq V c t j _ e0 e1)

/-- The codes array the region leaves. -/
theorem final4_A (c : Dev nD) : (dat4 V c).arrAt 5 cfg4.N = result4_A V c :=
  (dat4 V c).arrAt_eq_of_cover 5 (result4_A V c) (flushed4_A V c) fun i => by
    have h0 : ((i : S8192x16384.Idx) 0).val < 8192 := (i 0).isLt
    have h1 : ((i : S8192x16384.Idx) 1).val < 16384 := (i 1).isLt
    have hN : cfg4.N = 128 := N_4
    refine ⟨⟨((i : S8192x16384.Idx) 0).val / 1024 * 16 + ((i : S8192x16384.Idx) 1).val / 1024, by omega⟩, flush4_5 _, ?_⟩
    generalize ht : (⟨((i : S8192x16384.Idx) 0).val / 1024 * 16 + ((i : S8192x16384.Idx) 1).val / 1024, _⟩ : Fin cfg4.N) = t
    have hv : t.val = ((i : S8192x16384.Idx) 0).val / 1024 * 16 + ((i : S8192x16384.Idx) 1).val / 1024 := by rw [← ht]
    show i ∈ ((View.whole (Pipeline.arrRef spec4 5)).slice (win4_5.rect t)).set
    rw [View.set_slice_whole, Rect.mem_set_unit]
    intro a
    match a with
    | ⟨0, _⟩ => show win4_5.index t 0 * 1024 ≤ ((i : S8192x16384.Idx) 0).val ∧ ((i : S8192x16384.Idx) 0).val < win4_5.index t 0 * 1024 + 1024
                rw [(idx4_5 t).1]; omega
    | ⟨1, _⟩ => show win4_5.index t 1 * 1024 ≤ ((i : S8192x16384.Idx) 1).val ∧ ((i : S8192x16384.Idx) 1).val < win4_5.index t 1 * 1024 + 1024
                rw [(idx4_5 t).2]; omega

/-- The activation's largest magnitude, in its one-element array. -/
def resultAmax4_A (c : Dev nD) : Buf (Elt Ideal) ((c : Thread nD τ).loc (Pipeline.arrRef spec4 7)) :=
  (fun _ => amax (act4 V c) : S1x1.Idx → EReal)

theorem amax4_A (c : Dev nD) (t : Fin cfg4.N) (h : t.val % 128 = 127) :
    (outsAt4 V c t.val t.isLt).2.2.1 = (fun _ => amax (act4 V c) : S1x1.Idx → EReal) := by
  have hN : cfg4.N = 128 := N_4
  have ht := t.isLt
  have e : (outsAt4 V c t.val t.isLt).2.2.1 = fun _ => k4_pay2 (F := Ideal) (outsAt4 V c t.val t.isLt).2.2.2.2.1 := by
    rw [outsAt4_C V c t (by omega) h]; dsimp only [pointOuts4_C, caseOuts4_C]; rw [val4_C_7, sval4_C_0]
  rw [e]
  refine funext fun _ => amax_eq _ _ fun b => ?_
  rw [pay4_2_le, scratch4_A, ← blocks_forall (fun z => mag z ≤ b) (blkA4 V c) (act4 V c) (blkA4_eq V c)]
  exact ⟨fun hb s i => hb.2 s (by have := s.isLt; omega) i, fun hb => ⟨(mag_nonneg _).trans (hb t (ix2 0 0)), fun s _ i => hb s i⟩⟩

theorem flushedAmax4_A (c : Dev nD) (t : Fin cfg4.N) (hf : (cfg4.win 7).flush t = true) :
    (dat4 V c).flushed 7 t = ((cfg4.win 7).blk t).view.read (Elt Ideal) (resultAmax4_A V c) := by
  show (cfg4.win 7).cut (grid4.coords t) ((dat4 V c).after 7 t) = _
  rw [after4_7, amax4_A V c t ((flush4_7 t).mp hf)]
  funext j
  rw [View.read_apply]
  rfl

/-- The largest magnitude the region leaves. -/
theorem finalAmax4_A (c : Dev nD) : (dat4 V c).arrAt 7 cfg4.N = resultAmax4_A V c :=
  (dat4 V c).arrAt_eq_of_cover 7 (resultAmax4_A V c) (flushedAmax4_A V c) fun i => by
    have h0 : ((i : S1x1.Idx) 0).val < 1 := (i 0).isLt
    have h1 : ((i : S1x1.Idx) 1).val < 1 := (i 1).isLt
    have hN : cfg4.N = 128 := N_4
    refine ⟨⟨127, by omega⟩, (flush4_7 _).mpr rfl, ?_⟩
    generalize (⟨127, _⟩ : Fin cfg4.N) = t
    show i ∈ ((View.whole (Pipeline.arrRef spec4 7)).slice (win4_7.rect t)).set
    rw [View.set_slice_whole, Rect.mem_set_unit]
    intro a
    match a with
    | ⟨0, _⟩ => show win4_7.index t 0 * 1 ≤ ((i : S1x1.Idx) 0).val ∧ ((i : S1x1.Idx) 0).val < win4_7.index t 0 * 1 + 1
                rw [(idx4_7 t).1]; omega
    | ⟨1, _⟩ => show win4_7.index t 1 * 1 ≤ ((i : S1x1.Idx) 1).val ∧ ((i : S1x1.Idx) 1).val < win4_7.index t 1 * 1 + 1
                rw [(idx4_7 t).2]; omega

/-! ## The gradient -/

theorem codes4_D (c : Dev nD) (t : Fin cfg4.N) : (outsAt4 V c t.val t.isLt).2.1 = dcodes (iblk4 V c 0 t) (iblk4 V c 1 t) (iblk4 V c 2 t) (iblk4 V c 3 t) (iblk4 V c 4 t) := by
  have hN : cfg4.N = 128 := N_4
  have ht := t.isLt
  by_cases h0 : t.val % 128 = 0
  · rw [outsAt4_A V c t h0 (by omega)]; dsimp only [pointOuts4_A, caseOuts4_A]; rw [val4_A_6]
  by_cases h2 : t.val % 128 = 127
  · rw [outsAt4_C V c t h0 h2]; dsimp only [pointOuts4_C, caseOuts4_C]; rw [val4_C_6]
  · rw [outsAt4_B V c t h0 h2]; dsimp only [pointOuts4_B, caseOuts4_B]; rw [val4_B_6]

/-- The scratch after point `n` is bounded exactly when the blocks up to `n` are. -/
theorem scratch4_D (c : Dev nD) (b : EReal) : ∀ (n : ℕ) (h : n < cfg4.N),
    (∀ j, ((outsAt4 V c n h).2.2.2.2.2 j : EReal) ≤ b)
      ↔ 0 ≤ b ∧ ∀ (t : Fin cfg4.N), t.val ≤ n → ∀ i, mag (blkD4 V c t i) ≤ b
  | 0, h => by
    have e : (outsAt4 V c 0 h).2.2.2.2.2 = dfold (iblk4 V c 0 ⟨0, h⟩) (iblk4 V c 1 ⟨0, h⟩) (iblk4 V c 2 ⟨0, h⟩) (iblk4 V c 3 ⟨0, h⟩) (iblk4 V c 4 ⟨0, h⟩) (k4_pay5 (F := Ideal)) := by
      rw [outsAt4_A V c ⟨0, h⟩ (Nat.zero_mod _) (by dsimp only; omega)]; dsimp only [pointOuts4_A, caseOuts4_A]; rw [sval4_A_1]
    rw [e, dfold_le]
    refine and_congr ⟨fun hz => (zero4_5 (ix2 0 0)).symm.le.trans (hz _), fun hz j => (zero4_5 j).le.trans hz⟩ ?_
    exact ⟨fun hb t ht i => by obtain rfl : t = ⟨0, h⟩ := Fin.ext (by dsimp only; omega); exact hb i, fun hb => hb ⟨0, h⟩ (Nat.le_refl _)⟩
  | n + 1, h => by
    have hN : cfg4.N = 128 := N_4
    have e : (outsAt4 V c (n + 1) h).2.2.2.2.2 = dfold (iblk4 V c 0 ⟨n + 1, h⟩) (iblk4 V c 1 ⟨n + 1, h⟩) (iblk4 V c 2 ⟨n + 1, h⟩) (iblk4 V c 3 ⟨n + 1, h⟩) (iblk4 V c 4 ⟨n + 1, h⟩) (outsAt4 V c n (Nat.lt_of_succ_lt h)).2.2.2.2.2 := by
      by_cases h2 : (n + 1) % 128 = 127
      · rw [outsAt4_C V c ⟨n + 1, h⟩ (by dsimp only; omega) h2]; dsimp only [pointOuts4_C, caseOuts4_C]; rw [sval4_C_1]; rfl
      · rw [outsAt4_B V c ⟨n + 1, h⟩ (by dsimp only; omega) h2]; dsimp only [pointOuts4_B, caseOuts4_B]; rw [sval4_B_1]; rfl
    rw [e, dfold_le, scratch4_D c b n (Nat.lt_of_succ_lt h), and_assoc]
    refine and_congr Iff.rfl ?_
    constructor
    · rintro ⟨h1, h2⟩ t ht i
      rcases Nat.lt_or_ge t.val (n + 1) with hlt | hge
      · exact h1 t (by omega) i
      · obtain rfl : t = ⟨n + 1, h⟩ := Fin.ext (by dsimp only; omega)
        exact h2 i
    · exact fun hb => ⟨fun t ht => hb t (by omega), hb ⟨n + 1, h⟩ (Nat.le_refl _)⟩

/-- The gradient's codes. -/
def result4_D (c : Dev nD) : Buf (Elt Ideal) ((c : Thread nD τ).loc (Pipeline.arrRef spec4 6)) :=
  (fun i => code 0xC7600000#32 0x47600000#32 (scl4 V c (ix1 3)) (grad4 V c i) : S8192x16384.Idx → EReal)

theorem flushed4_D (c : Dev nD) (t : Fin cfg4.N) (hf : (cfg4.win 6).flush t = true) :
    (dat4 V c).flushed 6 t = ((cfg4.win 6).blk t).view.read (Elt Ideal) (result4_D V c) := by
  show (cfg4.win 6).cut (grid4.coords t) ((dat4 V c).after 6 t) = _
  rw [after4_6, codes4_D]
  refine funext fun (j : S1024x1024.Idx) => ?_
  rw [View.read_apply]
  have e0 : ((((cfg4.win 6).blk t).view.emb j : S8192x16384.Idx) 0).val = t.val / 16 * 1024 + (j 0).val :=
    (Pipeline.Window.rect_emb_val_off win4_6 t j 0).trans (by show win4_6.index t 0 * 1024 + _ = _; rw [(idx4_6 t).1])
  have e1 : ((((cfg4.win 6).blk t).view.emb j : S8192x16384.Idx) 1).val = t.val % 16 * 1024 + (j 1).val :=
    (Pipeline.Window.rect_emb_val_off win4_6 t j 1).trans (by show win4_6.index t 1 * 1024 + _ = _; rw [(idx4_6 t).2])
  exact congrArg₂ (code 0xC7600000#32 0x47600000#32) (iblk4_0_apply V c t (ix1 3)) (blkD4_eq V c t j _ e0 e1)

/-- The codes array the region leaves. -/
theorem final4_D (c : Dev nD) : (dat4 V c).arrAt 6 cfg4.N = result4_D V c :=
  (dat4 V c).arrAt_eq_of_cover 6 (result4_D V c) (flushed4_D V c) fun i => by
    have h0 : ((i : S8192x16384.Idx) 0).val < 8192 := (i 0).isLt
    have h1 : ((i : S8192x16384.Idx) 1).val < 16384 := (i 1).isLt
    have hN : cfg4.N = 128 := N_4
    refine ⟨⟨((i : S8192x16384.Idx) 0).val / 1024 * 16 + ((i : S8192x16384.Idx) 1).val / 1024, by omega⟩, flush4_6 _, ?_⟩
    generalize ht : (⟨((i : S8192x16384.Idx) 0).val / 1024 * 16 + ((i : S8192x16384.Idx) 1).val / 1024, _⟩ : Fin cfg4.N) = t
    have hv : t.val = ((i : S8192x16384.Idx) 0).val / 1024 * 16 + ((i : S8192x16384.Idx) 1).val / 1024 := by rw [← ht]
    show i ∈ ((View.whole (Pipeline.arrRef spec4 6)).slice (win4_6.rect t)).set
    rw [View.set_slice_whole, Rect.mem_set_unit]
    intro a
    match a with
    | ⟨0, _⟩ => show win4_6.index t 0 * 1024 ≤ ((i : S8192x16384.Idx) 0).val ∧ ((i : S8192x16384.Idx) 0).val < win4_6.index t 0 * 1024 + 1024
                rw [(idx4_6 t).1]; omega
    | ⟨1, _⟩ => show win4_6.index t 1 * 1024 ≤ ((i : S8192x16384.Idx) 1).val ∧ ((i : S8192x16384.Idx) 1).val < win4_6.index t 1 * 1024 + 1024
                rw [(idx4_6 t).2]; omega

/-- The gradient's largest magnitude, in its one-element array. -/
def resultAmax4_D (c : Dev nD) : Buf (Elt Ideal) ((c : Thread nD τ).loc (Pipeline.arrRef spec4 8)) :=
  (fun _ => amax (grad4 V c) : S1x1.Idx → EReal)

theorem amax4_D (c : Dev nD) (t : Fin cfg4.N) (h : t.val % 128 = 127) :
    (outsAt4 V c t.val t.isLt).2.2.2.1 = (fun _ => amax (grad4 V c) : S1x1.Idx → EReal) := by
  have hN : cfg4.N = 128 := N_4
  have ht := t.isLt
  have e : (outsAt4 V c t.val t.isLt).2.2.2.1 = fun _ => k4_pay2 (F := Ideal) (outsAt4 V c t.val t.isLt).2.2.2.2.2 := by
    rw [outsAt4_C V c t (by omega) h]; dsimp only [pointOuts4_C, caseOuts4_C]; rw [val4_C_8, sval4_C_1]
  rw [e]
  refine funext fun _ => amax_eq _ _ fun b => ?_
  rw [pay4_2_le, scratch4_D, ← blocks_forall (fun z => mag z ≤ b) (blkD4 V c) (grad4 V c) (blkD4_eq V c)]
  exact ⟨fun hb s i => hb.2 s (by have := s.isLt; omega) i, fun hb => ⟨(mag_nonneg _).trans (hb t (ix2 0 0)), fun s _ i => hb s i⟩⟩

theorem flushedAmax4_D (c : Dev nD) (t : Fin cfg4.N) (hf : (cfg4.win 8).flush t = true) :
    (dat4 V c).flushed 8 t = ((cfg4.win 8).blk t).view.read (Elt Ideal) (resultAmax4_D V c) := by
  show (cfg4.win 8).cut (grid4.coords t) ((dat4 V c).after 8 t) = _
  rw [after4_8, amax4_D V c t ((flush4_8 t).mp hf)]
  funext j
  rw [View.read_apply]
  rfl

/-- The largest magnitude the region leaves. -/
theorem finalAmax4_D (c : Dev nD) : (dat4 V c).arrAt 8 cfg4.N = resultAmax4_D V c :=
  (dat4 V c).arrAt_eq_of_cover 8 (resultAmax4_D V c) (flushedAmax4_D V c) fun i => by
    have h0 : ((i : S1x1.Idx) 0).val < 1 := (i 0).isLt
    have h1 : ((i : S1x1.Idx) 1).val < 1 := (i 1).isLt
    have hN : cfg4.N = 128 := N_4
    refine ⟨⟨127, by omega⟩, (flush4_8 _).mpr rfl, ?_⟩
    generalize (⟨127, _⟩ : Fin cfg4.N) = t
    show i ∈ ((View.whole (Pipeline.arrRef spec4 8)).slice (win4_8.rect t)).set
    rw [View.set_slice_whole, Rect.mem_set_unit]
    intro a
    match a with
    | ⟨0, _⟩ => show win4_8.index t 0 * 1 ≤ ((i : S1x1.Idx) 0).val ∧ ((i : S1x1.Idx) 0).val < win4_8.index t 0 * 1 + 1
                rw [(idx4_8 t).1]; omega
    | ⟨1, _⟩ => show win4_8.index t 1 * 1 ≤ ((i : S1x1.Idx) 1).val ∧ ((i : S1x1.Idx) 1).val < win4_8.index t 1 * 1 + 1
                rw [(idx4_8 t).2]; omega

end Cert.Kernel.Gen

end
-- ==== Proof.Segment.lean ====
/-
  A region of the kernel program as a segment of its run, for any of the nine calls: entered from every unscoped buffer
  at one valuation, left at another, which differs only at the call's arrays.
-/
module

public import proofs.«01_k».proof.Proof.Gen.Kernel.Launch
public import proofs.«01_k».proof.Proof.Gen.Kernel.Regions
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- No variants. -/
abbrev 𝒱₀ : Variants := Variants.none
/-- No core owes another anything, so no level is assigned. -/
abbrev L : GSem nD τ sig → Finset Unit := fun _ => ∅
/-- The levels, all zero. -/
abbrev lv : GSem nD τ sig → Unit → ℕ := fun _ _ => 0
/-- What rides beside the buffers: the generator register and a debt of nothing. -/
abbrev R (c : Dev nD) : sProp 𝕄 := iprop((∃ r, prngReg c r) ∗ ∃ W, owes (c : Thread nD τ) (0 : CellTallies nD τ sig Unit) W)

/-- A family of proof data, one for each call. -/
abbrev Pd : Type _ := (p : Fin 9) → (c : Dev nD) → Dat τ (Elt F) Unit ℕ (UR sig nD τ) ℕ (Pipeline.pin (pcfgs (F := F)) adm p) c

/-- A host stretch as a segment over the unscoped references. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

set_option backward.isDefEq.respectTransparency.types false in
/-- Call `p` as a segment, entered from the unscoped buffers at `We` and left at `Wx`: its arrays are entered at `We`
    and left as the pipeline leaves them, and every other buffer keeps its contents. -/
def regSeg (pd : Pd (F := F)) (p : Fin 9) (kit : Pipeline.LaunchFacts (nD := nD) (τ := τ) cfgs p)
    (We Wx : Dev nD → Valuation τ sig (Elt F))
    (hbody : ∀ c, BodyObligation (pd p c) (defs₀ (F := F)) Variants.none () Set.univ)
    (howed : ∀ c t, (pd p c).owed t = 0) (hrec : ∀ c t, (pd p c).recorded t = Set.univ)
    (hshare : ∀ c w, (pd p c).share w = fullShare)
    (hin : ∀ c, (Pipeline.ΦA (Pipeline.pin (pcfgs (F := F)) adm p).spec c : sProp 𝕄) ⊢ (pd p c).Φ 0)
    (hout : ∀ c, (pd p c).Φ (Fin.last _) ⊢ (Pipeline.ΦA (Pipeline.pin (pcfgs (F := F)) adm p).spec c : sProp 𝕄))
    (hA : ∀ c w, (pd p c).A w = We c (Proc.devRef .tc (Pipeline.arrRef (Pipeline.pin (pcfgs (F := F)) adm p).spec w)))
    (hF : ∀ c w, (pd p c).arrAt w (Pipeline.pin (pcfgs (F := F)) adm p).N
      = Wx c (Proc.devRef .tc (Pipeline.arrRef (Pipeline.pin (pcfgs (F := F)) adm p).spec w)))
    (hrest : ∀ c (b : Ref sig .tc), b ∉ Finset.univ.image (Pipeline.arrRef (Pipeline.pin (pcfgs (F := F)) adm p).spec) →
      Wx c (Proc.devRef .tc b) = We c (Proc.devRef .tc b)) :
    Pipeline.RegionSeg (pcfgs (F := F)) adm pd () defs₀ 𝒱₀ L lv p where
  win := kit.win.to₀
  block_pos := kit.block_pos
  stage_whole := kit.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (We c) ∗ R c)
  post c := iprop(StableHlo.held (c : Thread nD τ) (Pipeline.ucRefs τ sig) (Wx c) ∗ R c)
  X c := iprop(∃ r, prngReg c r)
  Y c := iprop(∃ r, prngReg c r)
  Z c := Pipeline.unscopedRest (Ix := Unit) (Name := ℕ) (U := UR sig nD τ) (Lvl := ℕ) (Pipeline.pin (pcfgs (F := F)) adm p).spec c
    (fun b => We c (Proc.devRef .tc b))
  hentry c := by
    rw [Pipeline.ownSems0_none]
    have hsplit := Pipeline.arrays_of_unscopedBufs (p := p) (pcfgs (F := F)) adm pd kit.win kit.arr_whole c
      (hshare c) (fun b => We c (Proc.devRef .tc b)) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin (pcfgs (F := F) p).pre.K)) = ∅ from rfl, BI.bigSep_empty]; iempintro
    isplitl [HO]
    · unfold Pipeline.Dat.owesAt Pipeline.owesWithin
      rw [howed c]
      icases HO with ⟨%W, HO⟩; iexists W; isplitr; · ipureintro; exact fun x hx => Or.inl (by rw [hrec c]; trivial)
      iexact HO
    isplitl [Hp]; · iexact Hp
    iexact Hrest
  hin c := by
    refine (show _ ⊢ (Pipeline.ΦA (Pipeline.pin (pcfgs (F := F)) adm p).spec c : sProp 𝕄) from ?_).trans (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      kit.win kit.arr_whole c pd (hshare c)
      (fun b => We c (Proc.devRef .tc b)) (fun b => Wx c (Proc.devRef .tc b))
      ((pd p c).arrAt · (Pipeline.pin (pcfgs (F := F)) adm p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed c]
    icases HO with ⟨%W, -, HO⟩; iexists W; iexact HO

end Cert.Kernel.Gen

end
-- ==== Proof.Run.lean ====
/-
  The kernel program's run: the buffers' contents at every boundary between a host stretch and a call, and the theorem
  that every execution ends with the buffers at the last of them.
-/
module

public import proofs.«01_k».proof.Proof.QuantX
public import proofs.«01_k».proof.Proof.QuantDy
public import proofs.«01_k».proof.Proof.QuantW1
public import proofs.«01_k».proof.Proof.QuantW2
public import proofs.«01_k».proof.Proof.Hidden
public import proofs.«01_k».proof.Proof.MatmulY
public import proofs.«01_k».proof.Proof.MatmulDx
public import proofs.«01_k».proof.Proof.MatmulDw2
public import proofs.«01_k».proof.Proof.MatmulDw1
public import proofs.«01_k».proof.Proof.Segment

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch. -/
abbrev W0 : Dev nD → Valuation τ sig (Elt F) := fun c b => m ((c : Dev nD), b)

/-- The buffers after the host operations before call 0. -/
def W1 (c : Dev nD) : Valuation τ sig (Elt F) := StableHlo.after hostOps0 (W0 m c)
/-- The same, read at the core's references. -/
abbrev E0 : (c : Dev nD) → (b : Ref sig .tc) → Buf (Elt F) ((c : Thread nD τ).loc b) := fun c b => W1 m c b
/-- The host operations before call 0 change only what they write. -/
theorem W1_of (c : Dev nD) (r : Ref sig .tc) (h : r ∉ hostOps0_W) : W1 m c (Proc.devRef .tc r) = W0 m c (Proc.devRef .tc r) :=
  StableHlo.after_of_writes_sub hostOps0 _ hostOps0_writes h
/-- The buffers after call 0, quantising x. -/
def W2 (c : Dev nD) : Valuation τ sig (Elt F) :=
  Pipeline.withArrays spec0 c (W1 m c) fun w => (dat0 (E0 m) c).arrAt w cfg0.N
/-- Call 0 leaves its arrays as its pipeline does. -/
theorem W2_arr (c : Dev nD) (w : Fin cfg0.W) :
    W2 m c (Proc.devRef .tc (Pipeline.arrRef spec0 w)) = (dat0 (E0 m) c).arrAt w cfg0.N := by
  unfold W2; exact Pipeline.withArrays_arr spec0 launch0.win.arr_inj c _ _ w
/-- Call 0 keeps every buffer that is none of its arrays. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- Call 0 keeps every buffer that is no output's array. -/
theorem W2_of (c : Dev nD) (r : Ref sig .tc) (h : ∀ w : Fin cfg0.W, Pipeline.arrRef spec0 w = r → (cfg0.win w).isOut = false) :
    W2 m c (Proc.devRef .tc r) = W1 m c (Proc.devRef .tc r) := by
  by_cases hw : ∃ w : Fin cfg0.W, Pipeline.arrRef spec0 w = r
  · obtain ⟨w, rfl⟩ := hw
    exact (W2_arr m c w).trans (((dat0 (E0 m) c).arrAt_in w (h w rfl) _).trans (A_eq0 (E0 m) c w))
  · exact W2_of_ne m c r fun w e => hw ⟨w, e⟩

/-- The buffers after the host operations before call 1. -/
def W3 (c : Dev nD) : Valuation τ sig (Elt F) := StableHlo.after hostOps1 (W2 m c)
/-- The same, read at the core's references. -/
abbrev E1 : (c : Dev nD) → (b : Ref sig .tc) → Buf (Elt F) ((c : Thread nD τ).loc b) := fun c b => W3 m c b
/-- The host operations before call 1 change only what they write. -/
theorem W3_of (c : Dev nD) (r : Ref sig .tc) (h : r ∉ hostOps1_W) : W3 m c (Proc.devRef .tc r) = W2 m c (Proc.devRef .tc r) :=
  StableHlo.after_of_writes_sub hostOps1 _ hostOps1_writes h
/-- The buffers after call 1, quantising dy. -/
def W4 (c : Dev nD) : Valuation τ sig (Elt F) :=
  Pipeline.withArrays spec1 c (W3 m c) fun w => (dat1 (E1 m) c).arrAt w cfg1.N
/-- Call 1 leaves its arrays as its pipeline does. -/
theorem W4_arr (c : Dev nD) (w : Fin cfg1.W) :
    W4 m c (Proc.devRef .tc (Pipeline.arrRef spec1 w)) = (dat1 (E1 m) c).arrAt w cfg1.N := by
  unfold W4; exact Pipeline.withArrays_arr spec1 launch1.win.arr_inj c _ _ w
/-- Call 1 keeps every buffer that is none of its arrays. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- Call 1 keeps every buffer that is no output's array. -/
theorem W4_of (c : Dev nD) (r : Ref sig .tc) (h : ∀ w : Fin cfg1.W, Pipeline.arrRef spec1 w = r → (cfg1.win w).isOut = false) :
    W4 m c (Proc.devRef .tc r) = W3 m c (Proc.devRef .tc r) := by
  by_cases hw : ∃ w : Fin cfg1.W, Pipeline.arrRef spec1 w = r
  · obtain ⟨w, rfl⟩ := hw
    exact (W4_arr m c w).trans (((dat1 (E1 m) c).arrAt_in w (h w rfl) _).trans (A_eq1 (E1 m) c w))
  · exact W4_of_ne m c r fun w e => hw ⟨w, e⟩

/-- The buffers after the host operations before call 2. -/
def W5 (c : Dev nD) : Valuation τ sig (Elt F) := StableHlo.after hostOps2 (W4 m c)
/-- The same, read at the core's references. -/
abbrev E2 : (c : Dev nD) → (b : Ref sig .tc) → Buf (Elt F) ((c : Thread nD τ).loc b) := fun c b => W5 m c b
/-- The host operations before call 2 change only what they write. -/
theorem W5_of (c : Dev nD) (r : Ref sig .tc) (h : r ∉ hostOps2_W) : W5 m c (Proc.devRef .tc r) = W4 m c (Proc.devRef .tc r) :=
  StableHlo.after_of_writes_sub hostOps2 _ hostOps2_writes h
/-- The buffers after call 2, quantising w1. -/
def W6 (c : Dev nD) : Valuation τ sig (Elt F) :=
  Pipeline.withArrays spec2 c (W5 m c) fun w => (dat2 (E2 m) c).arrAt w cfg2.N
/-- Call 2 leaves its arrays as its pipeline does. -/
theorem W6_arr (c : Dev nD) (w : Fin cfg2.W) :
    W6 m c (Proc.devRef .tc (Pipeline.arrRef spec2 w)) = (dat2 (E2 m) c).arrAt w cfg2.N := by
  unfold W6; exact Pipeline.withArrays_arr spec2 launch2.win.arr_inj c _ _ w
/-- Call 2 keeps every buffer that is none of its arrays. -/
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
/-- Call 2 keeps every buffer that is no output's array. -/
theorem W6_of (c : Dev nD) (r : Ref sig .tc) (h : ∀ w : Fin cfg2.W, Pipeline.arrRef spec2 w = r → (cfg2.win w).isOut = false) :
    W6 m c (Proc.devRef .tc r) = W5 m c (Proc.devRef .tc r) := by
  by_cases hw : ∃ w : Fin cfg2.W, Pipeline.arrRef spec2 w = r
  · obtain ⟨w, rfl⟩ := hw
    exact (W6_arr m c w).trans (((dat2 (E2 m) c).arrAt_in w (h w rfl) _).trans (A_eq2 (E2 m) c w))
  · exact W6_of_ne m c r fun w e => hw ⟨w, e⟩

/-- The buffers after the host operations before call 3. -/
def W7 (c : Dev nD) : Valuation τ sig (Elt F) := StableHlo.after hostOps3 (W6 m c)
/-- The same, read at the core's references. -/
abbrev E3 : (c : Dev nD) → (b : Ref sig .tc) → Buf (Elt F) ((c : Thread nD τ).loc b) := fun c b => W7 m c b
/-- The host operations before call 3 change only what they write. -/
theorem W7_of (c : Dev nD) (r : Ref sig .tc) (h : r ∉ hostOps3_W) : W7 m c (Proc.devRef .tc r) = W6 m c (Proc.devRef .tc r) :=
  StableHlo.after_of_writes_sub hostOps3 _ hostOps3_writes h
/-- The buffers after call 3, quantising w2. -/
def W8 (c : Dev nD) : Valuation τ sig (Elt F) :=
  Pipeline.withArrays spec3 c (W7 m c) fun w => (dat3 (E3 m) c).arrAt w cfg3.N
/-- Call 3 leaves its arrays as its pipeline does. -/
theorem W8_arr (c : Dev nD) (w : Fin cfg3.W) :
    W8 m c (Proc.devRef .tc (Pipeline.arrRef spec3 w)) = (dat3 (E3 m) c).arrAt w cfg3.N := by
  unfold W8; exact Pipeline.withArrays_arr spec3 launch3.win.arr_inj c _ _ w
/-- Call 3 keeps every buffer that is none of its arrays. -/
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
/-- Call 3 keeps every buffer that is no output's array. -/
theorem W8_of (c : Dev nD) (r : Ref sig .tc) (h : ∀ w : Fin cfg3.W, Pipeline.arrRef spec3 w = r → (cfg3.win w).isOut = false) :
    W8 m c (Proc.devRef .tc r) = W7 m c (Proc.devRef .tc r) := by
  by_cases hw : ∃ w : Fin cfg3.W, Pipeline.arrRef spec3 w = r
  · obtain ⟨w, rfl⟩ := hw
    exact (W8_arr m c w).trans (((dat3 (E3 m) c).arrAt_in w (h w rfl) _).trans (A_eq3 (E3 m) c w))
  · exact W8_of_ne m c r fun w e => hw ⟨w, e⟩

/-- The buffers after the host operations before call 4. -/
def W9 (c : Dev nD) : Valuation τ sig (Elt F) := StableHlo.after hostOps4 (W8 m c)
/-- The same, read at the core's references. -/
abbrev E4 : (c : Dev nD) → (b : Ref sig .tc) → Buf (Elt F) ((c : Thread nD τ).loc b) := fun c b => W9 m c b
/-- The host operations before call 4 change only what they write. -/
theorem W9_of (c : Dev nD) (r : Ref sig .tc) (h : r ∉ hostOps4_W) : W9 m c (Proc.devRef .tc r) = W8 m c (Proc.devRef .tc r) :=
  StableHlo.after_of_writes_sub hostOps4 _ hostOps4_writes h
/-- The buffers after call 4, the hidden layer. -/
def W10 (c : Dev nD) : Valuation τ sig (Elt F) :=
  Pipeline.withArrays spec4 c (W9 m c) fun w => (dat4 (E4 m) c).arrAt w cfg4.N
/-- Call 4 leaves its arrays as its pipeline does. -/
theorem W10_arr (c : Dev nD) (w : Fin cfg4.W) :
    W10 m c (Proc.devRef .tc (Pipeline.arrRef spec4 w)) = (dat4 (E4 m) c).arrAt w cfg4.N := by
  unfold W10; exact Pipeline.withArrays_arr spec4 launch4.win.arr_inj c _ _ w
/-- Call 4 keeps every buffer that is none of its arrays. -/
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
/-- Call 4 keeps every buffer that is no output's array. -/
theorem W10_of (c : Dev nD) (r : Ref sig .tc) (h : ∀ w : Fin cfg4.W, Pipeline.arrRef spec4 w = r → (cfg4.win w).isOut = false) :
    W10 m c (Proc.devRef .tc r) = W9 m c (Proc.devRef .tc r) := by
  by_cases hw : ∃ w : Fin cfg4.W, Pipeline.arrRef spec4 w = r
  · obtain ⟨w, rfl⟩ := hw
    exact (W10_arr m c w).trans (((dat4 (E4 m) c).arrAt_in w (h w rfl) _).trans (A_eq4 (E4 m) c w))
  · exact W10_of_ne m c r fun w e => hw ⟨w, e⟩

/-- The buffers after the host operations before call 5. -/
def W11 (c : Dev nD) : Valuation τ sig (Elt F) := StableHlo.after hostOps5 (W10 m c)
/-- The same, read at the core's references. -/
abbrev E5 : (c : Dev nD) → (b : Ref sig .tc) → Buf (Elt F) ((c : Thread nD τ).loc b) := fun c b => W11 m c b
/-- The host operations before call 5 change only what they write. -/
theorem W11_of (c : Dev nD) (r : Ref sig .tc) (h : r ∉ hostOps5_W) : W11 m c (Proc.devRef .tc r) = W10 m c (Proc.devRef .tc r) :=
  StableHlo.after_of_writes_sub hostOps5 _ hostOps5_writes h
/-- The buffers after call 5, the product y. -/
def W12 (c : Dev nD) : Valuation τ sig (Elt F) :=
  Pipeline.withArrays spec5 c (W11 m c) fun w => (dat5 (E5 m) c).arrAt w cfg5.N
/-- Call 5 leaves its arrays as its pipeline does. -/
theorem W12_arr (c : Dev nD) (w : Fin cfg5.W) :
    W12 m c (Proc.devRef .tc (Pipeline.arrRef spec5 w)) = (dat5 (E5 m) c).arrAt w cfg5.N := by
  unfold W12; exact Pipeline.withArrays_arr spec5 launch5.win.arr_inj c _ _ w
/-- Call 5 keeps every buffer that is none of its arrays. -/
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
/-- Call 5 keeps every buffer that is no output's array. -/
theorem W12_of (c : Dev nD) (r : Ref sig .tc) (h : ∀ w : Fin cfg5.W, Pipeline.arrRef spec5 w = r → (cfg5.win w).isOut = false) :
    W12 m c (Proc.devRef .tc r) = W11 m c (Proc.devRef .tc r) := by
  by_cases hw : ∃ w : Fin cfg5.W, Pipeline.arrRef spec5 w = r
  · obtain ⟨w, rfl⟩ := hw
    exact (W12_arr m c w).trans (((dat5 (E5 m) c).arrAt_in w (h w rfl) _).trans (A_eq5 (E5 m) c w))
  · exact W12_of_ne m c r fun w e => hw ⟨w, e⟩

/-- The buffers after the host operations before call 6. -/
def W13 (c : Dev nD) : Valuation τ sig (Elt F) := StableHlo.after hostOps6 (W12 m c)
/-- The same, read at the core's references. -/
abbrev E6 : (c : Dev nD) → (b : Ref sig .tc) → Buf (Elt F) ((c : Thread nD τ).loc b) := fun c b => W13 m c b
/-- The host operations before call 6 change only what they write. -/
theorem W13_of (c : Dev nD) (r : Ref sig .tc) (h : r ∉ hostOps6_W) : W13 m c (Proc.devRef .tc r) = W12 m c (Proc.devRef .tc r) :=
  StableHlo.after_of_writes_sub hostOps6 _ hostOps6_writes h
/-- The buffers after call 6, the product dx. -/
def W14 (c : Dev nD) : Valuation τ sig (Elt F) :=
  Pipeline.withArrays spec6 c (W13 m c) fun w => (dat6 (E6 m) c).arrAt w cfg6.N
/-- Call 6 leaves its arrays as its pipeline does. -/
theorem W14_arr (c : Dev nD) (w : Fin cfg6.W) :
    W14 m c (Proc.devRef .tc (Pipeline.arrRef spec6 w)) = (dat6 (E6 m) c).arrAt w cfg6.N := by
  unfold W14; exact Pipeline.withArrays_arr spec6 launch6.win.arr_inj c _ _ w
/-- Call 6 keeps every buffer that is none of its arrays. -/
theorem W14_of_ne (c : Dev nD) (b : Ref sig .tc) (hb : ∀ w, Pipeline.arrRef spec6 w ≠ b) :
    W14 m c (Proc.devRef .tc b) = W13 m c (Proc.devRef .tc b) := by
  unfold W14; exact Pipeline.withArrays_of_ne spec6 c _ _ b hb
/-- Call 6 keeps every buffer that is no output's array. -/
theorem W14_of (c : Dev nD) (r : Ref sig .tc) (h : ∀ w : Fin cfg6.W, Pipeline.arrRef spec6 w = r → (cfg6.win w).isOut = false) :
    W14 m c (Proc.devRef .tc r) = W13 m c (Proc.devRef .tc r) := by
  by_cases hw : ∃ w : Fin cfg6.W, Pipeline.arrRef spec6 w = r
  · obtain ⟨w, rfl⟩ := hw
    exact (W14_arr m c w).trans (((dat6 (E6 m) c).arrAt_in w (h w rfl) _).trans (A_eq6 (E6 m) c w))
  · exact W14_of_ne m c r fun w e => hw ⟨w, e⟩

/-- The buffers after the host operations before call 7. -/
def W15 (c : Dev nD) : Valuation τ sig (Elt F) := StableHlo.after hostOps7 (W14 m c)
/-- The same, read at the core's references. -/
abbrev E7 : (c : Dev nD) → (b : Ref sig .tc) → Buf (Elt F) ((c : Thread nD τ).loc b) := fun c b => W15 m c b
/-- The host operations before call 7 change only what they write. -/
theorem W15_of (c : Dev nD) (r : Ref sig .tc) (h : r ∉ hostOps7_W) : W15 m c (Proc.devRef .tc r) = W14 m c (Proc.devRef .tc r) :=
  StableHlo.after_of_writes_sub hostOps7 _ hostOps7_writes h
/-- The buffers after call 7, the product dw2. -/
def W16 (c : Dev nD) : Valuation τ sig (Elt F) :=
  Pipeline.withArrays spec7 c (W15 m c) fun w => (dat7 (E7 m) c).arrAt w cfg7.N
/-- Call 7 leaves its arrays as its pipeline does. -/
theorem W16_arr (c : Dev nD) (w : Fin cfg7.W) :
    W16 m c (Proc.devRef .tc (Pipeline.arrRef spec7 w)) = (dat7 (E7 m) c).arrAt w cfg7.N := by
  unfold W16; exact Pipeline.withArrays_arr spec7 launch7.win.arr_inj c _ _ w
/-- Call 7 keeps every buffer that is none of its arrays. -/
theorem W16_of_ne (c : Dev nD) (b : Ref sig .tc) (hb : ∀ w, Pipeline.arrRef spec7 w ≠ b) :
    W16 m c (Proc.devRef .tc b) = W15 m c (Proc.devRef .tc b) := by
  unfold W16; exact Pipeline.withArrays_of_ne spec7 c _ _ b hb
/-- Call 7 keeps every buffer that is no output's array. -/
theorem W16_of (c : Dev nD) (r : Ref sig .tc) (h : ∀ w : Fin cfg7.W, Pipeline.arrRef spec7 w = r → (cfg7.win w).isOut = false) :
    W16 m c (Proc.devRef .tc r) = W15 m c (Proc.devRef .tc r) := by
  by_cases hw : ∃ w : Fin cfg7.W, Pipeline.arrRef spec7 w = r
  · obtain ⟨w, rfl⟩ := hw
    exact (W16_arr m c w).trans (((dat7 (E7 m) c).arrAt_in w (h w rfl) _).trans (A_eq7 (E7 m) c w))
  · exact W16_of_ne m c r fun w e => hw ⟨w, e⟩

/-- The buffers after the host operations before call 8. -/
def W17 (c : Dev nD) : Valuation τ sig (Elt F) := StableHlo.after hostOps8 (W16 m c)
/-- The same, read at the core's references. -/
abbrev E8 : (c : Dev nD) → (b : Ref sig .tc) → Buf (Elt F) ((c : Thread nD τ).loc b) := fun c b => W17 m c b
/-- The host operations before call 8 change only what they write. -/
theorem W17_of (c : Dev nD) (r : Ref sig .tc) (h : r ∉ hostOps8_W) : W17 m c (Proc.devRef .tc r) = W16 m c (Proc.devRef .tc r) :=
  StableHlo.after_of_writes_sub hostOps8 _ hostOps8_writes h
/-- The buffers after call 8, the product dw1. -/
def W18 (c : Dev nD) : Valuation τ sig (Elt F) :=
  Pipeline.withArrays spec8 c (W17 m c) fun w => (dat8 (E8 m) c).arrAt w cfg8.N
/-- Call 8 leaves its arrays as its pipeline does. -/
theorem W18_arr (c : Dev nD) (w : Fin cfg8.W) :
    W18 m c (Proc.devRef .tc (Pipeline.arrRef spec8 w)) = (dat8 (E8 m) c).arrAt w cfg8.N := by
  unfold W18; exact Pipeline.withArrays_arr spec8 launch8.win.arr_inj c _ _ w
/-- Call 8 keeps every buffer that is none of its arrays. -/
theorem W18_of_ne (c : Dev nD) (b : Ref sig .tc) (hb : ∀ w, Pipeline.arrRef spec8 w ≠ b) :
    W18 m c (Proc.devRef .tc b) = W17 m c (Proc.devRef .tc b) := by
  unfold W18; exact Pipeline.withArrays_of_ne spec8 c _ _ b hb
/-- Call 8 keeps every buffer that is no output's array. -/
theorem W18_of (c : Dev nD) (r : Ref sig .tc) (h : ∀ w : Fin cfg8.W, Pipeline.arrRef spec8 w = r → (cfg8.win w).isOut = false) :
    W18 m c (Proc.devRef .tc r) = W17 m c (Proc.devRef .tc r) := by
  by_cases hw : ∃ w : Fin cfg8.W, Pipeline.arrRef spec8 w = r
  · obtain ⟨w, rfl⟩ := hw
    exact (W18_arr m c w).trans (((dat8 (E8 m) c).arrAt_in w (h w rfl) _).trans (A_eq8 (E8 m) c w))
  · exact W18_of_ne m c r fun w e => hw ⟨w, e⟩

/-- The buffers at the end. -/
def W19 (c : Dev nD) : Valuation τ sig (Elt F) := StableHlo.after hostOps9 (W18 m c)
/-- The last host operations change only what they write. -/
theorem W19_of (c : Dev nD) (r : Ref sig .tc) (h : r ∉ hostOps9_W) : W19 m c (Proc.devRef .tc r) = W18 m c (Proc.devRef .tc r) :=
  StableHlo.after_of_writes_sub hostOps9 _ hostOps9_writes h

/-- The nine calls' proof data, each at its entry contents. -/
def pdats : Pd (F := F)
  | ⟨0, _⟩ => fun c => dat0 (E0 m) c
  | ⟨1, _⟩ => fun c => dat1 (E1 m) c
  | ⟨2, _⟩ => fun c => dat2 (E2 m) c
  | ⟨3, _⟩ => fun c => dat3 (E3 m) c
  | ⟨4, _⟩ => fun c => dat4 (E4 m) c
  | ⟨5, _⟩ => fun c => dat5 (E5 m) c
  | ⟨6, _⟩ => fun c => dat6 (E6 m) c
  | ⟨7, _⟩ => fun c => dat7 (E7 m) c
  | ⟨8, _⟩ => fun c => dat8 (E8 m) c

set_option backward.isDefEq.respectTransparency.types false in
/-- Call 0 as a segment of the run. -/
def reg0 : Pipeline.RegionSeg (pcfgs (F := F)) adm (pdats m) () defs₀ 𝒱₀ L lv 0 :=
  regSeg (pdats m) 0 launch0 (W1 m) (W2 m) (fun c => body_obligation0 (E0 m) c) (fun _ _ => rfl) (fun _ _ => rfl)
    (fun c => (pdats m 0 c).share_full fun _ => rfl) (fun c => hin0 (E0 m) c) (fun c => hout0 (E0 m) c)
    (fun c w => A_eq0 (E0 m) c w) (fun c w => (W2_arr m c w).symm)
    (fun c b hb => W2_of_ne m c b fun w e => hb (Finset.mem_image.mpr ⟨w, Finset.mem_univ _, e⟩))

set_option backward.isDefEq.respectTransparency.types false in
/-- Call 1 as a segment of the run. -/
def reg1 : Pipeline.RegionSeg (pcfgs (F := F)) adm (pdats m) () defs₀ 𝒱₀ L lv 1 :=
  regSeg (pdats m) 1 launch1 (W3 m) (W4 m) (fun c => body_obligation1 (E1 m) c) (fun _ _ => rfl) (fun _ _ => rfl)
    (fun c => (pdats m 1 c).share_full fun _ => rfl) (fun c => hin1 (E1 m) c) (fun c => hout1 (E1 m) c)
    (fun c w => A_eq1 (E1 m) c w) (fun c w => (W4_arr m c w).symm)
    (fun c b hb => W4_of_ne m c b fun w e => hb (Finset.mem_image.mpr ⟨w, Finset.mem_univ _, e⟩))

set_option backward.isDefEq.respectTransparency.types false in
/-- Call 2 as a segment of the run. -/
def reg2 : Pipeline.RegionSeg (pcfgs (F := F)) adm (pdats m) () defs₀ 𝒱₀ L lv 2 :=
  regSeg (pdats m) 2 launch2 (W5 m) (W6 m) (fun c => body_obligation2 (E2 m) c) (fun _ _ => rfl) (fun _ _ => rfl)
    (fun c => (pdats m 2 c).share_full fun _ => rfl) (fun c => hin2 (E2 m) c) (fun c => hout2 (E2 m) c)
    (fun c w => A_eq2 (E2 m) c w) (fun c w => (W6_arr m c w).symm)
    (fun c b hb => W6_of_ne m c b fun w e => hb (Finset.mem_image.mpr ⟨w, Finset.mem_univ _, e⟩))

set_option backward.isDefEq.respectTransparency.types false in
/-- Call 3 as a segment of the run. -/
def reg3 : Pipeline.RegionSeg (pcfgs (F := F)) adm (pdats m) () defs₀ 𝒱₀ L lv 3 :=
  regSeg (pdats m) 3 launch3 (W7 m) (W8 m) (fun c => body_obligation3 (E3 m) c) (fun _ _ => rfl) (fun _ _ => rfl)
    (fun c => (pdats m 3 c).share_full fun _ => rfl) (fun c => hin3 (E3 m) c) (fun c => hout3 (E3 m) c)
    (fun c w => A_eq3 (E3 m) c w) (fun c w => (W8_arr m c w).symm)
    (fun c b hb => W8_of_ne m c b fun w e => hb (Finset.mem_image.mpr ⟨w, Finset.mem_univ _, e⟩))

set_option backward.isDefEq.respectTransparency.types false in
/-- Call 4 as a segment of the run. -/
def reg4 : Pipeline.RegionSeg (pcfgs (F := F)) adm (pdats m) () defs₀ 𝒱₀ L lv 4 :=
  regSeg (pdats m) 4 launch4 (W9 m) (W10 m) (fun c => body_obligation4 (E4 m) c) (fun _ _ => rfl) (fun _ _ => rfl)
    (fun c => (pdats m 4 c).share_full fun _ => rfl) (fun c => hin4 (E4 m) c) (fun c => hout4 (E4 m) c)
    (fun c w => A_eq4 (E4 m) c w) (fun c w => (W10_arr m c w).symm)
    (fun c b hb => W10_of_ne m c b fun w e => hb (Finset.mem_image.mpr ⟨w, Finset.mem_univ _, e⟩))

set_option backward.isDefEq.respectTransparency.types false in
/-- Call 5 as a segment of the run. -/
def reg5 : Pipeline.RegionSeg (pcfgs (F := F)) adm (pdats m) () defs₀ 𝒱₀ L lv 5 :=
  regSeg (pdats m) 5 launch5 (W11 m) (W12 m) (fun c => body_obligation5 (E5 m) c) (fun _ _ => rfl) (fun _ _ => rfl)
    (fun c => (pdats m 5 c).share_full fun _ => rfl) (fun c => BI.Entails.refl _) (fun c => BI.Entails.refl _)
    (fun c w => A_eq5 (E5 m) c w) (fun c w => (W12_arr m c w).symm)
    (fun c b hb => W12_of_ne m c b fun w e => hb (Finset.mem_image.mpr ⟨w, Finset.mem_univ _, e⟩))

set_option backward.isDefEq.respectTransparency.types false in
/-- Call 6 as a segment of the run. -/
def reg6 : Pipeline.RegionSeg (pcfgs (F := F)) adm (pdats m) () defs₀ 𝒱₀ L lv 6 :=
  regSeg (pdats m) 6 launch6 (W13 m) (W14 m) (fun c => body_obligation6 (E6 m) c) (fun _ _ => rfl) (fun _ _ => rfl)
    (fun c => (pdats m 6 c).share_full fun _ => rfl) (fun c => BI.Entails.refl _) (fun c => BI.Entails.refl _)
    (fun c w => A_eq6 (E6 m) c w) (fun c w => (W14_arr m c w).symm)
    (fun c b hb => W14_of_ne m c b fun w e => hb (Finset.mem_image.mpr ⟨w, Finset.mem_univ _, e⟩))

set_option backward.isDefEq.respectTransparency.types false in
/-- Call 7 as a segment of the run. -/
def reg7 : Pipeline.RegionSeg (pcfgs (F := F)) adm (pdats m) () defs₀ 𝒱₀ L lv 7 :=
  regSeg (pdats m) 7 launch7 (W15 m) (W16 m) (fun c => body_obligation7 (E7 m) c) (fun _ _ => rfl) (fun _ _ => rfl)
    (fun c => (pdats m 7 c).share_full fun _ => rfl) (fun c => BI.Entails.refl _) (fun c => BI.Entails.refl _)
    (fun c w => A_eq7 (E7 m) c w) (fun c w => (W16_arr m c w).symm)
    (fun c b hb => W16_of_ne m c b fun w e => hb (Finset.mem_image.mpr ⟨w, Finset.mem_univ _, e⟩))

set_option backward.isDefEq.respectTransparency.types false in
/-- Call 8 as a segment of the run. -/
def reg8 : Pipeline.RegionSeg (pcfgs (F := F)) adm (pdats m) () defs₀ 𝒱₀ L lv 8 :=
  regSeg (pdats m) 8 launch8 (W17 m) (W18 m) (fun c => body_obligation8 (E8 m) c) (fun _ _ => rfl) (fun _ _ => rfl)
    (fun c => (pdats m 8 c).share_full fun _ => rfl) (fun c => BI.Entails.refl _) (fun c => BI.Entails.refl _)
    (fun c w => A_eq8 (E8 m) c w) (fun c w => (W18_arr m c w).symm)
    (fun c b hb => W18_of_ne m c b fun w e => hb (Finset.mem_image.mpr ⟨w, Finset.mem_univ _, e⟩))

/-- The program's segments in order. -/
abbrev runSegs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)),
    .region (reg6 m),
    .host (hseg hostOps7 hostOps7_sub hostOps7_fresh (W14 m)),
    .region (reg7 m),
    .host (hseg hostOps8 hostOps8_sub hostOps8_fresh (W16 m)),
    .region (reg8 m),
    .host (hseg hostOps9 hostOps9_sub hostOps9_fresh (W18 m)) ]
/-- The program is the run of its segments. -/
theorem main_run (c : Dev nD) : main (F := F) c = Pipeline.Seg.run (runSegs m) := (main_chain c).trans (by chain_rfl)

/-- The last thread state beside what the core owes. -/
abbrev Tₙ (c : Dev nD) : sProp 𝕄 := iprop(StableHlo.held (c : Thread nD τ) (Pipeline.ucRefs τ sig) (W19 m c) ∗ ∃ r, prngReg c r)

variable (ρ : Dev nD → PrngReg)

set_option backward.isDefEq.respectTransparency.types false in
/-- Every execution terminates without a fault, with every unscoped buffer at the last boundary's contents and every
    semaphore counter at zero. -/
theorem run : θ_run defs (onTc (τ := τ) (main (F := F))) ⟨m, fun _ => 0, ρ⟩ (fun r =>
      (∀ c : Dev nD, ∀ b ∈ Pipeline.ucRefs τ sig, r.2.mem (((c : Thread nD τ)).1, b) = W19 m c b)
      ∧ r.2.sem = fun _ => 0) :=
  Pipeline.θ_run_regions_kit_sems (pcfgs (F := F)) adm (pdats m) () cellOf_inj emb₁ defs₀ 𝒱₀ L lv m ρ main (runSegs m)
    (fun c Q => by rw [main_run m c])
    (by simp only [runSegs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => BI.sep_assoc'⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W19 m c b)
    (hfin := fun c s' => by
      iintro ⟨⟨Hh, -⟩, HSI⟩
      unfold StableHlo.held
      imodintro
      iapply (pointsTo_read_all (Pipeline.ucRefs τ sig) (fun b => (((c : Thread nD τ)).1, b)) (W19 m c) s')
      isplitl [Hh] <;> iassumption)
    (hQ := fun s h hz => ⟨h, funext fun g => hz g (.inr (regions_no_unscoped g.2))⟩)

/-- The program's argument arrays. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21]

/-- No call and no host operation writes an argument array. -/
theorem W19_args (c : Dev nD) (a : Ref sig .tc) (ha : a ∈ argRefs) : W19 m c (Proc.devRef .tc a) = m ((c : Thread nD τ).loc a) := by
  have o0 : ∀ a ∈ argRefs, a ∉ hostOps0_W := by decide +kernel
  have i0 : ∀ a ∈ argRefs, ∀ w : Fin cfg0.W, Pipeline.arrRef spec0 w = a → (cfg0.win w).isOut = false := ListAll.forall_mem_of_all_decide (by decide +kernel)
  have o1 : ∀ a ∈ argRefs, a ∉ hostOps1_W := by decide +kernel
  have i1 : ∀ a ∈ argRefs, ∀ w : Fin cfg1.W, Pipeline.arrRef spec1 w = a → (cfg1.win w).isOut = false := ListAll.forall_mem_of_all_decide (by decide +kernel)
  have o2 : ∀ a ∈ argRefs, a ∉ hostOps2_W := by decide +kernel
  have i2 : ∀ a ∈ argRefs, ∀ w : Fin cfg2.W, Pipeline.arrRef spec2 w = a → (cfg2.win w).isOut = false := ListAll.forall_mem_of_all_decide (by decide +kernel)
  have o3 : ∀ a ∈ argRefs, a ∉ hostOps3_W := by decide +kernel
  have i3 : ∀ a ∈ argRefs, ∀ w : Fin cfg3.W, Pipeline.arrRef spec3 w = a → (cfg3.win w).isOut = false := ListAll.forall_mem_of_all_decide (by decide +kernel)
  have o4 : ∀ a ∈ argRefs, a ∉ hostOps4_W := by decide +kernel
  have i4 : ∀ a ∈ argRefs, ∀ w : Fin cfg4.W, Pipeline.arrRef spec4 w = a → (cfg4.win w).isOut = false := ListAll.forall_mem_of_all_decide (by decide +kernel)
  have o5 : ∀ a ∈ argRefs, a ∉ hostOps5_W := by decide +kernel
  have i5 : ∀ a ∈ argRefs, ∀ w : Fin cfg5.W, Pipeline.arrRef spec5 w = a → (cfg5.win w).isOut = false := ListAll.forall_mem_of_all_decide (by decide +kernel)
  have o6 : ∀ a ∈ argRefs, a ∉ hostOps6_W := by decide +kernel
  have i6 : ∀ a ∈ argRefs, ∀ w : Fin cfg6.W, Pipeline.arrRef spec6 w = a → (cfg6.win w).isOut = false := ListAll.forall_mem_of_all_decide (by decide +kernel)
  have o7 : ∀ a ∈ argRefs, a ∉ hostOps7_W := by decide +kernel
  have i7 : ∀ a ∈ argRefs, ∀ w : Fin cfg7.W, Pipeline.arrRef spec7 w = a → (cfg7.win w).isOut = false := ListAll.forall_mem_of_all_decide (by decide +kernel)
  have o8 : ∀ a ∈ argRefs, a ∉ hostOps8_W := by decide +kernel
  have i8 : ∀ a ∈ argRefs, ∀ w : Fin cfg8.W, Pipeline.arrRef spec8 w = a → (cfg8.win w).isOut = false := ListAll.forall_mem_of_all_decide (by decide +kernel)
  have o9 : ∀ a ∈ argRefs, a ∉ hostOps9_W := by decide +kernel
  rw [W19_of m c a (o9 a ha), W18_of m c a (i8 a ha), W17_of m c a (o8 a ha), W16_of m c a (i7 a ha), W15_of m c a (o7 a ha), W14_of m c a (i6 a ha), W13_of m c a (o6 a ha), W12_of m c a (i5 a ha), W11_of m c a (o5 a ha), W10_of m c a (i4 a ha), W9_of m c a (o4 a ha), W8_of m c a (i3 a ha), W7_of m c a (o3 a ha), W6_of m c a (i2 a ha), W5_of m c a (o2 a ha), W4_of m c a (i1 a ha), W3_of m c a (o1 a ha), W2_of m c a (i0 a ha), W1_of m c a (o0 a ha)]

end Cert.Kernel.Gen

end
-- ==== Proof.Unchanged.lean ====
/-
  Every execution of the kernel's program ends, with its arguments as they were and every semaphore at zero.
-/
module

public import proofs.«01_k».proof.Proof.Run

@[expose] public section

set_option maxRecDepth 16384

noncomputable section

namespace Cert.Kernel.Gen

open Idealize.ShloMosaic Idealize.ShloMosaic.TcCoe Idealize.SL.Sem

variable {F : FTy → Type} [FloatOps F]

/-- What a memory holds in a buffer of a device. -/
abbrev cell (m : (ℓ : Loc nD τ sig) → Buf (Elt F) ℓ) (c : Dev nD) (r : Ref sig .tc) : Buf (Elt F) ((c.tc : Thread nD τ).loc r) :=
  m ((c.tc : Thread nD τ).loc r)

/-- Two memories agree on the program's arguments. -/
abbrev Kept (m₁ m₂ : (ℓ : Loc nD τ sig) → Buf (Elt F) ℓ) (c : Dev nD) : Prop :=
  cell m₁ c main_arg0 = cell m₂ c main_arg0
  ∧ cell m₁ c main_arg1 = cell m₂ c main_arg1
  ∧ cell m₁ c main_arg2 = cell m₂ c main_arg2
  ∧ cell m₁ c main_arg3 = cell m₂ c main_arg3
  ∧ cell m₁ c main_arg4 = cell m₂ c main_arg4
  ∧ cell m₁ c main_arg5 = cell m₂ c main_arg5
  ∧ cell m₁ c main_arg6 = cell m₂ c main_arg6
  ∧ cell m₁ c main_arg7 = cell m₂ c main_arg7
  ∧ cell m₁ c main_arg8 = cell m₂ c main_arg8
  ∧ cell m₁ c main_arg9 = cell m₂ c main_arg9
  ∧ cell m₁ c main_arg10 = cell m₂ c main_arg10
  ∧ cell m₁ c main_arg11 = cell m₂ c main_arg11
  ∧ cell m₁ c main_arg12 = cell m₂ c main_arg12
  ∧ cell m₁ c main_arg13 = cell m₂ c main_arg13
  ∧ cell m₁ c main_arg14 = cell m₂ c main_arg14
  ∧ cell m₁ c main_arg15 = cell m₂ c main_arg15
  ∧ cell m₁ c main_arg16 = cell m₂ c main_arg16
  ∧ cell m₁ c main_arg17 = cell m₂ c main_arg17
  ∧ cell m₁ c main_arg18 = cell m₂ c main_arg18
  ∧ cell m₁ c main_arg19 = cell m₂ c main_arg19
  ∧ cell m₁ c main_arg20 = cell m₂ c main_arg20
  ∧ cell m₁ c main_arg21 = cell m₂ c main_arg21

/-- Memories that agree on every argument of the list agree on the arguments. -/
theorem kept_of {m₁ m₂ : (ℓ : Loc nD τ sig) → Buf (Elt F) ℓ} {c : Dev nD} (key : ∀ a ∈ argRefs, cell m₁ c a = cell m₂ c a) : Kept m₁ m₂ c :=
  ⟨key main_arg0 (by decide), key main_arg1 (by decide), key main_arg2 (by decide), key main_arg3 (by decide), key main_arg4 (by decide), key main_arg5 (by decide), key main_arg6 (by decide), key main_arg7 (by decide), key main_arg8 (by decide), key main_arg9 (by decide), key main_arg10 (by decide), key main_arg11 (by decide), key main_arg12 (by decide), key main_arg13 (by decide), key main_arg14 (by decide), key main_arg15 (by decide), key main_arg16 (by decide), key main_arg17 (by decide), key main_arg18 (by decide), key main_arg19 (by decide), key main_arg20 (by decide), key main_arg21 (by decide)⟩

/-- The frame of the kernel's program, at any scalar arithmetic. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      Kept r.2.mem m c)
      ∧ r.2.sem = fun _ => 0) :=
  (θ_run defs _ _).mono (fun r h => ⟨fun c => kept_of (fun a ha =>
      (h.1 c _ (mem_uc a (ListAll.forall_mem_of_all_decide (p := fun a : Ref sig .tc => ¬ (Proc.devRef .tc a : DevRef τ sig).isScoped) (l := argRefs) (by decide +kernel) a ha))).trans (W19_args m c a ha)), h.2⟩) (run m ρ)

end Cert.Kernel.Gen

end
-- ==== Proof.Transfer.lean ====
/-
  The idealized kernel is the kernel's own text: its claims are the kernel's, read over the extended reals.
-/
module

public import proofs.«01_k».proof.Defs
public import proofs.«01_k».proof.Proof.Gen.KernelIdeal
public import proofs.«01_k».proof.Proof.Unchanged
public import Idealize.ShloMosaic.Lib.Ring
public import Idealize.ShloMosaic.Lib.Tactic

@[expose] public section

set_option maxRecDepth 16384

noncomputable section

namespace Cert.Kernel.Gen

open Idealize.ShloMosaic Idealize.ShloMosaic.TcCoe Idealize.SL.Sem

/-- The frame of the kernel's program over the extended reals. -/
def IdealFrame [hKernel : Cert.Kernel.Facts] : Prop :=
  ∀ (m : (ℓ : Loc nD τ sig) → Buf (Elt Ideal) ℓ) (g : Dev nD → PrngReg), True →
    θ_run (defs (F := Ideal)) (onTc (τ := τ) (main (F := Ideal))) ⟨m, fun _ => 0, g⟩ (fun r => (∀ c : Dev nD,
      Kept r.2.mem m c)
      ∧ r.2.sem = fun _ => 0)

theorem idealFrame_eq : quiescent_KernelIdeal (hKernelIdeal := Cert.KernelIdeal.Gen.facts) = IdealFrame (hKernel := Cert.Kernel.Gen.facts) := by sl_kernel_rfl

theorem idealFrame : quiescent_KernelIdeal (hKernelIdeal := Cert.KernelIdeal.Gen.facts) :=
  idealFrame_eq ▸ fun m g _ => frame m g

end Cert.Kernel.Gen

end
-- ==== Proof.Spec.lean ====
/-
  What the two programs compute, over the extended reals: the quantised operands, the hidden layer and its gradient, the four
  products, and the largest magnitudes, from the arrays, the scales and the inverse scales.
-/
module

public import proofs.«01_k».proof.Proof.Amax

@[expose] public section

noncomputable section

namespace Cert.Model

open Idealize.ShloMosaic

/-- The codes of an array in the format of range 448. -/
def codesE4 {S : Type} (v : S → EReal) (inv : EReal) : S → EReal := fun i => code (0xC3E00000#32) (0x43E00000#32) inv (v i)

/-- The codes of an array in the format of range 57344. -/
def codesE5 {S : Type} (v : S → EReal) (inv : EReal) : S → EReal := fun i => code (0xC7600000#32) (0x47600000#32) inv (v i)

/-- The arrays, the scales and the inverse scales. -/
structure Args where
  x : (⟨2, ![8192, 4096]⟩ : Shape).Idx → EReal
  w1 : (⟨2, ![4096, 16384]⟩ : Shape).Idx → EReal
  w2 : (⟨2, ![16384, 4096]⟩ : Shape).Idx → EReal
  dy : (⟨2, ![8192, 4096]⟩ : Shape).Idx → EReal
  sx : EReal
  sw1 : EReal
  sa : EReal
  sw2 : EReal
  sdy : EReal
  sdh : EReal
  ix : EReal
  iw1 : EReal
  ia : EReal
  iw2 : EReal
  idy : EReal
  idh : EReal

namespace Args

variable (A : Args)

def xc := codesE4 A.x A.ix
def w1c := codesE4 A.w1 A.iw1
def w2c := codesE4 A.w2 A.iw2
def dyc := codesE5 A.dy A.idy
/-- The hidden layer before its activation. -/
def h := mmNN A.xc A.w1c (A.sx * A.sw1)
def act := fun i => gelu (A.h i)
def ac := codesE4 A.act A.ia
/-- The gradient of the hidden layer. -/
def dh := fun i => mmNT A.dyc A.w2c (A.sdy * A.sw2) i * dgelu (A.h i)
def dhc := codesE5 A.dh A.idh
def y := mmNN A.ac A.w2c (A.sa * A.sw2)
def dx := mmNT A.dhc A.w1c (A.sdh * A.sw1)
def dw2 := mmTN A.ac A.dyc (A.sa * A.sdy)
def dw1 := mmTN A.xc A.dhc (A.sx * A.sdh)

end Args

end Cert.Model

end
-- ==== Proof.HostSpec.lean ====
/-
  What the host operations around the calls compute: a scalar as a vector of one element, and vectors of scalars.
-/
module

public import proofs.«01_k».proof.Proof.Spec

@[expose] public section

noncomputable section

namespace Cert.Model

open Idealize.ShloMosaic

/-- An array without axes has one element. -/
theorem eq_ix0 (i : (⟨0, ![]⟩ : Shape).Idx) : i = ix0 := funext fun a => a.elim0

/-- A scalar reshaped to a vector of one element. -/
theorem cast_scalar {α : Type} (x : (⟨0, ![]⟩ : Shape).Idx → α) (h : (⟨0, ![]⟩ : Shape).ShapeCasts ⟨1, ![1]⟩) (i : (⟨1, ![1]⟩ : Shape).Idx) :
    shapeCast ⟨1, ![1]⟩ x h i = x ix0 := by
  unfold shapeCast; exact congrArg x (eq_ix0 _)

/-- A scalar broadcast to a vector of one element. -/
theorem bcast_scalar {α : Type} (x : (⟨0, ![]⟩ : Shape).Idx → α) (h) (i : (⟨1, ![1]⟩ : Shape).Idx) :
    broadcastInDim (s := ⟨0, ![]⟩) ⟨1, ![1]⟩ ![] h x i = x ix0 := by
  unfold broadcastInDim; exact congrArg x (eq_ix0 _)

/-- Four scalars in a vector. -/
theorem cat_four {α : Type} (a b c d : (⟨1, ![1]⟩ : Shape).Idx → α) (h) (q : Fin 4) :
    concatenate ⟨1, ![4]⟩ 0 [⟨⟨1, ![1]⟩, a⟩, ⟨⟨1, ![1]⟩, b⟩, ⟨⟨1, ![1]⟩, c⟩, ⟨⟨1, ![1]⟩, d⟩] h (ix1 q)
      = (![a (ix1 0), b (ix1 0), c (ix1 0), d (ix1 0)] : Fin 4 → α) q := by
  have one : ∀ (x : (⟨1, ![1]⟩ : Shape).Idx → α) (i j : (⟨1, ![1]⟩ : Shape).Idx), x i = x j := fun x i j =>
    congrArg x (funext fun a => by match a with | ⟨0, _⟩ => exact Subsingleton.elim (α := Fin 1) _ _)
  match q with
  | ⟨0, _⟩ => exact one a _ _
  | ⟨1, _⟩ => exact one b _ _
  | ⟨2, _⟩ => exact one c _ _
  | ⟨3, _⟩ => exact one d _ _

/-- Six scalars in a vector. -/
theorem cat_six {α : Type} (a b c d e f : (⟨1, ![1]⟩ : Shape).Idx → α) (h) (q : Fin 6) :
    concatenate ⟨1, ![6]⟩ 0 [⟨⟨1, ![1]⟩, a⟩, ⟨⟨1, ![1]⟩, b⟩, ⟨⟨1, ![1]⟩, c⟩, ⟨⟨1, ![1]⟩, d⟩, ⟨⟨1, ![1]⟩, e⟩, ⟨⟨1, ![1]⟩, f⟩] h (ix1 q)
      = (![a (ix1 0), b (ix1 0), c (ix1 0), d (ix1 0), e (ix1 0), f (ix1 0)] : Fin 6 → α) q := by
  have one : ∀ (x : (⟨1, ![1]⟩ : Shape).Idx → α) (i j : (⟨1, ![1]⟩ : Shape).Idx), x i = x j := fun x i j =>
    congrArg x (funext fun a => by match a with | ⟨0, _⟩ => exact Subsingleton.elim (α := Fin 1) _ _)
  match q with
  | ⟨0, _⟩ => exact one a _ _
  | ⟨1, _⟩ => exact one b _ _
  | ⟨2, _⟩ => exact one c _ _
  | ⟨3, _⟩ => exact one d _ _
  | ⟨4, _⟩ => exact one e _ _
  | ⟨5, _⟩ => exact one f _ _

/-- An array of one element reshaped to a scalar. -/
theorem cast_to_scalar {α : Type} (x : (⟨2, ![1, 1]⟩ : Shape).Idx → α) (z : α) (hx : x = fun _ => z) (h1 : (⟨2, ![1, 1]⟩ : Shape).ShapeCasts ⟨0, ![]⟩) :
    shapeCast ⟨0, ![]⟩ x h1 = fun _ => z := by subst hx; rfl

/-- A known scalar broadcast to a vector of one element. -/
theorem bcast_const {α : Type} (x : (⟨0, ![]⟩ : Shape).Idx → α) (z : α) (hx : x = fun _ => z) (h2) :
    broadcastInDim (s := ⟨0, ![]⟩) ⟨1, ![1]⟩ ![] h2 x = fun _ => z := by subst hx; rfl

/-- An array of one element reshaped to a vector of one element. -/
theorem cast_to_one {α : Type} (x : (⟨2, ![1, 1]⟩ : Shape).Idx → α) (z : α) (hx : x = fun _ => z) (h1 : (⟨2, ![1, 1]⟩ : Shape).ShapeCasts ⟨1, ![1]⟩) :
    shapeCast ⟨1, ![1]⟩ x h1 = fun _ => z := by subst hx; rfl

end Cert.Model

end
-- ==== Proof.KernelRead.lean ====
/-
  What the kernel's program leaves in its arrays, over the extended reals: each call's arrays, then the results, as the model's
  functions of the arguments.
-/
module

public import proofs.«01_k».proof.Proof.HiddenVal
public import proofs.«01_k».proof.Proof.HostSpec
public import proofs.«01_k».proof.Proof.Run
public import Idealize.ShloMosaic.Lib.StableHlo.RunRead

@[expose] public section

set_option maxRecDepth 16384

noncomputable section

namespace Cert.Kernel.Gen

open Idealize.ShloMosaic Idealize.ShloMosaic.TcCoe Idealize.SL.Sem Cert.Model

variable (m : (ℓ : Loc nD τ sig) → Buf (Elt Ideal) ℓ) (c : Dev nD)

/-- The arrays, scales and inverse scales the program is given. -/
def kargs : Args where
  x := shapeCast S8192x4096 (m ((c : Thread nD τ).loc main_arg0)) shapeCasts_S2x4096x4096_S8192x4096
  w1 := m ((c : Thread nD τ).loc main_arg1)
  w2 := m ((c : Thread nD τ).loc main_arg2)
  dy := shapeCast S8192x4096 (m ((c : Thread nD τ).loc main_arg3)) shapeCasts_S2x4096x4096_S8192x4096
  sx := (m ((c : Thread nD τ).loc main_arg10) : S_.Idx → EReal) ix0
  sw1 := (m ((c : Thread nD τ).loc main_arg11) : S_.Idx → EReal) ix0
  sa := (m ((c : Thread nD τ).loc main_arg12) : S_.Idx → EReal) ix0
  sw2 := (m ((c : Thread nD τ).loc main_arg13) : S_.Idx → EReal) ix0
  sdy := (m ((c : Thread nD τ).loc main_arg14) : S_.Idx → EReal) ix0
  sdh := (m ((c : Thread nD τ).loc main_arg15) : S_.Idx → EReal) ix0
  ix := (m ((c : Thread nD τ).loc main_arg16) : S_.Idx → EReal) ix0
  iw1 := (m ((c : Thread nD τ).loc main_arg17) : S_.Idx → EReal) ix0
  ia := (m ((c : Thread nD τ).loc main_arg18) : S_.Idx → EReal) ix0
  iw2 := (m ((c : Thread nD τ).loc main_arg19) : S_.Idx → EReal) ix0
  idy := (m ((c : Thread nD τ).loc main_arg20) : S_.Idx → EReal) ix0
  idh := (m ((c : Thread nD τ).loc main_arg21) : S_.Idx → EReal) ix0

theorem src0_eq : src0 (E0 m) c = (kargs m c).x := by
  show W1 m c (Proc.devRef .tc main_v0) = _
  unfold W1
  after_reads_simp

  rfl

theorem inv0_eq : inv0 (E0 m) c = (kargs m c).ix := by
  show (W1 m c (Proc.devRef .tc main_v1) : S1.Idx → EReal) (ix1 0) = _
  unfold W1
  after_reads_simp

  exact cast_scalar (α := EReal) (m ((c : Thread nD τ).loc main_arg16)) shapeCasts_S_S1 (ix1 0)

theorem w2_main_v2_0 : (W2 m c (Proc.devRef .tc main_v2_0) : S8192x4096.Idx → EReal) = (kargs m c).xc := by
  refine (W2_arr m c 2).trans ((final0 (E0 m) c).trans ?_)
  unfold result0
  rw [src0_eq, inv0_eq]
  rfl

theorem w2_main_v2_1 : (W2 m c (Proc.devRef .tc main_v2_1) : S1x1.Idx → EReal) = fun _ => amax (kargs m c).x := by
  refine (W2_arr m c 3).trans ((finalAmax0 (E0 m) c).trans ?_)
  unfold resultAmax0
  rw [src0_eq]
  rfl

theorem w2_main_arg3 : W2 m c (Proc.devRef .tc main_arg3) = m ((c : Thread nD τ).loc main_arg3) := by rw [W2_of, W1_of] <;> decide +kernel

theorem w2_main_arg20 : W2 m c (Proc.devRef .tc main_arg20) = m ((c : Thread nD τ).loc main_arg20) := by rw [W2_of, W1_of] <;> decide +kernel

theorem src1_eq : src1 (E1 m) c = (kargs m c).dy := by
  show W3 m c (Proc.devRef .tc main_v4) = _
  unfold W3
  after_reads_simp
  rw [w2_main_arg3]
  rfl

theorem inv1_eq : inv1 (E1 m) c = (kargs m c).idy := by
  show (W3 m c (Proc.devRef .tc main_v5) : S1.Idx → EReal) (ix1 0) = _
  unfold W3
  after_reads_simp
  rw [w2_main_arg20]
  exact cast_scalar (α := EReal) (m ((c : Thread nD τ).loc main_arg20)) shapeCasts_S_S1 (ix1 0)

theorem w4_main_v6_0 : (W4 m c (Proc.devRef .tc main_v6_0) : S8192x4096.Idx → EReal) = (kargs m c).dyc := by
  refine (W4_arr m c 2).trans ((final1 (E1 m) c).trans ?_)
  unfold result1
  rw [src1_eq, inv1_eq]
  rfl

theorem w4_main_v6_1 : (W4 m c (Proc.devRef .tc main_v6_1) : S1x1.Idx → EReal) = fun _ => amax (kargs m c).dy := by
  refine (W4_arr m c 3).trans ((finalAmax1 (E1 m) c).trans ?_)
  unfold resultAmax1
  rw [src1_eq]
  rfl

theorem w4_main_arg17 : W4 m c (Proc.devRef .tc main_arg17) = m ((c : Thread nD τ).loc main_arg17) := by rw [W4_of, W3_of, W2_of, W1_of] <;> decide +kernel

theorem src2_eq : src2 (E2 m) c = (kargs m c).w1 := by
  show W5 m c (Proc.devRef .tc main_arg1) = _
  rw [W5_of m c main_arg1 (by decide +kernel), W4_of m c main_arg1 (by decide +kernel), W3_of m c main_arg1 (by decide +kernel), W2_of m c main_arg1 (by decide +kernel), W1_of m c main_arg1 (by decide +kernel)]
  rfl

theorem inv2_eq : inv2 (E2 m) c = (kargs m c).iw1 := by
  show (W5 m c (Proc.devRef .tc main_v8) : S1.Idx → EReal) (ix1 0) = _
  unfold W5
  after_reads_simp
  rw [w4_main_arg17]
  exact cast_scalar (α := EReal) (m ((c : Thread nD τ).loc main_arg17)) shapeCasts_S_S1 (ix1 0)

theorem w6_main_v9_0 : (W6 m c (Proc.devRef .tc main_v9_0) : S4096x16384.Idx → EReal) = (kargs m c).w1c := by
  refine (W6_arr m c 2).trans ((final2 (E2 m) c).trans ?_)
  unfold result2
  rw [src2_eq, inv2_eq]
  rfl

theorem w6_main_v9_1 : (W6 m c (Proc.devRef .tc main_v9_1) : S1x1.Idx → EReal) = fun _ => amax (kargs m c).w1 := by
  refine (W6_arr m c 3).trans ((finalAmax2 (E2 m) c).trans ?_)
  unfold resultAmax2
  rw [src2_eq]
  rfl

theorem w6_main_arg19 : W6 m c (Proc.devRef .tc main_arg19) = m ((c : Thread nD τ).loc main_arg19) := by rw [W6_of, W5_of, W4_of, W3_of, W2_of, W1_of] <;> decide +kernel

theorem src3_eq : src3 (E3 m) c = (kargs m c).w2 := by
  show W7 m c (Proc.devRef .tc main_arg2) = _
  rw [W7_of m c main_arg2 (by decide +kernel), W6_of m c main_arg2 (by decide +kernel), W5_of m c main_arg2 (by decide +kernel), W4_of m c main_arg2 (by decide +kernel), W3_of m c main_arg2 (by decide +kernel), W2_of m c main_arg2 (by decide +kernel), W1_of m c main_arg2 (by decide +kernel)]
  rfl

theorem inv3_eq : inv3 (E3 m) c = (kargs m c).iw2 := by
  show (W7 m c (Proc.devRef .tc main_v11) : S1.Idx → EReal) (ix1 0) = _
  unfold W7
  after_reads_simp
  rw [w6_main_arg19]
  exact cast_scalar (α := EReal) (m ((c : Thread nD τ).loc main_arg19)) shapeCasts_S_S1 (ix1 0)

theorem w8_main_v12_0 : (W8 m c (Proc.devRef .tc main_v12_0) : S16384x4096.Idx → EReal) = (kargs m c).w2c := by
  refine (W8_arr m c 2).trans ((final3 (E3 m) c).trans ?_)
  unfold result3
  rw [src3_eq, inv3_eq]
  rfl

theorem w8_main_v12_1 : (W8 m c (Proc.devRef .tc main_v12_1) : S1x1.Idx → EReal) = fun _ => amax (kargs m c).w2 := by
  refine (W8_arr m c 3).trans ((finalAmax3 (E3 m) c).trans ?_)
  unfold resultAmax3
  rw [src3_eq]
  rfl

theorem w3_main_v3 : (W3 m c (Proc.devRef .tc main_v3) : S_.Idx → EReal) = fun _ => amax (kargs m c).x := by
  unfold W3
  after_reads_simp
  exact cast_to_scalar (α := EReal) _ _ (w2_main_v2_1 m c) shapeCasts_S1x1_S_

theorem w5_main_v7 : (W5 m c (Proc.devRef .tc main_v7) : S_.Idx → EReal) = fun _ => amax (kargs m c).dy := by
  unfold W5
  after_reads_simp
  exact cast_to_scalar (α := EReal) _ _ (w4_main_v6_1 m c) shapeCasts_S1x1_S_

theorem w7_main_v10 : (W7 m c (Proc.devRef .tc main_v10) : S_.Idx → EReal) = fun _ => amax (kargs m c).w1 := by
  unfold W7
  after_reads_simp
  exact cast_to_scalar (α := EReal) _ _ (w6_main_v9_1 m c) shapeCasts_S1x1_S_

theorem w9_main_v13 : (W9 m c (Proc.devRef .tc main_v13) : S_.Idx → EReal) = fun _ => amax (kargs m c).w2 := by
  unfold W9
  after_reads_simp
  exact cast_to_scalar (α := EReal) _ _ (w8_main_v12_1 m c) shapeCasts_S1x1_S_

theorem w9_main_v2_0 : (W9 m c (Proc.devRef .tc main_v2_0) : S8192x4096.Idx → EReal) = (kargs m c).xc :=
  Eq.trans (b := (W2 m c (Proc.devRef .tc main_v2_0) : S8192x4096.Idx → EReal)) (by rw [W9_of, W8_of, W7_of, W6_of, W5_of, W4_of, W3_of] <;> decide +kernel) (w2_main_v2_0 m c)

theorem w9_main_v6_0 : (W9 m c (Proc.devRef .tc main_v6_0) : S8192x4096.Idx → EReal) = (kargs m c).dyc :=
  Eq.trans (b := (W4 m c (Proc.devRef .tc main_v6_0) : S8192x4096.Idx → EReal)) (by rw [W9_of, W8_of, W7_of, W6_of, W5_of] <;> decide +kernel) (w4_main_v6_0 m c)

theorem w9_main_v9_0 : (W9 m c (Proc.devRef .tc main_v9_0) : S4096x16384.Idx → EReal) = (kargs m c).w1c :=
  Eq.trans (b := (W6 m c (Proc.devRef .tc main_v9_0) : S4096x16384.Idx → EReal)) (by rw [W9_of, W8_of, W7_of] <;> decide +kernel) (w6_main_v9_0 m c)

theorem w9_main_v12_0 : (W9 m c (Proc.devRef .tc main_v12_0) : S16384x4096.Idx → EReal) = (kargs m c).w2c :=
  Eq.trans (b := (W8 m c (Proc.devRef .tc main_v12_0) : S16384x4096.Idx → EReal)) (by rw [W9_of] <;> decide +kernel) (w8_main_v12_0 m c)

theorem w8_main_arg10 : W8 m c (Proc.devRef .tc main_arg10) = m ((c : Thread nD τ).loc main_arg10) := by rw [W8_of, W7_of, W6_of, W5_of, W4_of, W3_of, W2_of, W1_of] <;> decide +kernel

theorem w8_main_arg11 : W8 m c (Proc.devRef .tc main_arg11) = m ((c : Thread nD τ).loc main_arg11) := by rw [W8_of, W7_of, W6_of, W5_of, W4_of, W3_of, W2_of, W1_of] <;> decide +kernel

theorem w8_main_arg13 : W8 m c (Proc.devRef .tc main_arg13) = m ((c : Thread nD τ).loc main_arg13) := by rw [W8_of, W7_of, W6_of, W5_of, W4_of, W3_of, W2_of, W1_of] <;> decide +kernel

theorem w8_main_arg14 : W8 m c (Proc.devRef .tc main_arg14) = m ((c : Thread nD τ).loc main_arg14) := by rw [W8_of, W7_of, W6_of, W5_of, W4_of, W3_of, W2_of, W1_of] <;> decide +kernel

theorem w8_main_arg18 : W8 m c (Proc.devRef .tc main_arg18) = m ((c : Thread nD τ).loc main_arg18) := by rw [W8_of, W7_of, W6_of, W5_of, W4_of, W3_of, W2_of, W1_of] <;> decide +kernel

theorem w8_main_arg21 : W8 m c (Proc.devRef .tc main_arg21) = m ((c : Thread nD τ).loc main_arg21) := by rw [W8_of, W7_of, W6_of, W5_of, W4_of, W3_of, W2_of, W1_of] <;> decide +kernel

/-- A scalar's value. -/
abbrev at0 (x : S_.Idx → EReal) : EReal := x ix0

/-- The four scalars of the hidden layer, from the scalars before them. -/
theorem scalars4 (V : Valuation τ sig (Elt Ideal)) (q : Fin 4) :
    (StableHlo.after hostOps4 V (Proc.devRef .tc main_v20) : S4.Idx → EReal) (ix1 q)
      = (![at0 (V (Proc.devRef .tc main_arg10)) * at0 (V (Proc.devRef .tc main_arg11)),
          at0 (V (Proc.devRef .tc main_arg14)) * at0 (V (Proc.devRef .tc main_arg13)),
          at0 (V (Proc.devRef .tc main_arg18)), at0 (V (Proc.devRef .tc main_arg21))] : Fin 4 → EReal) q := by
  after_reads_simp
  refine (cat_four (α := EReal) _ _ _ _ concatenates_S1_S1_S1_S1_S4_d0 q).trans ?_
  match q with
  | ⟨0, _⟩ => exact bcast_scalar (α := EReal) (mulf (F := Ideal) (φ := .f32) (V (Proc.devRef .tc main_arg10)) (V (Proc.devRef .tc main_arg11))) bcast_S_S1 (ix1 0)
  | ⟨1, _⟩ => exact bcast_scalar (α := EReal) (mulf (F := Ideal) (φ := .f32) (V (Proc.devRef .tc main_arg14)) (V (Proc.devRef .tc main_arg13))) bcast_S_S1 (ix1 0)
  | ⟨2, _⟩ => exact bcast_scalar (α := EReal) (V (Proc.devRef .tc main_arg18)) bcast_S_S1 (ix1 0)
  | ⟨3, _⟩ => exact bcast_scalar (α := EReal) (V (Proc.devRef .tc main_arg21)) bcast_S_S1 (ix1 0)

theorem scl4_0 : scl4 (E4 m) c (ix1 0) = (kargs m c).sx * (kargs m c).sw1 := by
  refine (scalars4 (W8 m c) 0).trans ?_
  rw [w8_main_arg10, w8_main_arg11, w8_main_arg14, w8_main_arg13, w8_main_arg18, w8_main_arg21]
  rfl

theorem scl4_1 : scl4 (E4 m) c (ix1 1) = (kargs m c).sdy * (kargs m c).sw2 := by
  refine (scalars4 (W8 m c) 1).trans ?_
  rw [w8_main_arg10, w8_main_arg11, w8_main_arg14, w8_main_arg13, w8_main_arg18, w8_main_arg21]
  rfl

theorem scl4_2 : scl4 (E4 m) c (ix1 2) = (kargs m c).ia := by
  refine (scalars4 (W8 m c) 2).trans ?_
  rw [w8_main_arg10, w8_main_arg11, w8_main_arg14, w8_main_arg13, w8_main_arg18, w8_main_arg21]
  rfl

theorem scl4_3 : scl4 (E4 m) c (ix1 3) = (kargs m c).idh := by
  refine (scalars4 (W8 m c) 3).trans ?_
  rw [w8_main_arg10, w8_main_arg11, w8_main_arg14, w8_main_arg13, w8_main_arg18, w8_main_arg21]
  rfl

theorem xc4_eq : xc4 (E4 m) c = (kargs m c).xc := w9_main_v2_0 m c

theorem dyc4_eq : dyc4 (E4 m) c = (kargs m c).dyc := w9_main_v6_0 m c

theorem w1c4_eq : w1c4 (E4 m) c = (kargs m c).w1c := w9_main_v9_0 m c

theorem w2c4_eq : w2c4 (E4 m) c = (kargs m c).w2c := w9_main_v12_0 m c

theorem act4_eq : act4 (E4 m) c = (kargs m c).act := by
  unfold act4
  rw [xc4_eq, w1c4_eq, scl4_0]
  rfl

theorem grad4_eq : grad4 (E4 m) c = (kargs m c).dh := by
  unfold grad4
  rw [xc4_eq, w1c4_eq, dyc4_eq, w2c4_eq, scl4_0, scl4_1]
  rfl

theorem w10_main_v21_0 : (W10 m c (Proc.devRef .tc main_v21_0) : S8192x16384.Idx → EReal) = (kargs m c).ac := by
  refine (W10_arr m c 5).trans ((final4_A (E4 m) c).trans ?_)
  unfold result4_A
  rw [act4_eq, scl4_2]
  rfl

theorem w10_main_v21_1 : (W10 m c (Proc.devRef .tc main_v21_1) : S8192x16384.Idx → EReal) = (kargs m c).dhc := by
  refine (W10_arr m c 6).trans ((final4_D (E4 m) c).trans ?_)
  unfold result4_D
  rw [grad4_eq, scl4_3]
  rfl

theorem w10_main_v21_2 : (W10 m c (Proc.devRef .tc main_v21_2) : S1x1.Idx → EReal) = fun _ => amax (kargs m c).act := by
  refine (W10_arr m c 7).trans ((finalAmax4_A (E4 m) c).trans ?_)
  unfold resultAmax4_A
  rw [act4_eq]
  rfl

theorem w10_main_v21_3 : (W10 m c (Proc.devRef .tc main_v21_3) : S1x1.Idx → EReal) = fun _ => amax (kargs m c).dh := by
  refine (W10_arr m c 8).trans ((finalAmax4_D (E4 m) c).trans ?_)
  unfold resultAmax4_D
  rw [grad4_eq]
  rfl

theorem w11_main_v21_0 : (W11 m c (Proc.devRef .tc main_v21_0) : S8192x16384.Idx → EReal) = (kargs m c).ac :=
  Eq.trans (b := (W10 m c (Proc.devRef .tc main_v21_0) : S8192x16384.Idx → EReal)) (by rw [W11_of] <;> decide +kernel) (w10_main_v21_0 m c)

theorem w11_main_v12_0 : (W11 m c (Proc.devRef .tc main_v12_0) : S16384x4096.Idx → EReal) = (kargs m c).w2c :=
  Eq.trans (b := (W8 m c (Proc.devRef .tc main_v12_0) : S16384x4096.Idx → EReal)) (by rw [W11_of, W10_of, W9_of] <;> decide +kernel) (w8_main_v12_0 m c)

theorem w10_main_arg12 : W10 m c (Proc.devRef .tc main_arg12) = m ((c : Thread nD τ).loc main_arg12) := by rw [W10_of, W9_of, W8_of, W7_of, W6_of, W5_of, W4_of, W3_of, W2_of, W1_of] <;> decide +kernel

theorem w10_main_arg13 : W10 m c (Proc.devRef .tc main_arg13) = m ((c : Thread nD τ).loc main_arg13) := by rw [W10_of, W9_of, W8_of, W7_of, W6_of, W5_of, W4_of, W3_of, W2_of, W1_of] <;> decide +kernel

theorem scl5_eq : scl5 (E5 m) c = (kargs m c).sa * (kargs m c).sw2 := by
  show (W11 m c (Proc.devRef .tc main_v23) : S1.Idx → EReal) (ix1 0) = _
  unfold W11
  after_reads_simp
  refine (cast_scalar (α := EReal) _ shapeCasts_S_S1 (ix1 0)).trans ?_
  rw [w10_main_arg12, w10_main_arg13]
  rfl

theorem w12_main_v24 : (W12 m c (Proc.devRef .tc main_v24) : S8192x4096.Idx → EReal) = (kargs m c).y := by
  refine (W12_arr m c 3).trans ((final5 (E5 m) c).trans ?_)
  unfold result5
  rw [show lhs5 (E5 m) c = (kargs m c).ac from w11_main_v21_0 m c, show rhs5 (E5 m) c = (kargs m c).w2c from w11_main_v12_0 m c, scl5_eq]
  rfl

theorem w13_main_v21_1 : (W13 m c (Proc.devRef .tc main_v21_1) : S8192x16384.Idx → EReal) = (kargs m c).dhc :=
  Eq.trans (b := (W10 m c (Proc.devRef .tc main_v21_1) : S8192x16384.Idx → EReal)) (by rw [W13_of, W12_of, W11_of] <;> decide +kernel) (w10_main_v21_1 m c)

theorem w13_main_v9_0 : (W13 m c (Proc.devRef .tc main_v9_0) : S4096x16384.Idx → EReal) = (kargs m c).w1c :=
  Eq.trans (b := (W6 m c (Proc.devRef .tc main_v9_0) : S4096x16384.Idx → EReal)) (by rw [W13_of, W12_of, W11_of, W10_of, W9_of, W8_of, W7_of] <;> decide +kernel) (w6_main_v9_0 m c)

theorem w12_main_arg15 : W12 m c (Proc.devRef .tc main_arg15) = m ((c : Thread nD τ).loc main_arg15) := by rw [W12_of, W11_of, W10_of, W9_of, W8_of, W7_of, W6_of, W5_of, W4_of, W3_of, W2_of, W1_of] <;> decide +kernel

theorem w12_main_arg11 : W12 m c (Proc.devRef .tc main_arg11) = m ((c : Thread nD τ).loc main_arg11) := by rw [W12_of, W11_of, W10_of, W9_of, W8_of, W7_of, W6_of, W5_of, W4_of, W3_of, W2_of, W1_of] <;> decide +kernel

theorem scl6_eq : scl6 (E6 m) c = (kargs m c).sdh * (kargs m c).sw1 := by
  show (W13 m c (Proc.devRef .tc main_v26) : S1.Idx → EReal) (ix1 0) = _
  unfold W13
  after_reads_simp
  refine (cast_scalar (α := EReal) _ shapeCasts_S_S1 (ix1 0)).trans ?_
  rw [w12_main_arg15, w12_main_arg11]
  rfl

theorem w14_main_v27 : (W14 m c (Proc.devRef .tc main_v27) : S8192x4096.Idx → EReal) = (kargs m c).dx := by
  refine (W14_arr m c 3).trans ((final6 (E6 m) c).trans ?_)
  unfold result6
  rw [show lhs6 (E6 m) c = (kargs m c).dhc from w13_main_v21_1 m c, show rhs6 (E6 m) c = (kargs m c).w1c from w13_main_v9_0 m c, scl6_eq]
  rfl

theorem w15_main_v21_0 : (W15 m c (Proc.devRef .tc main_v21_0) : S8192x16384.Idx → EReal) = (kargs m c).ac :=
  Eq.trans (b := (W10 m c (Proc.devRef .tc main_v21_0) : S8192x16384.Idx → EReal)) (by rw [W15_of, W14_of, W13_of, W12_of, W11_of] <;> decide +kernel) (w10_main_v21_0 m c)

theorem w15_main_v6_0 : (W15 m c (Proc.devRef .tc main_v6_0) : S8192x4096.Idx → EReal) = (kargs m c).dyc :=
  Eq.trans (b := (W4 m c (Proc.devRef .tc main_v6_0) : S8192x4096.Idx → EReal)) (by rw [W15_of, W14_of, W13_of, W12_of, W11_of, W10_of, W9_of, W8_of, W7_of, W6_of, W5_of] <;> decide +kernel) (w4_main_v6_0 m c)

theorem w14_main_arg12 : W14 m c (Proc.devRef .tc main_arg12) = m ((c : Thread nD τ).loc main_arg12) := by rw [W14_of, W13_of, W12_of, W11_of, W10_of, W9_of, W8_of, W7_of, W6_of, W5_of, W4_of, W3_of, W2_of, W1_of] <;> decide +kernel

theorem w14_main_arg14 : W14 m c (Proc.devRef .tc main_arg14) = m ((c : Thread nD τ).loc main_arg14) := by rw [W14_of, W13_of, W12_of, W11_of, W10_of, W9_of, W8_of, W7_of, W6_of, W5_of, W4_of, W3_of, W2_of, W1_of] <;> decide +kernel

theorem scl7_eq : scl7 (E7 m) c = (kargs m c).sa * (kargs m c).sdy := by
  show (W15 m c (Proc.devRef .tc main_v29) : S1.Idx → EReal) (ix1 0) = _
  unfold W15
  after_reads_simp
  refine (cast_scalar (α := EReal) _ shapeCasts_S_S1 (ix1 0)).trans ?_
  rw [w14_main_arg12, w14_main_arg14]
  rfl

theorem w16_main_v30 : (W16 m c (Proc.devRef .tc main_v30) : S16384x4096.Idx → EReal) = (kargs m c).dw2 := by
  refine (W16_arr m c 3).trans ((final7 (E7 m) c).trans ?_)
  unfold result7
  rw [show lhs7 (E7 m) c = (kargs m c).ac from w15_main_v21_0 m c, show rhs7 (E7 m) c = (kargs m c).dyc from w15_main_v6_0 m c, scl7_eq]
  rfl

theorem w17_main_v2_0 : (W17 m c (Proc.devRef .tc main_v2_0) : S8192x4096.Idx → EReal) = (kargs m c).xc :=
  Eq.trans (b := (W2 m c (Proc.devRef .tc main_v2_0) : S8192x4096.Idx → EReal)) (by rw [W17_of, W16_of, W15_of, W14_of, W13_of, W12_of, W11_of, W10_of, W9_of, W8_of, W7_of, W6_of, W5_of, W4_of, W3_of] <;> decide +kernel) (w2_main_v2_0 m c)

theorem w17_main_v21_1 : (W17 m c (Proc.devRef .tc main_v21_1) : S8192x16384.Idx → EReal) = (kargs m c).dhc :=
  Eq.trans (b := (W10 m c (Proc.devRef .tc main_v21_1) : S8192x16384.Idx → EReal)) (by rw [W17_of, W16_of, W15_of, W14_of, W13_of, W12_of, W11_of] <;> decide +kernel) (w10_main_v21_1 m c)

theorem w16_main_arg10 : W16 m c (Proc.devRef .tc main_arg10) = m ((c : Thread nD τ).loc main_arg10) := by rw [W16_of, W15_of, W14_of, W13_of, W12_of, W11_of, W10_of, W9_of, W8_of, W7_of, W6_of, W5_of, W4_of, W3_of, W2_of, W1_of] <;> decide +kernel

theorem w16_main_arg15 : W16 m c (Proc.devRef .tc main_arg15) = m ((c : Thread nD τ).loc main_arg15) := by rw [W16_of, W15_of, W14_of, W13_of, W12_of, W11_of, W10_of, W9_of, W8_of, W7_of, W6_of, W5_of, W4_of, W3_of, W2_of, W1_of] <;> decide +kernel

theorem scl8_eq : scl8 (E8 m) c = (kargs m c).sx * (kargs m c).sdh := by
  show (W17 m c (Proc.devRef .tc main_v32) : S1.Idx → EReal) (ix1 0) = _
  unfold W17
  after_reads_simp
  refine (cast_scalar (α := EReal) _ shapeCasts_S_S1 (ix1 0)).trans ?_
  rw [w16_main_arg10, w16_main_arg15]
  rfl

theorem w18_main_v33 : (W18 m c (Proc.devRef .tc main_v33) : S4096x16384.Idx → EReal) = (kargs m c).dw1 := by
  refine (W18_arr m c 3).trans ((final8 (E8 m) c).trans ?_)
  unfold result8
  rw [show lhs8 (E8 m) c = (kargs m c).xc from w17_main_v2_0 m c, show rhs8 (E8 m) c = (kargs m c).dhc from w17_main_v21_1 m c, scl8_eq]
  rfl

end Cert.Kernel.Gen

end
-- ==== Proof.KernelResult.lean ====
/-
  The results of the kernel's program over the extended reals, as the model's functions of the arguments.
-/
module

public import proofs.«01_k».proof.Proof.KernelRead

@[expose] public section

set_option maxRecDepth 16384

noncomputable section

namespace Cert.Kernel.Gen

open Idealize.ShloMosaic Idealize.ShloMosaic.TcCoe Idealize.SL.Sem Cert.Model

variable (m : (ℓ : Loc nD τ sig) → Buf (Elt Ideal) ℓ) (c : Dev nD)

theorem w18_main_v2_0 : (W18 m c (Proc.devRef .tc main_v2_0) : S8192x4096.Idx → EReal) = (kargs m c).xc :=
  Eq.trans (b := (W2 m c (Proc.devRef .tc main_v2_0) : S8192x4096.Idx → EReal)) (by rw [W18_of, W17_of, W16_of, W15_of, W14_of, W13_of, W12_of, W11_of, W10_of, W9_of, W8_of, W7_of, W6_of, W5_of, W4_of, W3_of] <;> decide +kernel) (w2_main_v2_0 m c)

theorem w18_main_v6_0 : (W18 m c (Proc.devRef .tc main_v6_0) : S8192x4096.Idx → EReal) = (kargs m c).dyc :=
  Eq.trans (b := (W4 m c (Proc.devRef .tc main_v6_0) : S8192x4096.Idx → EReal)) (by rw [W18_of, W17_of, W16_of, W15_of, W14_of, W13_of, W12_of, W11_of, W10_of, W9_of, W8_of, W7_of, W6_of, W5_of] <;> decide +kernel) (w4_main_v6_0 m c)

theorem w18_main_v21_0 : (W18 m c (Proc.devRef .tc main_v21_0) : S8192x16384.Idx → EReal) = (kargs m c).ac :=
  Eq.trans (b := (W10 m c (Proc.devRef .tc main_v21_0) : S8192x16384.Idx → EReal)) (by rw [W18_of, W17_of, W16_of, W15_of, W14_of, W13_of, W12_of, W11_of] <;> decide +kernel) (w10_main_v21_0 m c)

theorem w18_main_v21_1 : (W18 m c (Proc.devRef .tc main_v21_1) : S8192x16384.Idx → EReal) = (kargs m c).dhc :=
  Eq.trans (b := (W10 m c (Proc.devRef .tc main_v21_1) : S8192x16384.Idx → EReal)) (by rw [W18_of, W17_of, W16_of, W15_of, W14_of, W13_of, W12_of, W11_of] <;> decide +kernel) (w10_main_v21_1 m c)

theorem w18_main_v24 : (W18 m c (Proc.devRef .tc main_v24) : S8192x4096.Idx → EReal) = (kargs m c).y :=
  Eq.trans (b := (W12 m c (Proc.devRef .tc main_v24) : S8192x4096.Idx → EReal)) (by rw [W18_of, W17_of, W16_of, W15_of, W14_of, W13_of] <;> decide +kernel) (w12_main_v24 m c)

theorem w18_main_v27 : (W18 m c (Proc.devRef .tc main_v27) : S8192x4096.Idx → EReal) = (kargs m c).dx :=
  Eq.trans (b := (W14 m c (Proc.devRef .tc main_v27) : S8192x4096.Idx → EReal)) (by rw [W18_of, W17_of, W16_of, W15_of] <;> decide +kernel) (w14_main_v27 m c)

theorem w18_main_v21_2 : (W18 m c (Proc.devRef .tc main_v21_2) : S1x1.Idx → EReal) = fun _ => amax (kargs m c).act :=
  Eq.trans (b := (W10 m c (Proc.devRef .tc main_v21_2) : S1x1.Idx → EReal)) (by rw [W18_of, W17_of, W16_of, W15_of, W14_of, W13_of, W12_of, W11_of] <;> decide +kernel) (w10_main_v21_2 m c)

theorem w18_main_v21_3 : (W18 m c (Proc.devRef .tc main_v21_3) : S1x1.Idx → EReal) = fun _ => amax (kargs m c).dh :=
  Eq.trans (b := (W10 m c (Proc.devRef .tc main_v21_3) : S1x1.Idx → EReal)) (by rw [W18_of, W17_of, W16_of, W15_of, W14_of, W13_of, W12_of, W11_of] <;> decide +kernel) (w10_main_v21_3 m c)

theorem w18_main_v3 : (W18 m c (Proc.devRef .tc main_v3) : S_.Idx → EReal) = fun _ => amax (kargs m c).x :=
  Eq.trans (b := (W3 m c (Proc.devRef .tc main_v3) : S_.Idx → EReal)) (by rw [W18_of, W17_of, W16_of, W15_of, W14_of, W13_of, W12_of, W11_of, W10_of, W9_of, W8_of, W7_of, W6_of, W5_of, W4_of] <;> decide +kernel) (w3_main_v3 m c)

theorem w18_main_v7 : (W18 m c (Proc.devRef .tc main_v7) : S_.Idx → EReal) = fun _ => amax (kargs m c).dy :=
  Eq.trans (b := (W5 m c (Proc.devRef .tc main_v7) : S_.Idx → EReal)) (by rw [W18_of, W17_of, W16_of, W15_of, W14_of, W13_of, W12_of, W11_of, W10_of, W9_of, W8_of, W7_of, W6_of] <;> decide +kernel) (w5_main_v7 m c)

theorem w18_main_v10 : (W18 m c (Proc.devRef .tc main_v10) : S_.Idx → EReal) = fun _ => amax (kargs m c).w1 :=
  Eq.trans (b := (W7 m c (Proc.devRef .tc main_v10) : S_.Idx → EReal)) (by rw [W18_of, W17_of, W16_of, W15_of, W14_of, W13_of, W12_of, W11_of, W10_of, W9_of, W8_of] <;> decide +kernel) (w7_main_v10 m c)

theorem w18_main_v13 : (W18 m c (Proc.devRef .tc main_v13) : S_.Idx → EReal) = fun _ => amax (kargs m c).w2 :=
  Eq.trans (b := (W9 m c (Proc.devRef .tc main_v13) : S_.Idx → EReal)) (by rw [W18_of, W17_of, W16_of, W15_of, W14_of, W13_of, W12_of, W11_of, W10_of] <;> decide +kernel) (w9_main_v13 m c)

theorem w19_main_v33 : (W19 m c (Proc.devRef .tc main_v33) : S4096x16384.Idx → EReal) = (kargs m c).dw1 :=
  Eq.trans (b := (W18 m c (Proc.devRef .tc main_v33) : S4096x16384.Idx → EReal)) (by rw [W19_of] <;> decide +kernel) (w18_main_v33 m c)

theorem w19_main_v30 : (W19 m c (Proc.devRef .tc main_v30) : S16384x4096.Idx → EReal) = (kargs m c).dw2 :=
  Eq.trans (b := (W16 m c (Proc.devRef .tc main_v30) : S16384x4096.Idx → EReal)) (by rw [W19_of, W18_of, W17_of] <;> decide +kernel) (w16_main_v30 m c)

theorem w19_main_v9_0 : (W19 m c (Proc.devRef .tc main_v9_0) : S4096x16384.Idx → EReal) = (kargs m c).w1c :=
  Eq.trans (b := (W6 m c (Proc.devRef .tc main_v9_0) : S4096x16384.Idx → EReal)) (by rw [W19_of, W18_of, W17_of, W16_of, W15_of, W14_of, W13_of, W12_of, W11_of, W10_of, W9_of, W8_of, W7_of] <;> decide +kernel) (w6_main_v9_0 m c)

theorem w19_main_v12_0 : (W19 m c (Proc.devRef .tc main_v12_0) : S16384x4096.Idx → EReal) = (kargs m c).w2c :=
  Eq.trans (b := (W8 m c (Proc.devRef .tc main_v12_0) : S16384x4096.Idx → EReal)) (by rw [W19_of, W18_of, W17_of, W16_of, W15_of, W14_of, W13_of, W12_of, W11_of, W10_of, W9_of] <;> decide +kernel) (w8_main_v12_0 m c)

theorem w18_main_arg4 : W18 m c (Proc.devRef .tc main_arg4) = m ((c : Thread nD τ).loc main_arg4) := by rw [W18_of, W17_of, W16_of, W15_of, W14_of, W13_of, W12_of, W11_of, W10_of, W9_of, W8_of, W7_of, W6_of, W5_of, W4_of, W3_of, W2_of, W1_of] <;> decide +kernel

theorem w18_main_arg5 : W18 m c (Proc.devRef .tc main_arg5) = m ((c : Thread nD τ).loc main_arg5) := by rw [W18_of, W17_of, W16_of, W15_of, W14_of, W13_of, W12_of, W11_of, W10_of, W9_of, W8_of, W7_of, W6_of, W5_of, W4_of, W3_of, W2_of, W1_of] <;> decide +kernel

theorem w18_main_arg6 : W18 m c (Proc.devRef .tc main_arg6) = m ((c : Thread nD τ).loc main_arg6) := by rw [W18_of, W17_of, W16_of, W15_of, W14_of, W13_of, W12_of, W11_of, W10_of, W9_of, W8_of, W7_of, W6_of, W5_of, W4_of, W3_of, W2_of, W1_of] <;> decide +kernel

theorem w18_main_arg7 : W18 m c (Proc.devRef .tc main_arg7) = m ((c : Thread nD τ).loc main_arg7) := by rw [W18_of, W17_of, W16_of, W15_of, W14_of, W13_of, W12_of, W11_of, W10_of, W9_of, W8_of, W7_of, W6_of, W5_of, W4_of, W3_of, W2_of, W1_of] <;> decide +kernel

theorem w18_main_arg8 : W18 m c (Proc.devRef .tc main_arg8) = m ((c : Thread nD τ).loc main_arg8) := by rw [W18_of, W17_of, W16_of, W15_of, W14_of, W13_of, W12_of, W11_of, W10_of, W9_of, W8_of, W7_of, W6_of, W5_of, W4_of, W3_of, W2_of, W1_of] <;> decide +kernel

theorem w18_main_arg9 : W18 m c (Proc.devRef .tc main_arg9) = m ((c : Thread nD τ).loc main_arg9) := by rw [W18_of, W17_of, W16_of, W15_of, W14_of, W13_of, W12_of, W11_of, W10_of, W9_of, W8_of, W7_of, W6_of, W5_of, W4_of, W3_of, W2_of, W1_of] <;> decide +kernel

theorem w19_main_v34 : (W19 m c (Proc.devRef .tc main_v34) : S2x4096x4096.Idx → EReal) = shapeCast S2x4096x4096 ((kargs m c).y) shapeCasts_S8192x4096_S2x4096x4096 := by
  have e := w18_main_v24 m c
  unfold W19
  generalize W18 m c = V at e ⊢
  after_reads_simp
  exact congrArg (fun z : S8192x4096.Idx → EReal => shapeCast S2x4096x4096 z shapeCasts_S8192x4096_S2x4096x4096) e

theorem w19_main_v35 : (W19 m c (Proc.devRef .tc main_v35) : S2x4096x4096.Idx → EReal) = shapeCast S2x4096x4096 ((kargs m c).dx) shapeCasts_S8192x4096_S2x4096x4096 := by
  have e := w18_main_v27 m c
  unfold W19
  generalize W18 m c = V at e ⊢
  after_reads_simp
  exact congrArg (fun z : S8192x4096.Idx → EReal => shapeCast S2x4096x4096 z shapeCasts_S8192x4096_S2x4096x4096) e

theorem w19_main_v56 : (W19 m c (Proc.devRef .tc main_v56) : S2x4096x4096.Idx → EReal) = shapeCast S2x4096x4096 ((kargs m c).xc) shapeCasts_S8192x4096_S2x4096x4096 := by
  have e := w18_main_v2_0 m c
  unfold W19
  generalize W18 m c = V at e ⊢
  after_reads_simp
  exact congrArg (fun z : S8192x4096.Idx → EReal => shapeCast S2x4096x4096 z shapeCasts_S8192x4096_S2x4096x4096) e

theorem w19_main_v57 : (W19 m c (Proc.devRef .tc main_v57) : S2x4096x16384.Idx → EReal) = shapeCast S2x4096x16384 ((kargs m c).ac) shapeCasts_S8192x16384_S2x4096x16384 := by
  have e := w18_main_v21_0 m c
  unfold W19
  generalize W18 m c = V at e ⊢
  after_reads_simp
  exact congrArg (fun z : S8192x16384.Idx → EReal => shapeCast S2x4096x16384 z shapeCasts_S8192x16384_S2x4096x16384) e

theorem w19_main_v58 : (W19 m c (Proc.devRef .tc main_v58) : S2x4096x4096.Idx → EReal) = shapeCast S2x4096x4096 ((kargs m c).dyc) shapeCasts_S8192x4096_S2x4096x4096 := by
  have e := w18_main_v6_0 m c
  unfold W19
  generalize W18 m c = V at e ⊢
  after_reads_simp
  exact congrArg (fun z : S8192x4096.Idx → EReal => shapeCast S2x4096x4096 z shapeCasts_S8192x4096_S2x4096x4096) e

theorem w19_main_v59 : (W19 m c (Proc.devRef .tc main_v59) : S2x4096x16384.Idx → EReal) = shapeCast S2x4096x16384 ((kargs m c).dhc) shapeCasts_S8192x16384_S2x4096x16384 := by
  have e := w18_main_v21_1 m c
  unfold W19
  generalize W18 m c = V at e ⊢
  after_reads_simp
  exact congrArg (fun z : S8192x16384.Idx → EReal => shapeCast S2x4096x16384 z shapeCasts_S8192x16384_S2x4096x16384) e

/-- A history of fifteen and a new entry. -/
def cat16 (a : S15.Idx → EReal) (b : S1.Idx → EReal) : S16.Idx → EReal := concatenate S16 0 [⟨S15, a⟩, ⟨S1, b⟩] concatenates_S15_S1_S16_d0

/-- A history moved on by one entry. -/
def hist (a : S16.Idx → EReal) (b : EReal) : S16.Idx → EReal := cat16 (extractStridedSlice S15 ![1] a slices_S16_S15_1) fun _ => b

theorem w19_main_v38 : (W19 m c (Proc.devRef .tc main_v38) : S16.Idx → EReal) = hist (m ((c : Thread nD τ).loc main_arg4) : S16.Idx → EReal) (amax (kargs m c).x) := by
  have e := w18_main_v3 m c
  have h := w18_main_arg4 m c
  unfold W19
  generalize W18 m c = V at e h ⊢
  after_reads_simp
  show cat16 _ _ = _
  after_reads_simp
  rw [h]
  exact congrArg (cat16 (extractStridedSlice S15 ![1] (m ((c : Thread nD τ).loc main_arg4) : S16.Idx → EReal) slices_S16_S15_1)) (bcast_const (α := EReal) _ _ e bcast_S_S1)

theorem w19_main_v41 : (W19 m c (Proc.devRef .tc main_v41) : S16.Idx → EReal) = hist (m ((c : Thread nD τ).loc main_arg5) : S16.Idx → EReal) (amax (kargs m c).w1) := by
  have e := w18_main_v10 m c
  have h := w18_main_arg5 m c
  unfold W19
  generalize W18 m c = V at e h ⊢
  after_reads_simp
  show cat16 _ _ = _
  after_reads_simp
  rw [h]
  exact congrArg (cat16 (extractStridedSlice S15 ![1] (m ((c : Thread nD τ).loc main_arg5) : S16.Idx → EReal) slices_S16_S15_1)) (bcast_const (α := EReal) _ _ e bcast_S_S1)

theorem w19_main_v45 : (W19 m c (Proc.devRef .tc main_v45) : S16.Idx → EReal) = hist (m ((c : Thread nD τ).loc main_arg6) : S16.Idx → EReal) (amax (kargs m c).act) := by
  have e := w18_main_v21_2 m c
  have h := w18_main_arg6 m c
  unfold W19
  generalize W18 m c = V at e h ⊢
  after_reads_simp
  show cat16 _ _ = _
  after_reads_simp
  rw [h]
  exact congrArg (cat16 (extractStridedSlice S15 ![1] (m ((c : Thread nD τ).loc main_arg6) : S16.Idx → EReal) slices_S16_S15_1)) (bcast_const (α := EReal) _ _ (cast_to_scalar (α := EReal) _ _ e shapeCasts_S1x1_S_) bcast_S_S1)

theorem w19_main_v48 : (W19 m c (Proc.devRef .tc main_v48) : S16.Idx → EReal) = hist (m ((c : Thread nD τ).loc main_arg7) : S16.Idx → EReal) (amax (kargs m c).w2) := by
  have e := w18_main_v13 m c
  have h := w18_main_arg7 m c
  unfold W19
  generalize W18 m c = V at e h ⊢
  after_reads_simp
  show cat16 _ _ = _
  after_reads_simp
  rw [h]
  exact congrArg (cat16 (extractStridedSlice S15 ![1] (m ((c : Thread nD τ).loc main_arg7) : S16.Idx → EReal) slices_S16_S15_1)) (bcast_const (α := EReal) _ _ e bcast_S_S1)

theorem w19_main_v51 : (W19 m c (Proc.devRef .tc main_v51) : S16.Idx → EReal) = hist (m ((c : Thread nD τ).loc main_arg8) : S16.Idx → EReal) (amax (kargs m c).dy) := by
  have e := w18_main_v7 m c
  have h := w18_main_arg8 m c
  unfold W19
  generalize W18 m c = V at e h ⊢
  after_reads_simp
  show cat16 _ _ = _
  after_reads_simp
  rw [h]
  exact congrArg (cat16 (extractStridedSlice S15 ![1] (m ((c : Thread nD τ).loc main_arg8) : S16.Idx → EReal) slices_S16_S15_1)) (bcast_const (α := EReal) _ _ e bcast_S_S1)

theorem w19_main_v55 : (W19 m c (Proc.devRef .tc main_v55) : S16.Idx → EReal) = hist (m ((c : Thread nD τ).loc main_arg9) : S16.Idx → EReal) (amax (kargs m c).dh) := by
  have e := w18_main_v21_3 m c
  have h := w18_main_arg9 m c
  unfold W19
  generalize W18 m c = V at e h ⊢
  after_reads_simp
  show cat16 _ _ = _
  after_reads_simp
  rw [h]
  exact congrArg (cat16 (extractStridedSlice S15 ![1] (m ((c : Thread nD τ).loc main_arg9) : S16.Idx → EReal) slices_S16_S15_1)) (bcast_const (α := EReal) _ _ (cast_to_scalar (α := EReal) _ _ e shapeCasts_S1x1_S_) bcast_S_S1)

end Cert.Kernel.Gen

end
-- ==== Proof.ReferencePay.lean ====
/-
  The reference's arithmetic over the extended reals: each value it stores is the model's.
-/
module

public import proofs.«01_k».proof.Proof.Gen.ReferenceIdeal.Skeleton
public import proofs.«01_k».proof.Proof.Spec

@[expose] public section

set_option maxRecDepth 16384

noncomputable section

namespace Cert.ReferenceIdeal.Gen

open Idealize.ShloMosaic Cert.Model

theorem pay_xc (x : Vec Ideal S8192x4096 .f32) (s : EReal) : k0_pay3 (F := Ideal) x s = codesE4 (S := S8192x4096.Idx) x s := by
  refine funext fun j => ?_
  pointwise [k0_pay3, k0_pay1]
  rfl

theorem pay_w1c (x : Vec Ideal S4096x16384 .f32) (s : EReal) : k0_pay4 (F := Ideal) x s = codesE4 (S := S4096x16384.Idx) x s := by
  refine funext fun j => ?_
  pointwise [k0_pay4]
  rfl

theorem pay_w2c (x : Vec Ideal S16384x4096 .f32) (s : EReal) : k0_pay11 (F := Ideal) x s = codesE4 (S := S16384x4096.Idx) x s := by
  refine funext fun j => ?_
  pointwise [k0_pay11]
  rfl

theorem pay_dyc (x : Vec Ideal S8192x4096 .f32) (s : EReal) : k0_pay13 (F := Ideal) (k0_pay2 x) s = codesE5 (S := S8192x4096.Idx) x s := by
  refine funext fun j => ?_
  pointwise [k0_pay13, k0_pay2]
  rfl

theorem mm_h (l : FVec Ideal S8192x4096 .fp8e4m3) (r : FVec Ideal S4096x16384 .fp8e4m3) (s : EReal) :
    (mulf (matmul dot_S8192x4096_S4096x16384_S8192x16384_1_0_0_1_n_n none l r (constant S8192x16384 .f32 0x00000000#32)) (broadcast S8192x16384 (s : Ideal .f32)) : FVec Ideal S8192x16384 .f32)
      = mmNN l r s := by
  refine funext fun j => ?_
  pointwise []
  rfl

theorem mm_y (l : FVec Ideal S8192x16384 .fp8e4m3) (r : FVec Ideal S16384x4096 .fp8e4m3) (s : EReal) :
    (mulf (matmul dot_S8192x16384_S16384x4096_S8192x4096_1_0_0_1_n_n none l r (constant S8192x4096 .f32 0x00000000#32)) (broadcast S8192x4096 (s : Ideal .f32)) : FVec Ideal S8192x4096 .f32)
      = mmNN l r s := by
  refine funext fun j => ?_
  pointwise []
  rfl

theorem mm_dw2 (l : FVec Ideal S8192x16384 .fp8e4m3) (r : FVec Ideal S8192x4096 .fp8e5m2) (s : EReal) :
    (mulf (matmul dot_S8192x16384_S8192x4096_S16384x4096_0_0_1_1_n_n none l r (constant S16384x4096 .f32 0x00000000#32)) (broadcast S16384x4096 (s : Ideal .f32)) : FVec Ideal S16384x4096 .f32)
      = mmTN l r s := by
  refine funext fun j => ?_
  pointwise []
  rfl

theorem mm_dx (l : FVec Ideal S8192x16384 .fp8e5m2) (r : FVec Ideal S4096x16384 .fp8e4m3) (s : EReal) :
    (mulf (matmul dot_S8192x16384_S4096x16384_S8192x4096_1_1_0_0_n_n none l r (constant S8192x4096 .f32 0x00000000#32)) (broadcast S8192x4096 (s : Ideal .f32)) : FVec Ideal S8192x4096 .f32)
      = mmNT l r s := by
  refine funext fun j => ?_
  pointwise []
  rfl

theorem mm_dw1 (l : FVec Ideal S8192x4096 .fp8e4m3) (r : FVec Ideal S8192x16384 .fp8e5m2) (s : EReal) :
    (mulf (matmul dot_S8192x4096_S8192x16384_S4096x16384_0_0_1_1_n_n none l r (constant S4096x16384 .f32 0x00000000#32)) (broadcast S4096x16384 (s : Ideal .f32)) : FVec Ideal S4096x16384 .f32)
      = mmTN l r s := by
  refine funext fun j => ?_
  pointwise []
  rfl

theorem mm_dh (l : FVec Ideal S8192x4096 .fp8e5m2) (r : FVec Ideal S16384x4096 .fp8e4m3) (s : EReal) :
    (mulf (matmul dot_S8192x4096_S16384x4096_S8192x16384_1_1_0_0_n_n none l r (constant S8192x16384 .f32 0x00000000#32)) (broadcast S8192x16384 (s : Ideal .f32)) : FVec Ideal S8192x16384 .f32)
      = mmNT l r s := by
  refine funext fun j => ?_
  pointwise []
  rfl

variable (A : Args)

theorem pay_h : k0_pay5 (F := Ideal) A.sx A.sw1 A.x A.w1 A.ix A.iw1 = A.h := by
  unfold k0_pay5
  dsimp only
  rw [pay_xc, pay_w1c]
  exact mm_h _ _ _

/-- The doubled cumulative distribution at the hidden layer. -/
def erf1 : FVec Ideal S8192x16384 .f32 := k0_pay6 (F := Ideal) A.sx A.sw1 A.x A.w1 A.ix A.iw1

theorem pay_erf1 (j : S8192x16384.Idx) : erf1 A j = 1 + Ideal.erf (A.h j * Ideal.ofBits .f32 0x3F3504F3#32) := by
  unfold erf1 k0_pay6
  rw [pay_h]
  pointwise []
  rfl

theorem pay_act : k0_pay8 (F := Ideal) A.h (erf1 A) = A.act := by
  refine funext fun j => ?_
  pointwise [k0_pay8, k0_pay7]
  rw [pay_erf1]
  rfl

theorem pay_dgelu : k0_pay9 (F := Ideal) A.h (erf1 A) = fun j => dgelu (A.h j) := by
  refine funext fun j => ?_
  pointwise [k0_pay9, k0_pay7]
  rw [pay_erf1]
  rfl

theorem pay_ac : k0_pay10 (F := Ideal) A.h (erf1 A) A.ia = A.ac := by
  refine funext fun j => ?_
  unfold k0_pay10
  rw [pay_act]
  pointwise []
  rfl

theorem pay_y : k0_pay12 (F := Ideal) A.sa A.sw2 A.w2 A.h (erf1 A) A.ia A.iw2 = A.y := by
  unfold k0_pay12
  dsimp only
  rw [pay_ac, pay_w2c]
  exact mm_y _ _ _

theorem pay_dh : k0_pay16 (F := Ideal) (fun j => dgelu (A.h j)) (k0_pay14 (F := Ideal) A.w2 (k0_pay2 (F := Ideal) A.dy) A.iw2 A.idy) (k0_pay15 (F := Ideal) A.sw2 A.sdy) = A.dh := by
  unfold k0_pay16 k0_pay14 k0_pay15
  dsimp only
  rw [pay_dyc, pay_w2c]
  refine funext fun j => ?_
  exact congrArg (fun z : EReal => z * dgelu (A.h j)) (congrFun (mm_dh (codesE5 A.dy A.idy) (codesE4 A.w2 A.iw2) (A.sdy * A.sw2)) j)

theorem pay_dhc (v : FVec Ideal S8192x16384 .f32) (w : FVec Ideal S8192x16384 .f32) (z : FVec Ideal S8192x16384 .f32) (h : k0_pay16 (F := Ideal) v w z = A.dh) :
    k0_pay18 (F := Ideal) v w z A.idh = A.dhc := by
  refine funext fun j => ?_
  unfold k0_pay18
  rw [h]
  pointwise []
  rfl

theorem pay_dw2 : k0_pay17 (F := Ideal) A.sa A.sdy A.ac A.dyc = A.dw2 := by
  unfold k0_pay17
  exact mm_dw2 _ _ _

theorem pay_dx (v w z : FVec Ideal S8192x16384 .f32) (h : k0_pay16 (F := Ideal) v w z = A.dh) :
    k0_pay19 (F := Ideal) A.sw1 A.sdh A.w1c v w z A.idh = A.dx := by
  unfold k0_pay19
  dsimp only
  rw [pay_dhc A v w z h]
  exact mm_dx _ _ _

theorem pay_dw1 (v w z : FVec Ideal S8192x16384 .f32) (h : k0_pay16 (F := Ideal) v w z = A.dh) :
    k0_pay20 (F := Ideal) A.sx A.sdh A.xc v w z A.idh = A.dw1 := by
  unfold k0_pay20
  dsimp only
  rw [pay_dhc A v w z h]
  exact mm_dw1 _ _ _

theorem pay_amax_x (v : Vec Ideal S8192x4096 .f32) : k0_pay21 (F := Ideal) (k0_pay1 (F := Ideal) v) = amax (S := S8192x4096.Idx) v := by
  have e : k0_pay1 (F := Ideal) v = v := shapeCast_self _ _
  rw [e]
  refine amax_eq (S := S8192x4096.Idx) v _ fun b => ?_
  unfold k0_pay21
  dsimp only
  exact scalar_le _ _ _ _ _ _ _ b

theorem pay_amax_w1 (v : Vec Ideal S4096x16384 .f32) : k0_pay22 (F := Ideal) v = amax (S := S4096x16384.Idx) v := by
  refine amax_eq (S := S4096x16384.Idx) v _ fun b => ?_
  unfold k0_pay22
  dsimp only
  exact scalar_le _ _ _ _ _ _ _ b

theorem pay_amax_a (v : Vec Ideal S8192x16384 .f32) : k0_pay23 (F := Ideal) v = amax (S := S8192x16384.Idx) v := by
  refine amax_eq (S := S8192x16384.Idx) v _ fun b => ?_
  unfold k0_pay23
  dsimp only
  exact scalar_le _ _ _ _ _ _ _ b

theorem pay_amax_w2 (v : Vec Ideal S16384x4096 .f32) : k0_pay24 (F := Ideal) v = amax (S := S16384x4096.Idx) v := by
  refine amax_eq (S := S16384x4096.Idx) v _ fun b => ?_
  unfold k0_pay24
  dsimp only
  exact scalar_le _ _ _ _ _ _ _ b

theorem pay_amax_dy (v : Vec Ideal S8192x4096 .f32) : k0_pay25 (F := Ideal) (k0_pay2 (F := Ideal) v) = amax (S := S8192x4096.Idx) v := by
  have e : k0_pay2 (F := Ideal) v = v := shapeCast_self _ _
  rw [e]
  refine amax_eq (S := S8192x4096.Idx) v _ fun b => ?_
  unfold k0_pay25
  dsimp only
  exact scalar_le _ _ _ _ _ _ _ b

theorem pay_amax_dh (v : Vec Ideal S8192x16384 .f32) : k0_pay26 (F := Ideal) v = amax (S := S8192x16384.Idx) v := by
  refine amax_eq (S := S8192x16384.Idx) v _ fun b => ?_
  unfold k0_pay26
  dsimp only
  exact scalar_le _ _ _ _ _ _ _ b

end Cert.ReferenceIdeal.Gen

end
-- ==== Proof.ReferenceRead.lean ====
/-
  The reference's region over the extended reals: each array it leaves is the model's.
-/
module

public import proofs.«01_k».proof.Proof.Gen.ReferenceIdeal.Frame
public import proofs.«01_k».proof.Proof.ReferencePay

@[expose] public section

set_option maxRecDepth 16384

noncomputable section

namespace Cert.ReferenceIdeal.Gen

open Idealize.ShloMosaic Idealize.ShloMosaic.TcCoe Idealize.SL.Sem Cert.Model

/-- A scalar of the six, loaded. -/
theorem ld_six (x : Vec Ideal S6 .f32) (q : Fin 6) (inb) (i : (Rect.unit (s := S6) ![q.val] S1.size inb).shape.Idx) :
    View.ld x (Rect.unit (s := S6) ![q.val] S1.size inb) i = x (ix1 q) := by
  show x _ = x _
  congr 1
  funext a
  match a with
  | ⟨0, _⟩ => exact Fin.ext (by show q.val + 1 * (i 0).val = q.val; have : (i 0).val < 1 := (i 0).isLt; omega)

/-- Each of the six scalars, loaded. -/
theorem six (x : Vec Ideal S6 .f32) :
    (∀ inb i, View.ld x (Rect.unit (s := S6) ![0] ![1] inb) i = x (ix1 0)) ∧
    (∀ inb i, View.ld x (Rect.unit (s := S6) ![1] ![1] inb) i = x (ix1 1)) ∧
    (∀ inb i, View.ld x (Rect.unit (s := S6) ![2] ![1] inb) i = x (ix1 2)) ∧
    (∀ inb i, View.ld x (Rect.unit (s := S6) ![3] ![1] inb) i = x (ix1 3)) ∧
    (∀ inb i, View.ld x (Rect.unit (s := S6) ![4] ![1] inb) i = x (ix1 4)) ∧
    (∀ inb i, View.ld x (Rect.unit (s := S6) ![5] ![1] inb) i = x (ix1 5)) :=
  ⟨ld_six x 0, ld_six x 1, ld_six x 2, ld_six x 3, ld_six x 4, ld_six x 5⟩

/-- The model's arguments, as the region reads them: the scales and inverse scales in two arrays of six. -/
def margs (x0 x1 : Vec Ideal S6 .f32) (x2 : Vec Ideal S8192x4096 .f32) (x3 : Vec Ideal S4096x16384 .f32) (x4 : Vec Ideal S16384x4096 .f32)
    (x5 : Vec Ideal S8192x4096 .f32) : Args where
  x := x2
  w1 := x3
  w2 := x4
  dy := x5
  sx := x0 (ix1 0)
  sw1 := x0 (ix1 1)
  sa := x0 (ix1 2)
  sw2 := x0 (ix1 3)
  sdy := x0 (ix1 4)
  sdh := x0 (ix1 5)
  ix := x1 (ix1 0)
  iw1 := x1 (ix1 1)
  ia := x1 (ix1 2)
  iw2 := x1 (ix1 3)
  idy := x1 (ix1 4)
  idh := x1 (ix1 5)

section model
variable (A : Args)

theorem all_act : k0_pay8 (F := Ideal) (k0_pay5 (F := Ideal) A.sx A.sw1 A.x A.w1 A.ix A.iw1) (erf1 A) = A.act := by
  rw [pay_h]; exact pay_act A

theorem all_ac : k0_pay10 (F := Ideal) (k0_pay5 (F := Ideal) A.sx A.sw1 A.x A.w1 A.ix A.iw1) (erf1 A) A.ia = A.ac := by
  rw [pay_h]; exact pay_ac A

theorem all_y : k0_pay12 (F := Ideal) A.sa A.sw2 A.w2 (k0_pay5 (F := Ideal) A.sx A.sw1 A.x A.w1 A.ix A.iw1) (erf1 A) A.ia A.iw2 = A.y := by
  rw [pay_h]; exact pay_y A

theorem all_dh : k0_pay16 (F := Ideal) (k0_pay9 (F := Ideal) (k0_pay5 (F := Ideal) A.sx A.sw1 A.x A.w1 A.ix A.iw1) (erf1 A))
    (k0_pay14 (F := Ideal) A.w2 (k0_pay2 (F := Ideal) A.dy) A.iw2 A.idy) (k0_pay15 (F := Ideal) A.sw2 A.sdy) = A.dh := by
  rw [pay_h, pay_dgelu]; exact pay_dh A

theorem all_dhc : k0_pay18 (F := Ideal) (k0_pay9 (F := Ideal) (k0_pay5 (F := Ideal) A.sx A.sw1 A.x A.w1 A.ix A.iw1) (erf1 A))
    (k0_pay14 (F := Ideal) A.w2 (k0_pay2 (F := Ideal) A.dy) A.iw2 A.idy) (k0_pay15 (F := Ideal) A.sw2 A.sdy) A.idh = A.dhc :=
  pay_dhc A _ _ _ (all_dh A)

theorem all_dx : k0_pay19 (F := Ideal) A.sw1 A.sdh (k0_pay4 (F := Ideal) A.w1 A.iw1) (k0_pay9 (F := Ideal) (k0_pay5 (F := Ideal) A.sx A.sw1 A.x A.w1 A.ix A.iw1) (erf1 A))
    (k0_pay14 (F := Ideal) A.w2 (k0_pay2 (F := Ideal) A.dy) A.iw2 A.idy) (k0_pay15 (F := Ideal) A.sw2 A.sdy) A.idh = A.dx := by
  rw [pay_w1c]; exact pay_dx A _ _ _ (all_dh A)

theorem all_dw1 : k0_pay20 (F := Ideal) A.sx A.sdh (k0_pay3 (F := Ideal) A.x A.ix) (k0_pay9 (F := Ideal) (k0_pay5 (F := Ideal) A.sx A.sw1 A.x A.w1 A.ix A.iw1) (erf1 A))
    (k0_pay14 (F := Ideal) A.w2 (k0_pay2 (F := Ideal) A.dy) A.iw2 A.idy) (k0_pay15 (F := Ideal) A.sw2 A.sdy) A.idh = A.dw1 := by
  rw [pay_xc]; exact pay_dw1 A _ _ _ (all_dh A)

theorem all_dw2 : k0_pay17 (F := Ideal) A.sa A.sdy (k0_pay10 (F := Ideal) (k0_pay5 (F := Ideal) A.sx A.sw1 A.x A.w1 A.ix A.iw1) (erf1 A) A.ia)
    (k0_pay13 (F := Ideal) (k0_pay2 (F := Ideal) A.dy) A.idy) = A.dw2 := by
  rw [all_ac, pay_dyc]; exact pay_dw2 A

theorem all_amax_a : k0_pay23 (F := Ideal) (k0_pay8 (F := Ideal) (k0_pay5 (F := Ideal) A.sx A.sw1 A.x A.w1 A.ix A.iw1) (erf1 A)) = amax A.act := by
  rw [all_act]; exact pay_amax_a A.act

theorem all_amax_dh : k0_pay26 (F := Ideal) (k0_pay16 (F := Ideal) (k0_pay9 (F := Ideal) (k0_pay5 (F := Ideal) A.sx A.sw1 A.x A.w1 A.ix A.iw1) (erf1 A))
    (k0_pay14 (F := Ideal) A.w2 (k0_pay2 (F := Ideal) A.dy) A.iw2 A.idy) (k0_pay15 (F := Ideal) A.sw2 A.sdy)) = amax A.dh := by
  rw [all_dh]; exact pay_amax_dh A.dh

end model

variable (c : Dev nD) (arg0 : Memref sig .tc .smem S6 .f32) (harg0 : arg0.IsWhole) (arg1 : Memref sig .tc .smem S6 .f32) (harg1 : arg1.IsWhole) (arg2 : Memref sig .tc .vmem S8192x4096 .f32) (harg2 : arg2.IsWhole) (arg3 : Memref sig .tc .vmem S4096x16384 .f32) (harg3 : arg3.IsWhole) (arg4 : Memref sig .tc .vmem S16384x4096 .f32) (harg4 : arg4.IsWhole) (arg5 : Memref sig .tc .vmem S8192x4096 .f32) (harg5 : arg5.IsWhole) (arg6 : Memref sig .tc .vmem S8192x4096 .f32) (harg6 : arg6.IsWhole) (arg7 : Memref sig .tc .vmem S8192x4096 .f32) (harg7 : arg7.IsWhole) (arg8 : Memref sig .tc .vmem S4096x16384 .f32) (harg8 : arg8.IsWhole) (arg9 : Memref sig .tc .vmem S16384x4096 .f32) (harg9 : arg9.IsWhole) (arg10 : Memref sig .tc .vmem S8192x4096 .fp8e4m3) (harg10 : arg10.IsWhole) (arg11 : Memref sig .tc .vmem S4096x16384 .fp8e4m3) (harg11 : arg11.IsWhole) (arg12 : Memref sig .tc .vmem S8192x16384 .fp8e4m3) (harg12 : arg12.IsWhole) (arg13 : Memref sig .tc .vmem S16384x4096 .fp8e4m3) (harg13 : arg13.IsWhole) (arg14 : Memref sig .tc .vmem S8192x4096 .fp8e5m2) (harg14 : arg14.IsWhole) (arg15 : Memref sig .tc .vmem S8192x16384 .fp8e5m2) (harg15 : arg15.IsWhole) (arg16 : Memref sig .tc .smem S1x1 .f32) (harg16 : arg16.IsWhole) (arg17 : Memref sig .tc .smem S1x1 .f32) (harg17 : arg17.IsWhole) (arg18 : Memref sig .tc .smem S1x1 .f32) (harg18 : arg18.IsWhole) (arg19 : Memref sig .tc .smem S1x1 .f32) (harg19 : arg19.IsWhole) (arg20 : Memref sig .tc .smem S1x1 .f32) (harg20 : arg20.IsWhole) (arg21 : Memref sig .tc .smem S1x1 .f32) (harg21 : arg21.IsWhole)
    (x0 x1 : Vec Ideal S6 .f32) (x2 : Vec Ideal S8192x4096 .f32) (x3 : Vec Ideal S4096x16384 .f32) (x4 : Vec Ideal S16384x4096 .f32) (x5 : Vec Ideal S8192x4096 .f32)

/-- What the region leaves in output 6. -/
theorem out6 : (out0_A_6 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S8192x4096.Idx → EReal) = (margs x0 x1 x2 x3 x4 x5).y := by
  unfold out0_A_6
  rw [View.read_writes_eq_canon _ _ _ (fun _ => cover0_A_6 ..)]
  unfold kernelRun0_A
  dsimp only
  sl_unfold_words
  rw [View.canon_unit_zero (S := S8192x4096) hz2]
  simp only [View.readAt_eq_ld, Memref.IsWhole.read_unread, ld_whole,
    six x0, six x1]
  exact all_y (margs x0 x1 x2 x3 x4 x5)

/-- What the region leaves in output 7. -/
theorem out7 : (out0_A_7 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S8192x4096.Idx → EReal) = (margs x0 x1 x2 x3 x4 x5).dx := by
  unfold out0_A_7
  rw [View.read_writes_eq_canon _ _ _ (fun _ => cover0_A_7 ..)]
  unfold kernelRun0_A
  dsimp only
  sl_unfold_words
  rw [View.canon_unit_zero (S := S8192x4096) hz2]
  simp only [View.readAt_eq_ld, Memref.IsWhole.read_unread, ld_whole,
    six x0, six x1]
  exact all_dx (margs x0 x1 x2 x3 x4 x5)

/-- What the region leaves in output 8. -/
theorem out8 : (out0_A_8 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S4096x16384.Idx → EReal) = (margs x0 x1 x2 x3 x4 x5).dw1 := by
  unfold out0_A_8
  rw [View.read_writes_eq_canon _ _ _ (fun _ => cover0_A_8 ..)]
  unfold kernelRun0_A
  dsimp only
  sl_unfold_words
  rw [View.canon_unit_zero (S := S4096x16384) hz2]
  simp only [View.readAt_eq_ld, Memref.IsWhole.read_unread, ld_whole,
    six x0, six x1]
  exact all_dw1 (margs x0 x1 x2 x3 x4 x5)

/-- What the region leaves in output 9. -/
theorem out9 : (out0_A_9 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S16384x4096.Idx → EReal) = (margs x0 x1 x2 x3 x4 x5).dw2 := by
  unfold out0_A_9
  rw [View.read_writes_eq_canon _ _ _ (fun _ => cover0_A_9 ..)]
  unfold kernelRun0_A
  dsimp only
  sl_unfold_words
  rw [View.canon_unit_zero (S := S16384x4096) hz2]
  simp only [View.readAt_eq_ld, Memref.IsWhole.read_unread, ld_whole,
    six x0, six x1]
  exact all_dw2 (margs x0 x1 x2 x3 x4 x5)

/-- What the region leaves in output 10. -/
theorem out10 : (out0_A_10 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S8192x4096.Idx → EReal) = (margs x0 x1 x2 x3 x4 x5).xc := by
  unfold out0_A_10
  rw [View.read_writes_eq_canon _ _ _ (fun _ => cover0_A_10 ..)]
  unfold kernelRun0_A
  dsimp only
  sl_unfold_words
  rw [View.canon_unit_zero (S := S8192x4096) hz2]
  simp only [View.readAt_eq_ld, Memref.IsWhole.read_unread, ld_whole,
    six x0, six x1]
  exact pay_xc (margs x0 x1 x2 x3 x4 x5).x (margs x0 x1 x2 x3 x4 x5).ix

/-- What the region leaves in output 11. -/
theorem out11 : (out0_A_11 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S4096x16384.Idx → EReal) = (margs x0 x1 x2 x3 x4 x5).w1c := by
  unfold out0_A_11
  rw [View.read_writes_eq_canon _ _ _ (fun _ => cover0_A_11 ..)]
  unfold kernelRun0_A
  dsimp only
  sl_unfold_words
  rw [View.canon_unit_zero (S := S4096x16384) hz2]
  simp only [View.readAt_eq_ld, Memref.IsWhole.read_unread, ld_whole,
    six x0, six x1]
  exact pay_w1c (margs x0 x1 x2 x3 x4 x5).w1 (margs x0 x1 x2 x3 x4 x5).iw1

/-- What the region leaves in output 12. -/
theorem out12 : (out0_A_12 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S8192x16384.Idx → EReal) = (margs x0 x1 x2 x3 x4 x5).ac := by
  unfold out0_A_12
  rw [View.read_writes_eq_canon _ _ _ (fun _ => cover0_A_12 ..)]
  unfold kernelRun0_A
  dsimp only
  sl_unfold_words
  rw [View.canon_unit_zero (S := S8192x16384) hz2]
  simp only [View.readAt_eq_ld, Memref.IsWhole.read_unread, ld_whole,
    six x0, six x1]
  exact all_ac (margs x0 x1 x2 x3 x4 x5)

/-- What the region leaves in output 13. -/
theorem out13 : (out0_A_13 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S16384x4096.Idx → EReal) = (margs x0 x1 x2 x3 x4 x5).w2c := by
  unfold out0_A_13
  rw [View.read_writes_eq_canon _ _ _ (fun _ => cover0_A_13 ..)]
  unfold kernelRun0_A
  dsimp only
  sl_unfold_words
  rw [View.canon_unit_zero (S := S16384x4096) hz2]
  simp only [View.readAt_eq_ld, Memref.IsWhole.read_unread, ld_whole,
    six x0, six x1]
  exact pay_w2c (margs x0 x1 x2 x3 x4 x5).w2 (margs x0 x1 x2 x3 x4 x5).iw2

/-- What the region leaves in output 14. -/
theorem out14 : (out0_A_14 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S8192x4096.Idx → EReal) = (margs x0 x1 x2 x3 x4 x5).dyc := by
  unfold out0_A_14
  rw [View.read_writes_eq_canon _ _ _ (fun _ => cover0_A_14 ..)]
  unfold kernelRun0_A
  dsimp only
  sl_unfold_words
  rw [View.canon_unit_zero (S := S8192x4096) hz2]
  simp only [View.readAt_eq_ld, Memref.IsWhole.read_unread, ld_whole,
    six x0, six x1]
  exact pay_dyc (margs x0 x1 x2 x3 x4 x5).dy (margs x0 x1 x2 x3 x4 x5).idy

/-- What the region leaves in output 15. -/
theorem out15 : (out0_A_15 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S8192x16384.Idx → EReal) = (margs x0 x1 x2 x3 x4 x5).dhc := by
  unfold out0_A_15
  rw [View.read_writes_eq_canon _ _ _ (fun _ => cover0_A_15 ..)]
  unfold kernelRun0_A
  dsimp only
  sl_unfold_words
  rw [View.canon_unit_zero (S := S8192x16384) hz2]
  simp only [View.readAt_eq_ld, Memref.IsWhole.read_unread, ld_whole,
    six x0, six x1]
  exact all_dhc (margs x0 x1 x2 x3 x4 x5)

/-- What the region leaves in output 16. -/
theorem out16 : (out0_A_16 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S1x1.Idx → EReal) = fun _ => amax (margs x0 x1 x2 x3 x4 x5).x := by
  unfold out0_A_16
  rw [View.read_writes_eq_canon _ _ _ (fun _ => cover0_A_16 ..)]
  unfold kernelRun0_A
  dsimp only
  sl_unfold_words
  rw [View.canon_unit_zero (S := S1x1) hz2]
  simp only [View.readAt_eq_ld, Memref.IsWhole.read_unread, ld_whole,
    six x0, six x1]
  exact funext fun _ => pay_amax_x (margs x0 x1 x2 x3 x4 x5).x

/-- What the region leaves in output 17. -/
theorem out17 : (out0_A_17 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S1x1.Idx → EReal) = fun _ => amax (margs x0 x1 x2 x3 x4 x5).w1 := by
  unfold out0_A_17
  rw [View.read_writes_eq_canon _ _ _ (fun _ => cover0_A_17 ..)]
  unfold kernelRun0_A
  dsimp only
  sl_unfold_words
  rw [View.canon_unit_zero (S := S1x1) hz2]
  simp only [View.readAt_eq_ld, Memref.IsWhole.read_unread, ld_whole,
    six x0, six x1]
  exact funext fun _ => pay_amax_w1 (margs x0 x1 x2 x3 x4 x5).w1

/-- What the region leaves in output 18. -/
theorem out18 : (out0_A_18 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S1x1.Idx → EReal) = fun _ => amax (margs x0 x1 x2 x3 x4 x5).act := by
  unfold out0_A_18
  rw [View.read_writes_eq_canon _ _ _ (fun _ => cover0_A_18 ..)]
  unfold kernelRun0_A
  dsimp only
  sl_unfold_words
  rw [View.canon_unit_zero (S := S1x1) hz2]
  simp only [View.readAt_eq_ld, Memref.IsWhole.read_unread, ld_whole,
    six x0, six x1]
  exact funext fun _ => all_amax_a (margs x0 x1 x2 x3 x4 x5)

/-- What the region leaves in output 19. -/
theorem out19 : (out0_A_19 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S1x1.Idx → EReal) = fun _ => amax (margs x0 x1 x2 x3 x4 x5).w2 := by
  unfold out0_A_19
  rw [View.read_writes_eq_canon _ _ _ (fun _ => cover0_A_19 ..)]
  unfold kernelRun0_A
  dsimp only
  sl_unfold_words
  rw [View.canon_unit_zero (S := S1x1) hz2]
  simp only [View.readAt_eq_ld, Memref.IsWhole.read_unread, ld_whole,
    six x0, six x1]
  exact funext fun _ => pay_amax_w2 (margs x0 x1 x2 x3 x4 x5).w2

/-- What the region leaves in output 20. -/
theorem out20 : (out0_A_20 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S1x1.Idx → EReal) = fun _ => amax (margs x0 x1 x2 x3 x4 x5).dy := by
  unfold out0_A_20
  rw [View.read_writes_eq_canon _ _ _ (fun _ => cover0_A_20 ..)]
  unfold kernelRun0_A
  dsimp only
  sl_unfold_words
  rw [View.canon_unit_zero (S := S1x1) hz2]
  simp only [View.readAt_eq_ld, Memref.IsWhole.read_unread, ld_whole,
    six x0, six x1]
  exact funext fun _ => pay_amax_dy (margs x0 x1 x2 x3 x4 x5).dy

/-- What the region leaves in output 21. -/
theorem out21 : (out0_A_21 (F := Ideal) c _ harg0 _ harg1 _ harg2 _ harg3 _ harg4 _ harg5 _ harg6 _ harg7 _ harg8 _ harg9 _ harg10 _ harg11 _ harg12 _ harg13 _ harg14 _ harg15 _ harg16 _ harg17 _ harg18 _ harg19 _ harg20 _ harg21 x0 x1 x2 x3 x4 x5 : S1x1.Idx → EReal) = fun _ => amax (margs x0 x1 x2 x3 x4 x5).dh := by
  unfold out0_A_21
  rw [View.read_writes_eq_canon _ _ _ (fun _ => cover0_A_21 ..)]
  unfold kernelRun0_A
  dsimp only
  sl_unfold_words
  rw [View.canon_unit_zero (S := S1x1) hz2]
  simp only [View.readAt_eq_ld, Memref.IsWhole.read_unread, ld_whole,
    six x0, six x1]
  exact funext fun _ => all_amax_dh (margs x0 x1 x2 x3 x4 x5)

end Cert.ReferenceIdeal.Gen

end
-- ==== Proof.ReferenceVal.lean ====
/-
  The reference's arrays over the extended reals: what its one region reads and leaves, as the model's functions of the program's arguments.
-/
module

public import proofs.«01_k».proof.Proof.ReferenceRead
public import proofs.«01_k».proof.Proof.HostSpec
public import Idealize.ShloMosaic.Lib.StableHlo.RunRead

@[expose] public section

set_option maxRecDepth 16384

noncomputable section

namespace Cert.ReferenceIdeal.Gen

open Idealize.ShloMosaic Idealize.ShloMosaic.TcCoe Idealize.SL.Sem Cert.Model
open Idealize.ShloMosaic.Pipeline (Dat)

/-- The first block of an axis starts at nought. -/
theorem zero_blk (n k : ℕ) : 0 * n + k = k := by rw [Nat.zero_mul, Nat.zero_add]

/-- A position within a block's length lies in the first block. -/
theorem zero_mem {n k x : ℕ} (h : x < k) : 0 * n ≤ x ∧ x < 0 * n + k := by
  rw [Nat.zero_mul, Nat.zero_add]; exact ⟨Nat.zero_le _, h⟩

variable (m : (ℓ : Loc nD τ sig) → Buf (Elt Ideal) ℓ) (c : Dev nD) (t : Fin cfg0.N)

/-! ## The region's inputs: each block is its array -/

theorem iblk_0 : (iblk m c 0 t : S6.Idx → EReal) = V m c main_v6 := by
  unfold iblk
  funext j
  rw [View.read_apply]
  exact congrArg (V m c main_v6 : S6.Idx → EReal) (funext fun a => Fin.ext ((Pipeline.Window.rect_emb_val_off win0_0 t j a).trans (zero_blk _ _)))

theorem iblk_1 : (iblk m c 1 t : S6.Idx → EReal) = V m c main_v13 := by
  unfold iblk
  funext j
  rw [View.read_apply]
  exact congrArg (V m c main_v13 : S6.Idx → EReal) (funext fun a => Fin.ext ((Pipeline.Window.rect_emb_val_off win0_1 t j a).trans (zero_blk _ _)))

theorem iblk_2 : (iblk m c 2 t : S8192x4096.Idx → EReal) = V m c main_v14 := by
  unfold iblk
  funext j
  rw [View.read_apply]
  exact congrArg (V m c main_v14 : S8192x4096.Idx → EReal) (funext fun a => Fin.ext ((Pipeline.Window.rect_emb_val_off win0_2 t j a).trans (zero_blk _ _)))

theorem iblk_3 : (iblk m c 3 t : S4096x16384.Idx → EReal) = V m c main_arg1 := by
  unfold iblk
  funext j
  rw [View.read_apply]
  exact congrArg (V m c main_arg1 : S4096x16384.Idx → EReal) (funext fun a => Fin.ext ((Pipeline.Window.rect_emb_val_off win0_3 t j a).trans (zero_blk _ _)))

theorem iblk_4 : (iblk m c 4 t : S16384x4096.Idx → EReal) = V m c main_arg2 := by
  unfold iblk
  funext j
  rw [View.read_apply]
  exact congrArg (V m c main_arg2 : S16384x4096.Idx → EReal) (funext fun a => Fin.ext ((Pipeline.Window.rect_emb_val_off win0_4 t j a).trans (zero_blk _ _)))

theorem iblk_5 : (iblk m c 5 t : S8192x4096.Idx → EReal) = V m c main_v15 := by
  unfold iblk
  funext j
  rw [View.read_apply]
  exact congrArg (V m c main_v15 : S8192x4096.Idx → EReal) (funext fun a => Fin.ext ((Pipeline.Window.rect_emb_val_off win0_5 t j a).trans (zero_blk _ _)))

/-- The model's arguments, as the region finds them. -/
def vargs : Args := margs (V m c main_v6) (V m c main_v13) (V m c main_v14) (V m c main_arg1) (V m c main_arg2) (V m c main_v15)

theorem margs_iblk : margs (iblk m c 0 t) (iblk m c 1 t) (iblk m c 2 t) (iblk m c 3 t) (iblk m c 4 t) (iblk m c 5 t) = vargs m c := by
  rw [iblk_0, iblk_1, iblk_2, iblk_3, iblk_4, iblk_5]
  rfl

/-- The model's arguments, as the program finds them. -/
def rargs : Args where
  x := shapeCast S8192x4096 (m ((c : Thread nD τ).loc main_arg0)) shapeCasts_S2x4096x4096_S8192x4096
  w1 := m ((c : Thread nD τ).loc main_arg1)
  w2 := m ((c : Thread nD τ).loc main_arg2)
  dy := shapeCast S8192x4096 (m ((c : Thread nD τ).loc main_arg3)) shapeCasts_S2x4096x4096_S8192x4096
  sx := (m ((c : Thread nD τ).loc main_arg10) : S_.Idx → EReal) ix0
  sw1 := (m ((c : Thread nD τ).loc main_arg11) : S_.Idx → EReal) ix0
  sa := (m ((c : Thread nD τ).loc main_arg12) : S_.Idx → EReal) ix0
  sw2 := (m ((c : Thread nD τ).loc main_arg13) : S_.Idx → EReal) ix0
  sdy := (m ((c : Thread nD τ).loc main_arg14) : S_.Idx → EReal) ix0
  sdh := (m ((c : Thread nD τ).loc main_arg15) : S_.Idx → EReal) ix0
  ix := (m ((c : Thread nD τ).loc main_arg16) : S_.Idx → EReal) ix0
  iw1 := (m ((c : Thread nD τ).loc main_arg17) : S_.Idx → EReal) ix0
  ia := (m ((c : Thread nD τ).loc main_arg18) : S_.Idx → EReal) ix0
  iw2 := (m ((c : Thread nD τ).loc main_arg19) : S_.Idx → EReal) ix0
  idy := (m ((c : Thread nD τ).loc main_arg20) : S_.Idx → EReal) ix0
  idh := (m ((c : Thread nD τ).loc main_arg21) : S_.Idx → EReal) ix0

/-- A scalar's value. -/
abbrev at0 (x : S_.Idx → EReal) : EReal := x ix0

theorem scales (U : Valuation τ sig (Elt Ideal)) (q : Fin 6) :
    (StableHlo.after (List.flatten [hostOps0]) U (Proc.devRef .tc main_v6) : S6.Idx → EReal) (ix1 q)
      = (![at0 (U (Proc.devRef .tc main_arg10)), at0 (U (Proc.devRef .tc main_arg11)), at0 (U (Proc.devRef .tc main_arg12)), at0 (U (Proc.devRef .tc main_arg13)), at0 (U (Proc.devRef .tc main_arg14)), at0 (U (Proc.devRef .tc main_arg15))] : Fin 6 → EReal) q := by
  simp only [List.flatten_cons, List.flatten_nil, List.append_nil]
  after_reads_simp
  refine (cat_six (α := EReal) _ _ _ _ _ _ concatenates_S1_S1_S1_S1_S1_S1_S6_d0 q).trans ?_
  match q with
  | ⟨0, _⟩ => exact bcast_scalar (α := EReal) (U (Proc.devRef .tc main_arg10)) bcast_S_S1 (ix1 0)
  | ⟨1, _⟩ => exact bcast_scalar (α := EReal) (U (Proc.devRef .tc main_arg11)) bcast_S_S1 (ix1 0)
  | ⟨2, _⟩ => exact bcast_scalar (α := EReal) (U (Proc.devRef .tc main_arg12)) bcast_S_S1 (ix1 0)
  | ⟨3, _⟩ => exact bcast_scalar (α := EReal) (U (Proc.devRef .tc main_arg13)) bcast_S_S1 (ix1 0)
  | ⟨4, _⟩ => exact bcast_scalar (α := EReal) (U (Proc.devRef .tc main_arg14)) bcast_S_S1 (ix1 0)
  | ⟨5, _⟩ => exact bcast_scalar (α := EReal) (U (Proc.devRef .tc main_arg15)) bcast_S_S1 (ix1 0)

theorem inverses (U : Valuation τ sig (Elt Ideal)) (q : Fin 6) :
    (StableHlo.after (List.flatten [hostOps0]) U (Proc.devRef .tc main_v13) : S6.Idx → EReal) (ix1 q)
      = (![at0 (U (Proc.devRef .tc main_arg16)), at0 (U (Proc.devRef .tc main_arg17)), at0 (U (Proc.devRef .tc main_arg18)), at0 (U (Proc.devRef .tc main_arg19)), at0 (U (Proc.devRef .tc main_arg20)), at0 (U (Proc.devRef .tc main_arg21))] : Fin 6 → EReal) q := by
  simp only [List.flatten_cons, List.flatten_nil, List.append_nil]
  after_reads_simp
  refine (cat_six (α := EReal) _ _ _ _ _ _ concatenates_S1_S1_S1_S1_S1_S1_S6_d0 q).trans ?_
  match q with
  | ⟨0, _⟩ => exact bcast_scalar (α := EReal) (U (Proc.devRef .tc main_arg16)) bcast_S_S1 (ix1 0)
  | ⟨1, _⟩ => exact bcast_scalar (α := EReal) (U (Proc.devRef .tc main_arg17)) bcast_S_S1 (ix1 0)
  | ⟨2, _⟩ => exact bcast_scalar (α := EReal) (U (Proc.devRef .tc main_arg18)) bcast_S_S1 (ix1 0)
  | ⟨3, _⟩ => exact bcast_scalar (α := EReal) (U (Proc.devRef .tc main_arg19)) bcast_S_S1 (ix1 0)
  | ⟨4, _⟩ => exact bcast_scalar (α := EReal) (U (Proc.devRef .tc main_arg20)) bcast_S_S1 (ix1 0)
  | ⟨5, _⟩ => exact bcast_scalar (α := EReal) (U (Proc.devRef .tc main_arg21)) bcast_S_S1 (ix1 0)

theorem V_main_v14 : (V m c main_v14 : S8192x4096.Idx → EReal) = shapeCast S8192x4096 (m ((c : Thread nD τ).loc main_arg0)) shapeCasts_S2x4096x4096_S8192x4096 := by
  show StableHlo.after (List.flatten [hostOps0]) (fun b => m (c, b)) (Proc.devRef .tc main_v14) = _
  simp only [List.flatten_cons, List.flatten_nil, List.append_nil]
  after_reads_simp
  rfl

theorem V_main_v15 : (V m c main_v15 : S8192x4096.Idx → EReal) = shapeCast S8192x4096 (m ((c : Thread nD τ).loc main_arg3)) shapeCasts_S2x4096x4096_S8192x4096 := by
  show StableHlo.after (List.flatten [hostOps0]) (fun b => m (c, b)) (Proc.devRef .tc main_v15) = _
  simp only [List.flatten_cons, List.flatten_nil, List.append_nil]
  after_reads_simp
  rfl

theorem vargs_eq : vargs m c = rargs m c := by
  unfold vargs margs rargs
  rw [V_main_v14, V_main_v15, V_main_arg1, V_main_arg2]
  congr 1
  · exact scales _ 0
  · exact scales _ 1
  · exact scales _ 2
  · exact scales _ 3
  · exact scales _ 4
  · exact scales _ 5
  · exact inverses _ 0
  · exact inverses _ 1
  · exact inverses _ 2
  · exact inverses _ 3
  · exact inverses _ 4
  · exact inverses _ 5

/-! ## The region's outputs -/

theorem after_6 : ((dats (F := Ideal) m 0 c).after 6 t : S8192x4096.Idx → EReal) = (rargs m c).y := by
  rw [← vargs_eq, ← margs_iblk m c t]
  refine (after0_6 m c t).trans ?_
  unfold outsAt0
  dsimp only
  exact out6 ..

theorem arr_6 : ((dats (F := Ideal) m 0 c).arrAt 6 cfg0.N : S8192x4096.Idx → EReal) = (rargs m c).y :=
  (dats (F := Ideal) m 0 c).arrAt_eq_of_cover 6 ((rargs m c).y : S8192x4096.Idx → EReal)
    (fun t _ => by
      show (cfg0.win 6).cut (grid0.coords t) ((dats (F := Ideal) m 0 c).after 6 t) = _
      rw [after_6]
      funext j
      rw [View.read_apply]
      exact congrArg ((rargs m c).y : S8192x4096.Idx → EReal) (funext fun a => Fin.ext ((Pipeline.Window.rect_emb_val_off win0_6 t j a).trans (zero_blk _ _)).symm))
    fun i => ⟨t0_0, flush0_6 _, by
      show i ∈ ((View.whole (Pipeline.arrRef spec0 6)).slice (win0_6.rect t0_0)).set
      rw [View.set_slice_whole, Rect.mem_set_unit]
      exact fun a => zero_mem ((i : S8192x4096.Idx) a).isLt⟩

theorem after_7 : ((dats (F := Ideal) m 0 c).after 7 t : S8192x4096.Idx → EReal) = (rargs m c).dx := by
  rw [← vargs_eq, ← margs_iblk m c t]
  refine (after0_7 m c t).trans ?_
  unfold outsAt0
  dsimp only
  exact out7 ..

theorem arr_7 : ((dats (F := Ideal) m 0 c).arrAt 7 cfg0.N : S8192x4096.Idx → EReal) = (rargs m c).dx :=
  (dats (F := Ideal) m 0 c).arrAt_eq_of_cover 7 ((rargs m c).dx : S8192x4096.Idx → EReal)
    (fun t _ => by
      show (cfg0.win 7).cut (grid0.coords t) ((dats (F := Ideal) m 0 c).after 7 t) = _
      rw [after_7]
      funext j
      rw [View.read_apply]
      exact congrArg ((rargs m c).dx : S8192x4096.Idx → EReal) (funext fun a => Fin.ext ((Pipeline.Window.rect_emb_val_off win0_7 t j a).trans (zero_blk _ _)).symm))
    fun i => ⟨t0_0, flush0_7 _, by
      show i ∈ ((View.whole (Pipeline.arrRef spec0 7)).slice (win0_7.rect t0_0)).set
      rw [View.set_slice_whole, Rect.mem_set_unit]
      exact fun a => zero_mem ((i : S8192x4096.Idx) a).isLt⟩

theorem after_8 : ((dats (F := Ideal) m 0 c).after 8 t : S4096x16384.Idx → EReal) = (rargs m c).dw1 := by
  rw [← vargs_eq, ← margs_iblk m c t]
  refine (after0_8 m c t).trans ?_
  unfold outsAt0
  dsimp only
  exact out8 ..

theorem arr_8 : ((dats (F := Ideal) m 0 c).arrAt 8 cfg0.N : S4096x16384.Idx → EReal) = (rargs m c).dw1 :=
  (dats (F := Ideal) m 0 c).arrAt_eq_of_cover 8 ((rargs m c).dw1 : S4096x16384.Idx → EReal)
    (fun t _ => by
      show (cfg0.win 8).cut (grid0.coords t) ((dats (F := Ideal) m 0 c).after 8 t) = _
      rw [after_8]
      funext j
      rw [View.read_apply]
      exact congrArg ((rargs m c).dw1 : S4096x16384.Idx → EReal) (funext fun a => Fin.ext ((Pipeline.Window.rect_emb_val_off win0_8 t j a).trans (zero_blk _ _)).symm))
    fun i => ⟨t0_0, flush0_8 _, by
      show i ∈ ((View.whole (Pipeline.arrRef spec0 8)).slice (win0_8.rect t0_0)).set
      rw [View.set_slice_whole, Rect.mem_set_unit]
      exact fun a => zero_mem ((i : S4096x16384.Idx) a).isLt⟩

theorem after_9 : ((dats (F := Ideal) m 0 c).after 9 t : S16384x4096.Idx → EReal) = (rargs m c).dw2 := by
  rw [← vargs_eq, ← margs_iblk m c t]
  refine (after0_9 m c t).trans ?_
  unfold outsAt0
  dsimp only
  exact out9 ..

theorem arr_9 : ((dats (F := Ideal) m 0 c).arrAt 9 cfg0.N : S16384x4096.Idx → EReal) = (rargs m c).dw2 :=
  (dats (F := Ideal) m 0 c).arrAt_eq_of_cover 9 ((rargs m c).dw2 : S16384x4096.Idx → EReal)
    (fun t _ => by
      show (cfg0.win 9).cut (grid0.coords t) ((dats (F := Ideal) m 0 c).after 9 t) = _
      rw [after_9]
      funext j
      rw [View.read_apply]
      exact congrArg ((rargs m c).dw2 : S16384x4096.Idx → EReal) (funext fun a => Fin.ext ((Pipeline.Window.rect_emb_val_off win0_9 t j a).trans (zero_blk _ _)).symm))
    fun i => ⟨t0_0, flush0_9 _, by
      show i ∈ ((View.whole (Pipeline.arrRef spec0 9)).slice (win0_9.rect t0_0)).set
      rw [View.set_slice_whole, Rect.mem_set_unit]
      exact fun a => zero_mem ((i : S16384x4096.Idx) a).isLt⟩

theorem after_10 : ((dats (F := Ideal) m 0 c).after 10 t : S8192x4096.Idx → EReal) = (rargs m c).xc := by
  rw [← vargs_eq, ← margs_iblk m c t]
  refine (after0_10 m c t).trans ?_
  unfold outsAt0
  dsimp only
  exact out10 ..

theorem arr_10 : ((dats (F := Ideal) m 0 c).arrAt 10 cfg0.N : S8192x4096.Idx → EReal) = (rargs m c).xc :=
  (dats (F := Ideal) m 0 c).arrAt_eq_of_cover 10 ((rargs m c).xc : S8192x4096.Idx → EReal)
    (fun t _ => by
      show (cfg0.win 10).cut (grid0.coords t) ((dats (F := Ideal) m 0 c).after 10 t) = _
      rw [after_10]
      funext j
      rw [View.read_apply]
      exact congrArg ((rargs m c).xc : S8192x4096.Idx → EReal) (funext fun a => Fin.ext ((Pipeline.Window.rect_emb_val_off win0_10 t j a).trans (zero_blk _ _)).symm))
    fun i => ⟨t0_0, flush0_10 _, by
      show i ∈ ((View.whole (Pipeline.arrRef spec0 10)).slice (win0_10.rect t0_0)).set
      rw [View.set_slice_whole, Rect.mem_set_unit]
      exact fun a => zero_mem ((i : S8192x4096.Idx) a).isLt⟩

theorem after_11 : ((dats (F := Ideal) m 0 c).after 11 t : S4096x16384.Idx → EReal) = (rargs m c).w1c := by
  rw [← vargs_eq, ← margs_iblk m c t]
  refine (after0_11 m c t).trans ?_
  unfold outsAt0
  dsimp only
  exact out11 ..

theorem arr_11 : ((dats (F := Ideal) m 0 c).arrAt 11 cfg0.N : S4096x16384.Idx → EReal) = (rargs m c).w1c :=
  (dats (F := Ideal) m 0 c).arrAt_eq_of_cover 11 ((rargs m c).w1c : S4096x16384.Idx → EReal)
    (fun t _ => by
      show (cfg0.win 11).cut (grid0.coords t) ((dats (F := Ideal) m 0 c).after 11 t) = _
      rw [after_11]
      funext j
      rw [View.read_apply]
      exact congrArg ((rargs m c).w1c : S4096x16384.Idx → EReal) (funext fun a => Fin.ext ((Pipeline.Window.rect_emb_val_off win0_11 t j a).trans (zero_blk _ _)).symm))
    fun i => ⟨t0_0, flush0_11 _, by
      show i ∈ ((View.whole (Pipeline.arrRef spec0 11)).slice (win0_11.rect t0_0)).set
      rw [View.set_slice_whole, Rect.mem_set_unit]
      exact fun a => zero_mem ((i : S4096x16384.Idx) a).isLt⟩

theorem after_12 : ((dats (F := Ideal) m 0 c).after 12 t : S8192x16384.Idx → EReal) = (rargs m c).ac := by
  rw [← vargs_eq, ← margs_iblk m c t]
  refine (after0_12 m c t).trans ?_
  unfold outsAt0
  dsimp only
  exact out12 ..

theorem arr_12 : ((dats (F := Ideal) m 0 c).arrAt 12 cfg0.N : S8192x16384.Idx → EReal) = (rargs m c).ac :=
  (dats (F := Ideal) m 0 c).arrAt_eq_of_cover 12 ((rargs m c).ac : S8192x16384.Idx → EReal)
    (fun t _ => by
      show (cfg0.win 12).cut (grid0.coords t) ((dats (F := Ideal) m 0 c).after 12 t) = _
      rw [after_12]
      funext j
      rw [View.read_apply]
      exact congrArg ((rargs m c).ac : S8192x16384.Idx → EReal) (funext fun a => Fin.ext ((Pipeline.Window.rect_emb_val_off win0_12 t j a).trans (zero_blk _ _)).symm))
    fun i => ⟨t0_0, flush0_12 _, by
      show i ∈ ((View.whole (Pipeline.arrRef spec0 12)).slice (win0_12.rect t0_0)).set
      rw [View.set_slice_whole, Rect.mem_set_unit]
      exact fun a => zero_mem ((i : S8192x16384.Idx) a).isLt⟩

theorem after_13 : ((dats (F := Ideal) m 0 c).after 13 t : S16384x4096.Idx → EReal) = (rargs m c).w2c := by
  rw [← vargs_eq, ← margs_iblk m c t]
  refine (after0_13 m c t).trans ?_
  unfold outsAt0
  dsimp only
  exact out13 ..

theorem arr_13 : ((dats (F := Ideal) m 0 c).arrAt 13 cfg0.N : S16384x4096.Idx → EReal) = (rargs m c).w2c :=
  (dats (F := Ideal) m 0 c).arrAt_eq_of_cover 13 ((rargs m c).w2c : S16384x4096.Idx → EReal)
    (fun t _ => by
      show (cfg0.win 13).cut (grid0.coords t) ((dats (F := Ideal) m 0 c).after 13 t) = _
      rw [after_13]
      funext j
      rw [View.read_apply]
      exact congrArg ((rargs m c).w2c : S16384x4096.Idx → EReal) (funext fun a => Fin.ext ((Pipeline.Window.rect_emb_val_off win0_13 t j a).trans (zero_blk _ _)).symm))
    fun i => ⟨t0_0, flush0_13 _, by
      show i ∈ ((View.whole (Pipeline.arrRef spec0 13)).slice (win0_13.rect t0_0)).set
      rw [View.set_slice_whole, Rect.mem_set_unit]
      exact fun a => zero_mem ((i : S16384x4096.Idx) a).isLt⟩

theorem after_14 : ((dats (F := Ideal) m 0 c).after 14 t : S8192x4096.Idx → EReal) = (rargs m c).dyc := by
  rw [← vargs_eq, ← margs_iblk m c t]
  refine (after0_14 m c t).trans ?_
  unfold outsAt0
  dsimp only
  exact out14 ..

theorem arr_14 : ((dats (F := Ideal) m 0 c).arrAt 14 cfg0.N : S8192x4096.Idx → EReal) = (rargs m c).dyc :=
  (dats (F := Ideal) m 0 c).arrAt_eq_of_cover 14 ((rargs m c).dyc : S8192x4096.Idx → EReal)
    (fun t _ => by
      show (cfg0.win 14).cut (grid0.coords t) ((dats (F := Ideal) m 0 c).after 14 t) = _
      rw [after_14]
      funext j
      rw [View.read_apply]
      exact congrArg ((rargs m c).dyc : S8192x4096.Idx → EReal) (funext fun a => Fin.ext ((Pipeline.Window.rect_emb_val_off win0_14 t j a).trans (zero_blk _ _)).symm))
    fun i => ⟨t0_0, flush0_14 _, by
      show i ∈ ((View.whole (Pipeline.arrRef spec0 14)).slice (win0_14.rect t0_0)).set
      rw [View.set_slice_whole, Rect.mem_set_unit]
      exact fun a => zero_mem ((i : S8192x4096.Idx) a).isLt⟩

theorem after_15 : ((dats (F := Ideal) m 0 c).after 15 t : S8192x16384.Idx → EReal) = (rargs m c).dhc := by
  rw [← vargs_eq, ← margs_iblk m c t]
  refine (after0_15 m c t).trans ?_
  unfold outsAt0
  dsimp only
  exact out15 ..

theorem arr_15 : ((dats (F := Ideal) m 0 c).arrAt 15 cfg0.N : S8192x16384.Idx → EReal) = (rargs m c).dhc :=
  (dats (F := Ideal) m 0 c).arrAt_eq_of_cover 15 ((rargs m c).dhc : S8192x16384.Idx → EReal)
    (fun t _ => by
      show (cfg0.win 15).cut (grid0.coords t) ((dats (F := Ideal) m 0 c).after 15 t) = _
      rw [after_15]
      funext j
      rw [View.read_apply]
      exact congrArg ((rargs m c).dhc : S8192x16384.Idx → EReal) (funext fun a => Fin.ext ((Pipeline.Window.rect_emb_val_off win0_15 t j a).trans (zero_blk _ _)).symm))
    fun i => ⟨t0_0, flush0_15 _, by
      show i ∈ ((View.whole (Pipeline.arrRef spec0 15)).slice (win0_15.rect t0_0)).set
      rw [View.set_slice_whole, Rect.mem_set_unit]
      exact fun a => zero_mem ((i : S8192x16384.Idx) a).isLt⟩

theorem after_16 : ((dats (F := Ideal) m 0 c).after 16 t : S1x1.Idx → EReal) = fun _ => amax (rargs m c).x := by
  rw [← vargs_eq, ← margs_iblk m c t]
  refine (after0_16 m c t).trans ?_
  unfold outsAt0
  dsimp only
  exact out16 ..

theorem arr_16 : ((dats (F := Ideal) m 0 c).arrAt 16 cfg0.N : S1x1.Idx → EReal) = fun _ => amax (rargs m c).x :=
  (dats (F := Ideal) m 0 c).arrAt_eq_of_cover 16 (fun _ => amax (rargs m c).x : S1x1.Idx → EReal)
    (fun t _ => by
      show (cfg0.win 16).cut (grid0.coords t) ((dats (F := Ideal) m 0 c).after 16 t) = _
      rw [after_16]
      funext j
      rw [View.read_apply]
      exact congrArg (fun _ => amax (rargs m c).x : S1x1.Idx → EReal) (funext fun a => Fin.ext ((Pipeline.Window.rect_emb_val_off win0_16 t j a).trans (zero_blk _ _)).symm))
    fun i => ⟨t0_0, flush0_16 _, by
      show i ∈ ((View.whole (Pipeline.arrRef spec0 16)).slice (win0_16.rect t0_0)).set
      rw [View.set_slice_whole, Rect.mem_set_unit]
      exact fun a => zero_mem ((i : S1x1.Idx) a).isLt⟩

theorem after_17 : ((dats (F := Ideal) m 0 c).after 17 t : S1x1.Idx → EReal) = fun _ => amax (rargs m c).w1 := by
  rw [← vargs_eq, ← margs_iblk m c t]
  refine (after0_17 m c t).trans ?_
  unfold outsAt0
  dsimp only
  exact out17 ..

theorem arr_17 : ((dats (F := Ideal) m 0 c).arrAt 17 cfg0.N : S1x1.Idx → EReal) = fun _ => amax (rargs m c).w1 :=
  (dats (F := Ideal) m 0 c).arrAt_eq_of_cover 17 (fun _ => amax (rargs m c).w1 : S1x1.Idx → EReal)
    (fun t _ => by
      show (cfg0.win 17).cut (grid0.coords t) ((dats (F := Ideal) m 0 c).after 17 t) = _
      rw [after_17]
      funext j
      rw [View.read_apply]
      exact congrArg (fun _ => amax (rargs m c).w1 : S1x1.Idx → EReal) (funext fun a => Fin.ext ((Pipeline.Window.rect_emb_val_off win0_17 t j a).trans (zero_blk _ _)).symm))
    fun i => ⟨t0_0, flush0_17 _, by
      show i ∈ ((View.whole (Pipeline.arrRef spec0 17)).slice (win0_17.rect t0_0)).set
      rw [View.set_slice_whole, Rect.mem_set_unit]
      exact fun a => zero_mem ((i : S1x1.Idx) a).isLt⟩

theorem after_18 : ((dats (F := Ideal) m 0 c).after 18 t : S1x1.Idx → EReal) = fun _ => amax (rargs m c).act := by
  rw [← vargs_eq, ← margs_iblk m c t]
  refine (after0_18 m c t).trans ?_
  unfold outsAt0
  dsimp only
  exact out18 ..

theorem arr_18 : ((dats (F := Ideal) m 0 c).arrAt 18 cfg0.N : S1x1.Idx → EReal) = fun _ => amax (rargs m c).act :=
  (dats (F := Ideal) m 0 c).arrAt_eq_of_cover 18 (fun _ => amax (rargs m c).act : S1x1.Idx → EReal)
    (fun t _ => by
      show (cfg0.win 18).cut (grid0.coords t) ((dats (F := Ideal) m 0 c).after 18 t) = _
      rw [after_18]
      funext j
      rw [View.read_apply]
      exact congrArg (fun _ => amax (rargs m c).act : S1x1.Idx → EReal) (funext fun a => Fin.ext ((Pipeline.Window.rect_emb_val_off win0_18 t j a).trans (zero_blk _ _)).symm))
    fun i => ⟨t0_0, flush0_18 _, by
      show i ∈ ((View.whole (Pipeline.arrRef spec0 18)).slice (win0_18.rect t0_0)).set
      rw [View.set_slice_whole, Rect.mem_set_unit]
      exact fun a => zero_mem ((i : S1x1.Idx) a).isLt⟩

theorem after_19 : ((dats (F := Ideal) m 0 c).after 19 t : S1x1.Idx → EReal) = fun _ => amax (rargs m c).w2 := by
  rw [← vargs_eq, ← margs_iblk m c t]
  refine (after0_19 m c t).trans ?_
  unfold outsAt0
  dsimp only
  exact out19 ..

theorem arr_19 : ((dats (F := Ideal) m 0 c).arrAt 19 cfg0.N : S1x1.Idx → EReal) = fun _ => amax (rargs m c).w2 :=
  (dats (F := Ideal) m 0 c).arrAt_eq_of_cover 19 (fun _ => amax (rargs m c).w2 : S1x1.Idx → EReal)
    (fun t _ => by
      show (cfg0.win 19).cut (grid0.coords t) ((dats (F := Ideal) m 0 c).after 19 t) = _
      rw [after_19]
      funext j
      rw [View.read_apply]
      exact congrArg (fun _ => amax (rargs m c).w2 : S1x1.Idx → EReal) (funext fun a => Fin.ext ((Pipeline.Window.rect_emb_val_off win0_19 t j a).trans (zero_blk _ _)).symm))
    fun i => ⟨t0_0, flush0_19 _, by
      show i ∈ ((View.whole (Pipeline.arrRef spec0 19)).slice (win0_19.rect t0_0)).set
      rw [View.set_slice_whole, Rect.mem_set_unit]
      exact fun a => zero_mem ((i : S1x1.Idx) a).isLt⟩

theorem after_20 : ((dats (F := Ideal) m 0 c).after 20 t : S1x1.Idx → EReal) = fun _ => amax (rargs m c).dy := by
  rw [← vargs_eq, ← margs_iblk m c t]
  refine (after0_20 m c t).trans ?_
  unfold outsAt0
  dsimp only
  exact out20 ..

theorem arr_20 : ((dats (F := Ideal) m 0 c).arrAt 20 cfg0.N : S1x1.Idx → EReal) = fun _ => amax (rargs m c).dy :=
  (dats (F := Ideal) m 0 c).arrAt_eq_of_cover 20 (fun _ => amax (rargs m c).dy : S1x1.Idx → EReal)
    (fun t _ => by
      show (cfg0.win 20).cut (grid0.coords t) ((dats (F := Ideal) m 0 c).after 20 t) = _
      rw [after_20]
      funext j
      rw [View.read_apply]
      exact congrArg (fun _ => amax (rargs m c).dy : S1x1.Idx → EReal) (funext fun a => Fin.ext ((Pipeline.Window.rect_emb_val_off win0_20 t j a).trans (zero_blk _ _)).symm))
    fun i => ⟨t0_0, flush0_20 _, by
      show i ∈ ((View.whole (Pipeline.arrRef spec0 20)).slice (win0_20.rect t0_0)).set
      rw [View.set_slice_whole, Rect.mem_set_unit]
      exact fun a => zero_mem ((i : S1x1.Idx) a).isLt⟩

theorem after_21 : ((dats (F := Ideal) m 0 c).after 21 t : S1x1.Idx → EReal) = fun _ => amax (rargs m c).dh := by
  rw [← vargs_eq, ← margs_iblk m c t]
  refine (after0_21 m c t).trans ?_
  unfold outsAt0
  dsimp only
  exact out21 ..

theorem arr_21 : ((dats (F := Ideal) m 0 c).arrAt 21 cfg0.N : S1x1.Idx → EReal) = fun _ => amax (rargs m c).dh :=
  (dats (F := Ideal) m 0 c).arrAt_eq_of_cover 21 (fun _ => amax (rargs m c).dh : S1x1.Idx → EReal)
    (fun t _ => by
      show (cfg0.win 21).cut (grid0.coords t) ((dats (F := Ideal) m 0 c).after 21 t) = _
      rw [after_21]
      funext j
      rw [View.read_apply]
      exact congrArg (fun _ => amax (rargs m c).dh : S1x1.Idx → EReal) (funext fun a => Fin.ext ((Pipeline.Window.rect_emb_val_off win0_21 t j a).trans (zero_blk _ _)).symm))
    fun i => ⟨t0_0, flush0_21 _, by
      show i ∈ ((View.whole (Pipeline.arrRef spec0 21)).slice (win0_21.rect t0_0)).set
      rw [View.set_slice_whole, Rect.mem_set_unit]
      exact fun a => zero_mem ((i : S1x1.Idx) a).isLt⟩

end Cert.ReferenceIdeal.Gen

end
-- ==== Proof.ReferenceResult.lean ====
/-
  The results of the reference's program over the extended reals, as the model's functions of the arguments.
-/
module

public import proofs.«01_k».proof.Proof.ReferenceVal

@[expose] public section

set_option maxRecDepth 16384

noncomputable section

namespace Cert.ReferenceIdeal.Gen

open Idealize.ShloMosaic Idealize.ShloMosaic.TcCoe Idealize.SL.Sem Cert.Model

variable (m : (ℓ : Loc nD τ sig) → Buf (Elt Ideal) ℓ) (c : Dev nD)

/-- The buffers as the region leaves them. -/
def left : Valuation τ sig (Elt Ideal) := Pipeline.withArrays spec0 c (V0 m c) fun w => (dats (F := Ideal) m 0 c).arrAt w cfg0.N

/-- The buffers as the program leaves them, after its last operations. -/
theorem tail_eq (b : Ref sig .tc) : Pipeline.afterTail₀ cfgs (dats (F := Ideal) m) 0 (V0 m) [hostOps1] c b = StableHlo.after hostOps1 (left m c) (Proc.devRef .tc b) := rfl

/-- A history of fifteen and a new entry. -/
def cat16 (a : S15.Idx → EReal) (b : S1.Idx → EReal) : S16.Idx → EReal := concatenate S16 0 [⟨S15, a⟩, ⟨S1, b⟩] concatenates_S15_S1_S16_d0

/-- A history moved on by one entry. -/
def hist (a : S16.Idx → EReal) (b : EReal) : S16.Idx → EReal := cat16 (extractStridedSlice S15 ![1] a slices_S16_S15_1) fun _ => b

theorem left_6 : (left m c (Proc.devRef .tc main_v16_0) : S8192x4096.Idx → EReal) = (rargs m c).y :=
  (Pipeline.withArrays_arr spec0 winFacts0.arr_inj c (V0 m c) (fun w => (dats (F := Ideal) m 0 c).arrAt w cfg0.N) 6).trans (arr_6 m c)

theorem left_7 : (left m c (Proc.devRef .tc main_v16_1) : S8192x4096.Idx → EReal) = (rargs m c).dx :=
  (Pipeline.withArrays_arr spec0 winFacts0.arr_inj c (V0 m c) (fun w => (dats (F := Ideal) m 0 c).arrAt w cfg0.N) 7).trans (arr_7 m c)

theorem left_10 : (left m c (Proc.devRef .tc main_v16_4) : S8192x4096.Idx → EReal) = (rargs m c).xc :=
  (Pipeline.withArrays_arr spec0 winFacts0.arr_inj c (V0 m c) (fun w => (dats (F := Ideal) m 0 c).arrAt w cfg0.N) 10).trans (arr_10 m c)

theorem left_12 : (left m c (Proc.devRef .tc main_v16_6) : S8192x16384.Idx → EReal) = (rargs m c).ac :=
  (Pipeline.withArrays_arr spec0 winFacts0.arr_inj c (V0 m c) (fun w => (dats (F := Ideal) m 0 c).arrAt w cfg0.N) 12).trans (arr_12 m c)

theorem left_14 : (left m c (Proc.devRef .tc main_v16_8) : S8192x4096.Idx → EReal) = (rargs m c).dyc :=
  (Pipeline.withArrays_arr spec0 winFacts0.arr_inj c (V0 m c) (fun w => (dats (F := Ideal) m 0 c).arrAt w cfg0.N) 14).trans (arr_14 m c)

theorem left_15 : (left m c (Proc.devRef .tc main_v16_9) : S8192x16384.Idx → EReal) = (rargs m c).dhc :=
  (Pipeline.withArrays_arr spec0 winFacts0.arr_inj c (V0 m c) (fun w => (dats (F := Ideal) m 0 c).arrAt w cfg0.N) 15).trans (arr_15 m c)

theorem left_16 : (left m c (Proc.devRef .tc main_v16_10) : S1x1.Idx → EReal) = fun _ => amax (rargs m c).x :=
  (Pipeline.withArrays_arr spec0 winFacts0.arr_inj c (V0 m c) (fun w => (dats (F := Ideal) m 0 c).arrAt w cfg0.N) 16).trans (arr_16 m c)

theorem left_17 : (left m c (Proc.devRef .tc main_v16_11) : S1x1.Idx → EReal) = fun _ => amax (rargs m c).w1 :=
  (Pipeline.withArrays_arr spec0 winFacts0.arr_inj c (V0 m c) (fun w => (dats (F := Ideal) m 0 c).arrAt w cfg0.N) 17).trans (arr_17 m c)

theorem left_18 : (left m c (Proc.devRef .tc main_v16_12) : S1x1.Idx → EReal) = fun _ => amax (rargs m c).act :=
  (Pipeline.withArrays_arr spec0 winFacts0.arr_inj c (V0 m c) (fun w => (dats (F := Ideal) m 0 c).arrAt w cfg0.N) 18).trans (arr_18 m c)

theorem left_19 : (left m c (Proc.devRef .tc main_v16_13) : S1x1.Idx → EReal) = fun _ => amax (rargs m c).w2 :=
  (Pipeline.withArrays_arr spec0 winFacts0.arr_inj c (V0 m c) (fun w => (dats (F := Ideal) m 0 c).arrAt w cfg0.N) 19).trans (arr_19 m c)

theorem left_20 : (left m c (Proc.devRef .tc main_v16_14) : S1x1.Idx → EReal) = fun _ => amax (rargs m c).dy :=
  (Pipeline.withArrays_arr spec0 winFacts0.arr_inj c (V0 m c) (fun w => (dats (F := Ideal) m 0 c).arrAt w cfg0.N) 20).trans (arr_20 m c)

theorem left_21 : (left m c (Proc.devRef .tc main_v16_15) : S1x1.Idx → EReal) = fun _ => amax (rargs m c).dh :=
  (Pipeline.withArrays_arr spec0 winFacts0.arr_inj c (V0 m c) (fun w => (dats (F := Ideal) m 0 c).arrAt w cfg0.N) 21).trans (arr_21 m c)

theorem left_arg4 : left m c (Proc.devRef .tc main_arg4) = m ((c : Thread nD τ).loc main_arg4) :=
  (Pipeline.withArrays_of_ne spec0 c (V0 m c) _ main_arg4 (by exact (by decide : ∀ w, Pipeline.arrRef spec0 w ≠ main_arg4))).trans (V_main_arg4 m c)

theorem left_arg5 : left m c (Proc.devRef .tc main_arg5) = m ((c : Thread nD τ).loc main_arg5) :=
  (Pipeline.withArrays_of_ne spec0 c (V0 m c) _ main_arg5 (by exact (by decide : ∀ w, Pipeline.arrRef spec0 w ≠ main_arg5))).trans (V_main_arg5 m c)

theorem left_arg6 : left m c (Proc.devRef .tc main_arg6) = m ((c : Thread nD τ).loc main_arg6) :=
  (Pipeline.withArrays_of_ne spec0 c (V0 m c) _ main_arg6 (by exact (by decide : ∀ w, Pipeline.arrRef spec0 w ≠ main_arg6))).trans (V_main_arg6 m c)

theorem left_arg7 : left m c (Proc.devRef .tc main_arg7) = m ((c : Thread nD τ).loc main_arg7) :=
  (Pipeline.withArrays_of_ne spec0 c (V0 m c) _ main_arg7 (by exact (by decide : ∀ w, Pipeline.arrRef spec0 w ≠ main_arg7))).trans (V_main_arg7 m c)

theorem left_arg8 : left m c (Proc.devRef .tc main_arg8) = m ((c : Thread nD τ).loc main_arg8) :=
  (Pipeline.withArrays_of_ne spec0 c (V0 m c) _ main_arg8 (by exact (by decide : ∀ w, Pipeline.arrRef spec0 w ≠ main_arg8))).trans (V_main_arg8 m c)

theorem left_arg9 : left m c (Proc.devRef .tc main_arg9) = m ((c : Thread nD τ).loc main_arg9) :=
  (Pipeline.withArrays_of_ne spec0 c (V0 m c) _ main_arg9 (by exact (by decide : ∀ w, Pipeline.arrRef spec0 w ≠ main_arg9))).trans (V_main_arg9 m c)

theorem end_main_v17 : (Pipeline.afterTail₀ cfgs (dats (F := Ideal) m) 0 (V0 m) [hostOps1] c main_v17 : S2x4096x4096.Idx → EReal) = shapeCast S2x4096x4096 ((rargs m c).y) shapeCasts_S8192x4096_S2x4096x4096 := by
  have e := left_6 m c
  rw [tail_eq]
  generalize left m c = U at e ⊢
  after_reads_simp
  exact congrArg (fun z : S8192x4096.Idx → EReal => shapeCast S2x4096x4096 z shapeCasts_S8192x4096_S2x4096x4096) e

theorem end_main_v18 : (Pipeline.afterTail₀ cfgs (dats (F := Ideal) m) 0 (V0 m) [hostOps1] c main_v18 : S2x4096x4096.Idx → EReal) = shapeCast S2x4096x4096 ((rargs m c).dx) shapeCasts_S8192x4096_S2x4096x4096 := by
  have e := left_7 m c
  rw [tail_eq]
  generalize left m c = U at e ⊢
  after_reads_simp
  exact congrArg (fun z : S8192x4096.Idx → EReal => shapeCast S2x4096x4096 z shapeCasts_S8192x4096_S2x4096x4096) e

theorem end_main_v37 : (Pipeline.afterTail₀ cfgs (dats (F := Ideal) m) 0 (V0 m) [hostOps1] c main_v37 : S2x4096x4096.Idx → EReal) = shapeCast S2x4096x4096 ((rargs m c).xc) shapeCasts_S8192x4096_S2x4096x4096 := by
  have e := left_10 m c
  rw [tail_eq]
  generalize left m c = U at e ⊢
  after_reads_simp
  exact congrArg (fun z : S8192x4096.Idx → EReal => shapeCast S2x4096x4096 z shapeCasts_S8192x4096_S2x4096x4096) e

theorem end_main_v38 : (Pipeline.afterTail₀ cfgs (dats (F := Ideal) m) 0 (V0 m) [hostOps1] c main_v38 : S2x4096x16384.Idx → EReal) = shapeCast S2x4096x16384 ((rargs m c).ac) shapeCasts_S8192x16384_S2x4096x16384 := by
  have e := left_12 m c
  rw [tail_eq]
  generalize left m c = U at e ⊢
  after_reads_simp
  exact congrArg (fun z : S8192x16384.Idx → EReal => shapeCast S2x4096x16384 z shapeCasts_S8192x16384_S2x4096x16384) e

theorem end_main_v39 : (Pipeline.afterTail₀ cfgs (dats (F := Ideal) m) 0 (V0 m) [hostOps1] c main_v39 : S2x4096x4096.Idx → EReal) = shapeCast S2x4096x4096 ((rargs m c).dyc) shapeCasts_S8192x4096_S2x4096x4096 := by
  have e := left_14 m c
  rw [tail_eq]
  generalize left m c = U at e ⊢
  after_reads_simp
  exact congrArg (fun z : S8192x4096.Idx → EReal => shapeCast S2x4096x4096 z shapeCasts_S8192x4096_S2x4096x4096) e

theorem end_main_v40 : (Pipeline.afterTail₀ cfgs (dats (F := Ideal) m) 0 (V0 m) [hostOps1] c main_v40 : S2x4096x16384.Idx → EReal) = shapeCast S2x4096x16384 ((rargs m c).dhc) shapeCasts_S8192x16384_S2x4096x16384 := by
  have e := left_15 m c
  rw [tail_eq]
  generalize left m c = U at e ⊢
  after_reads_simp
  exact congrArg (fun z : S8192x16384.Idx → EReal => shapeCast S2x4096x16384 z shapeCasts_S8192x16384_S2x4096x16384) e

theorem end_main_v21 : (Pipeline.afterTail₀ cfgs (dats (F := Ideal) m) 0 (V0 m) [hostOps1] c main_v21 : S16.Idx → EReal)
    = hist (m ((c : Thread nD τ).loc main_arg4) : S16.Idx → EReal) (amax (rargs m c).x) := by
  have e := left_16 m c
  have h := left_arg4 m c
  rw [tail_eq]
  generalize left m c = U at e h ⊢
  after_reads_simp
  show cat16 _ _ = _
  after_reads_simp
  rw [h]
  exact congrArg (cat16 (extractStridedSlice S15 ![1] (m ((c : Thread nD τ).loc main_arg4) : S16.Idx → EReal) slices_S16_S15_1)) (cast_to_one (α := EReal) _ _ e shapeCasts_S1x1_S1)

theorem end_main_v24 : (Pipeline.afterTail₀ cfgs (dats (F := Ideal) m) 0 (V0 m) [hostOps1] c main_v24 : S16.Idx → EReal)
    = hist (m ((c : Thread nD τ).loc main_arg5) : S16.Idx → EReal) (amax (rargs m c).w1) := by
  have e := left_17 m c
  have h := left_arg5 m c
  rw [tail_eq]
  generalize left m c = U at e h ⊢
  after_reads_simp
  show cat16 _ _ = _
  after_reads_simp
  rw [h]
  exact congrArg (cat16 (extractStridedSlice S15 ![1] (m ((c : Thread nD τ).loc main_arg5) : S16.Idx → EReal) slices_S16_S15_1)) (cast_to_one (α := EReal) _ _ e shapeCasts_S1x1_S1)

theorem end_main_v27 : (Pipeline.afterTail₀ cfgs (dats (F := Ideal) m) 0 (V0 m) [hostOps1] c main_v27 : S16.Idx → EReal)
    = hist (m ((c : Thread nD τ).loc main_arg6) : S16.Idx → EReal) (amax (rargs m c).act) := by
  have e := left_18 m c
  have h := left_arg6 m c
  rw [tail_eq]
  generalize left m c = U at e h ⊢
  after_reads_simp
  show cat16 _ _ = _
  after_reads_simp
  rw [h]
  exact congrArg (cat16 (extractStridedSlice S15 ![1] (m ((c : Thread nD τ).loc main_arg6) : S16.Idx → EReal) slices_S16_S15_1)) (cast_to_one (α := EReal) _ _ e shapeCasts_S1x1_S1)

theorem end_main_v30 : (Pipeline.afterTail₀ cfgs (dats (F := Ideal) m) 0 (V0 m) [hostOps1] c main_v30 : S16.Idx → EReal)
    = hist (m ((c : Thread nD τ).loc main_arg7) : S16.Idx → EReal) (amax (rargs m c).w2) := by
  have e := left_19 m c
  have h := left_arg7 m c
  rw [tail_eq]
  generalize left m c = U at e h ⊢
  after_reads_simp
  show cat16 _ _ = _
  after_reads_simp
  rw [h]
  exact congrArg (cat16 (extractStridedSlice S15 ![1] (m ((c : Thread nD τ).loc main_arg7) : S16.Idx → EReal) slices_S16_S15_1)) (cast_to_one (α := EReal) _ _ e shapeCasts_S1x1_S1)

theorem end_main_v33 : (Pipeline.afterTail₀ cfgs (dats (F := Ideal) m) 0 (V0 m) [hostOps1] c main_v33 : S16.Idx → EReal)
    = hist (m ((c : Thread nD τ).loc main_arg8) : S16.Idx → EReal) (amax (rargs m c).dy) := by
  have e := left_20 m c
  have h := left_arg8 m c
  rw [tail_eq]
  generalize left m c = U at e h ⊢
  after_reads_simp
  show cat16 _ _ = _
  after_reads_simp
  rw [h]
  exact congrArg (cat16 (extractStridedSlice S15 ![1] (m ((c : Thread nD τ).loc main_arg8) : S16.Idx → EReal) slices_S16_S15_1)) (cast_to_one (α := EReal) _ _ e shapeCasts_S1x1_S1)

theorem end_main_v36 : (Pipeline.afterTail₀ cfgs (dats (F := Ideal) m) 0 (V0 m) [hostOps1] c main_v36 : S16.Idx → EReal)
    = hist (m ((c : Thread nD τ).loc main_arg9) : S16.Idx → EReal) (amax (rargs m c).dh) := by
  have e := left_21 m c
  have h := left_arg9 m c
  rw [tail_eq]
  generalize left m c = U at e h ⊢
  after_reads_simp
  show cat16 _ _ = _
  after_reads_simp
  rw [h]
  exact congrArg (cat16 (extractStridedSlice S15 ![1] (m ((c : Thread nD τ).loc main_arg9) : S16.Idx → EReal) slices_S16_S15_1)) (cast_to_one (α := EReal) _ _ e shapeCasts_S1x1_S1)

end Cert.ReferenceIdeal.Gen

end
-- ==== Proof.Algebraic.lean ====
/-
  Over the extended reals the kernel and the reference end with the same results.
-/
module

public import proofs.«01_k».proof.Proof.Transfer
public import proofs.«01_k».proof.Proof.KernelResult
public import proofs.«01_k».proof.Proof.ReferenceResult

@[expose] public section

set_option maxRecDepth 16384

noncomputable section

namespace Cert.ReferenceIdeal.Gen

open Idealize.ShloMosaic Idealize.ShloMosaic.TcCoe Idealize.SL.Sem

/-- What a memory of the reference's program holds in a buffer of a device. -/
abbrev cell (m : (ℓ : Loc nD τ sig) → Buf (Elt Ideal) ℓ) (c : Dev nD) (r : Ref sig .tc) : Buf (Elt Ideal) ((c.tc : Thread nD τ).loc r) :=
  m ((c.tc : Thread nD τ).loc r)

/-- Two memories agree on the reference's arguments. -/
abbrev Kept (m₁ m₂ : (ℓ : Loc nD τ sig) → Buf (Elt Ideal) ℓ) (c : Dev nD) : Prop :=
  cell m₁ c main_arg0 = cell m₂ c main_arg0
  ∧ cell m₁ c main_arg1 = cell m₂ c main_arg1
  ∧ cell m₁ c main_arg2 = cell m₂ c main_arg2
  ∧ cell m₁ c main_arg3 = cell m₂ c main_arg3
  ∧ cell m₁ c main_arg4 = cell m₂ c main_arg4
  ∧ cell m₁ c main_arg5 = cell m₂ c main_arg5
  ∧ cell m₁ c main_arg6 = cell m₂ c main_arg6
  ∧ cell m₁ c main_arg7 = cell m₂ c main_arg7
  ∧ cell m₁ c main_arg8 = cell m₂ c main_arg8
  ∧ cell m₁ c main_arg9 = cell m₂ c main_arg9
  ∧ cell m₁ c main_arg10 = cell m₂ c main_arg10
  ∧ cell m₁ c main_arg11 = cell m₂ c main_arg11
  ∧ cell m₁ c main_arg12 = cell m₂ c main_arg12
  ∧ cell m₁ c main_arg13 = cell m₂ c main_arg13
  ∧ cell m₁ c main_arg14 = cell m₂ c main_arg14
  ∧ cell m₁ c main_arg15 = cell m₂ c main_arg15
  ∧ cell m₁ c main_arg16 = cell m₂ c main_arg16
  ∧ cell m₁ c main_arg17 = cell m₂ c main_arg17
  ∧ cell m₁ c main_arg18 = cell m₂ c main_arg18
  ∧ cell m₁ c main_arg19 = cell m₂ c main_arg19
  ∧ cell m₁ c main_arg20 = cell m₂ c main_arg20
  ∧ cell m₁ c main_arg21 = cell m₂ c main_arg21

end Cert.ReferenceIdeal.Gen

namespace Cert.Kernel.Gen

open Idealize.ShloMosaic Idealize.ShloMosaic.TcCoe Idealize.SL.Sem Cert.Model

/-- The model's arguments agree when their parts do. -/
theorem args_ext (A B : Args) (hx : A.x = B.x) (hw1 : A.w1 = B.w1) (hw2 : A.w2 = B.w2) (hdy : A.dy = B.dy) (hsx : A.sx = B.sx) (hsw1 : A.sw1 = B.sw1) (hsa : A.sa = B.sa) (hsw2 : A.sw2 = B.sw2) (hsdy : A.sdy = B.sdy) (hsdh : A.sdh = B.sdh) (hix : A.ix = B.ix) (hiw1 : A.iw1 = B.iw1) (hia : A.ia = B.ia) (hiw2 : A.iw2 = B.iw2) (hidy : A.idy = B.idy) (hidh : A.idh = B.idh) : A = B := by
  cases A; cases B
  rw [Args.mk.injEq]
  exact ⟨hx, hw1, hw2, hdy, hsx, hsw1, hsa, hsw2, hsdy, hsdh, hix, hiw1, hia, hiw2, hidy, hidh⟩

/-- A result of the kernel on each device. -/
abbrev Result (r : Ref sig .tc) := (c : Dev nD) → Buf (Elt Ideal) ((c.tc : Thread nD τ).loc r)

/-- A memory of the reference's program and one of the kernel's agree on the arguments. -/
abbrev Agree (m' : (ℓ : Loc ReferenceIdeal.nD ReferenceIdeal.τ ReferenceIdeal.sig) → Buf (Elt Ideal) ℓ) (m : (ℓ : Loc nD τ sig) → Buf (Elt Ideal) ℓ) (c : Dev nD) : Prop :=
  ReferenceIdeal.Gen.cell m' c ReferenceIdeal.main_arg0 = cell m c main_arg0
  ∧ ReferenceIdeal.Gen.cell m' c ReferenceIdeal.main_arg1 = cell m c main_arg1
  ∧ ReferenceIdeal.Gen.cell m' c ReferenceIdeal.main_arg2 = cell m c main_arg2
  ∧ ReferenceIdeal.Gen.cell m' c ReferenceIdeal.main_arg3 = cell m c main_arg3
  ∧ ReferenceIdeal.Gen.cell m' c ReferenceIdeal.main_arg4 = cell m c main_arg4
  ∧ ReferenceIdeal.Gen.cell m' c ReferenceIdeal.main_arg5 = cell m c main_arg5
  ∧ ReferenceIdeal.Gen.cell m' c ReferenceIdeal.main_arg6 = cell m c main_arg6
  ∧ ReferenceIdeal.Gen.cell m' c ReferenceIdeal.main_arg7 = cell m c main_arg7
  ∧ ReferenceIdeal.Gen.cell m' c ReferenceIdeal.main_arg8 = cell m c main_arg8
  ∧ ReferenceIdeal.Gen.cell m' c ReferenceIdeal.main_arg9 = cell m c main_arg9
  ∧ ReferenceIdeal.Gen.cell m' c ReferenceIdeal.main_arg10 = cell m c main_arg10
  ∧ ReferenceIdeal.Gen.cell m' c ReferenceIdeal.main_arg11 = cell m c main_arg11
  ∧ ReferenceIdeal.Gen.cell m' c ReferenceIdeal.main_arg12 = cell m c main_arg12
  ∧ ReferenceIdeal.Gen.cell m' c ReferenceIdeal.main_arg13 = cell m c main_arg13
  ∧ ReferenceIdeal.Gen.cell m' c ReferenceIdeal.main_arg14 = cell m c main_arg14
  ∧ ReferenceIdeal.Gen.cell m' c ReferenceIdeal.main_arg15 = cell m c main_arg15
  ∧ ReferenceIdeal.Gen.cell m' c ReferenceIdeal.main_arg16 = cell m c main_arg16
  ∧ ReferenceIdeal.Gen.cell m' c ReferenceIdeal.main_arg17 = cell m c main_arg17
  ∧ ReferenceIdeal.Gen.cell m' c ReferenceIdeal.main_arg18 = cell m c main_arg18
  ∧ ReferenceIdeal.Gen.cell m' c ReferenceIdeal.main_arg19 = cell m c main_arg19
  ∧ ReferenceIdeal.Gen.cell m' c ReferenceIdeal.main_arg20 = cell m c main_arg20
  ∧ ReferenceIdeal.Gen.cell m' c ReferenceIdeal.main_arg21 = cell m c main_arg21

/-- The kernel and the reference, from memories that agree on the arguments, end with the same results. -/
def Algebraic [hKernel : Cert.Kernel.Facts] [hReferenceIdeal : ReferenceIdeal.Facts] : Prop :=
  ∀ (m : (ℓ : Loc nD τ sig) → Buf (Elt Ideal) ℓ) (g : Dev nD → PrngReg)
    (m' : (ℓ : Loc ReferenceIdeal.nD ReferenceIdeal.τ ReferenceIdeal.sig) → Buf (Elt Ideal) ℓ) (g' : Dev ReferenceIdeal.nD → PrngReg), True →
    (∀ c : Dev nD, Agree m' m c) →
    ∃ (v0 : Result main_v34) (v1 : Result main_v35) (v2 : Result main_v33) (v3 : Result main_v30) (v4 : Result main_v38) (v5 : Result main_v41) (v6 : Result main_v45) (v7 : Result main_v48) (v8 : Result main_v51) (v9 : Result main_v55) (v10 : Result main_v56) (v11 : Result main_v9_0) (v12 : Result main_v57) (v13 : Result main_v12_0) (v14 : Result main_v58) (v15 : Result main_v59),
      θ_run (defs (F := Ideal)) (onTc (τ := τ) (main (F := Ideal))) ⟨m, fun _ => 0, g⟩ (fun r => ∀ c : Dev nD,
          cell r.2.mem c main_v34 = v0 c
          ∧ cell r.2.mem c main_v35 = v1 c
          ∧ cell r.2.mem c main_v33 = v2 c
          ∧ cell r.2.mem c main_v30 = v3 c
          ∧ cell r.2.mem c main_v38 = v4 c
          ∧ cell r.2.mem c main_v41 = v5 c
          ∧ cell r.2.mem c main_v45 = v6 c
          ∧ cell r.2.mem c main_v48 = v7 c
          ∧ cell r.2.mem c main_v51 = v8 c
          ∧ cell r.2.mem c main_v55 = v9 c
          ∧ cell r.2.mem c main_v56 = v10 c
          ∧ cell r.2.mem c main_v9_0 = v11 c
          ∧ cell r.2.mem c main_v57 = v12 c
          ∧ cell r.2.mem c main_v12_0 = v13 c
          ∧ cell r.2.mem c main_v58 = v14 c
          ∧ cell r.2.mem c main_v59 = v15 c
          ∧ Kept r.2.mem m c)
      ∧ θ_run (ReferenceIdeal.defs (F := Ideal)) (onTc (τ := ReferenceIdeal.τ) (ReferenceIdeal.main (F := Ideal))) ⟨m', fun _ => 0, g'⟩ (fun r => ∀ c : Dev ReferenceIdeal.nD,
          ReferenceIdeal.Gen.cell r.2.mem c ReferenceIdeal.main_v17 = v0 c
          ∧ ReferenceIdeal.Gen.cell r.2.mem c ReferenceIdeal.main_v18 = v1 c
          ∧ ReferenceIdeal.Gen.cell r.2.mem c ReferenceIdeal.main_v16_2 = v2 c
          ∧ ReferenceIdeal.Gen.cell r.2.mem c ReferenceIdeal.main_v16_3 = v3 c
          ∧ ReferenceIdeal.Gen.cell r.2.mem c ReferenceIdeal.main_v21 = v4 c
          ∧ ReferenceIdeal.Gen.cell r.2.mem c ReferenceIdeal.main_v24 = v5 c
          ∧ ReferenceIdeal.Gen.cell r.2.mem c ReferenceIdeal.main_v27 = v6 c
          ∧ ReferenceIdeal.Gen.cell r.2.mem c ReferenceIdeal.main_v30 = v7 c
          ∧ ReferenceIdeal.Gen.cell r.2.mem c ReferenceIdeal.main_v33 = v8 c
          ∧ ReferenceIdeal.Gen.cell r.2.mem c ReferenceIdeal.main_v36 = v9 c
          ∧ ReferenceIdeal.Gen.cell r.2.mem c ReferenceIdeal.main_v37 = v10 c
          ∧ ReferenceIdeal.Gen.cell r.2.mem c ReferenceIdeal.main_v16_5 = v11 c
          ∧ ReferenceIdeal.Gen.cell r.2.mem c ReferenceIdeal.main_v38 = v12 c
          ∧ ReferenceIdeal.Gen.cell r.2.mem c ReferenceIdeal.main_v16_7 = v13 c
          ∧ ReferenceIdeal.Gen.cell r.2.mem c ReferenceIdeal.main_v39 = v14 c
          ∧ ReferenceIdeal.Gen.cell r.2.mem c ReferenceIdeal.main_v40 = v15 c
          ∧ ReferenceIdeal.Gen.Kept r.2.mem m' c)

set_option maxHeartbeats 4000000 in
theorem algebraic : Algebraic (hKernel := Cert.Kernel.Gen.facts) (hReferenceIdeal := ReferenceIdeal.Gen.facts) := by
  intro m g m' g' _ H
  have A : ∀ c : Dev nD, ReferenceIdeal.Gen.rargs m' c = kargs m c := fun c => by
    obtain ⟨h0, h1, h2, h3, h4, h5, h6, h7, h8, h9, h10, h11, h12, h13, h14, h15, h16, h17, h18, h19, h20, h21⟩ := H c
    have at0 {x y : S_.Idx → EReal} (h : x = y) : x ix0 = y ix0 := congrFun h ix0
    have cast0 {x y : S2x4096x4096.Idx → EReal} (h : x = y) := congrArg (fun z => shapeCast S8192x4096 z shapeCasts_S2x4096x4096_S8192x4096) h
    exact args_ext _ _ (cast0 h0) h1 h2 (cast0 h3) (at0 h10) (at0 h11) (at0 h12) (at0 h13) (at0 h14) (at0 h15) (at0 h16) (at0 h17) (at0 h18) (at0 h19) (at0 h20) (at0 h21)
  refine ⟨fun c => W19 m c (Proc.devRef .tc main_v34), fun c => W19 m c (Proc.devRef .tc main_v35), fun c => W19 m c (Proc.devRef .tc main_v33), fun c => W19 m c (Proc.devRef .tc main_v30), fun c => W19 m c (Proc.devRef .tc main_v38), fun c => W19 m c (Proc.devRef .tc main_v41), fun c => W19 m c (Proc.devRef .tc main_v45), fun c => W19 m c (Proc.devRef .tc main_v48), fun c => W19 m c (Proc.devRef .tc main_v51), fun c => W19 m c (Proc.devRef .tc main_v55), fun c => W19 m c (Proc.devRef .tc main_v56), fun c => W19 m c (Proc.devRef .tc main_v9_0), fun c => W19 m c (Proc.devRef .tc main_v57), fun c => W19 m c (Proc.devRef .tc main_v12_0), fun c => W19 m c (Proc.devRef .tc main_v58), fun c => W19 m c (Proc.devRef .tc main_v59), ?_, ?_⟩
  · refine (θ_run defs _ _).mono (fun r h c => ?_) (run m g)
    exact ⟨h.1 c _ (mem_uc main_v34 (by decide +kernel)),
      h.1 c _ (mem_uc main_v35 (by decide +kernel)),
      h.1 c _ (mem_uc main_v33 (by decide +kernel)),
      h.1 c _ (mem_uc main_v30 (by decide +kernel)),
      h.1 c _ (mem_uc main_v38 (by decide +kernel)),
      h.1 c _ (mem_uc main_v41 (by decide +kernel)),
      h.1 c _ (mem_uc main_v45 (by decide +kernel)),
      h.1 c _ (mem_uc main_v48 (by decide +kernel)),
      h.1 c _ (mem_uc main_v51 (by decide +kernel)),
      h.1 c _ (mem_uc main_v55 (by decide +kernel)),
      h.1 c _ (mem_uc main_v56 (by decide +kernel)),
      h.1 c _ (mem_uc main_v9_0 (by decide +kernel)),
      h.1 c _ (mem_uc main_v57 (by decide +kernel)),
      h.1 c _ (mem_uc main_v12_0 (by decide +kernel)),
      h.1 c _ (mem_uc main_v58 (by decide +kernel)),
      h.1 c _ (mem_uc main_v59 (by decide +kernel)),
      kept_of (fun a ha =>
        (h.1 c _ (mem_uc a (ListAll.forall_mem_of_all_decide (p := fun a : Ref sig .tc => ¬ (Proc.devRef .tc a : DevRef τ sig).isScoped) (l := argRefs) (by decide +kernel) a ha))).trans (W19_args m c a ha))⟩
  · refine (θ_run (ReferenceIdeal.defs (F := Ideal)) _ _).mono (fun r h c => ?_) (ReferenceIdeal.Gen.run_main (F := Ideal) m' g')
    have hA := A c
    obtain ⟨h0, h1, h2, h3, h4, h5, h6, h7, h8, h9, h10, h11, h12, h13, h14, h15, h16, h17, h18, h19, h20, h21⟩ := H c
    dsimp only [ReferenceIdeal.Gen.cell, cell] at h4 h5 h6 h7 h8 h9
    have e0 := ((h c).2 _ (Pipeline.mem_restRefs_of ReferenceIdeal.main_v17 (by decide) (by decide))).trans (ReferenceIdeal.Gen.end_main_v17 m' c)
    rw [hA] at e0
    have e1 := ((h c).2 _ (Pipeline.mem_restRefs_of ReferenceIdeal.main_v18 (by decide) (by decide))).trans (ReferenceIdeal.Gen.end_main_v18 m' c)
    rw [hA] at e1
    have e2 := ((h c).1 8).trans (ReferenceIdeal.Gen.arr_8 m' c)
    rw [hA] at e2
    have e3 := ((h c).1 9).trans (ReferenceIdeal.Gen.arr_9 m' c)
    rw [hA] at e3
    have e4 := ((h c).2 _ (Pipeline.mem_restRefs_of ReferenceIdeal.main_v21 (by decide) (by decide))).trans (ReferenceIdeal.Gen.end_main_v21 m' c)
    rw [hA, h4] at e4
    have e5 := ((h c).2 _ (Pipeline.mem_restRefs_of ReferenceIdeal.main_v24 (by decide) (by decide))).trans (ReferenceIdeal.Gen.end_main_v24 m' c)
    rw [hA, h5] at e5
    have e6 := ((h c).2 _ (Pipeline.mem_restRefs_of ReferenceIdeal.main_v27 (by decide) (by decide))).trans (ReferenceIdeal.Gen.end_main_v27 m' c)
    rw [hA, h6] at e6
    have e7 := ((h c).2 _ (Pipeline.mem_restRefs_of ReferenceIdeal.main_v30 (by decide) (by decide))).trans (ReferenceIdeal.Gen.end_main_v30 m' c)
    rw [hA, h7] at e7
    have e8 := ((h c).2 _ (Pipeline.mem_restRefs_of ReferenceIdeal.main_v33 (by decide) (by decide))).trans (ReferenceIdeal.Gen.end_main_v33 m' c)
    rw [hA, h8] at e8
    have e9 := ((h c).2 _ (Pipeline.mem_restRefs_of ReferenceIdeal.main_v36 (by decide) (by decide))).trans (ReferenceIdeal.Gen.end_main_v36 m' c)
    rw [hA, h9] at e9
    have e10 := ((h c).2 _ (Pipeline.mem_restRefs_of ReferenceIdeal.main_v37 (by decide) (by decide))).trans (ReferenceIdeal.Gen.end_main_v37 m' c)
    rw [hA] at e10
    have e11 := ((h c).1 11).trans (ReferenceIdeal.Gen.arr_11 m' c)
    rw [hA] at e11
    have e12 := ((h c).2 _ (Pipeline.mem_restRefs_of ReferenceIdeal.main_v38 (by decide) (by decide))).trans (ReferenceIdeal.Gen.end_main_v38 m' c)
    rw [hA] at e12
    have e13 := ((h c).1 13).trans (ReferenceIdeal.Gen.arr_13 m' c)
    rw [hA] at e13
    have e14 := ((h c).2 _ (Pipeline.mem_restRefs_of ReferenceIdeal.main_v39 (by decide) (by decide))).trans (ReferenceIdeal.Gen.end_main_v39 m' c)
    rw [hA] at e14
    have e15 := ((h c).2 _ (Pipeline.mem_restRefs_of ReferenceIdeal.main_v40 (by decide) (by decide))).trans (ReferenceIdeal.Gen.end_main_v40 m' c)
    rw [hA] at e15
    exact ⟨e0.trans (w19_main_v34 m c).symm,
      e1.trans (w19_main_v35 m c).symm,
      e2.trans (w19_main_v33 m c).symm,
      e3.trans (w19_main_v30 m c).symm,
      e4.trans (w19_main_v38 m c).symm,
      e5.trans (w19_main_v41 m c).symm,
      e6.trans (w19_main_v45 m c).symm,
      e7.trans (w19_main_v48 m c).symm,
      e8.trans (w19_main_v51 m c).symm,
      e9.trans (w19_main_v55 m c).symm,
      e10.trans (w19_main_v56 m c).symm,
      e11.trans (w19_main_v9_0 m c).symm,
      e12.trans (w19_main_v57 m c).symm,
      e13.trans (w19_main_v12_0 m c).symm,
      e14.trans (w19_main_v58 m c).symm,
      e15.trans (w19_main_v59 m c).symm,
      ((h c).2 _ (Pipeline.mem_restRefs_of ReferenceIdeal.main_arg0 (by decide) (by decide))).trans (ReferenceIdeal.Gen.W_main_arg0 m' _ c),
      ((h c).1 3).trans (((ReferenceIdeal.Gen.dats m' 0 c).arrAt_in 3 rfl _).trans ((ReferenceIdeal.Gen.A_eq m' c 3).trans (ReferenceIdeal.Gen.V_main_arg1 m' c))),
      ((h c).1 4).trans (((ReferenceIdeal.Gen.dats m' 0 c).arrAt_in 4 rfl _).trans ((ReferenceIdeal.Gen.A_eq m' c 4).trans (ReferenceIdeal.Gen.V_main_arg2 m' c))),
      ((h c).2 _ (Pipeline.mem_restRefs_of ReferenceIdeal.main_arg3 (by decide) (by decide))).trans (ReferenceIdeal.Gen.W_main_arg3 m' _ c),
      ((h c).2 _ (Pipeline.mem_restRefs_of ReferenceIdeal.main_arg4 (by decide) (by decide))).trans (ReferenceIdeal.Gen.W_main_arg4 m' _ c),
      ((h c).2 _ (Pipeline.mem_restRefs_of ReferenceIdeal.main_arg5 (by decide) (by decide))).trans (ReferenceIdeal.Gen.W_main_arg5 m' _ c),
      ((h c).2 _ (Pipeline.mem_restRefs_of ReferenceIdeal.main_arg6 (by decide) (by decide))).trans (ReferenceIdeal.Gen.W_main_arg6 m' _ c),
      ((h c).2 _ (Pipeline.mem_restRefs_of ReferenceIdeal.main_arg7 (by decide) (by decide))).trans (ReferenceIdeal.Gen.W_main_arg7 m' _ c),
      ((h c).2 _ (Pipeline.mem_restRefs_of ReferenceIdeal.main_arg8 (by decide) (by decide))).trans (ReferenceIdeal.Gen.W_main_arg8 m' _ c),
      ((h c).2 _ (Pipeline.mem_restRefs_of ReferenceIdeal.main_arg9 (by decide) (by decide))).trans (ReferenceIdeal.Gen.W_main_arg9 m' _ c),
      ((h c).2 _ (Pipeline.mem_restRefs_of ReferenceIdeal.main_arg10 (by decide) (by decide))).trans (ReferenceIdeal.Gen.W_main_arg10 m' _ c),
      ((h c).2 _ (Pipeline.mem_restRefs_of ReferenceIdeal.main_arg11 (by decide) (by decide))).trans (ReferenceIdeal.Gen.W_main_arg11 m' _ c),
      ((h c).2 _ (Pipeline.mem_restRefs_of ReferenceIdeal.main_arg12 (by decide) (by decide))).trans (ReferenceIdeal.Gen.W_main_arg12 m' _ c),
      ((h c).2 _ (Pipeline.mem_restRefs_of ReferenceIdeal.main_arg13 (by decide) (by decide))).trans (ReferenceIdeal.Gen.W_main_arg13 m' _ c),
      ((h c).2 _ (Pipeline.mem_restRefs_of ReferenceIdeal.main_arg14 (by decide) (by decide))).trans (ReferenceIdeal.Gen.W_main_arg14 m' _ c),
      ((h c).2 _ (Pipeline.mem_restRefs_of ReferenceIdeal.main_arg15 (by decide) (by decide))).trans (ReferenceIdeal.Gen.W_main_arg15 m' _ c),
      ((h c).2 _ (Pipeline.mem_restRefs_of ReferenceIdeal.main_arg16 (by decide) (by decide))).trans (ReferenceIdeal.Gen.W_main_arg16 m' _ c),
      ((h c).2 _ (Pipeline.mem_restRefs_of ReferenceIdeal.main_arg17 (by decide) (by decide))).trans (ReferenceIdeal.Gen.W_main_arg17 m' _ c),
      ((h c).2 _ (Pipeline.mem_restRefs_of ReferenceIdeal.main_arg18 (by decide) (by decide))).trans (ReferenceIdeal.Gen.W_main_arg18 m' _ c),
      ((h c).2 _ (Pipeline.mem_restRefs_of ReferenceIdeal.main_arg19 (by decide) (by decide))).trans (ReferenceIdeal.Gen.W_main_arg19 m' _ c),
      ((h c).2 _ (Pipeline.mem_restRefs_of ReferenceIdeal.main_arg20 (by decide) (by decide))).trans (ReferenceIdeal.Gen.W_main_arg20 m' _ c),
      ((h c).2 _ (Pipeline.mem_restRefs_of ReferenceIdeal.main_arg21 (by decide) (by decide))).trans (ReferenceIdeal.Gen.W_main_arg21 m' _ c)⟩

theorem idealAlgebraic_eq : algebraic_KernelIdeal_ReferenceIdeal (hKernelIdeal := Cert.KernelIdeal.Gen.facts) (hReferenceIdeal := ReferenceIdeal.Gen.facts)
    = Algebraic (hKernel := Cert.Kernel.Gen.facts) (hReferenceIdeal := ReferenceIdeal.Gen.facts) := by sl_kernel_rfl

theorem idealAlgebraic : algebraic_KernelIdeal_ReferenceIdeal (hKernelIdeal := Cert.KernelIdeal.Gen.facts) (hReferenceIdeal := ReferenceIdeal.Gen.facts) :=
  idealAlgebraic_eq ▸ algebraic

end Cert.Kernel.Gen

end
-- ==== Proof.lean ====
/-
  The claims about the kernel and its plain reference.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.HiddenVal
public import proofs.«01_k».proof.Proof.Transfer
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  fun m g _ => Cert.Kernel.Gen.frame m g,
  Cert.Kernel.Gen.idealFrame,
  fun m g _ => Cert.ReferenceIdeal.Gen.frame m g,
  trivial,
  Cert.Kernel.Gen.idealAlgebraic⟩

end Cert.Proof

end
